-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Tail (m : (ℓ : Loc Cert.Tail.nD Cert.Tail.τ Cert.Tail.sig) → Buf (Elt Bits) ℓ) : Prop :=
  True

def Pre_TailIdeal (m : (ℓ : Loc Cert.TailIdeal.nD Cert.TailIdeal.τ Cert.TailIdeal.sig) → Buf (Elt Ideal) ℓ) : Prop :=
  True

def Pre_TailRefIdeal (m : (ℓ : Loc Cert.TailRefIdeal.nD Cert.TailRefIdeal.τ Cert.TailRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Kv (m : (ℓ : Loc Cert.Kv.nD Cert.Kv.τ Cert.Kv.sig) → Buf (Elt Bits) ℓ) : Prop :=
  True

def Pre_KvIdeal (m : (ℓ : Loc Cert.KvIdeal.nD Cert.KvIdeal.τ Cert.KvIdeal.sig) → Buf (Elt Ideal) ℓ) : Prop :=
  True

def Pre_KvRefIdeal (m : (ℓ : Loc Cert.KvRefIdeal.nD Cert.KvRefIdeal.τ Cert.KvRefIdeal.sig) → Buf (Elt Ideal) ℓ) : Prop :=
  True

def Pre_Q (m : (ℓ : Loc Cert.Q.nD Cert.Q.τ Cert.Q.sig) → Buf (Elt Bits) ℓ) : Prop :=
  True

def Pre_QIdeal (m : (ℓ : Loc Cert.QIdeal.nD Cert.QIdeal.τ Cert.QIdeal.sig) → Buf (Elt Ideal) ℓ) : Prop :=
  True

def Pre_QRefIdeal (m : (ℓ : Loc Cert.QRefIdeal.nD Cert.QRefIdeal.τ Cert.QRefIdeal.sig) → Buf (Elt Ideal) ℓ) : Prop :=
  True

def Pre_TailS (m : (ℓ : Loc Cert.TailS.nD Cert.TailS.τ Cert.TailS.sig) → Buf (Elt Bits) ℓ) : Prop :=
  True

def Pre_TailSIdeal (m : (ℓ : Loc Cert.TailSIdeal.nD Cert.TailSIdeal.τ Cert.TailSIdeal.sig) → Buf (Elt Ideal) ℓ) : Prop :=
  True

def Pre_TailSRefIdeal (m : (ℓ : Loc Cert.TailSRefIdeal.nD Cert.TailSRefIdeal.τ Cert.TailSRefIdeal.sig) → Buf (Elt Ideal) ℓ) : Prop :=
  True

def Pre_KvS (m : (ℓ : Loc Cert.KvS.nD Cert.KvS.τ Cert.KvS.sig) → Buf (Elt Bits) ℓ) : Prop :=
  True

def Pre_KvSIdeal (m : (ℓ : Loc Cert.KvSIdeal.nD Cert.KvSIdeal.τ Cert.KvSIdeal.sig) → Buf (Elt Ideal) ℓ) : Prop :=
  True

def Pre_KvSRefIdeal (m : (ℓ : Loc Cert.KvSRefIdeal.nD Cert.KvSRefIdeal.τ Cert.KvSRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3))
      ∧ r.2.sem = fun _ => 0)

def quiescent_Tail [hTail : Cert.Tail.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (onTc (τ := Cert.Tail.τ) (Cert.Tail.main (F := Bits))) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0)
      ∧ r.2.mem ((c.tc : Thread Cert.Tail.nD Cert.Tail.τ).loc Cert.Tail.main_arg1) = m ((c.tc : Thread Cert.Tail.nD Cert.Tail.τ).loc Cert.Tail.main_arg1)
      ∧ r.2.mem ((c.tc : Thread Cert.Tail.nD Cert.Tail.τ).loc Cert.Tail.main_arg2) = m ((c.tc : Thread Cert.Tail.nD Cert.Tail.τ).loc Cert.Tail.main_arg2)
      ∧ r.2.mem ((c.tc : Thread Cert.Tail.nD Cert.Tail.τ).loc Cert.Tail.main_arg3) = m ((c.tc : Thread Cert.Tail.nD Cert.Tail.τ).loc Cert.Tail.main_arg3)
      ∧ r.2.mem ((c.tc : Thread Cert.Tail.nD Cert.Tail.τ).loc Cert.Tail.main_arg4) = m ((c.tc : Thread Cert.Tail.nD Cert.Tail.τ).loc Cert.Tail.main_arg4)
      ∧ r.2.mem ((c.tc : Thread Cert.Tail.nD Cert.Tail.τ).loc Cert.Tail.main_arg5) = m ((c.tc : Thread Cert.Tail.nD Cert.Tail.τ).loc Cert.Tail.main_arg5)
      ∧ r.2.mem ((c.tc : Thread Cert.Tail.nD Cert.Tail.τ).loc Cert.Tail.main_arg6) = m ((c.tc : Thread Cert.Tail.nD Cert.Tail.τ).loc Cert.Tail.main_arg6)
      ∧ r.2.mem ((c.tc : Thread Cert.Tail.nD Cert.Tail.τ).loc Cert.Tail.main_arg7) = m ((c.tc : Thread Cert.Tail.nD Cert.Tail.τ).loc Cert.Tail.main_arg7)
      ∧ r.2.mem ((c.tc : Thread Cert.Tail.nD Cert.Tail.τ).loc Cert.Tail.main_arg8) = m ((c.tc : Thread Cert.Tail.nD Cert.Tail.τ).loc Cert.Tail.main_arg8))
      ∧ r.2.sem = fun _ => 0)

def quiescent_TailIdeal [hTailIdeal : Cert.TailIdeal.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
      ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
      ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
      ∧ r.2.mem ((c.tc : Thread Cert.TailIdeal.nD Cert.TailIdeal.τ).loc Cert.TailIdeal.main_arg8) = m ((c.tc : Thread Cert.TailIdeal.nD Cert.TailIdeal.τ).loc Cert.TailIdeal.main_arg8))
      ∧ r.2.sem = fun _ => 0)

def quiescent_TailRefIdeal [hTailRefIdeal : Cert.TailRefIdeal.Facts] : Prop :=
  ∀ (m : (ℓ : Loc Cert.TailRefIdeal.nD Cert.TailRefIdeal.τ Cert.TailRefIdeal.sig) → Buf (Elt Ideal) ℓ) (g : Dev Cert.TailRefIdeal.nD → PrngReg), Pre_TailRefIdeal m →
    θ_run (Cert.TailRefIdeal.defs (F := Ideal)) (onTc (τ := Cert.TailRefIdeal.τ) (Cert.TailRefIdeal.main (F := Ideal))) ⟨m, fun _ => 0, g⟩ (fun r => (∀ c : Dev Cert.TailRefIdeal.nD,
      r.2.mem ((c.tc : Thread Cert.TailRefIdeal.nD Cert.TailRefIdeal.τ).loc Cert.TailRefIdeal.main_arg0) = m ((c.tc : Thread Cert.TailRefIdeal.nD Cert.TailRefIdeal.τ).loc Cert.TailRefIdeal.main_arg0)
      ∧ r.2.mem ((c.tc : Thread Cert.TailRefIdeal.nD Cert.TailRefIdeal.τ).loc Cert.TailRefIdeal.main_arg1) = m ((c.tc : Thread Cert.TailRefIdeal.nD Cert.TailRefIdeal.τ).loc Cert.TailRefIdeal.main_arg1)
      ∧ r.2.mem ((c.tc : Thread Cert.TailRefIdeal.nD Cert.TailRefIdeal.τ).loc Cert.TailRefIdeal.main_arg2) = m ((c.tc : Thread Cert.TailRefIdeal.nD Cert.TailRefIdeal.τ).loc Cert.TailRefIdeal.main_arg2)
      ∧ r.2.mem ((c.tc : Thread Cert.TailRefIdeal.nD Cert.TailRefIdeal.τ).loc Cert.TailRefIdeal.main_arg3) = m ((c.tc : Thread Cert.TailRefIdeal.nD Cert.TailRefIdeal.τ).loc Cert.TailRefIdeal.main_arg3)
      ∧ r.2.mem ((c.tc : Thread Cert.TailRefIdeal.nD Cert.TailRefIdeal.τ).loc Cert.TailRefIdeal.main_arg4) = m ((c.tc : Thread Cert.TailRefIdeal.nD Cert.TailRefIdeal.τ).loc Cert.TailRefIdeal.main_arg4)
      ∧ r.2.mem ((c.tc : Thread Cert.TailRefIdeal.nD Cert.TailRefIdeal.τ).loc Cert.TailRefIdeal.main_arg5) = m ((c.tc : Thread Cert.TailRefIdeal.nD Cert.TailRefIdeal.τ).loc Cert.TailRefIdeal.main_arg5)
      ∧ r.2.mem ((c.tc : Thread Cert.TailRefIdeal.nD Cert.TailRefIdeal.τ).loc Cert.TailRefIdeal.main_arg6) = m ((c.tc : Thread Cert.TailRefIdeal.nD Cert.TailRefIdeal.τ).loc Cert.TailRefIdeal.main_arg6)
      ∧ r.2.mem ((c.tc : Thread Cert.TailRefIdeal.nD Cert.TailRefIdeal.τ).loc Cert.TailRefIdeal.main_arg7) = m ((c.tc : Thread Cert.TailRefIdeal.nD Cert.TailRefIdeal.τ).loc Cert.TailRefIdeal.main_arg7)
      ∧ r.2.mem ((c.tc : Thread Cert.TailRefIdeal.nD Cert.TailRefIdeal.τ).loc Cert.TailRefIdeal.main_arg8) = m ((c.tc : Thread Cert.TailRefIdeal.nD Cert.TailRefIdeal.τ).loc Cert.TailRefIdeal.main_arg8))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6))
      ∧ r.2.sem = fun _ => 0)

def quiescent_Kv [hKv : Cert.Kv.Facts] : Prop :=
  ∀ (m : (ℓ : Loc Cert.Kv.nD Cert.Kv.τ Cert.Kv.sig) → Buf (Elt Bits) ℓ) (g : Dev Cert.Kv.nD → PrngReg), Pre_Kv m →
    θ_run (Cert.Kv.defs (F := Bits)) (onTc (τ := Cert.Kv.τ) (Cert.Kv.main (F := Bits))) ⟨m, fun _ => 0, g⟩ (fun r => (∀ c : Dev Cert.Kv.nD,
      r.2.mem ((c.tc : Thread Cert.Kv.nD Cert.Kv.τ).loc Cert.Kv.main_arg0) = m ((c.tc : Thread Cert.Kv.nD Cert.Kv.τ).loc Cert.Kv.main_arg0)
      ∧ r.2.mem ((c.tc : Thread Cert.Kv.nD Cert.Kv.τ).loc Cert.Kv.main_arg1) = m ((c.tc : Thread Cert.Kv.nD Cert.Kv.τ).loc Cert.Kv.main_arg1)
      ∧ r.2.mem ((c.tc : Thread Cert.Kv.nD Cert.Kv.τ).loc Cert.Kv.main_arg2) = m ((c.tc : Thread Cert.Kv.nD Cert.Kv.τ).loc Cert.Kv.main_arg2)
      ∧ r.2.mem ((c.tc : Thread Cert.Kv.nD Cert.Kv.τ).loc Cert.Kv.main_arg3) = m ((c.tc : Thread Cert.Kv.nD Cert.Kv.τ).loc Cert.Kv.main_arg3))
      ∧ r.2.sem = fun _ => 0)

def quiescent_KvIdeal [hKvIdeal : Cert.KvIdeal.Facts] : Prop :=
  ∀ (m : (ℓ : Loc Cert.KvIdeal.nD Cert.KvIdeal.τ Cert.KvIdeal.sig) → Buf (Elt Ideal) ℓ) (g : Dev Cert.KvIdeal.nD → PrngReg), Pre_KvIdeal m →
    θ_run (Cert.KvIdeal.defs (F := Ideal)) (onTc (τ := Cert.KvIdeal.τ) (Cert.KvIdeal.main (F := Ideal))) ⟨m, fun _ => 0, g⟩ (fun r => (∀ c : Dev Cert.KvIdeal.nD,
      r.2.mem ((c.tc : Thread Cert.KvIdeal.nD Cert.KvIdeal.τ).loc Cert.KvIdeal.main_arg0) = m ((c.tc : Thread Cert.KvIdeal.nD Cert.KvIdeal.τ).loc Cert.KvIdeal.main_arg0)
      ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
      ∧ r.2.mem ((c.tc : Thread Cert.KvIdeal.nD Cert.KvIdeal.τ).loc Cert.KvIdeal.main_arg2) = m ((c.tc : Thread Cert.KvIdeal.nD Cert.KvIdeal.τ).loc Cert.KvIdeal.main_arg2)
      ∧ r.2.mem ((c.tc : Thread Cert.KvIdeal.nD Cert.KvIdeal.τ).loc Cert.KvIdeal.main_arg3) = m ((c.tc : Thread Cert.KvIdeal.nD Cert.KvIdeal.τ).loc Cert.KvIdeal.main_arg3))
      ∧ r.2.sem = fun _ => 0)

def quiescent_KvRefIdeal [hKvRefIdeal : Cert.KvRefIdeal.Facts] : Prop :=
  ∀ (m : (ℓ : Loc Cert.KvRefIdeal.nD Cert.KvRefIdeal.τ Cert.KvRefIdeal.sig) → Buf (Elt Ideal) ℓ) (g : Dev Cert.KvRefIdeal.nD → PrngReg), Pre_KvRefIdeal m →
    θ_run (Cert.KvRefIdeal.defs (F := Ideal)) (onTc (τ := Cert.KvRefIdeal.τ) (Cert.KvRefIdeal.main (F := Ideal))) ⟨m, fun _ => 0, g⟩ (fun r => (∀ c : Dev Cert.KvRefIdeal.nD,
      r.2.mem ((c.tc : Thread Cert.KvRefIdeal.nD Cert.KvRefIdeal.τ).loc Cert.KvRefIdeal.main_arg0) = m ((c.tc : Thread Cert.KvRefIdeal.nD Cert.KvRefIdeal.τ).loc Cert.KvRefIdeal.main_arg0)
      ∧ r.2.mem ((c.tc : Thread Cert.KvRefIdeal.nD Cert.KvRefIdeal.τ).loc Cert.KvRefIdeal.main_arg1) = m ((c.tc : Thread Cert.KvRefIdeal.nD Cert.KvRefIdeal.τ).loc Cert.KvRefIdeal.main_arg1)
      ∧ r.2.mem ((c.tc : Thread Cert.KvRefIdeal.nD Cert.KvRefIdeal.τ).loc Cert.KvRefIdeal.main_arg2) = m ((c.tc : Thread Cert.KvRefIdeal.nD Cert.KvRefIdeal.τ).loc Cert.KvRefIdeal.main_arg2)
      ∧ r.2.mem ((c.tc : Thread Cert.KvRefIdeal.nD Cert.KvRefIdeal.τ).loc Cert.KvRefIdeal.main_arg3) = m ((c.tc : Thread Cert.KvRefIdeal.nD Cert.KvRefIdeal.τ).loc Cert.KvRefIdeal.main_arg3))
      ∧ r.2.sem = fun _ => 0)

def quiescent_Q [hQ : Cert.Q.Facts] : Prop :=
  ∀ (m : (ℓ : Loc Cert.Q.nD Cert.Q.τ Cert.Q.sig) → Buf (Elt Bits) ℓ) (g : Dev Cert.Q.nD → PrngReg), Pre_Q m →
    θ_run (Cert.Q.defs (F := Bits)) (onTc (τ := Cert.Q.τ) (Cert.Q.main (F := Bits))) ⟨m, fun _ => 0, g⟩ (fun r => (∀ c : Dev Cert.Q.nD,
      r.2.mem ((c.tc : Thread Cert.Q.nD Cert.Q.τ).loc Cert.Q.main_arg0) = m ((c.tc : Thread Cert.Q.nD Cert.Q.τ).loc Cert.Q.main_arg0)
      ∧ r.2.mem ((c.tc : Thread Cert.Q.nD Cert.Q.τ).loc Cert.Q.main_arg1) = m ((c.tc : Thread Cert.Q.nD Cert.Q.τ).loc Cert.Q.main_arg1)
      ∧ r.2.mem ((c.tc : Thread Cert.Q.nD Cert.Q.τ).loc Cert.Q.main_arg2) = m ((c.tc : Thread Cert.Q.nD Cert.Q.τ).loc Cert.Q.main_arg2))
      ∧ r.2.sem = fun _ => 0)

def quiescent_QIdeal [hQIdeal : Cert.QIdeal.Facts] : Prop :=
  ∀ (m : (ℓ : Loc Cert.QIdeal.nD Cert.QIdeal.τ Cert.QIdeal.sig) → Buf (Elt Ideal) ℓ) (g : Dev Cert.QIdeal.nD → PrngReg), Pre_QIdeal m →
    θ_run (Cert.QIdeal.defs (F := Ideal)) (onTc (τ := Cert.QIdeal.τ) (Cert.QIdeal.main (F := Ideal))) ⟨m, fun _ => 0, g⟩ (fun r => (∀ c : Dev Cert.QIdeal.nD,
      r.2.mem ((c.tc : Thread Cert.QIdeal.nD Cert.QIdeal.τ).loc Cert.QIdeal.main_arg0) = m ((c.tc : Thread Cert.QIdeal.nD Cert.QIdeal.τ).loc Cert.QIdeal.main_arg0)
      ∧ r.2.mem ((c.tc : Thread Cert.QIdeal.nD Cert.QIdeal.τ).loc Cert.QIdeal.main_arg1) = m ((c.tc : Thread Cert.QIdeal.nD Cert.QIdeal.τ).loc Cert.QIdeal.main_arg1)
      ∧ r.2.mem ((c.tc : Thread Cert.QIdeal.nD Cert.QIdeal.τ).loc Cert.QIdeal.main_arg2) = m ((c.tc : Thread Cert.QIdeal.nD Cert.QIdeal.τ).loc Cert.QIdeal.main_arg2))
      ∧ r.2.sem = fun _ => 0)

def quiescent_QRefIdeal [hQRefIdeal : Cert.QRefIdeal.Facts] : Prop :=
  ∀ (m : (ℓ : Loc Cert.QRefIdeal.nD Cert.QRefIdeal.τ Cert.QRefIdeal.sig) → Buf (Elt Ideal) ℓ) (g : Dev Cert.QRefIdeal.nD → PrngReg), Pre_QRefIdeal m →
    θ_run (Cert.QRefIdeal.defs (F := Ideal)) (onTc (τ := Cert.QRefIdeal.τ) (Cert.QRefIdeal.main (F := Ideal))) ⟨m, fun _ => 0, g⟩ (fun r => (∀ c : Dev Cert.QRefIdeal.nD,
      r.2.mem ((c.tc : Thread Cert.QRefIdeal.nD Cert.QRefIdeal.τ).loc Cert.QRefIdeal.main_arg0) = m ((c.tc : Thread Cert.QRefIdeal.nD Cert.QRefIdeal.τ).loc Cert.QRefIdeal.main_arg0)
      ∧ r.2.mem ((c.tc : Thread Cert.QRefIdeal.nD Cert.QRefIdeal.τ).loc Cert.QRefIdeal.main_arg1) = m ((c.tc : Thread Cert.QRefIdeal.nD Cert.QRefIdeal.τ).loc Cert.QRefIdeal.main_arg1)
      ∧ r.2.mem ((c.tc : Thread Cert.QRefIdeal.nD Cert.QRefIdeal.τ).loc Cert.QRefIdeal.main_arg2) = m ((c.tc : Thread Cert.QRefIdeal.nD Cert.QRefIdeal.τ).loc Cert.QRefIdeal.main_arg2))
      ∧ r.2.sem = fun _ => 0)

def quiescent_TailS [hTailS : Cert.TailS.Facts] : Prop :=
  ∀ (m : (ℓ : Loc Cert.TailS.nD Cert.TailS.τ Cert.TailS.sig) → Buf (Elt Bits) ℓ) (g : Dev Cert.TailS.nD → PrngReg), Pre_TailS m →
    θ_run (Cert.TailS.defs (F := Bits)) (onTc (τ := Cert.TailS.τ) (Cert.TailS.main (F := Bits))) ⟨m, fun _ => 0, g⟩ (fun r => (∀ c : Dev Cert.TailS.nD,
      r.2.mem ((c.tc : Thread Cert.TailS.nD Cert.TailS.τ).loc Cert.TailS.main_arg0) = m ((c.tc : Thread Cert.TailS.nD Cert.TailS.τ).loc Cert.TailS.main_arg0)
      ∧ r.2.mem ((c.tc : Thread Cert.TailS.nD Cert.TailS.τ).loc Cert.TailS.main_arg1) = m ((c.tc : Thread Cert.TailS.nD Cert.TailS.τ).loc Cert.TailS.main_arg1)
      ∧ r.2.mem ((c.tc : Thread Cert.TailS.nD Cert.TailS.τ).loc Cert.TailS.main_arg2) = m ((c.tc : Thread Cert.TailS.nD Cert.TailS.τ).loc Cert.TailS.main_arg2)
      ∧ r.2.mem ((c.tc : Thread Cert.TailS.nD Cert.TailS.τ).loc Cert.TailS.main_arg3) = m ((c.tc : Thread Cert.TailS.nD Cert.TailS.τ).loc Cert.TailS.main_arg3)
      ∧ r.2.mem ((c.tc : Thread Cert.TailS.nD Cert.TailS.τ).loc Cert.TailS.main_arg4) = m ((c.tc : Thread Cert.TailS.nD Cert.TailS.τ).loc Cert.TailS.main_arg4)
      ∧ r.2.mem ((c.tc : Thread Cert.TailS.nD Cert.TailS.τ).loc Cert.TailS.main_arg5) = m ((c.tc : Thread Cert.TailS.nD Cert.TailS.τ).loc Cert.TailS.main_arg5)
      ∧ r.2.mem ((c.tc : Thread Cert.TailS.nD Cert.TailS.τ).loc Cert.TailS.main_arg6) = m ((c.tc : Thread Cert.TailS.nD Cert.TailS.τ).loc Cert.TailS.main_arg6)
      ∧ r.2.mem ((c.tc : Thread Cert.TailS.nD Cert.TailS.τ).loc Cert.TailS.main_arg7) = m ((c.tc : Thread Cert.TailS.nD Cert.TailS.τ).loc Cert.TailS.main_arg7)
      ∧ r.2.mem ((c.tc : Thread Cert.TailS.nD Cert.TailS.τ).loc Cert.TailS.main_arg8) = m ((c.tc : Thread Cert.TailS.nD Cert.TailS.τ).loc Cert.TailS.main_arg8))
      ∧ r.2.sem = fun _ => 0)

def quiescent_TailSIdeal [hTailSIdeal : Cert.TailSIdeal.Facts] : Prop :=
  ∀ (m : (ℓ : Loc Cert.TailSIdeal.nD Cert.TailSIdeal.τ Cert.TailSIdeal.sig) → Buf (Elt Ideal) ℓ) (g : Dev Cert.TailSIdeal.nD → PrngReg), Pre_TailSIdeal m →
    θ_run (Cert.TailSIdeal.defs (F := Ideal)) (onTc (τ := Cert.TailSIdeal.τ) (Cert.TailSIdeal.main (F := Ideal))) ⟨m, fun _ => 0, g⟩ (fun r => (∀ c : Dev Cert.TailSIdeal.nD,
      r.2.mem ((c.tc : Thread Cert.TailSIdeal.nD Cert.TailSIdeal.τ).loc Cert.TailSIdeal.main_arg0) = m ((c.tc : Thread Cert.TailSIdeal.nD Cert.TailSIdeal.τ).loc Cert.TailSIdeal.main_arg0)
      ∧ r.2.mem ((c.tc : Thread Cert.TailSIdeal.nD Cert.TailSIdeal.τ).loc Cert.TailSIdeal.main_arg1) = m ((c.tc : Thread Cert.TailSIdeal.nD Cert.TailSIdeal.τ).loc Cert.TailSIdeal.main_arg1)
      ∧ r.2.mem ((c.tc : Thread Cert.TailSIdeal.nD Cert.TailSIdeal.τ).loc Cert.TailSIdeal.main_arg2) = m ((c.tc : Thread Cert.TailSIdeal.nD Cert.TailSIdeal.τ).loc Cert.TailSIdeal.main_arg2)
      ∧ r.2.mem ((c.tc : Thread Cert.TailSIdeal.nD Cert.TailSIdeal.τ).loc Cert.TailSIdeal.main_arg3) = m ((c.tc : Thread Cert.TailSIdeal.nD Cert.TailSIdeal.τ).loc Cert.TailSIdeal.main_arg3)
      ∧ r.2.mem ((c.tc : Thread Cert.TailSIdeal.nD Cert.TailSIdeal.τ).loc Cert.TailSIdeal.main_arg4) = m ((c.tc : Thread Cert.TailSIdeal.nD Cert.TailSIdeal.τ).loc Cert.TailSIdeal.main_arg4)
      ∧ r.2.mem ((c.tc : Thread Cert.TailSIdeal.nD Cert.TailSIdeal.τ).loc Cert.TailSIdeal.main_arg5) = m ((c.tc : Thread Cert.TailSIdeal.nD Cert.TailSIdeal.τ).loc Cert.TailSIdeal.main_arg5)
      ∧ r.2.mem ((c.tc : Thread Cert.TailSIdeal.nD Cert.TailSIdeal.τ).loc Cert.TailSIdeal.main_arg6) = m ((c.tc : Thread Cert.TailSIdeal.nD Cert.TailSIdeal.τ).loc Cert.TailSIdeal.main_arg6)
      ∧ r.2.mem ((c.tc : Thread Cert.TailSIdeal.nD Cert.TailSIdeal.τ).loc Cert.TailSIdeal.main_arg7) = m ((c.tc : Thread Cert.TailSIdeal.nD Cert.TailSIdeal.τ).loc Cert.TailSIdeal.main_arg7)
      ∧ r.2.mem ((c.tc : Thread Cert.TailSIdeal.nD Cert.TailSIdeal.τ).loc Cert.TailSIdeal.main_arg8) = m ((c.tc : Thread Cert.TailSIdeal.nD Cert.TailSIdeal.τ).loc Cert.TailSIdeal.main_arg8))
      ∧ r.2.sem = fun _ => 0)

def quiescent_TailSRefIdeal [hTailSRefIdeal : Cert.TailSRefIdeal.Facts] : Prop :=
  ∀ (m : (ℓ : Loc Cert.TailSRefIdeal.nD Cert.TailSRefIdeal.τ Cert.TailSRefIdeal.sig) → Buf (Elt Ideal) ℓ) (g : Dev Cert.TailSRefIdeal.nD → PrngReg), Pre_TailSRefIdeal m →
    θ_run (Cert.TailSRefIdeal.defs (F := Ideal)) (onTc (τ := Cert.TailSRefIdeal.τ) (Cert.TailSRefIdeal.main (F := Ideal))) ⟨m, fun _ => 0, g⟩ (fun r => (∀ c : Dev Cert.TailSRefIdeal.nD,
      r.2.mem ((c.tc : Thread Cert.TailSRefIdeal.nD Cert.TailSRefIdeal.τ).loc Cert.TailSRefIdeal.main_arg0) = m ((c.tc : Thread Cert.TailSRefIdeal.nD Cert.TailSRefIdeal.τ).loc Cert.TailSRefIdeal.main_arg0)
      ∧ r.2.mem ((c.tc : Thread Cert.TailSRefIdeal.nD Cert.TailSRefIdeal.τ).loc Cert.TailSRefIdeal.main_arg1) = m ((c.tc : Thread Cert.TailSRefIdeal.nD Cert.TailSRefIdeal.τ).loc Cert.TailSRefIdeal.main_arg1)
      ∧ r.2.mem ((c.tc : Thread Cert.TailSRefIdeal.nD Cert.TailSRefIdeal.τ).loc Cert.TailSRefIdeal.main_arg2) = m ((c.tc : Thread Cert.TailSRefIdeal.nD Cert.TailSRefIdeal.τ).loc Cert.TailSRefIdeal.main_arg2)
      ∧ r.2.mem ((c.tc : Thread Cert.TailSRefIdeal.nD Cert.TailSRefIdeal.τ).loc Cert.TailSRefIdeal.main_arg3) = m ((c.tc : Thread Cert.TailSRefIdeal.nD Cert.TailSRefIdeal.τ).loc Cert.TailSRefIdeal.main_arg3)
      ∧ r.2.mem ((c.tc : Thread Cert.TailSRefIdeal.nD Cert.TailSRefIdeal.τ).loc Cert.TailSRefIdeal.main_arg4) = m ((c.tc : Thread Cert.TailSRefIdeal.nD Cert.TailSRefIdeal.τ).loc Cert.TailSRefIdeal.main_arg4)
      ∧ r.2.mem ((c.tc : Thread Cert.TailSRefIdeal.nD Cert.TailSRefIdeal.τ).loc Cert.TailSRefIdeal.main_arg5) = m ((c.tc : Thread Cert.TailSRefIdeal.nD Cert.TailSRefIdeal.τ).loc Cert.TailSRefIdeal.main_arg5)
      ∧ r.2.mem ((c.tc : Thread Cert.TailSRefIdeal.nD Cert.TailSRefIdeal.τ).loc Cert.TailSRefIdeal.main_arg6) = m ((c.tc : Thread Cert.TailSRefIdeal.nD Cert.TailSRefIdeal.τ).loc Cert.TailSRefIdeal.main_arg6)
      ∧ r.2.mem ((c.tc : Thread Cert.TailSRefIdeal.nD Cert.TailSRefIdeal.τ).loc Cert.TailSRefIdeal.main_arg7) = m ((c.tc : Thread Cert.TailSRefIdeal.nD Cert.TailSRefIdeal.τ).loc Cert.TailSRefIdeal.main_arg7)
      ∧ r.2.mem ((c.tc : Thread Cert.TailSRefIdeal.nD Cert.TailSRefIdeal.τ).loc Cert.TailSRefIdeal.main_arg8) = m ((c.tc : Thread Cert.TailSRefIdeal.nD Cert.TailSRefIdeal.τ).loc Cert.TailSRefIdeal.main_arg8))
      ∧ r.2.sem = fun _ => 0)

def quiescent_KvS [hKvS : Cert.KvS.Facts] : Prop :=
  ∀ (m : (ℓ : Loc Cert.KvS.nD Cert.KvS.τ Cert.KvS.sig) → Buf (Elt Bits) ℓ) (g : Dev Cert.KvS.nD → PrngReg), Pre_KvS m →
    θ_run (Cert.KvS.defs (F := Bits)) (onTc (τ := Cert.KvS.τ) (Cert.KvS.main (F := Bits))) ⟨m, fun _ => 0, g⟩ (fun r => (∀ c : Dev Cert.KvS.nD,
      r.2.mem ((c.tc : Thread Cert.KvS.nD Cert.KvS.τ).loc Cert.KvS.main_arg0) = m ((c.tc : Thread Cert.KvS.nD Cert.KvS.τ).loc Cert.KvS.main_arg0)
      ∧ r.2.mem ((c.tc : Thread Cert.KvS.nD Cert.KvS.τ).loc Cert.KvS.main_arg1) = m ((c.tc : Thread Cert.KvS.nD Cert.KvS.τ).loc Cert.KvS.main_arg1)
      ∧ r.2.mem ((c.tc : Thread Cert.KvS.nD Cert.KvS.τ).loc Cert.KvS.main_arg2) = m ((c.tc : Thread Cert.KvS.nD Cert.KvS.τ).loc Cert.KvS.main_arg2)
      ∧ r.2.mem ((c.tc : Thread Cert.KvS.nD Cert.KvS.τ).loc Cert.KvS.main_arg3) = m ((c.tc : Thread Cert.KvS.nD Cert.KvS.τ).loc Cert.KvS.main_arg3))
      ∧ r.2.sem = fun _ => 0)

def quiescent_KvSIdeal [hKvSIdeal : Cert.KvSIdeal.Facts] : Prop :=
  ∀ (m : (ℓ : Loc Cert.KvSIdeal.nD Cert.KvSIdeal.τ Cert.KvSIdeal.sig) → Buf (Elt Ideal) ℓ) (g : Dev Cert.KvSIdeal.nD → PrngReg), Pre_KvSIdeal m →
    θ_run (Cert.KvSIdeal.defs (F := Ideal)) (onTc (τ := Cert.KvSIdeal.τ) (Cert.KvSIdeal.main (F := Ideal))) ⟨m, fun _ => 0, g⟩ (fun r => (∀ c : Dev Cert.KvSIdeal.nD,
      r.2.mem ((c.tc : Thread Cert.KvSIdeal.nD Cert.KvSIdeal.τ).loc Cert.KvSIdeal.main_arg0) = m ((c.tc : Thread Cert.KvSIdeal.nD Cert.KvSIdeal.τ).loc Cert.KvSIdeal.main_arg0)
      ∧ r.2.mem ((c.tc : Thread Cert.KvSIdeal.nD Cert.KvSIdeal.τ).loc Cert.KvSIdeal.main_arg1) = m ((c.tc : Thread Cert.KvSIdeal.nD Cert.KvSIdeal.τ).loc Cert.KvSIdeal.main_arg1)
      ∧ r.2.mem ((c.tc : Thread Cert.KvSIdeal.nD Cert.KvSIdeal.τ).loc Cert.KvSIdeal.main_arg2) = m ((c.tc : Thread Cert.KvSIdeal.nD Cert.KvSIdeal.τ).loc Cert.KvSIdeal.main_arg2)
      ∧ r.2.mem ((c.tc : Thread Cert.KvSIdeal.nD Cert.KvSIdeal.τ).loc Cert.KvSIdeal.main_arg3) = m ((c.tc : Thread Cert.KvSIdeal.nD Cert.KvSIdeal.τ).loc Cert.KvSIdeal.main_arg3))
      ∧ r.2.sem = fun _ => 0)

def quiescent_KvSRefIdeal [hKvSRefIdeal : Cert.KvSRefIdeal.Facts] : Prop :=
  ∀ (m : (ℓ : Loc Cert.KvSRefIdeal.nD Cert.KvSRefIdeal.τ Cert.KvSRefIdeal.sig) → Buf (Elt Ideal) ℓ) (g : Dev Cert.KvSRefIdeal.nD → PrngReg), Pre_KvSRefIdeal m →
    θ_run (Cert.KvSRefIdeal.defs (F := Ideal)) (onTc (τ := Cert.KvSRefIdeal.τ) (Cert.KvSRefIdeal.main (F := Ideal))) ⟨m, fun _ => 0, g⟩ (fun r => (∀ c : Dev Cert.KvSRefIdeal.nD,
      r.2.mem ((c.tc : Thread Cert.KvSRefIdeal.nD Cert.KvSRefIdeal.τ).loc Cert.KvSRefIdeal.main_arg0) = m ((c.tc : Thread Cert.KvSRefIdeal.nD Cert.KvSRefIdeal.τ).loc Cert.KvSRefIdeal.main_arg0)
      ∧ r.2.mem ((c.tc : Thread Cert.KvSRefIdeal.nD Cert.KvSRefIdeal.τ).loc Cert.KvSRefIdeal.main_arg1) = m ((c.tc : Thread Cert.KvSRefIdeal.nD Cert.KvSRefIdeal.τ).loc Cert.KvSRefIdeal.main_arg1)
      ∧ r.2.mem ((c.tc : Thread Cert.KvSRefIdeal.nD Cert.KvSRefIdeal.τ).loc Cert.KvSRefIdeal.main_arg2) = m ((c.tc : Thread Cert.KvSRefIdeal.nD Cert.KvSRefIdeal.τ).loc Cert.KvSRefIdeal.main_arg2)
      ∧ r.2.mem ((c.tc : Thread Cert.KvSRefIdeal.nD Cert.KvSRefIdeal.τ).loc Cert.KvSRefIdeal.main_arg3) = m ((c.tc : Thread Cert.KvSRefIdeal.nD Cert.KvSRefIdeal.τ).loc Cert.KvSRefIdeal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)) →
    ∃ (v0 : (c : Dev Cert.FfnIdeal.nD) → Buf (Elt Ideal) ((c.tc : Thread Cert.FfnIdeal.nD Cert.FfnIdeal.τ).loc Cert.FfnIdeal.main_v6)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v6) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v28) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3))

def preserves_Tail_TailIdeal : Prop :=
  True

def algebraic_TailIdeal_TailRefIdeal [hTailIdeal : Cert.TailIdeal.Facts] [hTailRefIdeal : Cert.TailRefIdeal.Facts] : Prop :=
  ∀ (m : (ℓ : Loc Cert.TailIdeal.nD Cert.TailIdeal.τ Cert.TailIdeal.sig) → Buf (Elt Ideal) ℓ) (g : Dev Cert.TailIdeal.nD → PrngReg)
    (m' : (ℓ : Loc Cert.TailRefIdeal.nD Cert.TailRefIdeal.τ Cert.TailRefIdeal.sig) → Buf (Elt Ideal) ℓ) (g' : Dev Cert.TailRefIdeal.nD → PrngReg), Pre_TailIdeal m →
    (∀ c : Dev Cert.TailIdeal.nD,
      m' ((c.tc : Thread Cert.TailRefIdeal.nD Cert.TailRefIdeal.τ).loc Cert.TailRefIdeal.main_arg0) = m ((c.tc : Thread Cert.TailIdeal.nD Cert.TailIdeal.τ).loc Cert.TailIdeal.main_arg0)
      ∧ m' ((c.tc : Thread Cert.TailRefIdeal.nD Cert.TailRefIdeal.τ).loc Cert.TailRefIdeal.main_arg1) = m ((c.tc : Thread Cert.TailIdeal.nD Cert.TailIdeal.τ).loc Cert.TailIdeal.main_arg1)
      ∧ m' ((c.tc : Thread Cert.TailRefIdeal.nD Cert.TailRefIdeal.τ).loc Cert.TailRefIdeal.main_arg2) = m ((c.tc : Thread Cert.TailIdeal.nD Cert.TailIdeal.τ).loc Cert.TailIdeal.main_arg2)
      ∧ m' ((c.tc : Thread Cert.TailRefIdeal.nD Cert.TailRefIdeal.τ).loc Cert.TailRefIdeal.main_arg3) = m ((c.tc : Thread Cert.TailIdeal.nD Cert.TailIdeal.τ).loc Cert.TailIdeal.main_arg3)
      ∧ m' ((c.tc : Thread Cert.TailRefIdeal.nD Cert.TailRefIdeal.τ).loc Cert.TailRefIdeal.main_arg4) = m ((c.tc : Thread Cert.TailIdeal.nD Cert.TailIdeal.τ).loc Cert.TailIdeal.main_arg4)
      ∧ m' ((c.tc : Thread Cert.TailRefIdeal.nD Cert.TailRefIdeal.τ).loc Cert.TailRefIdeal.main_arg5) = m ((c.tc : Thread Cert.TailIdeal.nD Cert.TailIdeal.τ).loc Cert.TailIdeal.main_arg5)
      ∧ m' ((c.tc : Thread Cert.TailRefIdeal.nD Cert.TailRefIdeal.τ).loc Cert.TailRefIdeal.main_arg6) = m ((c.tc : Thread Cert.TailIdeal.nD Cert.TailIdeal.τ).loc Cert.TailIdeal.main_arg6)
      ∧ m' ((c.tc : Thread Cert.TailRefIdeal.nD Cert.TailRefIdeal.τ).loc Cert.TailRefIdeal.main_arg7) = m ((c.tc : Thread Cert.TailIdeal.nD Cert.TailIdeal.τ).loc Cert.TailIdeal.main_arg7)
      ∧ m' ((c.tc : Thread Cert.TailRefIdeal.nD Cert.TailRefIdeal.τ).loc Cert.TailRefIdeal.main_arg8) = m ((c.tc : Thread Cert.TailIdeal.nD Cert.TailIdeal.τ).loc Cert.TailIdeal.main_arg8)) →
    ∃ (v0 : (c : Dev Cert.TailIdeal.nD) → Buf (Elt Ideal) ((c.tc : Thread Cert.TailIdeal.nD Cert.TailIdeal.τ).loc Cert.TailIdeal.main_v15)),
      θ_run (Cert.TailIdeal.defs (F := Ideal)) (onTc (τ := Cert.TailIdeal.τ) (Cert.TailIdeal.main (F := Ideal))) ⟨m, fun _ => 0, g⟩ (fun r => ∀ c : Dev Cert.TailIdeal.nD,
          r.2.mem ((c.tc : Thread Cert.TailIdeal.nD Cert.TailIdeal.τ).loc Cert.TailIdeal.main_v15) = v0 c
          ∧ r.2.mem ((c.tc : Thread Cert.TailIdeal.nD Cert.TailIdeal.τ).loc Cert.TailIdeal.main_arg0) = m ((c.tc : Thread Cert.TailIdeal.nD Cert.TailIdeal.τ).loc Cert.TailIdeal.main_arg0)
          ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
          ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
          ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
          ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
          ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
          ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
          ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
          ∧ r.2.mem ((c.tc : Thread Cert.TailIdeal.nD Cert.TailIdeal.τ).loc Cert.TailIdeal.main_arg8) = m ((c.tc : Thread Cert.TailIdeal.nD Cert.TailIdeal.τ).loc Cert.TailIdeal.main_arg8))
      ∧ θ_run (Cert.TailRefIdeal.defs (F := Ideal)) (onTc (τ := Cert.TailRefIdeal.τ) (Cert.TailRefIdeal.main (F := Ideal))) ⟨m', fun _ => 0, g'⟩ (fun r => ∀ c : Dev Cert.TailRefIdeal.nD,
          r.2.mem ((c.tc : Thread Cert.TailRefIdeal.nD Cert.TailRefIdeal.τ).loc Cert.TailRefIdeal.main_v72) = v0 c
          ∧ r.2.mem ((c.tc : Thread Cert.TailRefIdeal.nD Cert.TailRefIdeal.τ).loc Cert.TailRefIdeal.main_arg0) = m' ((c.tc : Thread Cert.TailRefIdeal.nD Cert.TailRefIdeal.τ).loc Cert.TailRefIdeal.main_arg0)
          ∧ r.2.mem ((c.tc : Thread Cert.TailRefIdeal.nD Cert.TailRefIdeal.τ).loc Cert.TailRefIdeal.main_arg1) = m' ((c.tc : Thread Cert.TailRefIdeal.nD Cert.TailRefIdeal.τ).loc Cert.TailRefIdeal.main_arg1)
          ∧ r.2.mem ((c.tc : Thread Cert.TailRefIdeal.nD Cert.TailRefIdeal.τ).loc Cert.TailRefIdeal.main_arg2) = m' ((c.tc : Thread Cert.TailRefIdeal.nD Cert.TailRefIdeal.τ).loc Cert.TailRefIdeal.main_arg2)
          ∧ r.2.mem ((c.tc : Thread Cert.TailRefIdeal.nD Cert.TailRefIdeal.τ).loc Cert.TailRefIdeal.main_arg3) = m' ((c.tc : Thread Cert.TailRefIdeal.nD Cert.TailRefIdeal.τ).loc Cert.TailRefIdeal.main_arg3)
          ∧ r.2.mem ((c.tc : Thread Cert.TailRefIdeal.nD Cert.TailRefIdeal.τ).loc Cert.TailRefIdeal.main_arg4) = m' ((c.tc : Thread Cert.TailRefIdeal.nD Cert.TailRefIdeal.τ).loc Cert.TailRefIdeal.main_arg4)
          ∧ r.2.mem ((c.tc : Thread Cert.TailRefIdeal.nD Cert.TailRefIdeal.τ).loc Cert.TailRefIdeal.main_arg5) = m' ((c.tc : Thread Cert.TailRefIdeal.nD Cert.TailRefIdeal.τ).loc Cert.TailRefIdeal.main_arg5)
          ∧ r.2.mem ((c.tc : Thread Cert.TailRefIdeal.nD Cert.TailRefIdeal.τ).loc Cert.TailRefIdeal.main_arg6) = m' ((c.tc : Thread Cert.TailRefIdeal.nD Cert.TailRefIdeal.τ).loc Cert.TailRefIdeal.main_arg6)
          ∧ r.2.mem ((c.tc : Thread Cert.TailRefIdeal.nD Cert.TailRefIdeal.τ).loc Cert.TailRefIdeal.main_arg7) = m' ((c.tc : Thread Cert.TailRefIdeal.nD Cert.TailRefIdeal.τ).loc Cert.TailRefIdeal.main_arg7)
          ∧ r.2.mem ((c.tc : Thread Cert.TailRefIdeal.nD Cert.TailRefIdeal.τ).loc Cert.TailRefIdeal.main_arg8) = m' ((c.tc : Thread Cert.TailRefIdeal.nD Cert.TailRefIdeal.τ).loc Cert.TailRefIdeal.main_arg8))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v14_0)) (v1 : (c : Dev Cert.ProjIdeal.nD) → Buf (Elt Ideal) ((c.tc : Thread Cert.ProjIdeal.nD Cert.ProjIdeal.τ).loc Cert.ProjIdeal.main_v14_1)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v14_0) = v0 c
          ∧ r.2.mem ((c.tc : Thread Cert.ProjIdeal.nD Cert.ProjIdeal.τ).loc Cert.ProjIdeal.main_v14_1) = v1 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v24) = v0 c
          ∧ r.2.mem ((c.tc : Thread Cert.ProjRefIdeal.nD Cert.ProjRefIdeal.τ).loc Cert.ProjRefIdeal.main_v25) = v1 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)) →
    ∃ (v0 : (c : Dev Cert.MergeIdeal.nD) → Buf (Elt Ideal) ((c.tc : Thread Cert.MergeIdeal.nD Cert.MergeIdeal.τ).loc Cert.MergeIdeal.main_v4)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v4) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v28) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6))

def preserves_Kv_KvIdeal : Prop :=
  True

def algebraic_KvIdeal_KvRefIdeal [hKvIdeal : Cert.KvIdeal.Facts] [hKvRefIdeal : Cert.KvRefIdeal.Facts] : Prop :=
  ∀ (m : (ℓ : Loc Cert.KvIdeal.nD Cert.KvIdeal.τ Cert.KvIdeal.sig) → Buf (Elt Ideal) ℓ) (g : Dev Cert.KvIdeal.nD → PrngReg)
    (m' : (ℓ : Loc Cert.KvRefIdeal.nD Cert.KvRefIdeal.τ Cert.KvRefIdeal.sig) → Buf (Elt Ideal) ℓ) (g' : Dev Cert.KvRefIdeal.nD → PrngReg), Pre_KvIdeal m →
    (∀ c : Dev Cert.KvIdeal.nD,
      m' ((c.tc : Thread Cert.KvRefIdeal.nD Cert.KvRefIdeal.τ).loc Cert.KvRefIdeal.main_arg0) = m ((c.tc : Thread Cert.KvIdeal.nD Cert.KvIdeal.τ).loc Cert.KvIdeal.main_arg0)
      ∧ m' ((c.tc : Thread Cert.KvRefIdeal.nD Cert.KvRefIdeal.τ).loc Cert.KvRefIdeal.main_arg1) = m ((c.tc : Thread Cert.KvIdeal.nD Cert.KvIdeal.τ).loc Cert.KvIdeal.main_arg1)
      ∧ m' ((c.tc : Thread Cert.KvRefIdeal.nD Cert.KvRefIdeal.τ).loc Cert.KvRefIdeal.main_arg2) = m ((c.tc : Thread Cert.KvIdeal.nD Cert.KvIdeal.τ).loc Cert.KvIdeal.main_arg2)
      ∧ m' ((c.tc : Thread Cert.KvRefIdeal.nD Cert.KvRefIdeal.τ).loc Cert.KvRefIdeal.main_arg3) = m ((c.tc : Thread Cert.KvIdeal.nD Cert.KvIdeal.τ).loc Cert.KvIdeal.main_arg3)) →
    ∃ (v0 : (c : Dev Cert.KvIdeal.nD) → Buf (Elt Ideal) ((c.tc : Thread Cert.KvIdeal.nD Cert.KvIdeal.τ).loc Cert.KvIdeal.main_v52_0)) (v1 : (c : Dev Cert.KvIdeal.nD) → Buf (Elt Ideal) ((c.tc : Thread Cert.KvIdeal.nD Cert.KvIdeal.τ).loc Cert.KvIdeal.main_v52_1)) (v2 : (c : Dev Cert.KvIdeal.nD) → Buf (Elt Ideal) ((c.tc : Thread Cert.KvIdeal.nD Cert.KvIdeal.τ).loc Cert.KvIdeal.main_v52_2)) (v3 : (c : Dev Cert.KvIdeal.nD) → Buf (Elt Ideal) ((c.tc : Thread Cert.KvIdeal.nD Cert.KvIdeal.τ).loc Cert.KvIdeal.main_v52_3)),
      θ_run (Cert.KvIdeal.defs (F := Ideal)) (onTc (τ := Cert.KvIdeal.τ) (Cert.KvIdeal.main (F := Ideal))) ⟨m, fun _ => 0, g⟩ (fun r => ∀ c : Dev Cert.KvIdeal.nD,
          r.2.mem ((c.tc : Thread Cert.KvIdeal.nD Cert.KvIdeal.τ).loc Cert.KvIdeal.main_v52_0) = v0 c
          ∧ r.2.mem ((c.tc : Thread Cert.KvIdeal.nD Cert.KvIdeal.τ).loc Cert.KvIdeal.main_v52_1) = v1 c
          ∧ r.2.mem ((c.tc : Thread Cert.KvIdeal.nD Cert.KvIdeal.τ).loc Cert.KvIdeal.main_v52_2) = v2 c
          ∧ r.2.mem ((c.tc : Thread Cert.KvIdeal.nD Cert.KvIdeal.τ).loc Cert.KvIdeal.main_v52_3) = v3 c
          ∧ r.2.mem ((c.tc : Thread Cert.KvIdeal.nD Cert.KvIdeal.τ).loc Cert.KvIdeal.main_arg0) = m ((c.tc : Thread Cert.KvIdeal.nD Cert.KvIdeal.τ).loc Cert.KvIdeal.main_arg0)
          ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
          ∧ r.2.mem ((c.tc : Thread Cert.KvIdeal.nD Cert.KvIdeal.τ).loc Cert.KvIdeal.main_arg2) = m ((c.tc : Thread Cert.KvIdeal.nD Cert.KvIdeal.τ).loc Cert.KvIdeal.main_arg2)
          ∧ r.2.mem ((c.tc : Thread Cert.KvIdeal.nD Cert.KvIdeal.τ).loc Cert.KvIdeal.main_arg3) = m ((c.tc : Thread Cert.KvIdeal.nD Cert.KvIdeal.τ).loc Cert.KvIdeal.main_arg3))
      ∧ θ_run (Cert.KvRefIdeal.defs (F := Ideal)) (onTc (τ := Cert.KvRefIdeal.τ) (Cert.KvRefIdeal.main (F := Ideal))) ⟨m', fun _ => 0, g'⟩ (fun r => ∀ c : Dev Cert.KvRefIdeal.nD,
          r.2.mem ((c.tc : Thread Cert.KvRefIdeal.nD Cert.KvRefIdeal.τ).loc Cert.KvRefIdeal.main_v52) = v0 c
          ∧ r.2.mem ((c.tc : Thread Cert.KvRefIdeal.nD Cert.KvRefIdeal.τ).loc Cert.KvRefIdeal.main_v53) = v1 c
          ∧ r.2.mem ((c.tc : Thread Cert.KvRefIdeal.nD Cert.KvRefIdeal.τ).loc Cert.KvRefIdeal.main_v55) = v2 c
          ∧ r.2.mem ((c.tc : Thread Cert.KvRefIdeal.nD Cert.KvRefIdeal.τ).loc Cert.KvRefIdeal.main_v58) = v3 c
          ∧ r.2.mem ((c.tc : Thread Cert.KvRefIdeal.nD Cert.KvRefIdeal.τ).loc Cert.KvRefIdeal.main_arg0) = m' ((c.tc : Thread Cert.KvRefIdeal.nD Cert.KvRefIdeal.τ).loc Cert.KvRefIdeal.main_arg0)
          ∧ r.2.mem ((c.tc : Thread Cert.KvRefIdeal.nD Cert.KvRefIdeal.τ).loc Cert.KvRefIdeal.main_arg1) = m' ((c.tc : Thread Cert.KvRefIdeal.nD Cert.KvRefIdeal.τ).loc Cert.KvRefIdeal.main_arg1)
          ∧ r.2.mem ((c.tc : Thread Cert.KvRefIdeal.nD Cert.KvRefIdeal.τ).loc Cert.KvRefIdeal.main_arg2) = m' ((c.tc : Thread Cert.KvRefIdeal.nD Cert.KvRefIdeal.τ).loc Cert.KvRefIdeal.main_arg2)
          ∧ r.2.mem ((c.tc : Thread Cert.KvRefIdeal.nD Cert.KvRefIdeal.τ).loc Cert.KvRefIdeal.main_arg3) = m' ((c.tc : Thread Cert.KvRefIdeal.nD Cert.KvRefIdeal.τ).loc Cert.KvRefIdeal.main_arg3))

def preserves_Q_QIdeal : Prop :=
  IdealRules.named_const.Statement Cert.QIdeal.κ "scale" .f32 0x3E16C740#32 ((((Real.sqrt 96) * (Real.log 2))⁻¹ : ℝ) : EReal)

def algebraic_QIdeal_QRefIdeal [hQIdeal : Cert.QIdeal.Facts] [hQRefIdeal : Cert.QRefIdeal.Facts] : Prop :=
  ∀ (m : (ℓ : Loc Cert.QIdeal.nD Cert.QIdeal.τ Cert.QIdeal.sig) → Buf (Elt Ideal) ℓ) (g : Dev Cert.QIdeal.nD → PrngReg)
    (m' : (ℓ : Loc Cert.QRefIdeal.nD Cert.QRefIdeal.τ Cert.QRefIdeal.sig) → Buf (Elt Ideal) ℓ) (g' : Dev Cert.QRefIdeal.nD → PrngReg), Pre_QIdeal m →
    (∀ c : Dev Cert.QIdeal.nD,
      m' ((c.tc : Thread Cert.QRefIdeal.nD Cert.QRefIdeal.τ).loc Cert.QRefIdeal.main_arg0) = m ((c.tc : Thread Cert.QIdeal.nD Cert.QIdeal.τ).loc Cert.QIdeal.main_arg0)
      ∧ m' ((c.tc : Thread Cert.QRefIdeal.nD Cert.QRefIdeal.τ).loc Cert.QRefIdeal.main_arg1) = m ((c.tc : Thread Cert.QIdeal.nD Cert.QIdeal.τ).loc Cert.QIdeal.main_arg1)
      ∧ m' ((c.tc : Thread Cert.QRefIdeal.nD Cert.QRefIdeal.τ).loc Cert.QRefIdeal.main_arg2) = m ((c.tc : Thread Cert.QIdeal.nD Cert.QIdeal.τ).loc Cert.QIdeal.main_arg2)) →
    ∃ (v0 : (c : Dev Cert.QIdeal.nD) → Buf (Elt Ideal) ((c.tc : Thread Cert.QIdeal.nD Cert.QIdeal.τ).loc Cert.QIdeal.main_v39)),
      θ_run (Cert.QIdeal.defs (F := Ideal)) (onTc (τ := Cert.QIdeal.τ) (Cert.QIdeal.main (F := Ideal))) ⟨m, fun _ => 0, g⟩ (fun r => ∀ c : Dev Cert.QIdeal.nD,
          r.2.mem ((c.tc : Thread Cert.QIdeal.nD Cert.QIdeal.τ).loc Cert.QIdeal.main_v39) = v0 c
          ∧ r.2.mem ((c.tc : Thread Cert.QIdeal.nD Cert.QIdeal.τ).loc Cert.QIdeal.main_arg0) = m ((c.tc : Thread Cert.QIdeal.nD Cert.QIdeal.τ).loc Cert.QIdeal.main_arg0)
          ∧ r.2.mem ((c.tc : Thread Cert.QIdeal.nD Cert.QIdeal.τ).loc Cert.QIdeal.main_arg1) = m ((c.tc : Thread Cert.QIdeal.nD Cert.QIdeal.τ).loc Cert.QIdeal.main_arg1)
          ∧ r.2.mem ((c.tc : Thread Cert.QIdeal.nD Cert.QIdeal.τ).loc Cert.QIdeal.main_arg2) = m ((c.tc : Thread Cert.QIdeal.nD Cert.QIdeal.τ).loc Cert.QIdeal.main_arg2))
      ∧ θ_run (Cert.QRefIdeal.defs (F := Ideal)) (onTc (τ := Cert.QRefIdeal.τ) (Cert.QRefIdeal.main (F := Ideal))) ⟨m', fun _ => 0, g'⟩ (fun r => ∀ c : Dev Cert.QRefIdeal.nD,
          r.2.mem ((c.tc : Thread Cert.QRefIdeal.nD Cert.QRefIdeal.τ).loc Cert.QRefIdeal.main_v59) = v0 c
          ∧ r.2.mem ((c.tc : Thread Cert.QRefIdeal.nD Cert.QRefIdeal.τ).loc Cert.QRefIdeal.main_arg0) = m' ((c.tc : Thread Cert.QRefIdeal.nD Cert.QRefIdeal.τ).loc Cert.QRefIdeal.main_arg0)
          ∧ r.2.mem ((c.tc : Thread Cert.QRefIdeal.nD Cert.QRefIdeal.τ).loc Cert.QRefIdeal.main_arg1) = m' ((c.tc : Thread Cert.QRefIdeal.nD Cert.QRefIdeal.τ).loc Cert.QRefIdeal.main_arg1)
          ∧ r.2.mem ((c.tc : Thread Cert.QRefIdeal.nD Cert.QRefIdeal.τ).loc Cert.QRefIdeal.main_arg2) = m' ((c.tc : Thread Cert.QRefIdeal.nD Cert.QRefIdeal.τ).loc Cert.QRefIdeal.main_arg2))

def preserves_TailS_TailSIdeal : Prop :=
  True

def algebraic_TailSIdeal_TailSRefIdeal [hTailSIdeal : Cert.TailSIdeal.Facts] [hTailSRefIdeal : Cert.TailSRefIdeal.Facts] : Prop :=
  ∀ (m : (ℓ : Loc Cert.TailSIdeal.nD Cert.TailSIdeal.τ Cert.TailSIdeal.sig) → Buf (Elt Ideal) ℓ) (g : Dev Cert.TailSIdeal.nD → PrngReg)
    (m' : (ℓ : Loc Cert.TailSRefIdeal.nD Cert.TailSRefIdeal.τ Cert.TailSRefIdeal.sig) → Buf (Elt Ideal) ℓ) (g' : Dev Cert.TailSRefIdeal.nD → PrngReg), Pre_TailSIdeal m →
    (∀ c : Dev Cert.TailSIdeal.nD,
      m' ((c.tc : Thread Cert.TailSRefIdeal.nD Cert.TailSRefIdeal.τ).loc Cert.TailSRefIdeal.main_arg0) = m ((c.tc : Thread Cert.TailSIdeal.nD Cert.TailSIdeal.τ).loc Cert.TailSIdeal.main_arg0)
      ∧ m' ((c.tc : Thread Cert.TailSRefIdeal.nD Cert.TailSRefIdeal.τ).loc Cert.TailSRefIdeal.main_arg1) = m ((c.tc : Thread Cert.TailSIdeal.nD Cert.TailSIdeal.τ).loc Cert.TailSIdeal.main_arg1)
      ∧ m' ((c.tc : Thread Cert.TailSRefIdeal.nD Cert.TailSRefIdeal.τ).loc Cert.TailSRefIdeal.main_arg2) = m ((c.tc : Thread Cert.TailSIdeal.nD Cert.TailSIdeal.τ).loc Cert.TailSIdeal.main_arg2)
      ∧ m' ((c.tc : Thread Cert.TailSRefIdeal.nD Cert.TailSRefIdeal.τ).loc Cert.TailSRefIdeal.main_arg3) = m ((c.tc : Thread Cert.TailSIdeal.nD Cert.TailSIdeal.τ).loc Cert.TailSIdeal.main_arg3)
      ∧ m' ((c.tc : Thread Cert.TailSRefIdeal.nD Cert.TailSRefIdeal.τ).loc Cert.TailSRefIdeal.main_arg4) = m ((c.tc : Thread Cert.TailSIdeal.nD Cert.TailSIdeal.τ).loc Cert.TailSIdeal.main_arg4)
      ∧ m' ((c.tc : Thread Cert.TailSRefIdeal.nD Cert.TailSRefIdeal.τ).loc Cert.TailSRefIdeal.main_arg5) = m ((c.tc : Thread Cert.TailSIdeal.nD Cert.TailSIdeal.τ).loc Cert.TailSIdeal.main_arg5)
      ∧ m' ((c.tc : Thread Cert.TailSRefIdeal.nD Cert.TailSRefIdeal.τ).loc Cert.TailSRefIdeal.main_arg6) = m ((c.tc : Thread Cert.TailSIdeal.nD Cert.TailSIdeal.τ).loc Cert.TailSIdeal.main_arg6)
      ∧ m' ((c.tc : Thread Cert.TailSRefIdeal.nD Cert.TailSRefIdeal.τ).loc Cert.TailSRefIdeal.main_arg7) = m ((c.tc : Thread Cert.TailSIdeal.nD Cert.TailSIdeal.τ).loc Cert.TailSIdeal.main_arg7)
      ∧ m' ((c.tc : Thread Cert.TailSRefIdeal.nD Cert.TailSRefIdeal.τ).loc Cert.TailSRefIdeal.main_arg8) = m ((c.tc : Thread Cert.TailSIdeal.nD Cert.TailSIdeal.τ).loc Cert.TailSIdeal.main_arg8)) →
    ∃ (v0 : (c : Dev Cert.TailSIdeal.nD) → Buf (Elt Ideal) ((c.tc : Thread Cert.TailSIdeal.nD Cert.TailSIdeal.τ).loc Cert.TailSIdeal.main_v15)),
      θ_run (Cert.TailSIdeal.defs (F := Ideal)) (onTc (τ := Cert.TailSIdeal.τ) (Cert.TailSIdeal.main (F := Ideal))) ⟨m, fun _ => 0, g⟩ (fun r => ∀ c : Dev Cert.TailSIdeal.nD,
          r.2.mem ((c.tc : Thread Cert.TailSIdeal.nD Cert.TailSIdeal.τ).loc Cert.TailSIdeal.main_v15) = v0 c
          ∧ r.2.mem ((c.tc : Thread Cert.TailSIdeal.nD Cert.TailSIdeal.τ).loc Cert.TailSIdeal.main_arg0) = m ((c.tc : Thread Cert.TailSIdeal.nD Cert.TailSIdeal.τ).loc Cert.TailSIdeal.main_arg0)
          ∧ r.2.mem ((c.tc : Thread Cert.TailSIdeal.nD Cert.TailSIdeal.τ).loc Cert.TailSIdeal.main_arg1) = m ((c.tc : Thread Cert.TailSIdeal.nD Cert.TailSIdeal.τ).loc Cert.TailSIdeal.main_arg1)
          ∧ r.2.mem ((c.tc : Thread Cert.TailSIdeal.nD Cert.TailSIdeal.τ).loc Cert.TailSIdeal.main_arg2) = m ((c.tc : Thread Cert.TailSIdeal.nD Cert.TailSIdeal.τ).loc Cert.TailSIdeal.main_arg2)
          ∧ r.2.mem ((c.tc : Thread Cert.TailSIdeal.nD Cert.TailSIdeal.τ).loc Cert.TailSIdeal.main_arg3) = m ((c.tc : Thread Cert.TailSIdeal.nD Cert.TailSIdeal.τ).loc Cert.TailSIdeal.main_arg3)
          ∧ r.2.mem ((c.tc : Thread Cert.TailSIdeal.nD Cert.TailSIdeal.τ).loc Cert.TailSIdeal.main_arg4) = m ((c.tc : Thread Cert.TailSIdeal.nD Cert.TailSIdeal.τ).loc Cert.TailSIdeal.main_arg4)
          ∧ r.2.mem ((c.tc : Thread Cert.TailSIdeal.nD Cert.TailSIdeal.τ).loc Cert.TailSIdeal.main_arg5) = m ((c.tc : Thread Cert.TailSIdeal.nD Cert.TailSIdeal.τ).loc Cert.TailSIdeal.main_arg5)
          ∧ r.2.mem ((c.tc : Thread Cert.TailSIdeal.nD Cert.TailSIdeal.τ).loc Cert.TailSIdeal.main_arg6) = m ((c.tc : Thread Cert.TailSIdeal.nD Cert.TailSIdeal.τ).loc Cert.TailSIdeal.main_arg6)
          ∧ r.2.mem ((c.tc : Thread Cert.TailSIdeal.nD Cert.TailSIdeal.τ).loc Cert.TailSIdeal.main_arg7) = m ((c.tc : Thread Cert.TailSIdeal.nD Cert.TailSIdeal.τ).loc Cert.TailSIdeal.main_arg7)
          ∧ r.2.mem ((c.tc : Thread Cert.TailSIdeal.nD Cert.TailSIdeal.τ).loc Cert.TailSIdeal.main_arg8) = m ((c.tc : Thread Cert.TailSIdeal.nD Cert.TailSIdeal.τ).loc Cert.TailSIdeal.main_arg8))
      ∧ θ_run (Cert.TailSRefIdeal.defs (F := Ideal)) (onTc (τ := Cert.TailSRefIdeal.τ) (Cert.TailSRefIdeal.main (F := Ideal))) ⟨m', fun _ => 0, g'⟩ (fun r => ∀ c : Dev Cert.TailSRefIdeal.nD,
          r.2.mem ((c.tc : Thread Cert.TailSRefIdeal.nD Cert.TailSRefIdeal.τ).loc Cert.TailSRefIdeal.main_v72) = v0 c
          ∧ r.2.mem ((c.tc : Thread Cert.TailSRefIdeal.nD Cert.TailSRefIdeal.τ).loc Cert.TailSRefIdeal.main_arg0) = m' ((c.tc : Thread Cert.TailSRefIdeal.nD Cert.TailSRefIdeal.τ).loc Cert.TailSRefIdeal.main_arg0)
          ∧ r.2.mem ((c.tc : Thread Cert.TailSRefIdeal.nD Cert.TailSRefIdeal.τ).loc Cert.TailSRefIdeal.main_arg1) = m' ((c.tc : Thread Cert.TailSRefIdeal.nD Cert.TailSRefIdeal.τ).loc Cert.TailSRefIdeal.main_arg1)
          ∧ r.2.mem ((c.tc : Thread Cert.TailSRefIdeal.nD Cert.TailSRefIdeal.τ).loc Cert.TailSRefIdeal.main_arg2) = m' ((c.tc : Thread Cert.TailSRefIdeal.nD Cert.TailSRefIdeal.τ).loc Cert.TailSRefIdeal.main_arg2)
          ∧ r.2.mem ((c.tc : Thread Cert.TailSRefIdeal.nD Cert.TailSRefIdeal.τ).loc Cert.TailSRefIdeal.main_arg3) = m' ((c.tc : Thread Cert.TailSRefIdeal.nD Cert.TailSRefIdeal.τ).loc Cert.TailSRefIdeal.main_arg3)
          ∧ r.2.mem ((c.tc : Thread Cert.TailSRefIdeal.nD Cert.TailSRefIdeal.τ).loc Cert.TailSRefIdeal.main_arg4) = m' ((c.tc : Thread Cert.TailSRefIdeal.nD Cert.TailSRefIdeal.τ).loc Cert.TailSRefIdeal.main_arg4)
          ∧ r.2.mem ((c.tc : Thread Cert.TailSRefIdeal.nD Cert.TailSRefIdeal.τ).loc Cert.TailSRefIdeal.main_arg5) = m' ((c.tc : Thread Cert.TailSRefIdeal.nD Cert.TailSRefIdeal.τ).loc Cert.TailSRefIdeal.main_arg5)
          ∧ r.2.mem ((c.tc : Thread Cert.TailSRefIdeal.nD Cert.TailSRefIdeal.τ).loc Cert.TailSRefIdeal.main_arg6) = m' ((c.tc : Thread Cert.TailSRefIdeal.nD Cert.TailSRefIdeal.τ).loc Cert.TailSRefIdeal.main_arg6)
          ∧ r.2.mem ((c.tc : Thread Cert.TailSRefIdeal.nD Cert.TailSRefIdeal.τ).loc Cert.TailSRefIdeal.main_arg7) = m' ((c.tc : Thread Cert.TailSRefIdeal.nD Cert.TailSRefIdeal.τ).loc Cert.TailSRefIdeal.main_arg7)
          ∧ r.2.mem ((c.tc : Thread Cert.TailSRefIdeal.nD Cert.TailSRefIdeal.τ).loc Cert.TailSRefIdeal.main_arg8) = m' ((c.tc : Thread Cert.TailSRefIdeal.nD Cert.TailSRefIdeal.τ).loc Cert.TailSRefIdeal.main_arg8))

def preserves_KvS_KvSIdeal : Prop :=
  True

def algebraic_KvSIdeal_KvSRefIdeal [hKvSIdeal : Cert.KvSIdeal.Facts] [hKvSRefIdeal : Cert.KvSRefIdeal.Facts] : Prop :=
  ∀ (m : (ℓ : Loc Cert.KvSIdeal.nD Cert.KvSIdeal.τ Cert.KvSIdeal.sig) → Buf (Elt Ideal) ℓ) (g : Dev Cert.KvSIdeal.nD → PrngReg)
    (m' : (ℓ : Loc Cert.KvSRefIdeal.nD Cert.KvSRefIdeal.τ Cert.KvSRefIdeal.sig) → Buf (Elt Ideal) ℓ) (g' : Dev Cert.KvSRefIdeal.nD → PrngReg), Pre_KvSIdeal m →
    (∀ c : Dev Cert.KvSIdeal.nD,
      m' ((c.tc : Thread Cert.KvSRefIdeal.nD Cert.KvSRefIdeal.τ).loc Cert.KvSRefIdeal.main_arg0) = m ((c.tc : Thread Cert.KvSIdeal.nD Cert.KvSIdeal.τ).loc Cert.KvSIdeal.main_arg0)
      ∧ m' ((c.tc : Thread Cert.KvSRefIdeal.nD Cert.KvSRefIdeal.τ).loc Cert.KvSRefIdeal.main_arg1) = m ((c.tc : Thread Cert.KvSIdeal.nD Cert.KvSIdeal.τ).loc Cert.KvSIdeal.main_arg1)
      ∧ m' ((c.tc : Thread Cert.KvSRefIdeal.nD Cert.KvSRefIdeal.τ).loc Cert.KvSRefIdeal.main_arg2) = m ((c.tc : Thread Cert.KvSIdeal.nD Cert.KvSIdeal.τ).loc Cert.KvSIdeal.main_arg2)
      ∧ m' ((c.tc : Thread Cert.KvSRefIdeal.nD Cert.KvSRefIdeal.τ).loc Cert.KvSRefIdeal.main_arg3) = m ((c.tc : Thread Cert.KvSIdeal.nD Cert.KvSIdeal.τ).loc Cert.KvSIdeal.main_arg3)) →
    ∃ (v0 : (c : Dev Cert.KvSIdeal.nD) → Buf (Elt Ideal) ((c.tc : Thread Cert.KvSIdeal.nD Cert.KvSIdeal.τ).loc Cert.KvSIdeal.main_v54_0)) (v1 : (c : Dev Cert.KvSIdeal.nD) → Buf (Elt Ideal) ((c.tc : Thread Cert.KvSIdeal.nD Cert.KvSIdeal.τ).loc Cert.KvSIdeal.main_v54_1)),
      θ_run (Cert.KvSIdeal.defs (F := Ideal)) (onTc (τ := Cert.KvSIdeal.τ) (Cert.KvSIdeal.main (F := Ideal))) ⟨m, fun _ => 0, g⟩ (fun r => ∀ c : Dev Cert.KvSIdeal.nD,
          r.2.mem ((c.tc : Thread Cert.KvSIdeal.nD Cert.KvSIdeal.τ).loc Cert.KvSIdeal.main_v54_0) = v0 c
          ∧ r.2.mem ((c.tc : Thread Cert.KvSIdeal.nD Cert.KvSIdeal.τ).loc Cert.KvSIdeal.main_v54_1) = v1 c
          ∧ r.2.mem ((c.tc : Thread Cert.KvSIdeal.nD Cert.KvSIdeal.τ).loc Cert.KvSIdeal.main_arg0) = m ((c.tc : Thread Cert.KvSIdeal.nD Cert.KvSIdeal.τ).loc Cert.KvSIdeal.main_arg0)
          ∧ r.2.mem ((c.tc : Thread Cert.KvSIdeal.nD Cert.KvSIdeal.τ).loc Cert.KvSIdeal.main_arg1) = m ((c.tc : Thread Cert.KvSIdeal.nD Cert.KvSIdeal.τ).loc Cert.KvSIdeal.main_arg1)
          ∧ r.2.mem ((c.tc : Thread Cert.KvSIdeal.nD Cert.KvSIdeal.τ).loc Cert.KvSIdeal.main_arg2) = m ((c.tc : Thread Cert.KvSIdeal.nD Cert.KvSIdeal.τ).loc Cert.KvSIdeal.main_arg2)
          ∧ r.2.mem ((c.tc : Thread Cert.KvSIdeal.nD Cert.KvSIdeal.τ).loc Cert.KvSIdeal.main_arg3) = m ((c.tc : Thread Cert.KvSIdeal.nD Cert.KvSIdeal.τ).loc Cert.KvSIdeal.main_arg3))
      ∧ θ_run (Cert.KvSRefIdeal.defs (F := Ideal)) (onTc (τ := Cert.KvSRefIdeal.τ) (Cert.KvSRefIdeal.main (F := Ideal))) ⟨m', fun _ => 0, g'⟩ (fun r => ∀ c : Dev Cert.KvSRefIdeal.nD,
          r.2.mem ((c.tc : Thread Cert.KvSRefIdeal.nD Cert.KvSRefIdeal.τ).loc Cert.KvSRefIdeal.main_v48) = v0 c
          ∧ r.2.mem ((c.tc : Thread Cert.KvSRefIdeal.nD Cert.KvSRefIdeal.τ).loc Cert.KvSRefIdeal.main_v49) = v1 c
          ∧ r.2.mem ((c.tc : Thread Cert.KvSRefIdeal.nD Cert.KvSRefIdeal.τ).loc Cert.KvSRefIdeal.main_arg0) = m' ((c.tc : Thread Cert.KvSRefIdeal.nD Cert.KvSRefIdeal.τ).loc Cert.KvSRefIdeal.main_arg0)
          ∧ r.2.mem ((c.tc : Thread Cert.KvSRefIdeal.nD Cert.KvSRefIdeal.τ).loc Cert.KvSRefIdeal.main_arg1) = m' ((c.tc : Thread Cert.KvSRefIdeal.nD Cert.KvSRefIdeal.τ).loc Cert.KvSRefIdeal.main_arg1)
          ∧ r.2.mem ((c.tc : Thread Cert.KvSRefIdeal.nD Cert.KvSRefIdeal.τ).loc Cert.KvSRefIdeal.main_arg2) = m' ((c.tc : Thread Cert.KvSRefIdeal.nD Cert.KvSRefIdeal.τ).loc Cert.KvSRefIdeal.main_arg2)
          ∧ r.2.mem ((c.tc : Thread Cert.KvSRefIdeal.nD Cert.KvSRefIdeal.τ).loc Cert.KvSRefIdeal.main_arg3) = m' ((c.tc : Thread Cert.KvSRefIdeal.nD Cert.KvSRefIdeal.τ).loc Cert.KvSRefIdeal.main_arg3))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnRefIdeal : Cert.FfnRefIdeal.Facts) (hTail : Cert.Tail.Facts) (hTailIdeal : Cert.TailIdeal.Facts) (hTailRefIdeal : Cert.TailRefIdeal.Facts) (hProj : Cert.Proj.Facts) (hProjIdeal : Cert.ProjIdeal.Facts) (hProjRefIdeal : Cert.ProjRefIdeal.Facts) (hMerge : Cert.Merge.Facts) (hMergeIdeal : Cert.MergeIdeal.Facts) (hMergeRefIdeal : Cert.MergeRefIdeal.Facts) (hKv : Cert.Kv.Facts) (hKvIdeal : Cert.KvIdeal.Facts) (hKvRefIdeal : Cert.KvRefIdeal.Facts) (hQ : Cert.Q.Facts) (hQIdeal : Cert.QIdeal.Facts) (hQRefIdeal : Cert.QRefIdeal.Facts) (hTailS : Cert.TailS.Facts) (hTailSIdeal : Cert.TailSIdeal.Facts) (hTailSRefIdeal : Cert.TailSRefIdeal.Facts) (hKvS : Cert.KvS.Facts) (hKvSIdeal : Cert.KvSIdeal.Facts) (hKvSRefIdeal : Cert.KvSRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Ffn (hFfn := hFfn)
    ∧ quiescent_FfnIdeal (hFfnIdeal := hFfnIdeal)
    ∧ quiescent_FfnRefIdeal (hFfnRefIdeal := hFfnRefIdeal)
    ∧ quiescent_Tail (hTail := hTail)
    ∧ quiescent_TailIdeal (hTailIdeal := hTailIdeal)
    ∧ quiescent_TailRefIdeal (hTailRefIdeal := hTailRefIdeal)
    ∧ quiescent_Proj (hProj := hProj)
    ∧ quiescent_ProjIdeal (hProjIdeal := hProjIdeal)
    ∧ quiescent_ProjRefIdeal (hProjRefIdeal := hProjRefIdeal)
    ∧ quiescent_Merge (hMerge := hMerge)
    ∧ quiescent_MergeIdeal (hMergeIdeal := hMergeIdeal)
    ∧ quiescent_MergeRefIdeal (hMergeRefIdeal := hMergeRefIdeal)
    ∧ quiescent_Kv (hKv := hKv)
    ∧ quiescent_KvIdeal (hKvIdeal := hKvIdeal)
    ∧ quiescent_KvRefIdeal (hKvRefIdeal := hKvRefIdeal)
    ∧ quiescent_Q (hQ := hQ)
    ∧ quiescent_QIdeal (hQIdeal := hQIdeal)
    ∧ quiescent_QRefIdeal (hQRefIdeal := hQRefIdeal)
    ∧ quiescent_TailS (hTailS := hTailS)
    ∧ quiescent_TailSIdeal (hTailSIdeal := hTailSIdeal)
    ∧ quiescent_TailSRefIdeal (hTailSRefIdeal := hTailSRefIdeal)
    ∧ quiescent_KvS (hKvS := hKvS)
    ∧ quiescent_KvSIdeal (hKvSIdeal := hKvSIdeal)
    ∧ quiescent_KvSRefIdeal (hKvSRefIdeal := hKvSRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Ffn_FfnIdeal
    ∧ algebraic_FfnIdeal_FfnRefIdeal (hFfnIdeal := hFfnIdeal) (hFfnRefIdeal := hFfnRefIdeal)
    ∧ preserves_Tail_TailIdeal
    ∧ algebraic_TailIdeal_TailRefIdeal (hTailIdeal := hTailIdeal) (hTailRefIdeal := hTailRefIdeal)
    ∧ preserves_Proj_ProjIdeal
    ∧ algebraic_ProjIdeal_ProjRefIdeal (hProjIdeal := hProjIdeal) (hProjRefIdeal := hProjRefIdeal)
    ∧ preserves_Merge_MergeIdeal
    ∧ algebraic_MergeIdeal_MergeRefIdeal (hMergeIdeal := hMergeIdeal) (hMergeRefIdeal := hMergeRefIdeal)
    ∧ preserves_Kv_KvIdeal
    ∧ algebraic_KvIdeal_KvRefIdeal (hKvIdeal := hKvIdeal) (hKvRefIdeal := hKvRefIdeal)
    ∧ preserves_Q_QIdeal
    ∧ algebraic_QIdeal_QRefIdeal (hQIdeal := hQIdeal) (hQRefIdeal := hQRefIdeal)
    ∧ preserves_TailS_TailSIdeal
    ∧ algebraic_TailSIdeal_TailSRefIdeal (hTailSIdeal := hTailSIdeal) (hTailSRefIdeal := hTailSRefIdeal)
    ∧ preserves_KvS_KvSIdeal
    ∧ algebraic_KvSIdeal_KvSRefIdeal (hKvSIdeal := hKvSIdeal) (hKvSRefIdeal := hKvSRefIdeal)
-- ==== Pre_finite.lean ====
abbrev S4x4096x16x64 : Shape := ⟨4, ![4, 4096, 16, 64]⟩
abbrev S4x4096x16x32 : Shape := ⟨4, ![4, 4096, 16, 32]⟩
abbrev S4x4096x32 : Shape := ⟨3, ![4, 4096, 32]⟩
abbrev S_ : Shape := ⟨0, ![]⟩

class Facts : Prop where
  bcast_S_S4x4096x16x64 : S_.BroadcastsInDim S4x4096x16x64 (![] : Fin 0 → Fin S4x4096x16x64.rank)
  bcast_S_S4x4096x16x32 : S_.BroadcastsInDim S4x4096x16x32 (![] : Fin 0 → Fin S4x4096x16x32.rank)
  bcast_S_S4x4096x32 : S_.BroadcastsInDim S4x4096x32 (![] : Fin 0 → Fin S4x4096x32.rank)

variable [Facts]

def fn {F : FTy → Type} [FloatOps F] (main_arg0 : FVec F S4x4096x16x64 .f32) (main_arg1 : FVec F S4x4096x16x32 .f32) (main_arg2 : FVec F S4x4096x16x64 .f32) (main_arg3 : FVec F S4x4096x32 .f32) (main_arg4 : FVec F S4x4096x16x64 .f32) : IVec S4x4096x16x64 1 × IVec S4x4096x16x32 1 × IVec S4x4096x16x64 1 × IVec S4x4096x32 1 :=
  let main_v0 : FVec F S4x4096x16x64 .f32 := Host.absf main_arg0
  let main_cst : FVec F S_ .f32 := constant S_ .f32 0x7F800000#32
  let main_v1 : FVec F S4x4096x16x64 .f32 := broadcastInDim S4x4096x16x64 ![] bcast_S_S4x4096x16x64 main_cst
  let main_v2 : IVec S4x4096x16x64 1 := cmpf .olt main_v0 main_v1
  let main_v3 : FVec F S4x4096x16x32 .f32 := Host.absf main_arg1
  let main_cst_0 : FVec F S_ .f32 := constant S_ .f32 0x7F800000#32
  let main_v4 : FVec F S4x4096x16x32 .f32 := broadcastInDim S4x4096x16x32 ![] bcast_S_S4x4096x16x32 main_cst_0
  let main_v5 : IVec S4x4096x16x32 1 := cmpf .olt main_v3 main_v4
  let main_v6 : FVec F S4x4096x16x64 .f32 := Host.absf main_arg2
  let main_cst_1 : FVec F S_ .f32 := constant S_ .f32 0x7F800000#32
  let main_v7 : FVec F S4x4096x16x64 .f32 := broadcastInDim S4x4096x16x64 ![] bcast_S_S4x4096x16x64 main_cst_1
  let main_v8 : IVec S4x4096x16x64 1 := cmpf .olt main_v6 main_v7
  let main_v9 : FVec F S4x4096x32 .f32 := Host.absf main_arg3
  let main_cst_2 : FVec F S_ .f32 := constant S_ .f32 0x7F800000#32
  let main_v10 : FVec F S4x4096x32 .f32 := broadcastInDim S4x4096x32 ![] bcast_S_S4x4096x32 main_cst_2
  let main_v11 : IVec S4x4096x32 1 := cmpf .olt main_v9 main_v10
  (main_v2, main_v5, main_v8, main_v11)
-- ==== Kernel.lean ====
abbrev S4x4096x16x64 : Shape := ⟨4, ![4, 4096, 16, 64]⟩
abbrev S4x4096x16x32 : Shape := ⟨4, ![4, 4096, 16, 32]⟩
abbrev S4x4096x32 : Shape := ⟨3, ![4, 4096, 32]⟩
abbrev S_ : Shape := ⟨0, ![]⟩
abbrev S4x4096x16x128 : Shape := ⟨4, ![4, 4096, 16, 128]⟩
abbrev S16384x2048 : Shape := ⟨2, ![16384, 2048]⟩
abbrev S4x4096x1x32 : Shape := ⟨4, ![4, 4096, 1, 32]⟩
abbrev S32x512x1024 : Shape := ⟨3, ![32, 512, 1024]⟩
abbrev S32x1024x512 : Shape := ⟨3, ![32, 1024, 512]⟩
abbrev S16384x1024 : Shape := ⟨2, ![16384, 1024]⟩
abbrev S512x256 : Shape := ⟨2, ![512, 256]⟩
abbrev S4096x256 : Shape := ⟨2, ![4096, 256]⟩
abbrev S8x128x512 : Shape := ⟨3, ![8, 128, 512]⟩
abbrev S512x128 : Shape := ⟨2, ![512, 128]⟩
abbrev S4x1x256 : Shape := ⟨3, ![4, 1, 256]⟩
abbrev S2x128x256 : Shape := ⟨3, ![2, 128, 256]⟩
abbrev S128x256 : Shape := ⟨2, ![128, 256]⟩
abbrev S256x128 : Shape := ⟨2, ![256, 128]⟩
abbrev S1x128x512 : Shape := ⟨3, ![1, 128, 512]⟩
abbrev S128x512 : Shape := ⟨2, ![128, 512]⟩
abbrev S1x1x256 : Shape := ⟨3, ![1, 1, 256]⟩
abbrev S1x256 : Shape := ⟨2, ![1, 256]⟩
abbrev S256 : Shape := ⟨1, ![256]⟩
abbrev S1x128x256 : Shape := ⟨3, ![1, 128, 256]⟩
abbrev S256x256 : Shape := ⟨2, ![256, 256]⟩

abbrev nBuf : Space → Nat
  | .hbm => 26
  | .vmem => 11
  | .smem => 0
  | _ => 0

abbrev bufTy : (tb : Table) → Fin (tcTables nBuf tb) → BufTy
  | .hbm, ⟨0, _⟩ => ⟨S4x4096x16x64, .f32⟩
  | .hbm, ⟨1, _⟩ => ⟨S4x4096x16x32, .f32⟩
  | .hbm, ⟨2, _⟩ => ⟨S4x4096x16x64, .f32⟩
  | .hbm, ⟨3, _⟩ => ⟨S4x4096x32, .f32⟩
  | .hbm, ⟨4, _⟩ => ⟨S4x4096x16x64, .f32⟩
  | .hbm, ⟨5, _⟩ => ⟨S_, .f32⟩
  | .hbm, ⟨6, _⟩ => ⟨S4x4096x16x32, .f32⟩
  | .hbm, ⟨7, _⟩ => ⟨S4x4096x16x128, .f32⟩
  | .hbm, ⟨8, _⟩ => ⟨S16384x2048, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S16384x2048, .f32⟩
  | .hbm, ⟨15, _⟩ => ⟨S16384x2048, .f32⟩
  | .hbm, ⟨16, _⟩ => ⟨S16384x2048, .bf16⟩
  | .hbm, ⟨17, _⟩ => ⟨S4x4096x1x32, .f32⟩
  | .hbm, ⟨18, _⟩ => ⟨S4x4096x16x32, .f32⟩
  | .hbm, ⟨19, _⟩ => ⟨S4x4096x16x128, .f32⟩
  | .hbm, ⟨20, _⟩ => ⟨S16384x2048, .f32⟩
  | .hbm, ⟨21, _⟩ => ⟨S16384x2048, .bf16⟩
  | .hbm, ⟨22, _⟩ => ⟨S32x512x1024, .f32⟩
  | .hbm, ⟨23, _⟩ => ⟨S32x1024x512, .f32⟩
  | .hbm, ⟨24, _⟩ => ⟨S32x1024x512, .bf16⟩
  | .hbm, ⟨25, _⟩ => ⟨S16384x1024, .bf16⟩
  | .local _ .vmem, ⟨0, _⟩ => ⟨S512x256, .bf16⟩
  | .local _ .vmem, ⟨1, _⟩ => ⟨S512x256, .bf16⟩
  | .local _ .vmem, ⟨2, _⟩ => ⟨S4096x256, .bf16⟩
  | .local _ .vmem, ⟨3, _⟩ => ⟨S4096x256, .bf16⟩
  | .local _ .vmem, ⟨4, _⟩ => ⟨S8x128x512, .bf16⟩
  | .local _ .vmem, ⟨5, _⟩ => ⟨S8x128x512, .bf16⟩
  | .local _ .vmem, ⟨6, _⟩ => ⟨S512x128, .bf16⟩
  | .local _ .vmem, ⟨7, _⟩ => ⟨S512x128, .bf16⟩
  | .local _ .vmem, ⟨8, _⟩ => ⟨S4x1x256, .f32⟩
  | .local _ .vmem, ⟨9, _⟩ => ⟨S4x1x256, .f32⟩
  | .local _ .vmem, ⟨10, _⟩ => ⟨S2x128x256, .f32⟩
  | _, _ => ⟨S4x4096x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 8], ![false, false, false]⟩

@[reducible] def k0_t1_loop (i : grid0.Coords) : Scf.Loop 32 :=
  let c0_i32_15 : BitVec 32 := 0#32
  let arg2 : BitVec 32 := BitVec.ofNat 32 (i 2).val
  let c0_i32 : BitVec 32 := 0#32
  let v16 : BitVec 1 := Scalar.cmpi .sgt arg2 c0_i32
  let v17 : BitVec 32 := Scalar.extui v16
  let c0_i32_10 : BitVec 32 := 0#32
  let v18 : BitVec 1 := Scalar.cmpi .slt arg2 c0_i32_10
  let v19 : BitVec 32 := Scalar.extui v18
  let v20 : BitVec 32 := Scalar.subi v17 v19
  let c2_i32 : BitVec 32 := 2#32
  let c0_i32_11 : BitVec 32 := 0#32
  let v21 : BitVec 1 := Scalar.cmpi .sgt c2_i32 c0_i32_11
  let v22 : BitVec 32 := Scalar.extui v21
  let c0_i32_12 : BitVec 32 := 0#32
  let v23 : BitVec 1 := Scalar.cmpi .slt c2_i32 c0_i32_12
  let v24 : BitVec 32 := Scalar.extui v23
  let v25 : BitVec 32 := Scalar.subi v22 v24
  let v26 : BitVec 1 := Scalar.cmpi .ne v20 v25
  let v27 : BitVec 32 := Scalar.remsi arg2 c2_i32
  let c0_i32_13 : BitVec 32 := 0#32
  let v28 : BitVec 1 := Scalar.cmpi .ne v27 c0_i32_13
  let v29 : BitVec 1 := Scalar.andi v26 v28
  let v15 : BitVec 32 := Scalar.divsi arg2 c2_i32
  let c1_i32 : BitVec 32 := 1#32
  let v30 : BitVec 32 := Scalar.subi v15 c1_i32
  let v31 : BitVec 32 := Scalar.select v29 v30 v15
  let v32 : BitVec 32 := Scalar.subi v31 c0_i32_15
  let c1_i32_16 : BitVec 32 := 1#32
  let v34 : BitVec 32 := Scalar.divsi v32 c1_i32_16
  let v35 : BitVec 32 := Scalar.muli v34 c1_i32_16
  let v36 : BitVec 32 := Scalar.addi c0_i32_15 v35
  let c1_i32_17 : BitVec 32 := 1#32
  ⟨c0_i32_15, v36, c1_i32_17⟩
def k0_mult1 (i : grid0.Coords) (k0_t1 : Fin (k0_t1_loop i).trips) : BitVec 32 :=
  let c2_i32_143 : BitVec 32 := 2#32
  let c0_i32_15 : BitVec 32 := 0#32
  let c1_i32_17 : BitVec 32 := 1#32
  let arg10 : BitVec 32 := Scf.iv c0_i32_15 c1_i32_17 k0_t1
  let v262 : BitVec 32 := Scalar.muli c2_i32_143 arg10
  let c512_i32_146 : BitVec 32 := 512#32
  let v265 : BitVec 32 := Scalar.muli v262 c512_i32_146
  v265
def k0_off1 (i : grid0.Coords) (k0_t1 : Fin (k0_t1_loop i).trips) : Fin 2 → Nat :=
  let c2_i32_143 : BitVec 32 := 2#32
  let c0_i32_15 : BitVec 32 := 0#32
  let c1_i32_17 : BitVec 32 := 1#32
  let arg10 : BitVec 32 := Scf.iv c0_i32_15 c1_i32_17 k0_t1
  let v262 : BitVec 32 := Scalar.muli c2_i32_143 arg10
  let c512_i32_146 : BitVec 32 := 512#32
  let v265 : BitVec 32 := Scalar.muli v262 c512_i32_146
  let v266 : BitVec 32 := v265
  let v269 : Index := Scalar.indexCast v266
  let c0_149 : Index := 0#32
  ![v269.toNat, 0]
def k0_off2 (i : grid0.Coords) (k0_t1 : Fin (k0_t1_loop i).trips) : Fin 2 → Nat :=
  let c2_i32_143 : BitVec 32 := 2#32
  let c0_i32_15 : BitVec 32 := 0#32
  let c1_i32_17 : BitVec 32 := 1#32
  let arg10 : BitVec 32 := Scf.iv c0_i32_15 c1_i32_17 k0_t1
  let v262 : BitVec 32 := Scalar.muli c2_i32_143 arg10
  let c512_i32_146 : BitVec 32 := 512#32
  let v265 : BitVec 32 := Scalar.muli v262 c512_i32_146
  let v266 : BitVec 32 := v265
  let v275 : Index := Scalar.indexCast v266
  let c128_153 : Index := 128#32
  ![v275.toNat, 128]
def k0_mult2 (i : grid0.Coords) (k0_t1 : Fin (k0_t1_loop i).trips) : BitVec 32 :=
  let c2_i32_144 : BitVec 32 := 2#32
  let c0_i32_15 : BitVec 32 := 0#32
  let c1_i32_17 : BitVec 32 := 1#32
  let arg10 : BitVec 32 := Scf.iv c0_i32_15 c1_i32_17 k0_t1
  let v263 : BitVec 32 := Scalar.muli c2_i32_144 arg10
  let c1_i32_145 : BitVec 32 := 1#32
  let v264 : BitVec 32 := Scalar.addi v263 c1_i32_145
  let c512_i32_163 : BitVec 32 := 512#32
  let v291 : BitVec 32 := Scalar.muli v264 c512_i32_163
  v291
def k0_off3 (i : grid0.Coords) (k0_t1 : Fin (k0_t1_loop i).trips) : Fin 2 → Nat :=
  let c2_i32_144 : BitVec 32 := 2#32
  let c0_i32_15 : BitVec 32 := 0#32
  let c1_i32_17 : BitVec 32 := 1#32
  let arg10 : BitVec 32 := Scf.iv c0_i32_15 c1_i32_17 k0_t1
  let v263 : BitVec 32 := Scalar.muli c2_i32_144 arg10
  let c1_i32_145 : BitVec 32 := 1#32
  let v264 : BitVec 32 := Scalar.addi v263 c1_i32_145
  let c512_i32_163 : BitVec 32 := 512#32
  let v291 : BitVec 32 := Scalar.muli v264 c512_i32_163
  let v292 : BitVec 32 := v291
  let v295 : Index := Scalar.indexCast v292
  let c0_166 : Index := 0#32
  ![v295.toNat, 0]
def k0_off4 (i : grid0.Coords) (k0_t1 : Fin (k0_t1_loop i).trips) : Fin 2 → Nat :=
  let c2_i32_144 : BitVec 32 := 2#32
  let c0_i32_15 : BitVec 32 := 0#32
  let c1_i32_17 : BitVec 32 := 1#32
  let arg10 : BitVec 32 := Scf.iv c0_i32_15 c1_i32_17 k0_t1
  let v263 : BitVec 32 := Scalar.muli c2_i32_144 arg10
  let c1_i32_145 : BitVec 32 := 1#32
  let v264 : BitVec 32 := Scalar.addi v263 c1_i32_145
  let c512_i32_163 : BitVec 32 := 512#32
  let v291 : BitVec 32 := Scalar.muli v264 c512_i32_163
  let v292 : BitVec 32 := v291
  let v301 : Index := Scalar.indexCast v292
  let c128_170 : Index := 128#32
  ![v301.toNat, 128]
def k0_off5 (i : grid0.Coords) (k0_t1 : Fin (k0_t1_loop i).trips) : Fin 3 → Nat :=
  let c2_i32_143 : BitVec 32 := 2#32
  let c0_i32_15 : BitVec 32 := 0#32
  let c1_i32_17 : BitVec 32 := 1#32
  let arg10 : BitVec 32 := Scf.iv c0_i32_15 c1_i32_17 k0_t1
  let v262 : BitVec 32 := Scalar.muli c2_i32_143 arg10
  let v317 : Index := Scalar.indexCast v262
  let c0_180 : Index := 0#32
  let c0_181 : Index := 0#32
  ![v317.toNat, 0, 0]
def k0_off6 (i : grid0.Coords) (k0_t1 : Fin (k0_t1_loop i).trips) : Fin 3 → Nat :=
  let c2_i32_144 : BitVec 32 := 2#32
  let c0_i32_15 : BitVec 32 := 0#32
  let c1_i32_17 : BitVec 32 := 1#32
  let arg10 : BitVec 32 := Scf.iv c0_i32_15 c1_i32_17 k0_t1
  let v263 : BitVec 32 := Scalar.muli c2_i32_144 arg10
  let c1_i32_145 : BitVec 32 := 1#32
  let v264 : BitVec 32 := Scalar.addi v263 c1_i32_145
  let v445 : Index := Scalar.indexCast v264
  let c0_256 : Index := 0#32
  let c0_257 : Index := 0#32
  ![v445.toNat, 0, 0]
@[reducible] def k0_t2_loop (i : grid0.Coords) : Scf.Loop 32 :=
  let c0_i32_15 : BitVec 32 := 0#32
  let arg2 : BitVec 32 := BitVec.ofNat 32 (i 2).val
  let c0_i32 : BitVec 32 := 0#32
  let v16 : BitVec 1 := Scalar.cmpi .sgt arg2 c0_i32
  let v17 : BitVec 32 := Scalar.extui v16
  let c0_i32_10 : BitVec 32 := 0#32
  let v18 : BitVec 1 := Scalar.cmpi .slt arg2 c0_i32_10
  let v19 : BitVec 32 := Scalar.extui v18
  let v20 : BitVec 32 := Scalar.subi v17 v19
  let c2_i32 : BitVec 32 := 2#32
  let c0_i32_11 : BitVec 32 := 0#32
  let v21 : BitVec 1 := Scalar.cmpi .sgt c2_i32 c0_i32_11
  let v22 : BitVec 32 := Scalar.extui v21
  let c0_i32_12 : BitVec 32 := 0#32
  let v23 : BitVec 1 := Scalar.cmpi .slt c2_i32 c0_i32_12
  let v24 : BitVec 32 := Scalar.extui v23
  let v25 : BitVec 32 := Scalar.subi v22 v24
  let v26 : BitVec 1 := Scalar.cmpi .ne v20 v25
  let v27 : BitVec 32 := Scalar.remsi arg2 c2_i32
  let c0_i32_13 : BitVec 32 := 0#32
  let v28 : BitVec 1 := Scalar.cmpi .ne v27 c0_i32_13
  let v29 : BitVec 1 := Scalar.andi v26 v28
  let v15 : BitVec 32 := Scalar.divsi arg2 c2_i32
  let c1_i32 : BitVec 32 := 1#32
  let v30 : BitVec 32 := Scalar.subi v15 c1_i32
  let v31 : BitVec 32 := Scalar.select v29 v30 v15
  let v32 : BitVec 32 := Scalar.subi v31 c0_i32_15
  let c1_i32_16 : BitVec 32 := 1#32
  let v34 : BitVec 32 := Scalar.divsi v32 c1_i32_16
  let v35 : BitVec 32 := Scalar.muli v34 c1_i32_16
  let v36 : BitVec 32 := Scalar.addi c0_i32_15 v35
  let v33 : BitVec 32 := Scalar.addi c0_i32_15 v32
  let c1_i32_18 : BitVec 32 := 1#32
  ⟨v36, v33, c1_i32_18⟩
def k0_mult3 (i : grid0.Coords) (k0_t2 : Fin (k0_t2_loop i).trips) : BitVec 32 :=
  let c2_i32_143 : BitVec 32 := 2#32
  let c0_i32_15 : BitVec 32 := 0#32
  let arg2 : BitVec 32 := BitVec.ofNat 32 (i 2).val
  let c0_i32 : BitVec 32 := 0#32
  let v16 : BitVec 1 := Scalar.cmpi .sgt arg2 c0_i32
  let v17 : BitVec 32 := Scalar.extui v16
  let c0_i32_10 : BitVec 32 := 0#32
  let v18 : BitVec 1 := Scalar.cmpi .slt arg2 c0_i32_10
  let v19 : BitVec 32 := Scalar.extui v18
  let v20 : BitVec 32 := Scalar.subi v17 v19
  let c2_i32 : BitVec 32 := 2#32
  let c0_i32_11 : BitVec 32 := 0#32
  let v21 : BitVec 1 := Scalar.cmpi .sgt c2_i32 c0_i32_11
  let v22 : BitVec 32 := Scalar.extui v21
  let c0_i32_12 : BitVec 32 := 0#32
  let v23 : BitVec 1 := Scalar.cmpi .slt c2_i32 c0_i32_12
  let v24 : BitVec 32 := Scalar.extui v23
  let v25 : BitVec 32 := Scalar.subi v22 v24
  let v26 : BitVec 1 := Scalar.cmpi .ne v20 v25
  let v27 : BitVec 32 := Scalar.remsi arg2 c2_i32
  let c0_i32_13 : BitVec 32 := 0#32
  let v28 : BitVec 1 := Scalar.cmpi .ne v27 c0_i32_13
  let v29 : BitVec 1 := Scalar.andi v26 v28
  let v15 : BitVec 32 := Scalar.divsi arg2 c2_i32
  let c1_i32 : BitVec 32 := 1#32
  let v30 : BitVec 32 := Scalar.subi v15 c1_i32
  let v31 : BitVec 32 := Scalar.select v29 v30 v15
  let v32 : BitVec 32 := Scalar.subi v31 c0_i32_15
  let c1_i32_16 : BitVec 32 := 1#32
  let v34 : BitVec 32 := Scalar.divsi v32 c1_i32_16
  let v35 : BitVec 32 := Scalar.muli v34 c1_i32_16
  let v36 : BitVec 32 := Scalar.addi c0_i32_15 v35
  let c1_i32_18 : BitVec 32 := 1#32
  let arg10 : BitVec 32 := Scf.iv v36 c1_i32_18 k0_t2
  let v262 : BitVec 32 := Scalar.muli c2_i32_143 arg10
  let c512_i32_146 : BitVec 32 := 512#32
  let v265 : BitVec 32 := Scalar.muli v262 c512_i32_146
  v265
def k0_off7 (i : grid0.Coords) (k0_t2 : Fin (k0_t2_loop i).trips) : Fin 2 → Nat :=
  let c2_i32_143 : BitVec 32 := 2#32
  let c0_i32_15 : BitVec 32 := 0#32
  let arg2 : BitVec 32 := BitVec.ofNat 32 (i 2).val
  let c0_i32 : BitVec 32 := 0#32
  let v16 : BitVec 1 := Scalar.cmpi .sgt arg2 c0_i32
  let v17 : BitVec 32 := Scalar.extui v16
  let c0_i32_10 : BitVec 32 := 0#32
  let v18 : BitVec 1 := Scalar.cmpi .slt arg2 c0_i32_10
  let v19 : BitVec 32 := Scalar.extui v18
  let v20 : BitVec 32 := Scalar.subi v17 v19
  let c2_i32 : BitVec 32 := 2#32
  let c0_i32_11 : BitVec 32 := 0#32
  let v21 : BitVec 1 := Scalar.cmpi .sgt c2_i32 c0_i32_11
  let v22 : BitVec 32 := Scalar.extui v21
  let c0_i32_12 : BitVec 32 := 0#32
  let v23 : BitVec 1 := Scalar.cmpi .slt c2_i32 c0_i32_12
  let v24 : BitVec 32 := Scalar.extui v23
  let v25 : BitVec 32 := Scalar.subi v22 v24
  let v26 : BitVec 1 := Scalar.cmpi .ne v20 v25
  let v27 : BitVec 32 := Scalar.remsi arg2 c2_i32
  let c0_i32_13 : BitVec 32 := 0#32
  let v28 : BitVec 1 := Scalar.cmpi .ne v27 c0_i32_13
  let v29 : BitVec 1 := Scalar.andi v26 v28
  let v15 : BitVec 32 := Scalar.divsi arg2 c2_i32
  let c1_i32 : BitVec 32 := 1#32
  let v30 : BitVec 32 := Scalar.subi v15 c1_i32
  let v31 : BitVec 32 := Scalar.select v29 v30 v15
  let v32 : BitVec 32 := Scalar.subi v31 c0_i32_15
  let c1_i32_16 : BitVec 32 := 1#32
  let v34 : BitVec 32 := Scalar.divsi v32 c1_i32_16
  let v35 : BitVec 32 := Scalar.muli v34 c1_i32_16
  let v36 : BitVec 32 := Scalar.addi c0_i32_15 v35
  let c1_i32_18 : BitVec 32 := 1#32
  let arg10 : BitVec 32 := Scf.iv v36 c1_i32_18 k0_t2
  let v262 : BitVec 32 := Scalar.muli c2_i32_143 arg10
  let c512_i32_146 : BitVec 32 := 512#32
  let v265 : BitVec 32 := Scalar.muli v262 c512_i32_146
  let v266 : BitVec 32 := v265
  let v269 : Index := Scalar.indexCast v266
  let c0_149 : Index := 0#32
  ![v269.toNat, 0]
def k0_off8 (i : grid0.Coords) (k0_t2 : Fin (k0_t2_loop i).trips) : Fin 2 → Nat :=
  let c2_i32_143 : BitVec 32 := 2#32
  let c0_i32_15 : BitVec 32 := 0#32
  let arg2 : BitVec 32 := BitVec.ofNat 32 (i 2).val
  let c0_i32 : BitVec 32 := 0#32
  let v16 : BitVec 1 := Scalar.cmpi .sgt arg2 c0_i32
  let v17 : BitVec 32 := Scalar.extui v16
  let c0_i32_10 : BitVec 32 := 0#32
  let v18 : BitVec 1 := Scalar.cmpi .slt arg2 c0_i32_10
  let v19 : BitVec 32 := Scalar.extui v18
  let v20 : BitVec 32 := Scalar.subi v17 v19
  let c2_i32 : BitVec 32 := 2#32
  let c0_i32_11 : BitVec 32 := 0#32
  let v21 : BitVec 1 := Scalar.cmpi .sgt c2_i32 c0_i32_11
  let v22 : BitVec 32 := Scalar.extui v21
  let c0_i32_12 : BitVec 32 := 0#32
  let v23 : BitVec 1 := Scalar.cmpi .slt c2_i32 c0_i32_12
  let v24 : BitVec 32 := Scalar.extui v23
  let v25 : BitVec 32 := Scalar.subi v22 v24
  let v26 : BitVec 1 := Scalar.cmpi .ne v20 v25
  let v27 : BitVec 32 := Scalar.remsi arg2 c2_i32
  let c0_i32_13 : BitVec 32 := 0#32
  let v28 : BitVec 1 := Scalar.cmpi .ne v27 c0_i32_13
  let v29 : BitVec 1 := Scalar.andi v26 v28
  let v15 : BitVec 32 := Scalar.divsi arg2 c2_i32
  let c1_i32 : BitVec 32 := 1#32
  let v30 : BitVec 32 := Scalar.subi v15 c1_i32
  let v31 : BitVec 32 := Scalar.select v29 v30 v15
  let v32 : BitVec 32 := Scalar.subi v31 c0_i32_15
  let c1_i32_16 : BitVec 32 := 1#32
  let v34 : BitVec 32 := Scalar.divsi v32 c1_i32_16
  let v35 : BitVec 32 := Scalar.muli v34 c1_i32_16
  let v36 : BitVec 32 := Scalar.addi c0_i32_15 v35
  let c1_i32_18 : BitVec 32 := 1#32
  let arg10 : BitVec 32 := Scf.iv v36 c1_i32_18 k0_t2
  let v262 : BitVec 32 := Scalar.muli c2_i32_143 arg10
  let c512_i32_146 : BitVec 32 := 512#32
  let v265 : BitVec 32 := Scalar.muli v262 c512_i32_146
  let v266 : BitVec 32 := v265
  let v275 : Index := Scalar.indexCast v266
  let c128_153 : Index := 128#32
  ![v275.toNat, 128]
def k0_mult4 (i : grid0.Coords) (k0_t2 : Fin (k0_t2_loop i).trips) : BitVec 32 :=
  let c2_i32_144 : BitVec 32 := 2#32
  let c0_i32_15 : BitVec 32 := 0#32
  let arg2 : BitVec 32 := BitVec.ofNat 32 (i 2).val
  let c0_i32 : BitVec 32 := 0#32
  let v16 : BitVec 1 := Scalar.cmpi .sgt arg2 c0_i32
  let v17 : BitVec 32 := Scalar.extui v16
  let c0_i32_10 : BitVec 32 := 0#32
  let v18 : BitVec 1 := Scalar.cmpi .slt arg2 c0_i32_10
  let v19 : BitVec 32 := Scalar.extui v18
  let v20 : BitVec 32 := Scalar.subi v17 v19
  let c2_i32 : BitVec 32 := 2#32
  let c0_i32_11 : BitVec 32 := 0#32
  let v21 : BitVec 1 := Scalar.cmpi .sgt c2_i32 c0_i32_11
  let v22 : BitVec 32 := Scalar.extui v21
  let c0_i32_12 : BitVec 32 := 0#32
  let v23 : BitVec 1 := Scalar.cmpi .slt c2_i32 c0_i32_12
  let v24 : BitVec 32 := Scalar.extui v23
  let v25 : BitVec 32 := Scalar.subi v22 v24
  let v26 : BitVec 1 := Scalar.cmpi .ne v20 v25
  let v27 : BitVec 32 := Scalar.remsi arg2 c2_i32
  let c0_i32_13 : BitVec 32 := 0#32
  let v28 : BitVec 1 := Scalar.cmpi .ne v27 c0_i32_13
  let v29 : BitVec 1 := Scalar.andi v26 v28
  let v15 : BitVec 32 := Scalar.divsi arg2 c2_i32
  let c1_i32 : BitVec 32 := 1#32
  let v30 : BitVec 32 := Scalar.subi v15 c1_i32
  let v31 : BitVec 32 := Scalar.select v29 v30 v15
  let v32 : BitVec 32 := Scalar.subi v31 c0_i32_15
  let c1_i32_16 : BitVec 32 := 1#32
  let v34 : BitVec 32 := Scalar.divsi v32 c1_i32_16
  let v35 : BitVec 32 := Scalar.muli v34 c1_i32_16
  let v36 : BitVec 32 := Scalar.addi c0_i32_15 v35
  let c1_i32_18 : BitVec 32 := 1#32
  let arg10 : BitVec 32 := Scf.iv v36 c1_i32_18 k0_t2
  let v263 : BitVec 32 := Scalar.muli c2_i32_144 arg10
  let c1_i32_145 : BitVec 32 := 1#32
  let v264 : BitVec 32 := Scalar.addi v263 c1_i32_145
  let c512_i32_163 : BitVec 32 := 512#32
  let v291 : BitVec 32 := Scalar.muli v264 c512_i32_163
  v291
def k0_off9 (i : grid0.Coords) (k0_t2 : Fin (k0_t2_loop i).trips) : Fin 2 → Nat :=
  let c2_i32_144 : BitVec 32 := 2#32
  let c0_i32_15 : BitVec 32 := 0#32
  let arg2 : BitVec 32 := BitVec.ofNat 32 (i 2).val
  let c0_i32 : BitVec 32 := 0#32
  let v16 : BitVec 1 := Scalar.cmpi .sgt arg2 c0_i32
  let v17 : BitVec 32 := Scalar.extui v16
  let c0_i32_10 : BitVec 32 := 0#32
  let v18 : BitVec 1 := Scalar.cmpi .slt arg2 c0_i32_10
  let v19 : BitVec 32 := Scalar.extui v18
  let v20 : BitVec 32 := Scalar.subi v17 v19
  let c2_i32 : BitVec 32 := 2#32
  let c0_i32_11 : BitVec 32 := 0#32
  let v21 : BitVec 1 := Scalar.cmpi .sgt c2_i32 c0_i32_11
  let v22 : BitVec 32 := Scalar.extui v21
  let c0_i32_12 : BitVec 32 := 0#32
  let v23 : BitVec 1 := Scalar.cmpi .slt c2_i32 c0_i32_12
  let v24 : BitVec 32 := Scalar.extui v23
  let v25 : BitVec 32 := Scalar.subi v22 v24
  let v26 : BitVec 1 := Scalar.cmpi .ne v20 v25
  let v27 : BitVec 32 := Scalar.remsi arg2 c2_i32
  let c0_i32_13 : BitVec 32 := 0#32
  let v28 : BitVec 1 := Scalar.cmpi .ne v27 c0_i32_13
  let v29 : BitVec 1 := Scalar.andi v26 v28
  let v15 : BitVec 32 := Scalar.divsi arg2 c2_i32
  let c1_i32 : BitVec 32 := 1#32
  let v30 : BitVec 32 := Scalar.subi v15 c1_i32
  let v31 : BitVec 32 := Scalar.select v29 v30 v15
  let v32 : BitVec 32 := Scalar.subi v31 c0_i32_15
  let c1_i32_16 : BitVec 32 := 1#32
  let v34 : BitVec 32 := Scalar.divsi v32 c1_i32_16
  let v35 : BitVec 32 := Scalar.muli v34 c1_i32_16
  let v36 : BitVec 32 := Scalar.addi c0_i32_15 v35
  let c1_i32_18 : BitVec 32 := 1#32
  let arg10 : BitVec 32 := Scf.iv v36 c1_i32_18 k0_t2
  let v263 : BitVec 32 := Scalar.muli c2_i32_144 arg10
  let c1_i32_145 : BitVec 32 := 1#32
  let v264 : BitVec 32 := Scalar.addi v263 c1_i32_145
  let c512_i32_163 : BitVec 32 := 512#32
  let v291 : BitVec 32 := Scalar.muli v264 c512_i32_163
  let v292 : BitVec 32 := v291
  let v295 : Index := Scalar.indexCast v292
  let c0_166 : Index := 0#32
  ![v295.toNat, 0]
def k0_off10 (i : grid0.Coords) (k0_t2 : Fin (k0_t2_loop i).trips) : Fin 2 → Nat :=
  let c2_i32_144 : BitVec 32 := 2#32
  let c0_i32_15 : BitVec 32 := 0#32
  let arg2 : BitVec 32 := BitVec.ofNat 32 (i 2).val
  let c0_i32 : BitVec 32 := 0#32
  let v16 : BitVec 1 := Scalar.cmpi .sgt arg2 c0_i32
  let v17 : BitVec 32 := Scalar.extui v16
  let c0_i32_10 : BitVec 32 := 0#32
  let v18 : BitVec 1 := Scalar.cmpi .slt arg2 c0_i32_10
  let v19 : BitVec 32 := Scalar.extui v18
  let v20 : BitVec 32 := Scalar.subi v17 v19
  let c2_i32 : BitVec 32 := 2#32
  let c0_i32_11 : BitVec 32 := 0#32
  let v21 : BitVec 1 := Scalar.cmpi .sgt c2_i32 c0_i32_11
  let v22 : BitVec 32 := Scalar.extui v21
  let c0_i32_12 : BitVec 32 := 0#32
  let v23 : BitVec 1 := Scalar.cmpi .slt c2_i32 c0_i32_12
  let v24 : BitVec 32 := Scalar.extui v23
  let v25 : BitVec 32 := Scalar.subi v22 v24
  let v26 : BitVec 1 := Scalar.cmpi .ne v20 v25
  let v27 : BitVec 32 := Scalar.remsi arg2 c2_i32
  let c0_i32_13 : BitVec 32 := 0#32
  let v28 : BitVec 1 := Scalar.cmpi .ne v27 c0_i32_13
  let v29 : BitVec 1 := Scalar.andi v26 v28
  let v15 : BitVec 32 := Scalar.divsi arg2 c2_i32
  let c1_i32 : BitVec 32 := 1#32
  let v30 : BitVec 32 := Scalar.subi v15 c1_i32
  let v31 : BitVec 32 := Scalar.select v29 v30 v15
  let v32 : BitVec 32 := Scalar.subi v31 c0_i32_15
  let c1_i32_16 : BitVec 32 := 1#32
  let v34 : BitVec 32 := Scalar.divsi v32 c1_i32_16
  let v35 : BitVec 32 := Scalar.muli v34 c1_i32_16
  let v36 : BitVec 32 := Scalar.addi c0_i32_15 v35
  let c1_i32_18 : BitVec 32 := 1#32
  let arg10 : BitVec 32 := Scf.iv v36 c1_i32_18 k0_t2
  let v263 : BitVec 32 := Scalar.muli c2_i32_144 arg10
  let c1_i32_145 : BitVec 32 := 1#32
  let v264 : BitVec 32 := Scalar.addi v263 c1_i32_145
  let c512_i32_163 : BitVec 32 := 512#32
  let v291 : BitVec 32 := Scalar.muli v264 c512_i32_163
  let v292 : BitVec 32 := v291
  let v301 : Index := Scalar.indexCast v292
  let c128_170 : Index := 128#32
  ![v301.toNat, 128]
def k0_off11 (i : grid0.Coords) (k0_t2 : Fin (k0_t2_loop i).trips) : Fin 3 → Nat :=
  let c2_i32_143 : BitVec 32 := 2#32
  let c0_i32_15 : BitVec 32 := 0#32
  let arg2 : BitVec 32 := BitVec.ofNat 32 (i 2).val
  let c0_i32 : BitVec 32 := 0#32
  let v16 : BitVec 1 := Scalar.cmpi .sgt arg2 c0_i32
  let v17 : BitVec 32 := Scalar.extui v16
  let c0_i32_10 : BitVec 32 := 0#32
  let v18 : BitVec 1 := Scalar.cmpi .slt arg2 c0_i32_10
  let v19 : BitVec 32 := Scalar.extui v18
  let v20 : BitVec 32 := Scalar.subi v17 v19
  let c2_i32 : BitVec 32 := 2#32
  let c0_i32_11 : BitVec 32 := 0#32
  let v21 : BitVec 1 := Scalar.cmpi .sgt c2_i32 c0_i32_11
  let v22 : BitVec 32 := Scalar.extui v21
  let c0_i32_12 : BitVec 32 := 0#32
  let v23 : BitVec 1 := Scalar.cmpi .slt c2_i32 c0_i32_12
  let v24 : BitVec 32 := Scalar.extui v23
  let v25 : BitVec 32 := Scalar.subi v22 v24
  let v26 : BitVec 1 := Scalar.cmpi .ne v20 v25
  let v27 : BitVec 32 := Scalar.remsi arg2 c2_i32
  let c0_i32_13 : BitVec 32 := 0#32
  let v28 : BitVec 1 := Scalar.cmpi .ne v27 c0_i32_13
  let v29 : BitVec 1 := Scalar.andi v26 v28
  let v15 : BitVec 32 := Scalar.divsi arg2 c2_i32
  let c1_i32 : BitVec 32 := 1#32
  let v30 : BitVec 32 := Scalar.subi v15 c1_i32
  let v31 : BitVec 32 := Scalar.select v29 v30 v15
  let v32 : BitVec 32 := Scalar.subi v31 c0_i32_15
  let c1_i32_16 : BitVec 32 := 1#32
  let v34 : BitVec 32 := Scalar.divsi v32 c1_i32_16
  let v35 : BitVec 32 := Scalar.muli v34 c1_i32_16
  let v36 : BitVec 32 := Scalar.addi c0_i32_15 v35
  let c1_i32_18 : BitVec 32 := 1#32
  let arg10 : BitVec 32 := Scf.iv v36 c1_i32_18 k0_t2
  let v262 : BitVec 32 := Scalar.muli c2_i32_143 arg10
  let v317 : Index := Scalar.indexCast v262
  let c0_180 : Index := 0#32
  let c0_181 : Index := 0#32
  ![v317.toNat, 0, 0]
def k0_off12 (i : grid0.Coords) (k0_t2 : Fin (k0_t2_loop i).trips) : Fin 3 → Nat :=
  let c2_i32_144 : BitVec 32 := 2#32
  let c0_i32_15 : BitVec 32 := 0#32
  let arg2 : BitVec 32 := BitVec.ofNat 32 (i 2).val
  let c0_i32 : BitVec 32 := 0#32
  let v16 : BitVec 1 := Scalar.cmpi .sgt arg2 c0_i32
  let v17 : BitVec 32 := Scalar.extui v16
  let c0_i32_10 : BitVec 32 := 0#32
  let v18 : BitVec 1 := Scalar.cmpi .slt arg2 c0_i32_10
  let v19 : BitVec 32 := Scalar.extui v18
  let v20 : BitVec 32 := Scalar.subi v17 v19
  let c2_i32 : BitVec 32 := 2#32
  let c0_i32_11 : BitVec 32 := 0#32
  let v21 : BitVec 1 := Scalar.cmpi .sgt c2_i32 c0_i32_11
  let v22 : BitVec 32 := Scalar.extui v21
  let c0_i32_12 : BitVec 32 := 0#32
  let v23 : BitVec 1 := Scalar.cmpi .slt c2_i32 c0_i32_12
  let v24 : BitVec 32 := Scalar.extui v23
  let v25 : BitVec 32 := Scalar.subi v22 v24
  let v26 : BitVec 1 := Scalar.cmpi .ne v20 v25
  let v27 : BitVec 32 := Scalar.remsi arg2 c2_i32
  let c0_i32_13 : BitVec 32 := 0#32
  let v28 : BitVec 1 := Scalar.cmpi .ne v27 c0_i32_13
  let v29 : BitVec 1 := Scalar.andi v26 v28
  let v15 : BitVec 32 := Scalar.divsi arg2 c2_i32
  let c1_i32 : BitVec 32 := 1#32
  let v30 : BitVec 32 := Scalar.subi v15 c1_i32
  let v31 : BitVec 32 := Scalar.select v29 v30 v15
  let v32 : BitVec 32 := Scalar.subi v31 c0_i32_15
  let c1_i32_16 : BitVec 32 := 1#32
  let v34 : BitVec 32 := Scalar.divsi v32 c1_i32_16
  let v35 : BitVec 32 := Scalar.muli v34 c1_i32_16
  let v36 : BitVec 32 := Scalar.addi c0_i32_15 v35
  let c1_i32_18 : BitVec 32 := 1#32
  let arg10 : BitVec 32 := Scf.iv v36 c1_i32_18 k0_t2
  let v263 : BitVec 32 := Scalar.muli c2_i32_144 arg10
  let c1_i32_145 : BitVec 32 := 1#32
  let v264 : BitVec 32 := Scalar.addi v263 c1_i32_145
  let v445 : Index := Scalar.indexCast v264
  let c0_256 : Index := 0#32
  let c0_257 : Index := 0#32
  ![v445.toNat, 0, 0]
def k0_cond1 (i : grid0.Coords) : BitVec 1 :=
  let arg2 : BitVec 32 := BitVec.ofNat 32 (i 2).val
  let c2_i32_19 : BitVec 32 := 2#32
  let c0_i32_20 : BitVec 32 := 0#32
  let v37 : BitVec 1 := Scalar.cmpi .eq c2_i32_19 c0_i32_20
  let c1_i32_21 : BitVec 32 := 1#32
  let v38 : BitVec 32 := Scalar.select v37 c1_i32_21 c2_i32_19
  let v39 : BitVec 32 := Scalar.remsi arg2 v38
  let c0_i32_23 : BitVec 32 := 0#32
  let v41 : BitVec 1 := Scalar.cmpi .slt v39 c0_i32_23
  let c0_i32_24 : BitVec 32 := 0#32
  let v42 : BitVec 1 := Scalar.cmpi .slt v38 c0_i32_24
  let v43 : BitVec 1 := Scalar.xori v41 v42
  let c0_i32_22 : BitVec 32 := 0#32
  let v40 : BitVec 1 := Scalar.cmpi .ne v39 c0_i32_22
  let v44 : BitVec 1 := Scalar.andi v43 v40
  let v45 : BitVec 32 := Scalar.addi v39 v38
  let v46 : BitVec 32 := Scalar.select v44 v45 v39
  let c1_i32_25 : BitVec 32 := 1#32
  let v47 : BitVec 1 := Scalar.cmpi .eq v46 c1_i32_25
  let v48 : BitVec 32 := Scalar.extui v47
  let c0_i32_26 : BitVec 32 := 0#32
  let v49 : BitVec 1 := Scalar.cmpi .ne v48 c0_i32_26
  v49

def k0_mult5 (i : grid0.Coords) : BitVec 32 :=
  let arg2 : BitVec 32 := BitVec.ofNat 32 (i 2).val
  let c1_i32_143 : BitVec 32 := 1#32
  let v262 : BitVec 32 := Scalar.subi arg2 c1_i32_143
  let c512_i32_144 : BitVec 32 := 512#32
  let v263 : BitVec 32 := Scalar.muli v262 c512_i32_144
  v263
def k0_off13 (i : grid0.Coords) : Fin 2 → Nat :=
  let arg2 : BitVec 32 := BitVec.ofNat 32 (i 2).val
  let c1_i32_143 : BitVec 32 := 1#32
  let v262 : BitVec 32 := Scalar.subi arg2 c1_i32_143
  let c512_i32_144 : BitVec 32 := 512#32
  let v263 : BitVec 32 := Scalar.muli v262 c512_i32_144
  let v264 : BitVec 32 := v263
  let v267 : Index := Scalar.indexCast v264
  let c0_147 : Index := 0#32
  ![v267.toNat, 0]
def k0_off14 (i : grid0.Coords) : Fin 2 → Nat :=
  let arg2 : BitVec 32 := BitVec.ofNat 32 (i 2).val
  let c1_i32_143 : BitVec 32 := 1#32
  let v262 : BitVec 32 := Scalar.subi arg2 c1_i32_143
  let c512_i32_144 : BitVec 32 := 512#32
  let v263 : BitVec 32 := Scalar.muli v262 c512_i32_144
  let v264 : BitVec 32 := v263
  let v273 : Index := Scalar.indexCast v264
  let c128_151 : Index := 128#32
  ![v273.toNat, 128]
def k0_off15 (i : grid0.Coords) : Fin 3 → Nat :=
  let arg2 : BitVec 32 := BitVec.ofNat 32 (i 2).val
  let c1_i32_143 : BitVec 32 := 1#32
  let v262 : BitVec 32 := Scalar.subi arg2 c1_i32_143
  let v289 : Index := Scalar.indexCast v262
  let c0_161 : Index := 0#32
  let c0_162 : Index := 0#32
  ![v289.toNat, 0, 0]
def k0_mult6 (i : grid0.Coords) : BitVec 32 :=
  let arg2 : BitVec 32 := BitVec.ofNat 32 (i 2).val
  let c512_i32 : BitVec 32 := 512#32
  let v50 : BitVec 32 := Scalar.muli arg2 c512_i32
  v50
def k0_off16 (i : grid0.Coords) : Fin 2 → Nat :=
  let arg2 : BitVec 32 := BitVec.ofNat 32 (i 2).val
  let c512_i32 : BitVec 32 := 512#32
  let v50 : BitVec 32 := Scalar.muli arg2 c512_i32
  let v51 : BitVec 32 := v50
  let v54 : Index := Scalar.indexCast v51
  let c0_29 : Index := 0#32
  ![v54.toNat, 0]
def k0_off17 (i : grid0.Coords) : Fin 2 → Nat :=
  let arg2 : BitVec 32 := BitVec.ofNat 32 (i 2).val
  let c512_i32 : BitVec 32 := 512#32
  let v50 : BitVec 32 := Scalar.muli arg2 c512_i32
  let v51 : BitVec 32 := v50
  let v60 : Index := Scalar.indexCast v51
  let c128_32 : Index := 128#32
  ![v60.toNat, 128]
def k0_off18 (i : grid0.Coords) : Fin 2 → Nat :=
  let arg2 : BitVec 32 := BitVec.ofNat 32 (i 2).val
  let c512_i32 : BitVec 32 := 512#32
  let v50 : BitVec 32 := Scalar.muli arg2 c512_i32
  let v51 : BitVec 32 := v50
  let v66 : Index := Scalar.indexCast v51
  let c0_35 : Index := 0#32
  ![v66.toNat, 0]
def k0_off19 (i : grid0.Coords) : Fin 2 → Nat :=
  let arg2 : BitVec 32 := BitVec.ofNat 32 (i 2).val
  let c512_i32 : BitVec 32 := 512#32
  let v50 : BitVec 32 := Scalar.muli arg2 c512_i32
  let v51 : BitVec 32 := v50
  let v72 : Index := Scalar.indexCast v51
  let c128_39 : Index := 128#32
  ![v72.toNat, 128]
def k0_off20 (i : grid0.Coords) : Fin 3 → Nat :=
  let arg2 : BitVec 32 := BitVec.ofNat 32 (i 2).val
  let v76 : Index := Scalar.indexCast arg2
  let c0_41 : Index := 0#32
  let c0_42 : Index := 0#32
  ![v76.toNat, 0, 0]
def k0_off21 (i : grid0.Coords) : Fin 3 → Nat :=
  let arg2 : BitVec 32 := BitVec.ofNat 32 (i 2).val
  let v154 : Index := Scalar.indexCast arg2
  let c0_82 : Index := 0#32
  let c0_83 : Index := 0#32
  ![v154.toNat, 0, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S8x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S4x4096x16x64 : Shape := ⟨4, ![4, 4096, 16, 64]⟩
abbrev S4x4096x16x32 : Shape := ⟨4, ![4, 4096, 16, 32]⟩
abbrev S4x4096x32 : Shape := ⟨3, ![4, 4096, 32]⟩
abbrev S4x16x4096x4096 : Shape := ⟨4, ![4, 16, 4096, 4096]⟩
abbrev S4x4096x4096x16 : Shape := ⟨4, ![4, 4096, 4096, 16]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S4x16x4096 : Shape := ⟨3, ![4, 16, 4096]⟩
abbrev S4x16x4096x1 : Shape := ⟨4, ![4, 16, 4096, 1]⟩
abbrev S4x16x64x4096 : Shape := ⟨4, ![4, 16, 64, 4096]⟩
abbrev S16384x1024 : Shape := ⟨2, ![16384, 1024]⟩

abbrev nBuf : Space → Nat
  | .hbm => 42
  | .vmem => 0
  | .smem => 0
  | _ => 0

abbrev bufTy : (tb : Table) → Fin (tcTables nBuf tb) → BufTy
  | .hbm, ⟨0, _⟩ => ⟨S4x4096x16x64, .f32⟩
  | .hbm, ⟨1, _⟩ => ⟨S4x4096x16x32, .f32⟩
  | .hbm, ⟨2, _⟩ => ⟨S4x4096x16x64, .f32⟩
  | .hbm, ⟨3, _⟩ => ⟨S4x4096x32, .f32⟩
  | .hbm, ⟨4, _⟩ => ⟨S4x4096x16x64, .f32⟩
  | .hbm, ⟨5, _⟩ => ⟨S4x16x4096x4096, .f32⟩
  | .hbm, ⟨6, _⟩ => ⟨S4x4096x4096x16, .f32⟩
  | .hbm, ⟨7, _⟩ => ⟨S4x16x4096x4096, .f32⟩
  | .hbm, ⟨8, _⟩ => ⟨S4x16x4096x4096, .f32⟩
  | .hbm, ⟨9, _⟩ => ⟨S_, .f32⟩
  | .hbm, ⟨10, _⟩ => ⟨S_, .f32⟩
  | .hbm, ⟨11, _⟩ => ⟨S4x16x4096x4096, .f32⟩
  | .hbm, ⟨12, _⟩ => ⟨S4x16x4096x4096, .f32⟩
  | .hbm, ⟨13, _⟩ => ⟨S4096, .i32⟩
  | .hbm, ⟨14, _⟩ => ⟨S1x4096, .i32⟩
  | .hbm, ⟨15, _⟩ => ⟨S4096x1, .i32⟩
  | .hbm, ⟨16, _⟩ => ⟨S4096x4096, .i32⟩
  | .hbm, ⟨17, _⟩ => ⟨S4096x4096, .i32⟩
  | .hbm, ⟨18, _⟩ => ⟨S4096x4096, .i1⟩
  | .hbm, ⟨19, _⟩ => ⟨S_, .f32⟩
  | .hbm, ⟨20, _⟩ => ⟨S_, .f32⟩
  | .hbm, ⟨21, _⟩ => ⟨S4x16x4096x4096, .i1⟩
  | .hbm, ⟨22, _⟩ => ⟨S4x16x4096x4096, .f32⟩
  | .hbm, ⟨23, _⟩ => ⟨S4x16x4096x4096, .f32⟩
  | .hbm, ⟨24, _⟩ => ⟨S_, .f32⟩
  | .hbm, ⟨25, _⟩ => ⟨S4x16x4096, .f32⟩
  | .hbm, ⟨26, _⟩ => ⟨S_, .f32⟩
  | .hbm, ⟨27, _⟩ => ⟨S4x16x4096, .f32⟩
  | .hbm, ⟨28, _⟩ => ⟨S4x16x4096, .f32⟩
  | .hbm, ⟨29, _⟩ => ⟨S4x16x4096x1, .f32⟩
  | .hbm, ⟨30, _⟩ => ⟨S4x16x4096x4096, .f32⟩
  | .hbm, ⟨31, _⟩ => ⟨S4x16x4096x4096, .f32⟩
  | .hbm, ⟨32, _⟩ => ⟨S4x16x4096x4096, .f32⟩
  | .hbm, ⟨33, _⟩ => ⟨S_, .f32⟩
  | .hbm, ⟨34, _⟩ => ⟨S4x16x4096, .f32⟩
  | .hbm, ⟨35, _⟩ => ⟨S4x16x4096x1, .f32⟩
  | .hbm, ⟨36, _⟩ => ⟨S4x16x4096x4096, .f32⟩
  | .hbm, ⟨37, _⟩ => ⟨S4x16x4096x4096, .f32⟩
  | .hbm, ⟨38, _⟩ => ⟨S4x16x64x4096, .f32⟩
  | .hbm, ⟨39, _⟩ => ⟨S4x4096x16x64, .f32⟩
  | .hbm, ⟨40, _⟩ => ⟨S16384x1024, .f32⟩
  | .hbm, ⟨41, _⟩ => ⟨S16384x1024, .bf16⟩
  | _, _ => ⟨S4x4096x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩

abbrev nD : Nat := 1
abbrev τ : Topo := Topo.v7x

variable {F : FTy → Type} [FloatOps F]
-- ==== Ffn.lean ====
abbrev S4x4096x1024 : Shape := ⟨3, ![4, 4096, 1024]⟩
abbrev S4x1024 : Shape := ⟨2, ![4, 1024]⟩
abbrev S4x1024x5632 : Shape := ⟨3, ![4, 1024, 5632]⟩
abbrev S4x2816x1024 : Shape := ⟨3, ![4, 2816, 1024]⟩
abbrev S16384x1024 : Shape := ⟨2, ![16384, 1024]⟩
abbrev S1x1024 : Shape := ⟨2, ![1, 1024]⟩
abbrev S1024 : Shape := ⟨1, ![1024]⟩
abbrev S512x1024 : Shape := ⟨2, ![512, 1024]⟩
abbrev S1x1024x5632 : Shape := ⟨3, ![1, 1024, 5632]⟩
abbrev S1x2816x1024 : Shape := ⟨3, ![1, 2816, 1024]⟩
abbrev S512 : Shape := ⟨1, ![512]⟩
abbrev S512x1 : Shape := ⟨2, ![512, 1]⟩
abbrev S1x1024x2816 : Shape := ⟨3, ![1, 1024, 2816]⟩
abbrev S1024x2816 : Shape := ⟨2, ![1024, 2816]⟩
abbrev S512x2816 : Shape := ⟨2, ![512, 2816]⟩
abbrev S2816x1024 : Shape := ⟨2, ![2816, 1024]⟩

abbrev nBuf : Space → Nat
  | .hbm => 11
  | .vmem => 7
  | .smem => 0
  | _ => 0

abbrev bufTy : (tb : Table) → Fin (tcTables nBuf tb) → BufTy
  | .hbm, ⟨0, _⟩ => ⟨S4x4096x1024, .f32⟩
  | .hbm, ⟨1, _⟩ => ⟨S4x1024, .f32⟩
  | .hbm, ⟨2, _⟩ => ⟨S4x1024x5632, .f32⟩
  | .hbm, ⟨3, _⟩ => ⟨S4x2816x1024, .f32⟩
  | .hbm, ⟨4, _⟩ => ⟨S16384x1024, .f32⟩
  | .hbm, ⟨5, _⟩ => ⟨S1x1024, .f32⟩
  | .hbm, ⟨6, _⟩ => ⟨S1024, .f32⟩
  | .hbm, ⟨7, _⟩ => ⟨S1x1024, .f32⟩
  | .hbm, ⟨8, _⟩ => ⟨S4x1024x5632, .bf16⟩
  | .hbm, ⟨9, _⟩ => ⟨S4x2816x1024, .bf16⟩
  | .hbm, ⟨10, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024x5632, .bf16⟩
  | .local _ .vmem, ⟨4, _⟩ => ⟨S1x2816x1024, .bf16⟩
  | .local _ .vmem, ⟨5, _⟩ => ⟨S512x1024, .f32⟩
  | .local _ .vmem, ⟨6, _⟩ => ⟨S512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== FfnRefIdeal.lean ====
abbrev S4x4096x1024 : Shape := ⟨3, ![4, 4096, 1024]⟩
abbrev S4x1024 : Shape := ⟨2, ![4, 1024]⟩
abbrev S4x1024x5632 : Shape := ⟨3, ![4, 1024, 5632]⟩
abbrev S4x2816x1024 : Shape := ⟨3, ![4, 2816, 1024]⟩
abbrev S1x1024 : Shape := ⟨2, ![1, 1024]⟩
abbrev S1024 : Shape := ⟨1, ![1024]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x5632 : Shape := ⟨3, ![4, 4096, 5632]⟩
abbrev S4x4096x2816 : Shape := ⟨3, ![4, 4096, 2816]⟩
abbrev S16384x1024 : Shape := ⟨2, ![16384, 1024]⟩

abbrev nBuf : Space → Nat
  | .hbm => 45
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x1024, .f32⟩
  | .hbm, ⟨2, _⟩ => ⟨S4x1024x5632, .f32⟩
  | .hbm, ⟨3, _⟩ => ⟨S4x2816x1024, .f32⟩
  | .hbm, ⟨4, _⟩ => ⟨S1x1024, .f32⟩
  | .hbm, ⟨5, _⟩ => ⟨S1024, .f32⟩
  | .hbm, ⟨6, _⟩ => ⟨S1x1024x5632, .f32⟩
  | .hbm, ⟨7, _⟩ => ⟨S1024x5632, .f32⟩
  | .hbm, ⟨8, _⟩ => ⟨S1x2816x1024, .f32⟩
  | .hbm, ⟨9, _⟩ => ⟨S2816x1024, .f32⟩
  | .hbm, ⟨10, _⟩ => ⟨S4x4096x1024, .f32⟩
  | .hbm, ⟨11, _⟩ => ⟨S_, .f32⟩
  | .hbm, ⟨12, _⟩ => ⟨S4x4096, .f32⟩
  | .hbm, ⟨13, _⟩ => ⟨S4x4096x1, .f32⟩
  | .hbm, ⟨14, _⟩ => ⟨S_, .f32⟩
  | .hbm, ⟨15, _⟩ => ⟨S4x4096x1, .f32⟩
  | .hbm, ⟨16, _⟩ => ⟨S4x4096x1, .f32⟩
  | .hbm, ⟨17, _⟩ => ⟨S_, .f32⟩
  | .hbm, ⟨18, _⟩ => ⟨S4x4096x1, .f32⟩
  | .hbm, ⟨19, _⟩ => ⟨S4x4096x1, .f32⟩
  | .hbm, ⟨20, _⟩ => ⟨S4x4096x1, .f32⟩
  | .hbm, ⟨21, _⟩ => ⟨S4x4096x1024, .f32⟩
  | .hbm, ⟨22, _⟩ => ⟨S4x4096x1024, .f32⟩
  | .hbm, ⟨23, _⟩ => ⟨S1x1x1024, .f32⟩
  | .hbm, ⟨24, _⟩ => ⟨S4x4096x1024, .f32⟩
  | .hbm, ⟨25, _⟩ => ⟨S4x4096x1024, .f32⟩
  | .hbm, ⟨26, _⟩ => ⟨S4x4096x5632, .f32⟩
  | .hbm, ⟨27, _⟩ => ⟨S4x4096x2816, .f32⟩
  | .hbm, ⟨28, _⟩ => ⟨S4x4096x2816, .f32⟩
  | .hbm, ⟨29, _⟩ => ⟨S4x4096x2816, .f32⟩
  | .hbm, ⟨30, _⟩ => ⟨S4x4096x2816, .f32⟩
  | .hbm, ⟨31, _⟩ => ⟨S_, .f32⟩
  | .hbm, ⟨32, _⟩ => ⟨S4x4096x2816, .f32⟩
  | .hbm, ⟨33, _⟩ => ⟨S4x4096x2816, .f32⟩
  | .hbm, ⟨34, _⟩ => ⟨S_, .f32⟩
  | .hbm, ⟨35, _⟩ => ⟨S4x4096x2816, .f32⟩
  | .hbm, ⟨36, _⟩ => ⟨S4x4096x2816, .f32⟩
  | .hbm, ⟨37, _⟩ => ⟨S4x4096x2816, .f32⟩
  | .hbm, ⟨38, _⟩ => ⟨S4x4096x2816, .f32⟩
  | .hbm, ⟨39, _⟩ => ⟨S4x4096x1024, .f32⟩
  | .hbm, ⟨40, _⟩ => ⟨S_, .f32⟩
  | .hbm, ⟨41, _⟩ => ⟨S4x4096x1024, .f32⟩
  | .hbm, ⟨42, _⟩ => ⟨S4x4096x1024, .f32⟩
  | .hbm, ⟨43, _⟩ => ⟨S4x4096x1024, .f32⟩
  | .hbm, ⟨44, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_2 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== Tail.lean ====
abbrev S4x4096x1024 : Shape := ⟨3, ![4, 4096, 1024]⟩
abbrev S4x4x4096x256 : Shape := ⟨4, ![4, 4, 4096, 256]⟩
abbrev S4x1024 : Shape := ⟨2, ![4, 1024]⟩
abbrev S4x1024x5632 : Shape := ⟨3, ![4, 1024, 5632]⟩
abbrev S4x2816x1024 : Shape := ⟨3, ![4, 2816, 1024]⟩
abbrev S4x1024x1024 : Shape := ⟨3, ![4, 1024, 1024]⟩
abbrev S4x256x1024 : Shape := ⟨3, ![4, 256, 1024]⟩
abbrev S1024 : Shape := ⟨1, ![1024]⟩
abbrev S1x1024 : Shape := ⟨2, ![1, 1024]⟩
abbrev S16384x1024 : Shape := ⟨2, ![16384, 1024]⟩
abbrev S1x4x4096x256 : Shape := ⟨4, ![1, 4, 4096, 256]⟩
abbrev S4x4096x256 : Shape := ⟨3, ![4, 4096, 256]⟩
abbrev S16384x256 : Shape := ⟨2, ![16384, 256]⟩
abbrev S512x1024 : Shape := ⟨2, ![512, 1024]⟩
abbrev S1x1024x5632 : Shape := ⟨3, ![1, 1024, 5632]⟩
abbrev S1x2816x1024 : Shape := ⟨3, ![1, 2816, 1024]⟩
abbrev S512x256 : Shape := ⟨2, ![512, 256]⟩
abbrev S1x1024x1024 : Shape := ⟨3, ![1, 1024, 1024]⟩
abbrev S1x256x1024 : Shape := ⟨3, ![1, 256, 1024]⟩
abbrev S512 : Shape := ⟨1, ![512]⟩
abbrev S512x1 : Shape := ⟨2, ![512, 1]⟩
abbrev S1x1024x2816 : Shape := ⟨3, ![1, 1024, 2816]⟩
abbrev S1024x2816 : Shape := ⟨2, ![1024, 2816]⟩
abbrev S512x2816 : Shape := ⟨2, ![512, 2816]⟩
abbrev S2816x1024 : Shape := ⟨2, ![2816, 1024]⟩
abbrev S1024x1024 : Shape := ⟨2, ![1024, 1024]⟩
abbrev S256x1024 : Shape := ⟨2, ![256, 1024]⟩

abbrev nBuf : Space → Nat
  | .hbm => 25
  | .vmem => 13
  | .smem => 0
  | _ => 0

abbrev bufTy : (tb : Table) → Fin (tcTables nBuf tb) → BufTy
  | .hbm, ⟨0, _⟩ => ⟨S4x4096x1024, .f32⟩
  | .hbm, ⟨1, _⟩ => ⟨S4x4x4096x256, .f32⟩
  | .hbm, ⟨2, _⟩ => ⟨S4x1024, .f32⟩
  | .hbm, ⟨3, _⟩ => ⟨S4x1024x5632, .f32⟩
  | .hbm, ⟨4, _⟩ => ⟨S4x2816x1024, .f32⟩
  | .hbm, ⟨5, _⟩ => ⟨S4x1024, .f32⟩
  | .hbm, ⟨6, _⟩ => ⟨S4x1024x1024, .f32⟩
  | .hbm, ⟨7, _⟩ => ⟨S4x256x1024, .f32⟩
  | .hbm, ⟨8, _⟩ => ⟨S1024, .f32⟩
  | .hbm, ⟨9, _⟩ => ⟨S4x1024x5632, .bf16⟩
  | .hbm, ⟨10, _⟩ => ⟨S4x2816x1024, .bf16⟩
  | .hbm, ⟨11, _⟩ => ⟨S4x1024x1024, .bf16⟩
  | .hbm, ⟨12, _⟩ => ⟨S4x256x1024, .bf16⟩
  | .hbm, ⟨13, _⟩ => ⟨S1x1024, .f32⟩
  | .hbm, ⟨14, _⟩ => ⟨S1024, .f32⟩
  | .hbm, ⟨15, _⟩ => ⟨S1x1024, .f32⟩
  | .hbm, ⟨16, _⟩ => ⟨S1x1024, .f32⟩
  | .hbm, ⟨17, _⟩ => ⟨S1024, .f32⟩
  | .hbm, ⟨18, _⟩ => ⟨S1x1024, .f32⟩
  | .hbm, ⟨19, _⟩ => ⟨S16384x1024, .f32⟩
  | .hbm, ⟨20, _⟩ => ⟨S1x4x4096x256, .f32⟩
  | .hbm, ⟨21, _⟩ => ⟨S4x4096x256, .f32⟩
  | .hbm, ⟨22, _⟩ => ⟨S16384x256, .f32⟩
  | .hbm, ⟨23, _⟩ => ⟨S1x1024, .f32⟩
  | .hbm, ⟨24, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024x5632, .bf16⟩
  | .local _ .vmem, ⟨4, _⟩ => ⟨S1x2816x1024, .bf16⟩
  | .local _ .vmem, ⟨5, _⟩ => ⟨S512x256, .f32⟩
  | .local _ .vmem, ⟨6, _⟩ => ⟨S512x256, .f32⟩
  | .local _ .vmem, ⟨7, _⟩ => ⟨S1x1024, .f32⟩
  | .local _ .vmem, ⟨8, _⟩ => ⟨S1x1024x1024, .bf16⟩
  | .local _ .vmem, ⟨9, _⟩ => ⟨S1x256x1024, .bf16⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_7 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== TailRefIdeal.lean ====
abbrev S4x4096x1024 : Shape := ⟨3, ![4, 4096, 1024]⟩
abbrev S4x4x4096x256 : Shape := ⟨4, ![4, 4, 4096, 256]⟩
abbrev S4x1024 : Shape := ⟨2, ![4, 1024]⟩
abbrev S4x1024x5632 : Shape := ⟨3, ![4, 1024, 5632]⟩
abbrev S4x2816x1024 : Shape := ⟨3, ![4, 2816, 1024]⟩
abbrev S4x1024x1024 : Shape := ⟨3, ![4, 1024, 1024]⟩
abbrev S4x256x1024 : Shape := ⟨3, ![4, 256, 1024]⟩
abbrev S1024 : Shape := ⟨1, ![1024]⟩
abbrev S1x1024 : Shape := ⟨2, ![1, 1024]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x5632 : Shape := ⟨3, ![4, 4096, 5632]⟩
abbrev S4x4096x2816 : Shape := ⟨3, ![4, 4096, 2816]⟩
abbrev S1x1024x1024 : Shape := ⟨3, ![1, 1024, 1024]⟩
abbrev S1024x1024 : Shape := ⟨2, ![1024, 1024]⟩
abbrev S1x4x4096x256 : Shape := ⟨4, ![1, 4, 4096, 256]⟩
abbrev S4x4096x256 : Shape := ⟨3, ![4, 4096, 256]⟩
abbrev S1x256x1024 : Shape := ⟨3, ![1, 256, 1024]⟩
abbrev S256x1024 : Shape := ⟨2, ![256, 1024]⟩
abbrev S16384x1024 : Shape := ⟨2, ![16384, 1024]⟩

abbrev nBuf : Space → Nat
  | .hbm => 102
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4x4096x256, .f32⟩
  | .hbm, ⟨2, _⟩ => ⟨S4x1024, .f32⟩
  | .hbm, ⟨3, _⟩ => ⟨S4x1024x5632, .f32⟩
  | .hbm, ⟨4, _⟩ => ⟨S4x2816x1024, .f32⟩
  | .hbm, ⟨5, _⟩ => ⟨S4x1024, .f32⟩
  | .hbm, ⟨6, _⟩ => ⟨S4x1024x1024, .f32⟩
  | .hbm, ⟨7, _⟩ => ⟨S4x256x1024, .f32⟩
  | .hbm, ⟨8, _⟩ => ⟨S1024, .f32⟩
  | .hbm, ⟨9, _⟩ => ⟨S1x1024, .f32⟩
  | .hbm, ⟨10, _⟩ => ⟨S1024, .f32⟩
  | .hbm, ⟨11, _⟩ => ⟨S1x1024x5632, .f32⟩
  | .hbm, ⟨12, _⟩ => ⟨S1024x5632, .f32⟩
  | .hbm, ⟨13, _⟩ => ⟨S1x2816x1024, .f32⟩
  | .hbm, ⟨14, _⟩ => ⟨S2816x1024, .f32⟩
  | .hbm, ⟨15, _⟩ => ⟨S4x4096x1024, .f32⟩
  | .hbm, ⟨16, _⟩ => ⟨S_, .f32⟩
  | .hbm, ⟨17, _⟩ => ⟨S4x4096, .f32⟩
  | .hbm, ⟨18, _⟩ => ⟨S4x4096x1, .f32⟩
  | .hbm, ⟨19, _⟩ => ⟨S_, .f32⟩
  | .hbm, ⟨20, _⟩ => ⟨S4x4096x1, .f32⟩
  | .hbm, ⟨21, _⟩ => ⟨S4x4096x1, .f32⟩
  | .hbm, ⟨22, _⟩ => ⟨S_, .f32⟩
  | .hbm, ⟨23, _⟩ => ⟨S4x4096x1, .f32⟩
  | .hbm, ⟨24, _⟩ => ⟨S4x4096x1, .f32⟩
  | .hbm, ⟨25, _⟩ => ⟨S4x4096x1, .f32⟩
  | .hbm, ⟨26, _⟩ => ⟨S4x4096x1024, .f32⟩
  | .hbm, ⟨27, _⟩ => ⟨S4x4096x1024, .f32⟩
  | .hbm, ⟨28, _⟩ => ⟨S1x1x1024, .f32⟩
  | .hbm, ⟨29, _⟩ => ⟨S4x4096x1024, .f32⟩
  | .hbm, ⟨30, _⟩ => ⟨S4x4096x1024, .f32⟩
  | .hbm, ⟨31, _⟩ => ⟨S4x4096x5632, .f32⟩
  | .hbm, ⟨32, _⟩ => ⟨S4x4096x2816, .f32⟩
  | .hbm, ⟨33, _⟩ => ⟨S4x4096x2816, .f32⟩
  | .hbm, ⟨34, _⟩ => ⟨S4x4096x2816, .f32⟩
  | .hbm, ⟨35, _⟩ => ⟨S4x4096x2816, .f32⟩
  | .hbm, ⟨36, _⟩ => ⟨S_, .f32⟩
  | .hbm, ⟨37, _⟩ => ⟨S4x4096x2816, .f32⟩
  | .hbm, ⟨38, _⟩ => ⟨S4x4096x2816, .f32⟩
  | .hbm, ⟨39, _⟩ => ⟨S_, .f32⟩
  | .hbm, ⟨40, _⟩ => ⟨S4x4096x2816, .f32⟩
  | .hbm, ⟨41, _⟩ => ⟨S4x4096x2816, .f32⟩
  | .hbm, ⟨42, _⟩ => ⟨S4x4096x2816, .f32⟩
  | .hbm, ⟨43, _⟩ => ⟨S4x4096x2816, .f32⟩
  | .hbm, ⟨44, _⟩ => ⟨S4x4096x1024, .f32⟩
  | .hbm, ⟨45, _⟩ => ⟨S_, .f32⟩
  | .hbm, ⟨46, _⟩ => ⟨S4x4096x1024, .f32⟩
  | .hbm, ⟨47, _⟩ => ⟨S4x4096x1024, .f32⟩
  | .hbm, ⟨48, _⟩ => ⟨S4x4096x1024, .f32⟩
  | .hbm, ⟨49, _⟩ => ⟨S1x1024, .f32⟩
  | .hbm, ⟨50, _⟩ => ⟨S1024, .f32⟩
  | .hbm, ⟨51, _⟩ => ⟨S4x4096x1024, .f32⟩
  | .hbm, ⟨52, _⟩ => ⟨S_, .f32⟩
  | .hbm, ⟨53, _⟩ => ⟨S4x4096, .f32⟩
  | .hbm, ⟨54, _⟩ => ⟨S4x4096x1, .f32⟩
  | .hbm, ⟨55, _⟩ => ⟨S_, .f32⟩
  | .hbm, ⟨56, _⟩ => ⟨S4x4096x1, .f32⟩
  | .hbm, ⟨57, _⟩ => ⟨S4x4096x1, .f32⟩
  | .hbm, ⟨58, _⟩ => ⟨S_, .f32⟩
  | .hbm, ⟨59, _⟩ => ⟨S4x4096x1, .f32⟩
  | .hbm, ⟨60, _⟩ => ⟨S4x4096x1, .f32⟩
  | .hbm, ⟨61, _⟩ => ⟨S4x4096x1, .f32⟩
  | .hbm, ⟨62, _⟩ => ⟨S4x4096x1024, .f32⟩
  | .hbm, ⟨63, _⟩ => ⟨S4x4096x1024, .f32⟩
  | .hbm, ⟨64, _⟩ => ⟨S1x1x1024, .f32⟩
  | .hbm, ⟨65, _⟩ => ⟨S4x4096x1024, .f32⟩
  | .hbm, ⟨66, _⟩ => ⟨S4x4096x1024, .f32⟩
  | .hbm, ⟨67, _⟩ => ⟨S1x1024x1024, .f32⟩
  | .hbm, ⟨68, _⟩ => ⟨S1024x1024, .f32⟩
  | .hbm, ⟨69, _⟩ => ⟨S4x4096x1024, .f32⟩
  | .hbm, ⟨70, _⟩ => ⟨S4x4096x1024, .f32⟩
  | .hbm, ⟨71, _⟩ => ⟨S4x4096x1024, .f32⟩
  | .hbm, ⟨72, _⟩ => ⟨S_, .f32⟩
  | .hbm, ⟨73, _⟩ => ⟨S4x4096x1024, .f32⟩
  | .hbm, ⟨74, _⟩ => ⟨S4x4096x1024, .f32⟩
  | .hbm, ⟨75, _⟩ => ⟨S_, .f32⟩
  | .hbm, ⟨76, _⟩ => ⟨S4x4096x1024, .f32⟩
  | .hbm, ⟨77, _⟩ => ⟨S4x4096x1024, .f32⟩
  | .hbm, ⟨78, _⟩ => ⟨S1x4x4096x256, .f32⟩
  | .hbm, ⟨79, _⟩ => ⟨S4x4096x256, .f32⟩
  | .hbm, ⟨80, _⟩ => ⟨S1x256x1024, .f32⟩
  | .hbm, ⟨81, _⟩ => ⟨S256x1024, .f32⟩
  | .hbm, ⟨82, _⟩ => ⟨S4x4096x1024, .f32⟩
  | .hbm, ⟨83, _⟩ => ⟨S4x4096x1024, .f32⟩
  | .hbm, ⟨84, _⟩ => ⟨S4x4096x1024, .f32⟩
  | .hbm, ⟨85, _⟩ => ⟨S4x4096x1024, .f32⟩
  | .hbm, ⟨86, _⟩ => ⟨S_, .f32⟩
  | .hbm, ⟨87, _⟩ => ⟨S4x4096, .f32⟩
  | .hbm, ⟨88, _⟩ => ⟨S4x4096x1, .f32⟩
  | .hbm, ⟨89, _⟩ => ⟨S_, .f32⟩
  | .hbm, ⟨90, _⟩ => ⟨S4x4096x1, .f32⟩
  | .hbm, ⟨91, _⟩ => ⟨S4x4096x1, .f32⟩
  | .hbm, ⟨92, _⟩ => ⟨S_, .f32⟩
  | .hbm, ⟨93, _⟩ => ⟨S4x4096x1, .f32⟩
  | .hbm, ⟨94, _⟩ => ⟨S4x4096x1, .f32⟩
  | .hbm, ⟨95, _⟩ => ⟨S4x4096x1, .f32⟩
  | .hbm, ⟨96, _⟩ => ⟨S4x4096x1024, .f32⟩
  | .hbm, ⟨97, _⟩ => ⟨S4x4096x1024, .f32⟩
  | .hbm, ⟨98, _⟩ => ⟨S1x1x1024, .f32⟩
  | .hbm, ⟨99, _⟩ => ⟨S4x4096x1024, .f32⟩
  | .hbm, ⟨100, _⟩ => ⟨S4x4096x1024, .f32⟩
  | .hbm, ⟨101, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_2 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_3 : Ref sig .tc := ⟨.hbm, 52, rfl⟩
abbrev main_v31 : Ref sig .tc := ⟨.hbm, 53, rfl⟩
abbrev main_v32 : Ref sig .tc := ⟨.hbm, 54, rfl⟩
abbrev main_cst_4 : Ref sig .tc := ⟨.hbm, 55, rfl⟩
abbrev main_v33 : Ref sig .tc := ⟨.hbm, 56, rfl⟩
abbrev main_v34 : Ref sig .tc := ⟨.hbm, 57, rfl⟩
abbrev main_cst_5 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_6 : Ref sig .tc := ⟨.hbm, 72, rfl⟩
abbrev main_v48 : Ref sig .tc := ⟨.hbm, 73, rfl⟩
abbrev main_v49 : Ref sig .tc := ⟨.hbm, 74, rfl⟩
abbrev main_cst_7 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_8 : Ref sig .tc := ⟨.hbm, 86, rfl⟩
abbrev main_v60 : Ref sig .tc := ⟨.hbm, 87, rfl⟩
abbrev main_v61 : Ref sig .tc := ⟨.hbm, 88, rfl⟩
abbrev main_cst_9 : Ref sig .tc := ⟨.hbm, 89, rfl⟩
abbrev main_v62 : Ref sig .tc := ⟨.hbm, 90, rfl⟩
abbrev main_v63 : Ref sig .tc := ⟨.hbm, 91, rfl⟩
abbrev main_cst_10 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩

abbrev nD : Nat := 1
abbrev τ : Topo := Topo.v7x

variable {F : FTy → Type} [FloatOps F]
-- ==== Proj.lean ====
abbrev S4x4096x1024 : Shape := ⟨3, ![4, 4096, 1024]⟩
abbrev S1024 : Shape := ⟨1, ![1024]⟩
abbrev S1024x8000 : Shape := ⟨2, ![1024, 8000]⟩
abbrev S1024x2048 : Shape := ⟨2, ![1024, 2048]⟩
abbrev S1024x3072 : Shape := ⟨2, ![1024, 3072]⟩
abbrev S1024x32 : Shape := ⟨2, ![1024, 32]⟩
abbrev S1024x512 : Shape := ⟨2, ![1024, 512]⟩
abbrev S1024x256 : Shape := ⟨2, ![1024, 256]⟩
abbrev S1024x7680 : Shape := ⟨2, ![1024, 7680]⟩
abbrev S_ : Shape := ⟨0, ![]⟩
abbrev S1024x384 : Shape := ⟨2, ![1024, 384]⟩
abbrev S16384x1024 : Shape := ⟨2, ![16384, 1024]⟩
abbrev S1x1024 : Shape := ⟨2, ![1, 1024]⟩
abbrev S16384x7680 : Shape := ⟨2, ![16384, 7680]⟩
abbrev S16384x384 : Shape := ⟨2, ![16384, 384]⟩
abbrev S512x1024 : Shape := ⟨2, ![512, 1024]⟩
abbrev S512x7680 : Shape := ⟨2, ![512, 7680]⟩
abbrev S512x384 : Shape := ⟨2, ![512, 384]⟩
abbrev S512 : Shape := ⟨1, ![512]⟩
abbrev S512x1 : Shape := ⟨2, ![512, 1]⟩
abbrev S1024x1280 : Shape := ⟨2, ![1024, 1280]⟩
abbrev S512x1280 : Shape := ⟨2, ![512, 1280]⟩

abbrev nBuf : Space → Nat
  | .hbm => 20
  | .vmem => 9
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x8000, .f32⟩
  | .hbm, ⟨3, _⟩ => ⟨S1024x2048, .f32⟩
  | .hbm, ⟨4, _⟩ => ⟨S1024x3072, .f32⟩
  | .hbm, ⟨5, _⟩ => ⟨S1024x32, .f32⟩
  | .hbm, ⟨6, _⟩ => ⟨S1024x512, .f32⟩
  | .hbm, ⟨7, _⟩ => ⟨S1024x256, .f32⟩
  | .hbm, ⟨8, _⟩ => ⟨S1024x32, .f32⟩
  | .hbm, ⟨9, _⟩ => ⟨S1024x2048, .f32⟩
  | .hbm, ⟨10, _⟩ => ⟨S1024x7680, .f32⟩
  | .hbm, ⟨11, _⟩ => ⟨S1024x7680, .bf16⟩
  | .hbm, ⟨12, _⟩ => ⟨S_, .f32⟩
  | .hbm, ⟨13, _⟩ => ⟨S1024x32, .f32⟩
  | .hbm, ⟨14, _⟩ => ⟨S1024x384, .f32⟩
  | .hbm, ⟨15, _⟩ => ⟨S1024x384, .bf16⟩
  | .hbm, ⟨16, _⟩ => ⟨S16384x1024, .f32⟩
  | .hbm, ⟨17, _⟩ => ⟨S1x1024, .f32⟩
  | .hbm, ⟨18, _⟩ => ⟨S16384x7680, .bf16⟩
  | .hbm, ⟨19, _⟩ => ⟨S16384x384, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x7680, .bf16⟩
  | .local _ .vmem, ⟨4, _⟩ => ⟨S1024x384, .bf16⟩
  | .local _ .vmem, ⟨5, _⟩ => ⟨S512x7680, .bf16⟩
  | .local _ .vmem, ⟨6, _⟩ => ⟨S512x7680, .bf16⟩
  | .local _ .vmem, ⟨7, _⟩ => ⟨S512x384, .f32⟩
  | .local _ .vmem, ⟨8, _⟩ => ⟨S512x384, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14_0 : Ref sig .tc := ⟨.hbm, 18, rfl⟩
abbrev main_v14_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x7680 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x384 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x7680 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ProjRefIdeal.lean ====
abbrev S4x4096x1024 : Shape := ⟨3, ![4, 4096, 1024]⟩
abbrev S1024 : Shape := ⟨1, ![1024]⟩
abbrev S1024x8000 : Shape := ⟨2, ![1024, 8000]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x8000 : Shape := ⟨3, ![4, 4096, 8000]⟩
abbrev S16384x8000 : Shape := ⟨2, ![16384, 8000]⟩
abbrev S16384x2048 : Shape := ⟨2, ![16384, 2048]⟩
abbrev S16384x3072 : Shape := ⟨2, ![16384, 3072]⟩
abbrev S16384x32 : Shape := ⟨2, ![16384, 32]⟩
abbrev S16384x512 : Shape := ⟨2, ![16384, 512]⟩
abbrev S16384x256 : Shape := ⟨2, ![16384, 256]⟩
abbrev S16384x7680 : Shape := ⟨2, ![16384, 7680]⟩
abbrev S16384x384 : Shape := ⟨2, ![16384, 384]⟩

abbrev nBuf : Space → Nat
  | .hbm => 33
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x8000, .f32⟩
  | .hbm, ⟨3, _⟩ => ⟨S4x4096x1024, .f32⟩
  | .hbm, ⟨4, _⟩ => ⟨S_, .f32⟩
  | .hbm, ⟨5, _⟩ => ⟨S4x4096, .f32⟩
  | .hbm, ⟨6, _⟩ => ⟨S4x4096x1, .f32⟩
  | .hbm, ⟨7, _⟩ => ⟨S_, .f32⟩
  | .hbm, ⟨8, _⟩ => ⟨S4x4096x1, .f32⟩
  | .hbm, ⟨9, _⟩ => ⟨S4x4096x1, .f32⟩
  | .hbm, ⟨10, _⟩ => ⟨S_, .f32⟩
  | .hbm, ⟨11, _⟩ => ⟨S4x4096x1, .f32⟩
  | .hbm, ⟨12, _⟩ => ⟨S4x4096x1, .f32⟩
  | .hbm, ⟨13, _⟩ => ⟨S4x4096x1, .f32⟩
  | .hbm, ⟨14, _⟩ => ⟨S4x4096x1024, .f32⟩
  | .hbm, ⟨15, _⟩ => ⟨S4x4096x1024, .f32⟩
  | .hbm, ⟨16, _⟩ => ⟨S1x1x1024, .f32⟩
  | .hbm, ⟨17, _⟩ => ⟨S4x4096x1024, .f32⟩
  | .hbm, ⟨18, _⟩ => ⟨S4x4096x1024, .f32⟩
  | .hbm, ⟨19, _⟩ => ⟨S4x4096x8000, .f32⟩
  | .hbm, ⟨20, _⟩ => ⟨S16384x8000, .f32⟩
  | .hbm, ⟨21, _⟩ => ⟨S16384x2048, .f32⟩
  | .hbm, ⟨22, _⟩ => ⟨S16384x3072, .f32⟩
  | .hbm, ⟨23, _⟩ => ⟨S16384x32, .f32⟩
  | .hbm, ⟨24, _⟩ => ⟨S16384x512, .f32⟩
  | .hbm, ⟨25, _⟩ => ⟨S16384x256, .f32⟩
  | .hbm, ⟨26, _⟩ => ⟨S16384x32, .f32⟩
  | .hbm, ⟨27, _⟩ => ⟨S16384x2048, .f32⟩
  | .hbm, ⟨28, _⟩ => ⟨S_, .f32⟩
  | .hbm, ⟨29, _⟩ => ⟨S16384x32, .f32⟩
  | .hbm, ⟨30, _⟩ => ⟨S16384x7680, .f32⟩
  | .hbm, ⟨31, _⟩ => ⟨S16384x7680, .bf16⟩
  | .hbm, ⟨32, _⟩ => ⟨S16384x384, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩

abbrev nD : Nat := 1
abbrev τ : Topo := Topo.v7x

variable {F : FTy → Type} [FloatOps F]
-- ==== Merge.lean ====
abbrev S4x4096x1024 : Shape := ⟨3, ![4, 4096, 1024]⟩
abbrev S16384x2048 : Shape := ⟨2, ![16384, 2048]⟩
abbrev S16384x1024 : Shape := ⟨2, ![16384, 1024]⟩
abbrev S16384x7680 : Shape := ⟨2, ![16384, 7680]⟩
abbrev S4x2048x1024 : Shape := ⟨3, ![4, 2048, 1024]⟩
abbrev S4x1024x1024 : Shape := ⟨3, ![4, 1024, 1024]⟩
abbrev S512x1024 : Shape := ⟨2, ![512, 1024]⟩
abbrev S512x2048 : Shape := ⟨2, ![512, 2048]⟩
abbrev S1x2048x1024 : Shape := ⟨3, ![1, 2048, 1024]⟩
abbrev S1x1024x1024 : Shape := ⟨3, ![1, 1024, 1024]⟩
abbrev S2048x1024 : Shape := ⟨2, ![2048, 1024]⟩
abbrev S1024x1024 : Shape := ⟨2, ![1024, 1024]⟩

abbrev nBuf : Space → Nat
  | .hbm => 12
  | .vmem => 15
  | .smem => 0
  | _ => 0

abbrev bufTy : (tb : Table) → Fin (tcTables nBuf tb) → BufTy
  | .hbm, ⟨0, _⟩ => ⟨S4x4096x1024, .f32⟩
  | .hbm, ⟨1, _⟩ => ⟨S16384x2048, .bf16⟩
  | .hbm, ⟨2, _⟩ => ⟨S16384x1024, .bf16⟩
  | .hbm, ⟨3, _⟩ => ⟨S16384x7680, .bf16⟩
  | .hbm, ⟨4, _⟩ => ⟨S4x2048x1024, .f32⟩
  | .hbm, ⟨5, _⟩ => ⟨S4x1024x1024, .f32⟩
  | .hbm, ⟨6, _⟩ => ⟨S4x1024x1024, .f32⟩
  | .hbm, ⟨7, _⟩ => ⟨S4x2048x1024, .bf16⟩
  | .hbm, ⟨8, _⟩ => ⟨S4x1024x1024, .bf16⟩
  | .hbm, ⟨9, _⟩ => ⟨S4x1024x1024, .bf16⟩
  | .hbm, ⟨10, _⟩ => ⟨S16384x1024, .f32⟩
  | .hbm, ⟨11, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x2048, .bf16⟩
  | .local _ .vmem, ⟨3, _⟩ => ⟨S512x2048, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S1x2048x1024, .bf16⟩
  | .local _ .vmem, ⟨11, _⟩ => ⟨S1x1024x1024, .bf16⟩
  | .local _ .vmem, ⟨12, _⟩ => ⟨S1x1024x1024, .bf16⟩
  | .local _ .vmem, ⟨13, _⟩ => ⟨S512x1024, .f32⟩
  | .local _ .vmem, ⟨14, _⟩ => ⟨S512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_4 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_5 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_6 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_7 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MergeRefIdeal.lean ====
abbrev S4x4096x1024 : Shape := ⟨3, ![4, 4096, 1024]⟩
abbrev S16384x2048 : Shape := ⟨2, ![16384, 2048]⟩
abbrev S16384x1024 : Shape := ⟨2, ![16384, 1024]⟩
abbrev S16384x7680 : Shape := ⟨2, ![16384, 7680]⟩
abbrev S4x2048x1024 : Shape := ⟨3, ![4, 2048, 1024]⟩
abbrev S4x1024x1024 : Shape := ⟨3, ![4, 1024, 1024]⟩
abbrev S4x4096x2048 : Shape := ⟨3, ![4, 4096, 2048]⟩
abbrev S_ : Shape := ⟨0, ![]⟩
abbrev S1x2048x1024 : Shape := ⟨3, ![1, 2048, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 38
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S16384x2048, .bf16⟩
  | .hbm, ⟨2, _⟩ => ⟨S16384x1024, .bf16⟩
  | .hbm, ⟨3, _⟩ => ⟨S16384x7680, .bf16⟩
  | .hbm, ⟨4, _⟩ => ⟨S4x2048x1024, .f32⟩
  | .hbm, ⟨5, _⟩ => ⟨S4x1024x1024, .f32⟩
  | .hbm, ⟨6, _⟩ => ⟨S4x1024x1024, .f32⟩
  | .hbm, ⟨7, _⟩ => ⟨S16384x2048, .bf16⟩
  | .hbm, ⟨8, _⟩ => ⟨S16384x2048, .f32⟩
  | .hbm, ⟨9, _⟩ => ⟨S4x4096x2048, .f32⟩
  | .hbm, ⟨10, _⟩ => ⟨S16384x2048, .f32⟩
  | .hbm, ⟨11, _⟩ => ⟨S4x4096x2048, .f32⟩
  | .hbm, ⟨12, _⟩ => ⟨S16384x1024, .f32⟩
  | .hbm, ⟨13, _⟩ => ⟨S4x4096x1024, .f32⟩
  | .hbm, ⟨14, _⟩ => ⟨S4x4096x2048, .f32⟩
  | .hbm, ⟨15, _⟩ => ⟨S4x4096x2048, .f32⟩
  | .hbm, ⟨16, _⟩ => ⟨S_, .f32⟩
  | .hbm, ⟨17, _⟩ => ⟨S4x4096x2048, .f32⟩
  | .hbm, ⟨18, _⟩ => ⟨S4x4096x2048, .f32⟩
  | .hbm, ⟨19, _⟩ => ⟨S_, .f32⟩
  | .hbm, ⟨20, _⟩ => ⟨S4x4096x2048, .f32⟩
  | .hbm, ⟨21, _⟩ => ⟨S4x4096x2048, .f32⟩
  | .hbm, ⟨22, _⟩ => ⟨S4x4096x1024, .f32⟩
  | .hbm, ⟨23, _⟩ => ⟨S4x4096x1024, .f32⟩
  | .hbm, ⟨24, _⟩ => ⟨S1x2048x1024, .f32⟩
  | .hbm, ⟨25, _⟩ => ⟨S2048x1024, .f32⟩
  | .hbm, ⟨26, _⟩ => ⟨S4x4096x1024, .f32⟩
  | .hbm, ⟨27, _⟩ => ⟨S4x4096x1024, .f32⟩
  | .hbm, ⟨28, _⟩ => ⟨S1x1024x1024, .f32⟩
  | .hbm, ⟨29, _⟩ => ⟨S1024x1024, .f32⟩
  | .hbm, ⟨30, _⟩ => ⟨S4x4096x1024, .f32⟩
  | .hbm, ⟨31, _⟩ => ⟨S4x4096x1024, .f32⟩
  | .hbm, ⟨32, _⟩ => ⟨S4x4096x1024, .f32⟩
  | .hbm, ⟨33, _⟩ => ⟨S1x1024x1024, .f32⟩
  | .hbm, ⟨34, _⟩ => ⟨S1024x1024, .f32⟩
  | .hbm, ⟨35, _⟩ => ⟨S4x4096x1024, .f32⟩
  | .hbm, ⟨36, _⟩ => ⟨S4x4096x1024, .f32⟩
  | .hbm, ⟨37, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩

abbrev nD : Nat := 1
abbrev τ : Topo := Topo.v7x

variable {F : FTy → Type} [FloatOps F]
-- ==== Kv.lean ====
abbrev S16384x384 : Shape := ⟨2, ![16384, 384]⟩
abbrev S256 : Shape := ⟨1, ![256]⟩
abbrev S256x16x64 : Shape := ⟨3, ![256, 16, 64]⟩
abbrev S_ : Shape := ⟨0, ![]⟩
abbrev S256x16x128 : Shape := ⟨3, ![256, 16, 128]⟩
abbrev S256x2048 : Shape := ⟨2, ![256, 2048]⟩
abbrev S32x32 : Shape := ⟨2, ![32, 32]⟩
abbrev S128x128 : Shape := ⟨2, ![128, 128]⟩
abbrev S128x1x128 : Shape := ⟨3, ![128, 1, 128]⟩
abbrev S128x16x128 : Shape := ⟨3, ![128, 16, 128]⟩
abbrev S128x2048 : Shape := ⟨2, ![128, 2048]⟩
abbrev S1x256 : Shape := ⟨2, ![1, 256]⟩
abbrev S384x2048 : Shape := ⟨2, ![384, 2048]⟩
abbrev S256x1024 : Shape := ⟨2, ![256, 1024]⟩
abbrev S1024x256 : Shape := ⟨2, ![1024, 256]⟩
abbrev S4096 : Shape := ⟨1, ![4096]⟩
abbrev S16 : Shape := ⟨1, ![16]⟩
abbrev S4096x1 : Shape := ⟨2, ![4096, 1]⟩
abbrev S1x16 : Shape := ⟨2, ![1, 16]⟩
abbrev S4096x16 : Shape := ⟨2, ![4096, 16]⟩
abbrev S4096x64 : Shape := ⟨2, ![4096, 64]⟩
abbrev S4096x32 : Shape := ⟨2, ![4096, 32]⟩
abbrev S4096x128 : Shape := ⟨2, ![4096, 128]⟩
abbrev S4096x80 : Shape := ⟨2, ![4096, 80]⟩
abbrev S4096x48 : Shape := ⟨2, ![4096, 48]⟩
abbrev S1x4096x1x128 : Shape := ⟨4, ![1, 4096, 1, 128]⟩
abbrev S16384x256 : Shape := ⟨2, ![16384, 256]⟩
abbrev S16384x32 : Shape := ⟨2, ![16384, 32]⟩
abbrev S16384x2048 : Shape := ⟨2, ![16384, 2048]⟩
abbrev S32x1024x512 : Shape := ⟨3, ![32, 1024, 512]⟩
abbrev S512x384 : Shape := ⟨2, ![512, 384]⟩
abbrev S512x128 : Shape := ⟨2, ![512, 128]⟩
abbrev S512x256 : Shape := ⟨2, ![512, 256]⟩
abbrev S512x32 : Shape := ⟨2, ![512, 32]⟩
abbrev S512x2048 : Shape := ⟨2, ![512, 2048]⟩
abbrev S1x1024x512 : Shape := ⟨3, ![1, 1024, 512]⟩
abbrev S512 : Shape := ⟨1, ![512]⟩
abbrev S512x1 : Shape := ⟨2, ![512, 1]⟩
abbrev S1024x512 : Shape := ⟨2, ![1024, 512]⟩

abbrev nBuf : Space → Nat
  | .hbm => 73
  | .vmem => 19
  | .smem => 0
  | _ => 0

abbrev bufTy : (tb : Table) → Fin (tcTables nBuf tb) → BufTy
  | .hbm, ⟨0, _⟩ => ⟨S16384x384, .f32⟩
  | .hbm, ⟨1, _⟩ => ⟨S256, .f32⟩
  | .hbm, ⟨2, _⟩ => ⟨S256x16x64, .f32⟩
  | .hbm, ⟨3, _⟩ => ⟨S256x16x64, .f32⟩
  | .hbm, ⟨4, _⟩ => ⟨S_, .i32⟩
  | .hbm, ⟨5, _⟩ => ⟨S_, .f32⟩
  | .hbm, ⟨6, _⟩ => ⟨S256x16x128, .f32⟩
  | .hbm, ⟨7, _⟩ => ⟨S256x2048, .f32⟩
  | .hbm, ⟨8, _⟩ => ⟨S32x32, .i32⟩
  | .hbm, ⟨9, _⟩ => ⟨S32x32, .i32⟩
  | .hbm, ⟨10, _⟩ => ⟨S_, .i32⟩
  | .hbm, ⟨11, _⟩ => ⟨S32x32, .i32⟩
  | .hbm, ⟨12, _⟩ => ⟨S32x32, .i32⟩
  | .hbm, ⟨13, _⟩ => ⟨S32x32, .i1⟩
  | .hbm, ⟨14, _⟩ => ⟨S32x32, .f32⟩
  | .hbm, ⟨15, _⟩ => ⟨S_, .i32⟩
  | .hbm, ⟨16, _⟩ => ⟨S_, .f32⟩
  | .hbm, ⟨17, _⟩ => ⟨S128x128, .f32⟩
  | .hbm, ⟨18, _⟩ => ⟨S128x1x128, .f32⟩
  | .hbm, ⟨19, _⟩ => ⟨S128x16x128, .f32⟩
  | .hbm, ⟨20, _⟩ => ⟨S128x2048, .f32⟩
  | .hbm, ⟨21, _⟩ => ⟨S1x256, .f32⟩
  | .hbm, ⟨22, _⟩ => ⟨S384x2048, .f32⟩
  | .hbm, ⟨23, _⟩ => ⟨S384x2048, .bf16⟩
  | .hbm, ⟨24, _⟩ => ⟨S256x1024, .f32⟩
  | .hbm, ⟨25, _⟩ => ⟨S1024x256, .f32⟩
  | .hbm, ⟨26, _⟩ => ⟨S1024x256, .bf16⟩
  | .hbm, ⟨27, _⟩ => ⟨S4096, .i32⟩
  | .hbm, ⟨28, _⟩ => ⟨S16, .f32⟩
  | .hbm, ⟨29, _⟩ => ⟨S16, .f32⟩
  | .hbm, ⟨30, _⟩ => ⟨S_, .f32⟩
  | .hbm, ⟨31, _⟩ => ⟨S16, .f32⟩
  | .hbm, ⟨32, _⟩ => ⟨S16, .f32⟩
  | .hbm, ⟨33, _⟩ => ⟨S_, .f32⟩
  | .hbm, ⟨34, _⟩ => ⟨S16, .f32⟩
  | .hbm, ⟨35, _⟩ => ⟨S16, .f32⟩
  | .hbm, ⟨36, _⟩ => ⟨S4096, .f32⟩
  | .hbm, ⟨37, _⟩ => ⟨S4096x1, .f32⟩
  | .hbm, ⟨38, _⟩ => ⟨S1x16, .f32⟩
  | .hbm, ⟨39, _⟩ => ⟨S4096x16, .f32⟩
  | .hbm, ⟨40, _⟩ => ⟨S4096x16, .f32⟩
  | .hbm, ⟨41, _⟩ => ⟨S4096x16, .f32⟩
  | .hbm, ⟨42, _⟩ => ⟨S4096x16, .f32⟩
  | .hbm, ⟨43, _⟩ => ⟨S4096x16, .f32⟩
  | .hbm, ⟨44, _⟩ => ⟨S_, .f32⟩
  | .hbm, ⟨45, _⟩ => ⟨S4096x64, .f32⟩
  | .hbm, ⟨46, _⟩ => ⟨S_, .f32⟩
  | .hbm, ⟨47, _⟩ => ⟨S4096x32, .f32⟩
  | .hbm, ⟨48, _⟩ => ⟨S4096x128, .f32⟩
  | .hbm, ⟨49, _⟩ => ⟨S_, .f32⟩
  | .hbm, ⟨50, _⟩ => ⟨S4096x80, .f32⟩
  | .hbm, ⟨51, _⟩ => ⟨S_, .f32⟩
  | .hbm, ⟨52, _⟩ => ⟨S4096x32, .f32⟩
  | .hbm, ⟨53, _⟩ => ⟨S4096x128, .f32⟩
  | .hbm, ⟨54, _⟩ => ⟨S_, .f32⟩
  | .hbm, ⟨55, _⟩ => ⟨S4096x64, .f32⟩
  | .hbm, ⟨56, _⟩ => ⟨S4096x16, .f32⟩
  | .hbm, ⟨57, _⟩ => ⟨S_, .f32⟩
  | .hbm, ⟨58, _⟩ => ⟨S4096x48, .f32⟩
  | .hbm, ⟨59, _⟩ => ⟨S4096x128, .f32⟩
  | .hbm, ⟨60, _⟩ => ⟨S1x4096x1x128, .f32⟩
  | .hbm, ⟨61, _⟩ => ⟨S1x4096x1x128, .f32⟩
  | .hbm, ⟨62, _⟩ => ⟨S4096x128, .f32⟩
  | .hbm, ⟨63, _⟩ => ⟨S1x4096x1x128, .f32⟩
  | .hbm, ⟨64, _⟩ => ⟨S1x4096x1x128, .f32⟩
  | .hbm, ⟨65, _⟩ => ⟨S4096x128, .f32⟩
  | .hbm, ⟨66, _⟩ => ⟨S1x4096x1x128, .f32⟩
  | .hbm, ⟨67, _⟩ => ⟨S1x4096x1x128, .f32⟩
  | .hbm, ⟨68, _⟩ => ⟨S4096x128, .f32⟩
  | .hbm, ⟨69, _⟩ => ⟨S16384x256, .f32⟩
  | .hbm, ⟨70, _⟩ => ⟨S16384x32, .f32⟩
  | .hbm, ⟨71, _⟩ => ⟨S16384x2048, .bf16⟩
  | .hbm, ⟨72, _⟩ => ⟨S32x1024x512, .bf16⟩
  | .local _ .vmem, ⟨0, _⟩ => ⟨S512x384, .f32⟩
  | .local _ .vmem, ⟨1, _⟩ => ⟨S512x384, .f32⟩
  | .local _ .vmem, ⟨2, _⟩ => ⟨S1x256, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S384x2048, .bf16⟩
  | .local _ .vmem, ⟨10, _⟩ => ⟨S1024x256, .bf16⟩
  | .local _ .vmem, ⟨11, _⟩ => ⟨S512x256, .f32⟩
  | .local _ .vmem, ⟨12, _⟩ => ⟨S512x256, .f32⟩
  | .local _ .vmem, ⟨13, _⟩ => ⟨S512x32, .f32⟩
  | .local _ .vmem, ⟨14, _⟩ => ⟨S512x32, .f32⟩
  | .local _ .vmem, ⟨15, _⟩ => ⟨S512x2048, .bf16⟩
  | .local _ .vmem, ⟨16, _⟩ => ⟨S512x2048, .bf16⟩
  | .local _ .vmem, ⟨17, _⟩ => ⟨S1x1024x512, .bf16⟩
  | .local _ .vmem, ⟨18, _⟩ => ⟨S1x1024x512, .bf16⟩
  | _, _ => ⟨S16384x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_call1_v0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_3 : Ref sig .tc := ⟨.hbm, 44, rfl⟩
abbrev main_v33 : Ref sig .tc := ⟨.hbm, 45, rfl⟩
abbrev main_cst_4 : Ref sig .tc := ⟨.hbm, 46, rfl⟩
abbrev main_v34 : Ref sig .tc := ⟨.hbm, 47, rfl⟩
abbrev main_v35 : Ref sig .tc := ⟨.hbm, 48, rfl⟩
abbrev main_cst_5 : Ref sig .tc := ⟨.hbm, 49, rfl⟩
abbrev main_v36 : Ref sig .tc := ⟨.hbm, 50, rfl⟩
abbrev main_cst_6 : Ref sig .tc := ⟨.hbm, 51, rfl⟩
abbrev main_v37 : Ref sig .tc := ⟨.hbm, 52, rfl⟩
abbrev main_v38 : Ref sig .tc := ⟨.hbm, 53, rfl⟩
abbrev main_cst_7 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52_0 : Ref sig .tc := ⟨.hbm, 69, rfl⟩
abbrev main_v52_1 : Ref sig .tc := ⟨.hbm, 70, rfl⟩
abbrev main_v52_2 : Ref sig .tc := ⟨.hbm, 71, rfl⟩
abbrev main_v52_3 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S384x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x32 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== KvRefIdeal.lean ====
abbrev S16384x384 : Shape := ⟨2, ![16384, 384]⟩
abbrev S256 : Shape := ⟨1, ![256]⟩
abbrev S256x16x64 : Shape := ⟨3, ![256, 16, 64]⟩
abbrev S4x4096x384 : Shape := ⟨3, ![4, 4096, 384]⟩
abbrev S4x4096x256 : Shape := ⟨3, ![4, 4096, 256]⟩
abbrev S_ : Shape := ⟨0, ![]⟩
abbrev S4x4096 : Shape := ⟨2, ![4, 4096]⟩
abbrev S4x4096x1 : Shape := ⟨3, ![4, 4096, 1]⟩
abbrev S1x1x256 : Shape := ⟨3, ![1, 1, 256]⟩
abbrev S4x4096x32 : Shape := ⟨3, ![4, 4096, 32]⟩
abbrev S4096 : Shape := ⟨1, ![4096]⟩
abbrev S16 : Shape := ⟨1, ![16]⟩
abbrev S4096x1 : Shape := ⟨2, ![4096, 1]⟩
abbrev S1x16 : Shape := ⟨2, ![1, 16]⟩
abbrev S4096x16 : Shape := ⟨2, ![4096, 16]⟩
abbrev S1x4096x16 : Shape := ⟨3, ![1, 4096, 16]⟩
abbrev S4x4096x16 : Shape := ⟨3, ![4, 4096, 16]⟩
abbrev S4x4096x16x64 : Shape := ⟨4, ![4, 4096, 16, 64]⟩
abbrev S4x4096x1x32 : Shape := ⟨4, ![4, 4096, 1, 32]⟩
abbrev S4x4096x16x32 : Shape := ⟨4, ![4, 4096, 16, 32]⟩
abbrev S4x4096x16x128 : Shape := ⟨4, ![4, 4096, 16, 128]⟩
abbrev S16384x256 : Shape := ⟨2, ![16384, 256]⟩
abbrev S16384x32 : Shape := ⟨2, ![16384, 32]⟩
abbrev S16384x2048 : Shape := ⟨2, ![16384, 2048]⟩
abbrev S32x512x1024 : Shape := ⟨3, ![32, 512, 1024]⟩
abbrev S32x1024x512 : Shape := ⟨3, ![32, 1024, 512]⟩

abbrev nBuf : Space → Nat
  | .hbm => 69
  | .vmem => 0
  | .smem => 0
  | _ => 0

abbrev bufTy : (tb : Table) → Fin (tcTables nBuf tb) → BufTy
  | .hbm, ⟨0, _⟩ => ⟨S16384x384, .f32⟩
  | .hbm, ⟨1, _⟩ => ⟨S256, .f32⟩
  | .hbm, ⟨2, _⟩ => ⟨S256x16x64, .f32⟩
  | .hbm, ⟨3, _⟩ => ⟨S256x16x64, .f32⟩
  | .hbm, ⟨4, _⟩ => ⟨S4x4096x384, .f32⟩
  | .hbm, ⟨5, _⟩ => ⟨S4x4096x256, .f32⟩
  | .hbm, ⟨6, _⟩ => ⟨S4x4096x256, .f32⟩
  | .hbm, ⟨7, _⟩ => ⟨S_, .f32⟩
  | .hbm, ⟨8, _⟩ => ⟨S4x4096, .f32⟩
  | .hbm, ⟨9, _⟩ => ⟨S4x4096x1, .f32⟩
  | .hbm, ⟨10, _⟩ => ⟨S_, .f32⟩
  | .hbm, ⟨11, _⟩ => ⟨S4x4096x1, .f32⟩
  | .hbm, ⟨12, _⟩ => ⟨S4x4096x1, .f32⟩
  | .hbm, ⟨13, _⟩ => ⟨S_, .f32⟩
  | .hbm, ⟨14, _⟩ => ⟨S4x4096x1, .f32⟩
  | .hbm, ⟨15, _⟩ => ⟨S4x4096x1, .f32⟩
  | .hbm, ⟨16, _⟩ => ⟨S4x4096x1, .f32⟩
  | .hbm, ⟨17, _⟩ => ⟨S4x4096x256, .f32⟩
  | .hbm, ⟨18, _⟩ => ⟨S4x4096x256, .f32⟩
  | .hbm, ⟨19, _⟩ => ⟨S1x1x256, .f32⟩
  | .hbm, ⟨20, _⟩ => ⟨S4x4096x256, .f32⟩
  | .hbm, ⟨21, _⟩ => ⟨S4x4096x256, .f32⟩
  | .hbm, ⟨22, _⟩ => ⟨S4x4096x32, .f32⟩
  | .hbm, ⟨23, _⟩ => ⟨S4096, .i32⟩
  | .hbm, ⟨24, _⟩ => ⟨S16, .f32⟩
  | .hbm, ⟨25, _⟩ => ⟨S16, .f32⟩
  | .hbm, ⟨26, _⟩ => ⟨S_, .f32⟩
  | .hbm, ⟨27, _⟩ => ⟨S16, .f32⟩
  | .hbm, ⟨28, _⟩ => ⟨S16, .f32⟩
  | .hbm, ⟨29, _⟩ => ⟨S_, .f32⟩
  | .hbm, ⟨30, _⟩ => ⟨S16, .f32⟩
  | .hbm, ⟨31, _⟩ => ⟨S16, .f32⟩
  | .hbm, ⟨32, _⟩ => ⟨S4096, .f32⟩
  | .hbm, ⟨33, _⟩ => ⟨S4096x1, .f32⟩
  | .hbm, ⟨34, _⟩ => ⟨S1x16, .f32⟩
  | .hbm, ⟨35, _⟩ => ⟨S4096x16, .f32⟩
  | .hbm, ⟨36, _⟩ => ⟨S4096x16, .f32⟩
  | .hbm, ⟨37, _⟩ => ⟨S4096x16, .f32⟩
  | .hbm, ⟨38, _⟩ => ⟨S4096x16, .f32⟩
  | .hbm, ⟨39, _⟩ => ⟨S1x4096x16, .f32⟩
  | .hbm, ⟨40, _⟩ => ⟨S4096x16, .f32⟩
  | .hbm, ⟨41, _⟩ => ⟨S1x4096x16, .f32⟩
  | .hbm, ⟨42, _⟩ => ⟨S4x4096x16, .f32⟩
  | .hbm, ⟨43, _⟩ => ⟨S4x4096x16, .f32⟩
  | .hbm, ⟨44, _⟩ => ⟨S4x4096x16, .f32⟩
  | .hbm, ⟨45, _⟩ => ⟨S4x4096x16, .f32⟩
  | .hbm, ⟨46, _⟩ => ⟨S4x4096x16, .f32⟩
  | .hbm, ⟨47, _⟩ => ⟨S4x4096x16, .f32⟩
  | .hbm, ⟨48, _⟩ => ⟨S4x4096x16, .f32⟩
  | .hbm, ⟨49, _⟩ => ⟨S4x4096x16, .f32⟩
  | .hbm, ⟨50, _⟩ => ⟨S4x4096x16, .f32⟩
  | .hbm, ⟨51, _⟩ => ⟨S4x4096x16, .f32⟩
  | .hbm, ⟨52, _⟩ => ⟨S4x4096x16, .f32⟩
  | .hbm, ⟨53, _⟩ => ⟨S4x4096x16, .f32⟩
  | .hbm, ⟨54, _⟩ => ⟨S4x4096x32, .f32⟩
  | .hbm, ⟨55, _⟩ => ⟨S4x4096x16x64, .f32⟩
  | .hbm, ⟨56, _⟩ => ⟨S4x4096x16x64, .f32⟩
  | .hbm, ⟨57, _⟩ => ⟨S4x4096x1x32, .f32⟩
  | .hbm, ⟨58, _⟩ => ⟨S4x4096x16x32, .f32⟩
  | .hbm, ⟨59, _⟩ => ⟨S_, .f32⟩
  | .hbm, ⟨60, _⟩ => ⟨S4x4096x16x32, .f32⟩
  | .hbm, ⟨61, _⟩ => ⟨S4x4096x16x128, .f32⟩
  | .hbm, ⟨62, _⟩ => ⟨S16384x256, .f32⟩
  | .hbm, ⟨63, _⟩ => ⟨S16384x32, .f32⟩
  | .hbm, ⟨64, _⟩ => ⟨S16384x2048, .f32⟩
  | .hbm, ⟨65, _⟩ => ⟨S16384x2048, .bf16⟩
  | .hbm, ⟨66, _⟩ => ⟨S32x512x1024, .f32⟩
  | .hbm, ⟨67, _⟩ => ⟨S32x1024x512, .f32⟩
  | .hbm, ⟨68, _⟩ => ⟨S32x1024x512, .bf16⟩
  | _, _ => ⟨S16384x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_cst_4 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩

abbrev nD : Nat := 1
abbrev τ : Topo := Topo.v7x

variable {F : FTy → Type} [FloatOps F]
-- ==== Q.lean ====
abbrev S16384x7680 : Shape := ⟨2, ![16384, 7680]⟩
abbrev S512 : Shape := ⟨1, ![512]⟩
abbrev S512x1536 : Shape := ⟨2, ![512, 1536]⟩
abbrev S512x16x96 : Shape := ⟨3, ![512, 16, 96]⟩
abbrev S_ : Shape := ⟨0, ![]⟩
abbrev S512x16x128 : Shape := ⟨3, ![512, 16, 128]⟩
abbrev S1x512 : Shape := ⟨2, ![1, 512]⟩
abbrev S512x2048 : Shape := ⟨2, ![512, 2048]⟩
abbrev S4096 : Shape := ⟨1, ![4096]⟩
abbrev S16 : Shape := ⟨1, ![16]⟩
abbrev S4096x1 : Shape := ⟨2, ![4096, 1]⟩
abbrev S1x16 : Shape := ⟨2, ![1, 16]⟩
abbrev S4096x16 : Shape := ⟨2, ![4096, 16]⟩
abbrev S4096x64 : Shape := ⟨2, ![4096, 64]⟩
abbrev S4096x32 : Shape := ⟨2, ![4096, 32]⟩
abbrev S4096x128 : Shape := ⟨2, ![4096, 128]⟩
abbrev S4096x80 : Shape := ⟨2, ![4096, 80]⟩
abbrev S4096x48 : Shape := ⟨2, ![4096, 48]⟩
abbrev S1x4096x1x128 : Shape := ⟨4, ![1, 4096, 1, 128]⟩
abbrev S16384x2048 : Shape := ⟨2, ![16384, 2048]⟩
abbrev S512x512 : Shape := ⟨2, ![512, 512]⟩
abbrev S512x128 : Shape := ⟨2, ![512, 128]⟩
abbrev S512x1 : Shape := ⟨2, ![512, 1]⟩

abbrev nBuf : Space → Nat
  | .hbm => 53
  | .vmem => 12
  | .smem => 0
  | _ => 0

abbrev bufTy : (tb : Table) → Fin (tcTables nBuf tb) → BufTy
  | .hbm, ⟨0, _⟩ => ⟨S16384x7680, .bf16⟩
  | .hbm, ⟨1, _⟩ => ⟨S512, .f32⟩
  | .hbm, ⟨2, _⟩ => ⟨S512x1536, .f32⟩
  | .hbm, ⟨3, _⟩ => ⟨S512x16x96, .f32⟩
  | .hbm, ⟨4, _⟩ => ⟨S_, .i32⟩
  | .hbm, ⟨5, _⟩ => ⟨S_, .f32⟩
  | .hbm, ⟨6, _⟩ => ⟨S512x16x128, .f32⟩
  | .hbm, ⟨7, _⟩ => ⟨S1x512, .f32⟩
  | .hbm, ⟨8, _⟩ => ⟨S512x2048, .f32⟩
  | .hbm, ⟨9, _⟩ => ⟨S512x2048, .bf16⟩
  | .hbm, ⟨10, _⟩ => ⟨S4096, .i32⟩
  | .hbm, ⟨11, _⟩ => ⟨S16, .f32⟩
  | .hbm, ⟨12, _⟩ => ⟨S16, .f32⟩
  | .hbm, ⟨13, _⟩ => ⟨S_, .f32⟩
  | .hbm, ⟨14, _⟩ => ⟨S16, .f32⟩
  | .hbm, ⟨15, _⟩ => ⟨S16, .f32⟩
  | .hbm, ⟨16, _⟩ => ⟨S_, .f32⟩
  | .hbm, ⟨17, _⟩ => ⟨S16, .f32⟩
  | .hbm, ⟨18, _⟩ => ⟨S16, .f32⟩
  | .hbm, ⟨19, _⟩ => ⟨S4096, .f32⟩
  | .hbm, ⟨20, _⟩ => ⟨S4096x1, .f32⟩
  | .hbm, ⟨21, _⟩ => ⟨S1x16, .f32⟩
  | .hbm, ⟨22, _⟩ => ⟨S4096x16, .f32⟩
  | .hbm, ⟨23, _⟩ => ⟨S4096x16, .f32⟩
  | .hbm, ⟨24, _⟩ => ⟨S4096x16, .f32⟩
  | .hbm, ⟨25, _⟩ => ⟨S4096x16, .f32⟩
  | .hbm, ⟨26, _⟩ => ⟨S4096x16, .f32⟩
  | .hbm, ⟨27, _⟩ => ⟨S_, .f32⟩
  | .hbm, ⟨28, _⟩ => ⟨S4096x64, .f32⟩
  | .hbm, ⟨29, _⟩ => ⟨S_, .f32⟩
  | .hbm, ⟨30, _⟩ => ⟨S4096x32, .f32⟩
  | .hbm, ⟨31, _⟩ => ⟨S4096x128, .f32⟩
  | .hbm, ⟨32, _⟩ => ⟨S_, .f32⟩
  | .hbm, ⟨33, _⟩ => ⟨S4096x80, .f32⟩
  | .hbm, ⟨34, _⟩ => ⟨S_, .f32⟩
  | .hbm, ⟨35, _⟩ => ⟨S4096x32, .f32⟩
  | .hbm, ⟨36, _⟩ => ⟨S4096x128, .f32⟩
  | .hbm, ⟨37, _⟩ => ⟨S_, .f32⟩
  | .hbm, ⟨38, _⟩ => ⟨S4096x64, .f32⟩
  | .hbm, ⟨39, _⟩ => ⟨S4096x16, .f32⟩
  | .hbm, ⟨40, _⟩ => ⟨S_, .f32⟩
  | .hbm, ⟨41, _⟩ => ⟨S4096x48, .f32⟩
  | .hbm, ⟨42, _⟩ => ⟨S4096x128, .f32⟩
  | .hbm, ⟨43, _⟩ => ⟨S1x4096x1x128, .f32⟩
  | .hbm, ⟨44, _⟩ => ⟨S1x4096x1x128, .f32⟩
  | .hbm, ⟨45, _⟩ => ⟨S4096x128, .f32⟩
  | .hbm, ⟨46, _⟩ => ⟨S1x4096x1x128, .f32⟩
  | .hbm, ⟨47, _⟩ => ⟨S1x4096x1x128, .f32⟩
  | .hbm, ⟨48, _⟩ => ⟨S4096x128, .f32⟩
  | .hbm, ⟨49, _⟩ => ⟨S1x4096x1x128, .f32⟩
  | .hbm, ⟨50, _⟩ => ⟨S1x4096x1x128, .f32⟩
  | .hbm, ⟨51, _⟩ => ⟨S4096x128, .f32⟩
  | .hbm, ⟨52, _⟩ => ⟨S16384x2048, .bf16⟩
  | .local _ .vmem, ⟨0, _⟩ => ⟨S512x512, .bf16⟩
  | .local _ .vmem, ⟨1, _⟩ => ⟨S512x512, .bf16⟩
  | .local _ .vmem, ⟨2, _⟩ => ⟨S1x512, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x2048, .bf16⟩
  | .local _ .vmem, ⟨10, _⟩ => ⟨S512x2048, .bf16⟩
  | .local _ .vmem, ⟨11, _⟩ => ⟨S512x2048, .bf16⟩
  | _, _ => ⟨S16384x7680, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_1 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c14_i32 : BitVec 32 := 14#32
  let c0_i32 : BitVec 32 := 0#32
  ![arg0.toNat, c14_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== QIdeal.lean ====
variable {F : FTy → Type} [FloatOps F] [Named F]
def κ : String → Option EReal := fun
  | "scale" => some ((((Real.sqrt 96) * (Real.log 2))⁻¹ : ℝ) : EReal)
  | _ => none
-- ==== QRefIdeal.lean ====
abbrev S16384x7680 : Shape := ⟨2, ![16384, 7680]⟩
abbrev S512 : Shape := ⟨1, ![512]⟩
abbrev S512x1536 : Shape := ⟨2, ![512, 1536]⟩
abbrev S16384x512 : Shape := ⟨2, ![16384, 512]⟩
abbrev S4x4096x512 : Shape := ⟨3, ![4, 4096, 512]⟩
abbrev S_ : Shape := ⟨0, ![]⟩
abbrev S4x4096 : Shape := ⟨2, ![4, 4096]⟩
abbrev S4x4096x1 : Shape := ⟨3, ![4, 4096, 1]⟩
abbrev S1x1x512 : Shape := ⟨3, ![1, 1, 512]⟩
abbrev S4x4096x1536 : Shape := ⟨3, ![4, 4096, 1536]⟩
abbrev S4x4096x16x96 : Shape := ⟨4, ![4, 4096, 16, 96]⟩
abbrev S4x4096x16x64 : Shape := ⟨4, ![4, 4096, 16, 64]⟩
abbrev S4x4096x16x32 : Shape := ⟨4, ![4, 4096, 16, 32]⟩
abbrev S4096 : Shape := ⟨1, ![4096]⟩
abbrev S16 : Shape := ⟨1, ![16]⟩
abbrev S4096x1 : Shape := ⟨2, ![4096, 1]⟩
abbrev S1x16 : Shape := ⟨2, ![1, 16]⟩
abbrev S4096x16 : Shape := ⟨2, ![4096, 16]⟩
abbrev S1x4096x1x16 : Shape := ⟨4, ![1, 4096, 1, 16]⟩
abbrev S4x4096x16x16 : Shape := ⟨4, ![4, 4096, 16, 16]⟩
abbrev S4x4096x16x128 : Shape := ⟨4, ![4, 4096, 16, 128]⟩
abbrev S16384x2048 : Shape := ⟨2, ![16384, 2048]⟩

abbrev nBuf : Space → Nat
  | .hbm => 71
  | .vmem => 0
  | .smem => 0
  | _ => 0

abbrev bufTy : (tb : Table) → Fin (tcTables nBuf tb) → BufTy
  | .hbm, ⟨0, _⟩ => ⟨S16384x7680, .bf16⟩
  | .hbm, ⟨1, _⟩ => ⟨S512, .f32⟩
  | .hbm, ⟨2, _⟩ => ⟨S512x1536, .f32⟩
  | .hbm, ⟨3, _⟩ => ⟨S16384x512, .bf16⟩
  | .hbm, ⟨4, _⟩ => ⟨S16384x512, .f32⟩
  | .hbm, ⟨5, _⟩ => ⟨S4x4096x512, .f32⟩
  | .hbm, ⟨6, _⟩ => ⟨S4x4096x512, .f32⟩
  | .hbm, ⟨7, _⟩ => ⟨S_, .f32⟩
  | .hbm, ⟨8, _⟩ => ⟨S4x4096, .f32⟩
  | .hbm, ⟨9, _⟩ => ⟨S4x4096x1, .f32⟩
  | .hbm, ⟨10, _⟩ => ⟨S_, .f32⟩
  | .hbm, ⟨11, _⟩ => ⟨S4x4096x1, .f32⟩
  | .hbm, ⟨12, _⟩ => ⟨S4x4096x1, .f32⟩
  | .hbm, ⟨13, _⟩ => ⟨S_, .f32⟩
  | .hbm, ⟨14, _⟩ => ⟨S4x4096x1, .f32⟩
  | .hbm, ⟨15, _⟩ => ⟨S4x4096x1, .f32⟩
  | .hbm, ⟨16, _⟩ => ⟨S4x4096x1, .f32⟩
  | .hbm, ⟨17, _⟩ => ⟨S4x4096x512, .f32⟩
  | .hbm, ⟨18, _⟩ => ⟨S4x4096x512, .f32⟩
  | .hbm, ⟨19, _⟩ => ⟨S1x1x512, .f32⟩
  | .hbm, ⟨20, _⟩ => ⟨S4x4096x512, .f32⟩
  | .hbm, ⟨21, _⟩ => ⟨S4x4096x512, .f32⟩
  | .hbm, ⟨22, _⟩ => ⟨S4x4096x1536, .f32⟩
  | .hbm, ⟨23, _⟩ => ⟨S4x4096x16x96, .f32⟩
  | .hbm, ⟨24, _⟩ => ⟨S4x4096x16x64, .f32⟩
  | .hbm, ⟨25, _⟩ => ⟨S4x4096x16x32, .f32⟩
  | .hbm, ⟨26, _⟩ => ⟨S4096, .i32⟩
  | .hbm, ⟨27, _⟩ => ⟨S16, .f32⟩
  | .hbm, ⟨28, _⟩ => ⟨S16, .f32⟩
  | .hbm, ⟨29, _⟩ => ⟨S_, .f32⟩
  | .hbm, ⟨30, _⟩ => ⟨S16, .f32⟩
  | .hbm, ⟨31, _⟩ => ⟨S16, .f32⟩
  | .hbm, ⟨32, _⟩ => ⟨S_, .f32⟩
  | .hbm, ⟨33, _⟩ => ⟨S16, .f32⟩
  | .hbm, ⟨34, _⟩ => ⟨S16, .f32⟩
  | .hbm, ⟨35, _⟩ => ⟨S4096, .f32⟩
  | .hbm, ⟨36, _⟩ => ⟨S4096x1, .f32⟩
  | .hbm, ⟨37, _⟩ => ⟨S1x16, .f32⟩
  | .hbm, ⟨38, _⟩ => ⟨S4096x16, .f32⟩
  | .hbm, ⟨39, _⟩ => ⟨S4096x16, .f32⟩
  | .hbm, ⟨40, _⟩ => ⟨S4096x16, .f32⟩
  | .hbm, ⟨41, _⟩ => ⟨S4096x16, .f32⟩
  | .hbm, ⟨42, _⟩ => ⟨S1x4096x1x16, .f32⟩
  | .hbm, ⟨43, _⟩ => ⟨S4096x16, .f32⟩
  | .hbm, ⟨44, _⟩ => ⟨S1x4096x1x16, .f32⟩
  | .hbm, ⟨45, _⟩ => ⟨S4x4096x16x16, .f32⟩
  | .hbm, ⟨46, _⟩ => ⟨S4x4096x16x16, .f32⟩
  | .hbm, ⟨47, _⟩ => ⟨S4x4096x16x16, .f32⟩
  | .hbm, ⟨48, _⟩ => ⟨S4x4096x16x16, .f32⟩
  | .hbm, ⟨49, _⟩ => ⟨S4x4096x16x16, .f32⟩
  | .hbm, ⟨50, _⟩ => ⟨S4x4096x16x16, .f32⟩
  | .hbm, ⟨51, _⟩ => ⟨S4x4096x16x16, .f32⟩
  | .hbm, ⟨52, _⟩ => ⟨S4x4096x16x16, .f32⟩
  | .hbm, ⟨53, _⟩ => ⟨S4x4096x16x16, .f32⟩
  | .hbm, ⟨54, _⟩ => ⟨S4x4096x16x16, .f32⟩
  | .hbm, ⟨55, _⟩ => ⟨S4x4096x16x16, .f32⟩
  | .hbm, ⟨56, _⟩ => ⟨S4x4096x16x16, .f32⟩
  | .hbm, ⟨57, _⟩ => ⟨S4x4096x16x32, .f32⟩
  | .hbm, ⟨58, _⟩ => ⟨S_, .f32⟩
  | .hbm, ⟨59, _⟩ => ⟨S4x4096x16x32, .f32⟩
  | .hbm, ⟨60, _⟩ => ⟨S4x4096x16x128, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S4x4096x16x128, .f32⟩
  | .hbm, ⟨68, _⟩ => ⟨S4x4096x16x128, .f32⟩
  | .hbm, ⟨69, _⟩ => ⟨S16384x2048, .f32⟩
  | .hbm, ⟨70, _⟩ => ⟨S16384x2048, .bf16⟩
  | _, _ => ⟨S16384x7680, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_2 : Ref sig .tc := ⟨.hbm, 29, rfl⟩
abbrev main_v23 : Ref sig .tc := ⟨.hbm, 30, rfl⟩
abbrev main_v24 : Ref sig .tc := ⟨.hbm, 31, rfl⟩
abbrev main_cst_3 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_cst_4 : Ref sig .tc := ⟨.hbm, 58, rfl⟩
abbrev main_v50 : Ref sig .tc := ⟨.hbm, 59, rfl⟩
abbrev main_v51 : Ref sig .tc := ⟨.hbm, 60, rfl⟩
abbrev main_cst_5 : Ref sig .tc := ⟨.hbm, 61, rfl⟩
abbrev main_v52 : Ref sig .tc := ⟨.hbm, 62, rfl⟩
abbrev main_cst_6 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩

abbrev nD : Nat := 1
abbrev τ : Topo := Topo.v7x

variable {F : FTy → Type} [FloatOps F]
-- ==== TailS.lean ====
abbrev S128x8x1024 : Shape := ⟨3, ![128, 8, 1024]⟩
abbrev S4x128x8x256 : Shape := ⟨4, ![4, 128, 8, 256]⟩
abbrev S4x1024 : Shape := ⟨2, ![4, 1024]⟩
abbrev S4x1024x5632 : Shape := ⟨3, ![4, 1024, 5632]⟩
abbrev S4x2816x1024 : Shape := ⟨3, ![4, 2816, 1024]⟩
abbrev S4x1024x1024 : Shape := ⟨3, ![4, 1024, 1024]⟩
abbrev S4x256x1024 : Shape := ⟨3, ![4, 256, 1024]⟩
abbrev S1024 : Shape := ⟨1, ![1024]⟩
abbrev S1x1024 : Shape := ⟨2, ![1, 1024]⟩
abbrev S1024x1024 : Shape := ⟨2, ![1024, 1024]⟩
abbrev S1x128x8x256 : Shape := ⟨4, ![1, 128, 8, 256]⟩
abbrev S128x8x256 : Shape := ⟨3, ![128, 8, 256]⟩
abbrev S1024x256 : Shape := ⟨2, ![1024, 256]⟩
abbrev S512x1024 : Shape := ⟨2, ![512, 1024]⟩
abbrev S1x1024x5632 : Shape := ⟨3, ![1, 1024, 5632]⟩
abbrev S1x2816x1024 : Shape := ⟨3, ![1, 2816, 1024]⟩
abbrev S512x256 : Shape := ⟨2, ![512, 256]⟩
abbrev S1x1024x1024 : Shape := ⟨3, ![1, 1024, 1024]⟩
abbrev S1x256x1024 : Shape := ⟨3, ![1, 256, 1024]⟩
abbrev S512 : Shape := ⟨1, ![512]⟩
abbrev S512x1 : Shape := ⟨2, ![512, 1]⟩
abbrev S1x1024x2816 : Shape := ⟨3, ![1, 1024, 2816]⟩
abbrev S1024x2816 : Shape := ⟨2, ![1024, 2816]⟩
abbrev S512x2816 : Shape := ⟨2, ![512, 2816]⟩
abbrev S2816x1024 : Shape := ⟨2, ![2816, 1024]⟩
abbrev S256x1024 : Shape := ⟨2, ![256, 1024]⟩

abbrev nBuf : Space → Nat
  | .hbm => 25
  | .vmem => 13
  | .smem => 0
  | _ => 0

abbrev bufTy : (tb : Table) → Fin (tcTables nBuf tb) → BufTy
  | .hbm, ⟨0, _⟩ => ⟨S128x8x1024, .f32⟩
  | .hbm, ⟨1, _⟩ => ⟨S4x128x8x256, .f32⟩
  | .hbm, ⟨2, _⟩ => ⟨S4x1024, .f32⟩
  | .hbm, ⟨3, _⟩ => ⟨S4x1024x5632, .f32⟩
  | .hbm, ⟨4, _⟩ => ⟨S4x2816x1024, .f32⟩
  | .hbm, ⟨5, _⟩ => ⟨S4x1024, .f32⟩
  | .hbm, ⟨6, _⟩ => ⟨S4x1024x1024, .f32⟩
  | .hbm, ⟨7, _⟩ => ⟨S4x256x1024, .f32⟩
  | .hbm, ⟨8, _⟩ => ⟨S1024, .f32⟩
  | .hbm, ⟨9, _⟩ => ⟨S4x1024x5632, .bf16⟩
  | .hbm, ⟨10, _⟩ => ⟨S4x2816x1024, .bf16⟩
  | .hbm, ⟨11, _⟩ => ⟨S4x1024x1024, .bf16⟩
  | .hbm, ⟨12, _⟩ => ⟨S4x256x1024, .bf16⟩
  | .hbm, ⟨13, _⟩ => ⟨S1x1024, .f32⟩
  | .hbm, ⟨14, _⟩ => ⟨S1024, .f32⟩
  | .hbm, ⟨15, _⟩ => ⟨S1x1024, .f32⟩
  | .hbm, ⟨16, _⟩ => ⟨S1x1024, .f32⟩
  | .hbm, ⟨17, _⟩ => ⟨S1024, .f32⟩
  | .hbm, ⟨18, _⟩ => ⟨S1x1024, .f32⟩
  | .hbm, ⟨19, _⟩ => ⟨S1024x1024, .f32⟩
  | .hbm, ⟨20, _⟩ => ⟨S1x128x8x256, .f32⟩
  | .hbm, ⟨21, _⟩ => ⟨S128x8x256, .f32⟩
  | .hbm, ⟨22, _⟩ => ⟨S1024x256, .f32⟩
  | .hbm, ⟨23, _⟩ => ⟨S1x1024, .f32⟩
  | .hbm, ⟨24, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024x5632, .bf16⟩
  | .local _ .vmem, ⟨4, _⟩ => ⟨S1x2816x1024, .bf16⟩
  | .local _ .vmem, ⟨5, _⟩ => ⟨S512x256, .f32⟩
  | .local _ .vmem, ⟨6, _⟩ => ⟨S512x256, .f32⟩
  | .local _ .vmem, ⟨7, _⟩ => ⟨S1x1024, .f32⟩
  | .local _ .vmem, ⟨8, _⟩ => ⟨S1x1024x1024, .bf16⟩
  | .local _ .vmem, ⟨9, _⟩ => ⟨S1x256x1024, .bf16⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | _, _ => ⟨S128x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_7 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== TailSRefIdeal.lean ====
abbrev S128x8x1024 : Shape := ⟨3, ![128, 8, 1024]⟩
abbrev S4x128x8x256 : Shape := ⟨4, ![4, 128, 8, 256]⟩
abbrev S4x1024 : Shape := ⟨2, ![4, 1024]⟩
abbrev S4x1024x5632 : Shape := ⟨3, ![4, 1024, 5632]⟩
abbrev S4x2816x1024 : Shape := ⟨3, ![4, 2816, 1024]⟩
abbrev S4x1024x1024 : Shape := ⟨3, ![4, 1024, 1024]⟩
abbrev S4x256x1024 : Shape := ⟨3, ![4, 256, 1024]⟩
abbrev S1024 : Shape := ⟨1, ![1024]⟩
abbrev S1x1024 : Shape := ⟨2, ![1, 1024]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S_ : Shape := ⟨0, ![]⟩
abbrev S128x8 : Shape := ⟨2, ![128, 8]⟩
abbrev S128x8x1 : Shape := ⟨3, ![128, 8, 1]⟩
abbrev S1x1x1024 : Shape := ⟨3, ![1, 1, 1024]⟩
abbrev S128x8x5632 : Shape := ⟨3, ![128, 8, 5632]⟩
abbrev S128x8x2816 : Shape := ⟨3, ![128, 8, 2816]⟩
abbrev S1x1024x1024 : Shape := ⟨3, ![1, 1024, 1024]⟩
abbrev S1024x1024 : Shape := ⟨2, ![1024, 1024]⟩
abbrev S1x128x8x256 : Shape := ⟨4, ![1, 128, 8, 256]⟩
abbrev S128x8x256 : Shape := ⟨3, ![128, 8, 256]⟩
abbrev S1x256x1024 : Shape := ⟨3, ![1, 256, 1024]⟩
abbrev S256x1024 : Shape := ⟨2, ![256, 1024]⟩

abbrev nBuf : Space → Nat
  | .hbm => 102
  | .vmem => 0
  | .smem => 0
  | _ => 0

abbrev bufTy : (tb : Table) → Fin (tcTables nBuf tb) → BufTy
  | .hbm, ⟨0, _⟩ => ⟨S128x8x1024, .f32⟩
  | .hbm, ⟨1, _⟩ => ⟨S4x128x8x256, .f32⟩
  | .hbm, ⟨2, _⟩ => ⟨S4x1024, .f32⟩
  | .hbm, ⟨3, _⟩ => ⟨S4x1024x5632, .f32⟩
  | .hbm, ⟨4, _⟩ => ⟨S4x2816x1024, .f32⟩
  | .hbm, ⟨5, _⟩ => ⟨S4x1024, .f32⟩
  | .hbm, ⟨6, _⟩ => ⟨S4x1024x1024, .f32⟩
  | .hbm, ⟨7, _⟩ => ⟨S4x256x1024, .f32⟩
  | .hbm, ⟨8, _⟩ => ⟨S1024, .f32⟩
  | .hbm, ⟨9, _⟩ => ⟨S1x1024, .f32⟩
  | .hbm, ⟨10, _⟩ => ⟨S1024, .f32⟩
  | .hbm, ⟨11, _⟩ => ⟨S1x1024x5632, .f32⟩
  | .hbm, ⟨12, _⟩ => ⟨S1024x5632, .f32⟩
  | .hbm, ⟨13, _⟩ => ⟨S1x2816x1024, .f32⟩
  | .hbm, ⟨14, _⟩ => ⟨S2816x1024, .f32⟩
  | .hbm, ⟨15, _⟩ => ⟨S128x8x1024, .f32⟩
  | .hbm, ⟨16, _⟩ => ⟨S_, .f32⟩
  | .hbm, ⟨17, _⟩ => ⟨S128x8, .f32⟩
  | .hbm, ⟨18, _⟩ => ⟨S128x8x1, .f32⟩
  | .hbm, ⟨19, _⟩ => ⟨S_, .f32⟩
  | .hbm, ⟨20, _⟩ => ⟨S128x8x1, .f32⟩
  | .hbm, ⟨21, _⟩ => ⟨S128x8x1, .f32⟩
  | .hbm, ⟨22, _⟩ => ⟨S_, .f32⟩
  | .hbm, ⟨23, _⟩ => ⟨S128x8x1, .f32⟩
  | .hbm, ⟨24, _⟩ => ⟨S128x8x1, .f32⟩
  | .hbm, ⟨25, _⟩ => ⟨S128x8x1, .f32⟩
  | .hbm, ⟨26, _⟩ => ⟨S128x8x1024, .f32⟩
  | .hbm, ⟨27, _⟩ => ⟨S128x8x1024, .f32⟩
  | .hbm, ⟨28, _⟩ => ⟨S1x1x1024, .f32⟩
  | .hbm, ⟨29, _⟩ => ⟨S128x8x1024, .f32⟩
  | .hbm, ⟨30, _⟩ => ⟨S128x8x1024, .f32⟩
  | .hbm, ⟨31, _⟩ => ⟨S128x8x5632, .f32⟩
  | .hbm, ⟨32, _⟩ => ⟨S128x8x2816, .f32⟩
  | .hbm, ⟨33, _⟩ => ⟨S128x8x2816, .f32⟩
  | .hbm, ⟨34, _⟩ => ⟨S128x8x2816, .f32⟩
  | .hbm, ⟨35, _⟩ => ⟨S128x8x2816, .f32⟩
  | .hbm, ⟨36, _⟩ => ⟨S_, .f32⟩
  | .hbm, ⟨37, _⟩ => ⟨S128x8x2816, .f32⟩
  | .hbm, ⟨38, _⟩ => ⟨S128x8x2816, .f32⟩
  | .hbm, ⟨39, _⟩ => ⟨S_, .f32⟩
  | .hbm, ⟨40, _⟩ => ⟨S128x8x2816, .f32⟩
  | .hbm, ⟨41, _⟩ => ⟨S128x8x2816, .f32⟩
  | .hbm, ⟨42, _⟩ => ⟨S128x8x2816, .f32⟩
  | .hbm, ⟨43, _⟩ => ⟨S128x8x2816, .f32⟩
  | .hbm, ⟨44, _⟩ => ⟨S128x8x1024, .f32⟩
  | .hbm, ⟨45, _⟩ => ⟨S_, .f32⟩
  | .hbm, ⟨46, _⟩ => ⟨S128x8x1024, .f32⟩
  | .hbm, ⟨47, _⟩ => ⟨S128x8x1024, .f32⟩
  | .hbm, ⟨48, _⟩ => ⟨S128x8x1024, .f32⟩
  | .hbm, ⟨49, _⟩ => ⟨S1x1024, .f32⟩
  | .hbm, ⟨50, _⟩ => ⟨S1024, .f32⟩
  | .hbm, ⟨51, _⟩ => ⟨S128x8x1024, .f32⟩
  | .hbm, ⟨52, _⟩ => ⟨S_, .f32⟩
  | .hbm, ⟨53, _⟩ => ⟨S128x8, .f32⟩
  | .hbm, ⟨54, _⟩ => ⟨S128x8x1, .f32⟩
  | .hbm, ⟨55, _⟩ => ⟨S_, .f32⟩
  | .hbm, ⟨56, _⟩ => ⟨S128x8x1, .f32⟩
  | .hbm, ⟨57, _⟩ => ⟨S128x8x1, .f32⟩
  | .hbm, ⟨58, _⟩ => ⟨S_, .f32⟩
  | .hbm, ⟨59, _⟩ => ⟨S128x8x1, .f32⟩
  | .hbm, ⟨60, _⟩ => ⟨S128x8x1, .f32⟩
  | .hbm, ⟨61, _⟩ => ⟨S128x8x1, .f32⟩
  | .hbm, ⟨62, _⟩ => ⟨S128x8x1024, .f32⟩
  | .hbm, ⟨63, _⟩ => ⟨S128x8x1024, .f32⟩
  | .hbm, ⟨64, _⟩ => ⟨S1x1x1024, .f32⟩
  | .hbm, ⟨65, _⟩ => ⟨S128x8x1024, .f32⟩
  | .hbm, ⟨66, _⟩ => ⟨S128x8x1024, .f32⟩
  | .hbm, ⟨67, _⟩ => ⟨S1x1024x1024, .f32⟩
  | .hbm, ⟨68, _⟩ => ⟨S1024x1024, .f32⟩
  | .hbm, ⟨69, _⟩ => ⟨S128x8x1024, .f32⟩
  | .hbm, ⟨70, _⟩ => ⟨S128x8x1024, .f32⟩
  | .hbm, ⟨71, _⟩ => ⟨S128x8x1024, .f32⟩
  | .hbm, ⟨72, _⟩ => ⟨S_, .f32⟩
  | .hbm, ⟨73, _⟩ => ⟨S128x8x1024, .f32⟩
  | .hbm, ⟨74, _⟩ => ⟨S128x8x1024, .f32⟩
  | .hbm, ⟨75, _⟩ => ⟨S_, .f32⟩
  | .hbm, ⟨76, _⟩ => ⟨S128x8x1024, .f32⟩
  | .hbm, ⟨77, _⟩ => ⟨S128x8x1024, .f32⟩
  | .hbm, ⟨78, _⟩ => ⟨S1x128x8x256, .f32⟩
  | .hbm, ⟨79, _⟩ => ⟨S128x8x256, .f32⟩
  | .hbm, ⟨80, _⟩ => ⟨S1x256x1024, .f32⟩
  | .hbm, ⟨81, _⟩ => ⟨S256x1024, .f32⟩
  | .hbm, ⟨82, _⟩ => ⟨S128x8x1024, .f32⟩
  | .hbm, ⟨83, _⟩ => ⟨S128x8x1024, .f32⟩
  | .hbm, ⟨84, _⟩ => ⟨S128x8x1024, .f32⟩
  | .hbm, ⟨85, _⟩ => ⟨S128x8x1024, .f32⟩
  | .hbm, ⟨86, _⟩ => ⟨S_, .f32⟩
  | .hbm, ⟨87, _⟩ => ⟨S128x8, .f32⟩
  | .hbm, ⟨88, _⟩ => ⟨S128x8x1, .f32⟩
  | .hbm, ⟨89, _⟩ => ⟨S_, .f32⟩
  | .hbm, ⟨90, _⟩ => ⟨S128x8x1, .f32⟩
  | .hbm, ⟨91, _⟩ => ⟨S128x8x1, .f32⟩
  | .hbm, ⟨92, _⟩ => ⟨S_, .f32⟩
  | .hbm, ⟨93, _⟩ => ⟨S128x8x1, .f32⟩
  | .hbm, ⟨94, _⟩ => ⟨S128x8x1, .f32⟩
  | .hbm, ⟨95, _⟩ => ⟨S128x8x1, .f32⟩
  | .hbm, ⟨96, _⟩ => ⟨S128x8x1024, .f32⟩
  | .hbm, ⟨97, _⟩ => ⟨S128x8x1024, .f32⟩
  | .hbm, ⟨98, _⟩ => ⟨S1x1x1024, .f32⟩
  | .hbm, ⟨99, _⟩ => ⟨S128x8x1024, .f32⟩
  | .hbm, ⟨100, _⟩ => ⟨S128x8x1024, .f32⟩
  | .hbm, ⟨101, _⟩ => ⟨S1024x1024, .f32⟩
  | _, _ => ⟨S128x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_2 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_3 : Ref sig .tc := ⟨.hbm, 52, rfl⟩
abbrev main_v31 : Ref sig .tc := ⟨.hbm, 53, rfl⟩
abbrev main_v32 : Ref sig .tc := ⟨.hbm, 54, rfl⟩
abbrev main_cst_4 : Ref sig .tc := ⟨.hbm, 55, rfl⟩
abbrev main_v33 : Ref sig .tc := ⟨.hbm, 56, rfl⟩
abbrev main_v34 : Ref sig .tc := ⟨.hbm, 57, rfl⟩
abbrev main_cst_5 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_6 : Ref sig .tc := ⟨.hbm, 72, rfl⟩
abbrev main_v48 : Ref sig .tc := ⟨.hbm, 73, rfl⟩
abbrev main_v49 : Ref sig .tc := ⟨.hbm, 74, rfl⟩
abbrev main_cst_7 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_8 : Ref sig .tc := ⟨.hbm, 86, rfl⟩
abbrev main_v60 : Ref sig .tc := ⟨.hbm, 87, rfl⟩
abbrev main_v61 : Ref sig .tc := ⟨.hbm, 88, rfl⟩
abbrev main_cst_9 : Ref sig .tc := ⟨.hbm, 89, rfl⟩
abbrev main_v62 : Ref sig .tc := ⟨.hbm, 90, rfl⟩
abbrev main_v63 : Ref sig .tc := ⟨.hbm, 91, rfl⟩
abbrev main_cst_10 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩

abbrev nD : Nat := 1
abbrev τ : Topo := Topo.v7x

variable {F : FTy → Type} [FloatOps F]
-- ==== KvS.lean ====
abbrev S1024x384 : Shape := ⟨2, ![1024, 384]⟩
abbrev S256 : Shape := ⟨1, ![256]⟩
abbrev S256x16x64 : Shape := ⟨3, ![256, 16, 64]⟩
abbrev S_ : Shape := ⟨0, ![]⟩
abbrev S256x16x128 : Shape := ⟨3, ![256, 16, 128]⟩
abbrev S256x2048 : Shape := ⟨2, ![256, 2048]⟩
abbrev S32x32 : Shape := ⟨2, ![32, 32]⟩
abbrev S128x128 : Shape := ⟨2, ![128, 128]⟩
abbrev S128x1x128 : Shape := ⟨3, ![128, 1, 128]⟩
abbrev S128x16x128 : Shape := ⟨3, ![128, 16, 128]⟩
abbrev S128x2048 : Shape := ⟨2, ![128, 2048]⟩
abbrev S1x256 : Shape := ⟨2, ![1, 256]⟩
abbrev S384x2048 : Shape := ⟨2, ![384, 2048]⟩
abbrev S256x1024 : Shape := ⟨2, ![256, 1024]⟩
abbrev S1024x256 : Shape := ⟨2, ![1024, 256]⟩
abbrev S8 : Shape := ⟨1, ![8]⟩
abbrev S16 : Shape := ⟨1, ![16]⟩
abbrev S8x1 : Shape := ⟨2, ![8, 1]⟩
abbrev S1x16 : Shape := ⟨2, ![1, 16]⟩
abbrev S8x16 : Shape := ⟨2, ![8, 16]⟩
abbrev S8x64 : Shape := ⟨2, ![8, 64]⟩
abbrev S8x32 : Shape := ⟨2, ![8, 32]⟩
abbrev S8x128 : Shape := ⟨2, ![8, 128]⟩
abbrev S8x80 : Shape := ⟨2, ![8, 80]⟩
abbrev S8x48 : Shape := ⟨2, ![8, 48]⟩
abbrev S1x8x1x128 : Shape := ⟨4, ![1, 8, 1, 128]⟩
abbrev S32x8x1x128 : Shape := ⟨4, ![32, 8, 1, 128]⟩
abbrev S256x128 : Shape := ⟨2, ![256, 128]⟩
abbrev S1024x32 : Shape := ⟨2, ![1024, 32]⟩
abbrev S256x384 : Shape := ⟨2, ![256, 384]⟩
abbrev S256x256 : Shape := ⟨2, ![256, 256]⟩
abbrev S256x32 : Shape := ⟨2, ![256, 32]⟩
abbrev S256x1 : Shape := ⟨2, ![256, 1]⟩

abbrev nBuf : Space → Nat
  | .hbm => 74
  | .vmem => 12
  | .smem => 0
  | _ => 0

abbrev bufTy : (tb : Table) → Fin (tcTables nBuf tb) → BufTy
  | .hbm, ⟨0, _⟩ => ⟨S1024x384, .f32⟩
  | .hbm, ⟨1, _⟩ => ⟨S256, .f32⟩
  | .hbm, ⟨2, _⟩ => ⟨S256x16x64, .f32⟩
  | .hbm, ⟨3, _⟩ => ⟨S256x16x64, .f32⟩
  | .hbm, ⟨4, _⟩ => ⟨S_, .i32⟩
  | .hbm, ⟨5, _⟩ => ⟨S_, .f32⟩
  | .hbm, ⟨6, _⟩ => ⟨S256x16x128, .f32⟩
  | .hbm, ⟨7, _⟩ => ⟨S256x2048, .f32⟩
  | .hbm, ⟨8, _⟩ => ⟨S32x32, .i32⟩
  | .hbm, ⟨9, _⟩ => ⟨S32x32, .i32⟩
  | .hbm, ⟨10, _⟩ => ⟨S_, .i32⟩
  | .hbm, ⟨11, _⟩ => ⟨S32x32, .i32⟩
  | .hbm, ⟨12, _⟩ => ⟨S32x32, .i32⟩
  | .hbm, ⟨13, _⟩ => ⟨S32x32, .i1⟩
  | .hbm, ⟨14, _⟩ => ⟨S32x32, .f32⟩
  | .hbm, ⟨15, _⟩ => ⟨S_, .i32⟩
  | .hbm, ⟨16, _⟩ => ⟨S_, .f32⟩
  | .hbm, ⟨17, _⟩ => ⟨S128x128, .f32⟩
  | .hbm, ⟨18, _⟩ => ⟨S128x1x128, .f32⟩
  | .hbm, ⟨19, _⟩ => ⟨S128x16x128, .f32⟩
  | .hbm, ⟨20, _⟩ => ⟨S128x2048, .f32⟩
  | .hbm, ⟨21, _⟩ => ⟨S1x256, .f32⟩
  | .hbm, ⟨22, _⟩ => ⟨S384x2048, .f32⟩
  | .hbm, ⟨23, _⟩ => ⟨S384x2048, .bf16⟩
  | .hbm, ⟨24, _⟩ => ⟨S256x1024, .f32⟩
  | .hbm, ⟨25, _⟩ => ⟨S1024x256, .f32⟩
  | .hbm, ⟨26, _⟩ => ⟨S1024x256, .bf16⟩
  | .hbm, ⟨27, _⟩ => ⟨S8, .i32⟩
  | .hbm, ⟨28, _⟩ => ⟨S_, .i32⟩
  | .hbm, ⟨29, _⟩ => ⟨S8, .i32⟩
  | .hbm, ⟨30, _⟩ => ⟨S8, .i32⟩
  | .hbm, ⟨31, _⟩ => ⟨S16, .f32⟩
  | .hbm, ⟨32, _⟩ => ⟨S16, .f32⟩
  | .hbm, ⟨33, _⟩ => ⟨S_, .f32⟩
  | .hbm, ⟨34, _⟩ => ⟨S16, .f32⟩
  | .hbm, ⟨35, _⟩ => ⟨S16, .f32⟩
  | .hbm, ⟨36, _⟩ => ⟨S_, .f32⟩
  | .hbm, ⟨37, _⟩ => ⟨S16, .f32⟩
  | .hbm, ⟨38, _⟩ => ⟨S16, .f32⟩
  | .hbm, ⟨39, _⟩ => ⟨S8, .f32⟩
  | .hbm, ⟨40, _⟩ => ⟨S8x1, .f32⟩
  | .hbm, ⟨41, _⟩ => ⟨S1x16, .f32⟩
  | .hbm, ⟨42, _⟩ => ⟨S8x16, .f32⟩
  | .hbm, ⟨43, _⟩ => ⟨S8x16, .f32⟩
  | .hbm, ⟨44, _⟩ => ⟨S8x16, .f32⟩
  | .hbm, ⟨45, _⟩ => ⟨S8x16, .f32⟩
  | .hbm, ⟨46, _⟩ => ⟨S8x16, .f32⟩
  | .hbm, ⟨47, _⟩ => ⟨S_, .f32⟩
  | .hbm, ⟨48, _⟩ => ⟨S8x64, .f32⟩
  | .hbm, ⟨49, _⟩ => ⟨S_, .f32⟩
  | .hbm, ⟨50, _⟩ => ⟨S8x32, .f32⟩
  | .hbm, ⟨51, _⟩ => ⟨S8x128, .f32⟩
  | .hbm, ⟨52, _⟩ => ⟨S_, .f32⟩
  | .hbm, ⟨53, _⟩ => ⟨S8x80, .f32⟩
  | .hbm, ⟨54, _⟩ => ⟨S_, .f32⟩
  | .hbm, ⟨55, _⟩ => ⟨S8x32, .f32⟩
  | .hbm, ⟨56, _⟩ => ⟨S8x128, .f32⟩
  | .hbm, ⟨57, _⟩ => ⟨S_, .f32⟩
  | .hbm, ⟨58, _⟩ => ⟨S8x64, .f32⟩
  | .hbm, ⟨59, _⟩ => ⟨S8x16, .f32⟩
  | .hbm, ⟨60, _⟩ => ⟨S_, .f32⟩
  | .hbm, ⟨61, _⟩ => ⟨S8x48, .f32⟩
  | .hbm, ⟨62, _⟩ => ⟨S8x128, .f32⟩
  | .hbm, ⟨63, _⟩ => ⟨S1x8x1x128, .f32⟩
  | .hbm, ⟨64, _⟩ => ⟨S32x8x1x128, .f32⟩
  | .hbm, ⟨65, _⟩ => ⟨S256x128, .f32⟩
  | .hbm, ⟨66, _⟩ => ⟨S1x8x1x128, .f32⟩
  | .hbm, ⟨67, _⟩ => ⟨S32x8x1x128, .f32⟩
  | .hbm, ⟨68, _⟩ => ⟨S256x128, .f32⟩
  | .hbm, ⟨69, _⟩ => ⟨S1x8x1x128, .f32⟩
  | .hbm, ⟨70, _⟩ => ⟨S32x8x1x128, .f32⟩
  | .hbm, ⟨71, _⟩ => ⟨S256x128, .f32⟩
  | .hbm, ⟨72, _⟩ => ⟨S1024x256, .f32⟩
  | .hbm, ⟨73, _⟩ => ⟨S1024x32, .f32⟩
  | .local _ .vmem, ⟨0, _⟩ => ⟨S256x384, .f32⟩
  | .local _ .vmem, ⟨1, _⟩ => ⟨S256x384, .f32⟩
  | .local _ .vmem, ⟨2, _⟩ => ⟨S1x256, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S384x2048, .bf16⟩
  | .local _ .vmem, ⟨7, _⟩ => ⟨S1024x256, .bf16⟩
  | .local _ .vmem, ⟨8, _⟩ => ⟨S256x256, .f32⟩
  | .local _ .vmem, ⟨9, _⟩ => ⟨S256x256, .f32⟩
  | .local _ .vmem, ⟨10, _⟩ => ⟨S256x32, .f32⟩
  | .local _ .vmem, ⟨11, _⟩ => ⟨S256x32, .f32⟩
  | _, _ => ⟨S1024x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_call1_v0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_4 : Ref sig .tc := ⟨.hbm, 47, rfl⟩
abbrev main_v35 : Ref sig .tc := ⟨.hbm, 48, rfl⟩
abbrev main_cst_5 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_cst_7 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_cst_9 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54_0 : Ref sig .tc := ⟨.hbm, 72, rfl⟩
abbrev main_v54_1 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S384x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x32 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== KvSRefIdeal.lean ====
abbrev S1024x384 : Shape := ⟨2, ![1024, 384]⟩
abbrev S256 : Shape := ⟨1, ![256]⟩
abbrev S256x16x64 : Shape := ⟨3, ![256, 16, 64]⟩
abbrev S128x8x384 : Shape := ⟨3, ![128, 8, 384]⟩
abbrev S128x8x256 : Shape := ⟨3, ![128, 8, 256]⟩
abbrev S_ : Shape := ⟨0, ![]⟩
abbrev S128x8 : Shape := ⟨2, ![128, 8]⟩
abbrev S128x8x1 : Shape := ⟨3, ![128, 8, 1]⟩
abbrev S1x1x256 : Shape := ⟨3, ![1, 1, 256]⟩
abbrev S128x8x32 : Shape := ⟨3, ![128, 8, 32]⟩
abbrev S8 : Shape := ⟨1, ![8]⟩
abbrev S16 : Shape := ⟨1, ![16]⟩
abbrev S8x1 : Shape := ⟨2, ![8, 1]⟩
abbrev S1x16 : Shape := ⟨2, ![1, 16]⟩
abbrev S8x16 : Shape := ⟨2, ![8, 16]⟩
abbrev S1x8x16 : Shape := ⟨3, ![1, 8, 16]⟩
abbrev S128x8x16 : Shape := ⟨3, ![128, 8, 16]⟩
abbrev S1024x256 : Shape := ⟨2, ![1024, 256]⟩
abbrev S1024x32 : Shape := ⟨2, ![1024, 32]⟩

abbrev nBuf : Space → Nat
  | .hbm => 60
  | .vmem => 0
  | .smem => 0
  | _ => 0

abbrev bufTy : (tb : Table) → Fin (tcTables nBuf tb) → BufTy
  | .hbm, ⟨0, _⟩ => ⟨S1024x384, .f32⟩
  | .hbm, ⟨1, _⟩ => ⟨S256, .f32⟩
  | .hbm, ⟨2, _⟩ => ⟨S256x16x64, .f32⟩
  | .hbm, ⟨3, _⟩ => ⟨S256x16x64, .f32⟩
  | .hbm, ⟨4, _⟩ => ⟨S128x8x384, .f32⟩
  | .hbm, ⟨5, _⟩ => ⟨S128x8x256, .f32⟩
  | .hbm, ⟨6, _⟩ => ⟨S128x8x256, .f32⟩
  | .hbm, ⟨7, _⟩ => ⟨S_, .f32⟩
  | .hbm, ⟨8, _⟩ => ⟨S128x8, .f32⟩
  | .hbm, ⟨9, _⟩ => ⟨S128x8x1, .f32⟩
  | .hbm, ⟨10, _⟩ => ⟨S_, .f32⟩
  | .hbm, ⟨11, _⟩ => ⟨S128x8x1, .f32⟩
  | .hbm, ⟨12, _⟩ => ⟨S128x8x1, .f32⟩
  | .hbm, ⟨13, _⟩ => ⟨S_, .f32⟩
  | .hbm, ⟨14, _⟩ => ⟨S128x8x1, .f32⟩
  | .hbm, ⟨15, _⟩ => ⟨S128x8x1, .f32⟩
  | .hbm, ⟨16, _⟩ => ⟨S128x8x1, .f32⟩
  | .hbm, ⟨17, _⟩ => ⟨S128x8x256, .f32⟩
  | .hbm, ⟨18, _⟩ => ⟨S128x8x256, .f32⟩
  | .hbm, ⟨19, _⟩ => ⟨S1x1x256, .f32⟩
  | .hbm, ⟨20, _⟩ => ⟨S128x8x256, .f32⟩
  | .hbm, ⟨21, _⟩ => ⟨S128x8x256, .f32⟩
  | .hbm, ⟨22, _⟩ => ⟨S128x8x32, .f32⟩
  | .hbm, ⟨23, _⟩ => ⟨S8, .i32⟩
  | .hbm, ⟨24, _⟩ => ⟨S_, .i32⟩
  | .hbm, ⟨25, _⟩ => ⟨S8, .i32⟩
  | .hbm, ⟨26, _⟩ => ⟨S8, .i32⟩
  | .hbm, ⟨27, _⟩ => ⟨S16, .f32⟩
  | .hbm, ⟨28, _⟩ => ⟨S16, .f32⟩
  | .hbm, ⟨29, _⟩ => ⟨S_, .f32⟩
  | .hbm, ⟨30, _⟩ => ⟨S16, .f32⟩
  | .hbm, ⟨31, _⟩ => ⟨S16, .f32⟩
  | .hbm, ⟨32, _⟩ => ⟨S_, .f32⟩
  | .hbm, ⟨33, _⟩ => ⟨S16, .f32⟩
  | .hbm, ⟨34, _⟩ => ⟨S16, .f32⟩
  | .hbm, ⟨35, _⟩ => ⟨S8, .f32⟩
  | .hbm, ⟨36, _⟩ => ⟨S8x1, .f32⟩
  | .hbm, ⟨37, _⟩ => ⟨S1x16, .f32⟩
  | .hbm, ⟨38, _⟩ => ⟨S8x16, .f32⟩
  | .hbm, ⟨39, _⟩ => ⟨S8x16, .f32⟩
  | .hbm, ⟨40, _⟩ => ⟨S8x16, .f32⟩
  | .hbm, ⟨41, _⟩ => ⟨S8x16, .f32⟩
  | .hbm, ⟨42, _⟩ => ⟨S1x8x16, .f32⟩
  | .hbm, ⟨43, _⟩ => ⟨S8x16, .f32⟩
  | .hbm, ⟨44, _⟩ => ⟨S1x8x16, .f32⟩
  | .hbm, ⟨45, _⟩ => ⟨S128x8x16, .f32⟩
  | .hbm, ⟨46, _⟩ => ⟨S128x8x16, .f32⟩
  | .hbm, ⟨47, _⟩ => ⟨S128x8x16, .f32⟩
  | .hbm, ⟨48, _⟩ => ⟨S128x8x16, .f32⟩
  | .hbm, ⟨49, _⟩ => ⟨S128x8x16, .f32⟩
  | .hbm, ⟨50, _⟩ => ⟨S128x8x16, .f32⟩
  | .hbm, ⟨51, _⟩ => ⟨S128x8x16, .f32⟩
  | .hbm, ⟨52, _⟩ => ⟨S128x8x16, .f32⟩
  | .hbm, ⟨53, _⟩ => ⟨S128x8x16, .f32⟩
  | .hbm, ⟨54, _⟩ => ⟨S128x8x16, .f32⟩
  | .hbm, ⟨55, _⟩ => ⟨S128x8x16, .f32⟩
  | .hbm, ⟨56, _⟩ => ⟨S128x8x16, .f32⟩
  | .hbm, ⟨57, _⟩ => ⟨S128x8x32, .f32⟩
  | .hbm, ⟨58, _⟩ => ⟨S1024x256, .f32⟩
  | .hbm, ⟨59, _⟩ => ⟨S1024x32, .f32⟩
  | _, _ => ⟨S1024x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩

abbrev nD : Nat := 1
abbrev τ : Topo := Topo.v7x

variable {F : FTy → Type} [FloatOps F]
-- ==== Proof.Online.lean ====
/-
  The running softmax on extended reals, with no program in it. Scores `s t` and values `v t` are given per key
  position `t`. After the first `N` keys the three running quantities are the maximum `om s N`, the normaliser
  `ol s N` and the weighted sum `oa s v N`. One block of `n` further keys moves them by `mUp`, `lUp` and `aUp`, which
  is what the kernel computes; the three `_step` theorems say so. `softmax_eq` compares the final quotient with the
  ordinary softmax over all keys.
-/
module

public import Idealize.ShloMosaic.Lib.Pointwise

@[expose] public section

noncomputable section

open Idealize.ShloMosaic

namespace Cert.Attn

/-- The maximum score of the first `N` keys. -/
def om (s : ℕ → EReal) (N : ℕ) : EReal := (Finset.range N).sup s

/-- The sum of the first `N` weights, each relative to the maximum. -/
def ol (s : ℕ → EReal) (N : ℕ) : EReal := ∑ t ∈ Finset.range N, Ideal.exp2 (s t - om s N)

/-- The weighted sum of the first `N` values. -/
def oa (s v : ℕ → EReal) (N : ℕ) : EReal := ∑ t ∈ Finset.range N, v t * Ideal.exp2 (s t - om s N)

/-- A block's new maximum. -/
def mUp {n : ℕ} (m : EReal) (f : Fin n → EReal) : EReal := max m (Finset.univ.fold max ⊥ f)

/-- A block's new normaliser. -/
def lUp {n : ℕ} (m l : EReal) (f : Fin n → EReal) : EReal :=
  Ideal.exp2 (m - mUp m f) * l + ∑ k, Ideal.exp2 (f k - mUp m f)

/-- A block's new weighted sum. -/
def aUp {n : ℕ} (m a : EReal) (f v : Fin n → EReal) : EReal :=
  Ideal.exp2 (m - mUp m f) * a + ∑ k, v k * Ideal.exp2 (f k - mUp m f)

theorem exp2_nonneg (x : EReal) : 0 ≤ Ideal.exp2 x := by
  induction x with
  | bot => exact le_refl _
  | top => exact le_top
  | coe r => exact EReal.coe_nonneg.mpr (Real.rpow_nonneg (by norm_num) r)

/-- A rescaling factor is finite: the new maximum is no smaller than the old one. -/
theorem exp2_sub_ne_top {m m' : EReal} (h : m ≤ m') : Ideal.exp2 (m - m') ≠ ⊤ := by
  induction m' with
  | bot => obtain rfl := le_bot_iff.mp h; simp
  | top => rw [EReal.sub_top]; simp
  | coe r' =>
    induction m with
    | bot => simp
    | top => exact absurd (top_le_iff.mp h) (EReal.coe_ne_top r')
    | coe r => rw [← EReal.coe_sub]; exact EReal.coe_ne_top _

/-- Rescaling a weight from the old maximum to the new one. -/
theorem exp2_rescale {s m m' : EReal} (h : s ≤ m) (h' : m ≤ m') :
    Ideal.exp2 (m - m') * Ideal.exp2 (s - m) = Ideal.exp2 (s - m') := by
  induction m' with
  | top => rw [EReal.sub_top, EReal.sub_top]; simp
  | bot =>
    obtain rfl := le_bot_iff.mp h'
    obtain rfl := le_bot_iff.mp h
    simp
  | coe r' =>
    induction m with
    | top => exact absurd (top_le_iff.mp h') (EReal.coe_ne_top r')
    | bot =>
      obtain rfl := le_bot_iff.mp h
      simp
    | coe r =>
      induction s with
      | top => exact absurd (top_le_iff.mp h) (EReal.coe_ne_top r)
      | bot => simp
      | coe x =>
        rw [← EReal.coe_sub, ← EReal.coe_sub, ← EReal.coe_sub, Ideal.exp2_coe, Ideal.exp2_coe, Ideal.exp2_coe,
          ← EReal.coe_mul]
        congr 1
        show (2 : ℝ) ^ (r - r') * (2 : ℝ) ^ (x - r) = (2 : ℝ) ^ (x - r')
        rw [← Real.rpow_add (by norm_num)]
        congr 1; ring

/-- A finite nonnegative factor goes into a sum. -/
theorem mul_sum_of_nonneg {ι : Type*} (I : Finset ι) (f : ι → EReal) {c : EReal} (h0 : 0 ≤ c) (h1 : c ≠ ⊤) :
    c * ∑ t ∈ I, f t = ∑ t ∈ I, c * f t := by
  classical
  induction I using Finset.induction_on with
  | empty => simp
  | insert a I ha ih =>
    rw [Finset.sum_insert ha, Finset.sum_insert ha, EReal.left_distrib_of_nonneg_of_ne_top h0 h1, ih]

theorem sup_add (s : ℕ → EReal) (N n : ℕ) :
    (Finset.range (N + n)).sup s = max ((Finset.range N).sup s) (Finset.univ.fold max ⊥ fun k : Fin n => s (N + k)) := by
  apply le_antisymm
  · refine Finset.sup_le fun t ht => ?_
    rw [Finset.mem_range] at ht
    by_cases h : t < N
    · exact le_max_of_le_left (Finset.le_sup (f := s) (Finset.mem_range.mpr h))
    · refine le_max_of_le_right ?_
      have e : s t = (fun k : Fin n => s (N + k)) ⟨t - N, by omega⟩ := by
        show s t = s (N + (t - N)); congr 1; omega
      rw [e]
      exact Finset.le_sup (f := fun k : Fin n => s (N + k)) (Finset.mem_univ _)
  · refine max_le (Finset.sup_mono (Finset.range_mono (Nat.le_add_right _ _))) ?_
    refine Finset.sup_le (f := fun k : Fin n => s (N + k)) fun k _ => ?_
    exact Finset.le_sup (f := s) (Finset.mem_range.mpr (by have := k.isLt; omega))

theorem om_step (s : ℕ → EReal) (N n : ℕ) : mUp (om s N) (fun k : Fin n => s (N + k)) = om s (N + n) :=
  (sup_add s N n).symm

theorem om_mono (s : ℕ → EReal) (N n : ℕ) : om s N ≤ om s (N + n) :=
  Finset.sup_mono (Finset.range_mono (Nat.le_add_right _ _))

theorem le_om (s : ℕ → EReal) {N t : ℕ} (h : t < N) : s t ≤ om s N := Finset.le_sup (f := s) (Finset.mem_range.mpr h)

theorem sum_range_fin (f : ℕ → EReal) (N n : ℕ) :
    ∑ t ∈ Finset.range (N + n), f t = ∑ t ∈ Finset.range N, f t + ∑ k : Fin n, f (N + k) := by
  rw [Finset.sum_range_add, Finset.sum_range (fun k => f (N + k))]

theorem ol_step (s : ℕ → EReal) (N n : ℕ) :
    lUp (om s N) (ol s N) (fun k : Fin n => s (N + k)) = ol s (N + n) := by
  unfold lUp
  rw [om_step]
  unfold ol
  rw [sum_range_fin, mul_sum_of_nonneg _ _ (exp2_nonneg _) (exp2_sub_ne_top (om_mono s N n))]
  congr 1
  exact Finset.sum_congr rfl fun t ht => exp2_rescale (le_om s (Finset.mem_range.mp ht)) (om_mono s N n)

theorem oa_step (s v : ℕ → EReal) (N n : ℕ) :
    aUp (om s N) (oa s v N) (fun k : Fin n => s (N + k)) (fun k => v (N + k)) = oa s v (N + n) := by
  unfold aUp
  rw [om_step]
  unfold oa
  rw [sum_range_fin, mul_sum_of_nonneg _ _ (exp2_nonneg _) (exp2_sub_ne_top (om_mono s N n))]
  congr 1
  refine Finset.sum_congr rfl fun t ht => ?_
  rw [mul_left_comm, exp2_rescale (le_om s (Finset.mem_range.mp ht)) (om_mono s N n)]

theorem om_zero (s : ℕ → EReal) : om s 0 = ⊥ := rfl
theorem ol_zero (s : ℕ → EReal) : ol s 0 = 0 := rfl
theorem oa_zero (s v : ℕ → EReal) : oa s v 0 = 0 := rfl

theorem om_congr {s s' : ℕ → EReal} {N : ℕ} (h : ∀ n, n < N → s n = s' n) : om s N = om s' N :=
  Finset.sup_congr rfl fun n hn => h n (Finset.mem_range.mp hn)

theorem ol_congr {s s' : ℕ → EReal} {N : ℕ} (h : ∀ n, n < N → s n = s' n) : ol s N = ol s' N := by
  unfold ol
  rw [om_congr h]
  exact Finset.sum_congr rfl fun n hn => by rw [h n (Finset.mem_range.mp hn)]

theorem oa_congr {s s' v : ℕ → EReal} {N : ℕ} (h : ∀ n, n < N → s n = s' n) : oa s v N = oa s' v N := by
  unfold oa
  rw [om_congr h]
  exact Finset.sum_congr rfl fun n hn => by rw [h n (Finset.mem_range.mp hn)]

/-- The ordinary softmax's weight of key `t` among the keys up to `q`, before it is normalised. -/
theorem weight_eq {x : ℕ → ℝ} {c : ℝ} (hc : c * Real.log 2 = 1) (a b : ℝ) :
    Ideal.exp2 (((a * c : ℝ) : EReal) - ((b * c : ℝ) : EReal)) = ((Real.exp (a - b) : ℝ) : EReal) := by
  rw [← EReal.coe_sub, Ideal.exp2_coe]
  congr 1
  show (2 : ℝ) ^ (a * c - b * c) = _
  rw [Real.rpow_def_of_pos (by norm_num)]
  congr 1
  linear_combination (a - b) * hc

/-- The running softmax over the first `N` keys is the ordinary one over all `T`, when every key after `q` is masked.
    The kernel's scores are the reference's times `c`, with base two in place of `e`. -/
theorem softmax_eq (x : ℕ → ℝ) (v : ℕ → EReal) (c : ℝ) (hc0 : 0 < c) (hc : c * Real.log 2 = 1) (q N T : ℕ) (hqN : q < N) (hNT : N ≤ T)
    (sk : ℕ → EReal) (hsk : ∀ t, sk t = if t ≤ q then ((x t * c : ℝ) : EReal) else ⊥)
    (sr : Fin T → EReal) (hsr : ∀ t, sr t = if t.val ≤ q then ((x t : ℝ) : EReal) else ⊥) :
    Ideal.div (oa sk v N) (ol sk N)
      = ∑ t : Fin T, Ideal.div (Ideal.exp (sr t - Finset.univ.fold max ⊥ sr))
          (∑ u : Fin T, Ideal.exp (sr u - Finset.univ.fold max ⊥ sr)) * v t := by
  classical
  obtain ⟨t0, ht0, hmax⟩ := Finset.exists_max_image (Finset.range (q + 1)) x ⟨0, by simp⟩
  have ht0q : t0 ≤ q := by have := Finset.mem_range.mp ht0; omega
  have hmax' : ∀ t, t ≤ q → x t ≤ x t0 := fun t ht => hmax t (Finset.mem_range.mpr (by omega))
  -- the two maxima
  have hmk : om sk N = ((x t0 * c : ℝ) : EReal) := by
    apply le_antisymm
    · refine Finset.sup_le fun t _ => ?_
      rw [hsk]; split
      · rename_i h; exact EReal.coe_le_coe_iff.mpr (mul_le_mul_of_nonneg_right (hmax' t h) hc0.le)
      · exact bot_le
    · have h := le_om sk (N := N) (t := t0) (by omega)
      rw [hsk, if_pos ht0q] at h; exact h
  have hmr : (Finset.univ.fold max ⊥ sr : EReal) = ((x t0 : ℝ) : EReal) := by
    apply le_antisymm
    · refine Finset.sup_le (f := sr) fun t _ => ?_
      rw [hsr]; split
      · rename_i h; exact EReal.coe_le_coe_iff.mpr (hmax' t h)
      · exact bot_le
    · have h : sr ⟨t0, by omega⟩ ≤ Finset.univ.sup sr := Finset.le_sup (Finset.mem_univ _)
      rw [hsr, if_pos ht0q] at h; exact h
  -- the weights are the same nonnegative reals
  let p : ℕ → ℝ := fun t => if t ≤ q then Real.exp (x t - x t0) else 0
  have hp0 : ∀ t, 0 ≤ p t := fun t => by
    show 0 ≤ (if t ≤ q then Real.exp (x t - x t0) else 0)
    split
    · exact (Real.exp_pos _).le
    · exact le_refl _
  have hpk : ∀ t, Ideal.exp2 (sk t - om sk N) = ((p t : ℝ) : EReal) := fun t => by
    rw [hmk, hsk]
    show _ = (((if t ≤ q then Real.exp (x t - x t0) else 0) : ℝ) : EReal)
    split
    · exact weight_eq (x := x) hc _ _
    · simp
  have hpr : ∀ t : Fin T, Ideal.exp (sr t - Finset.univ.fold max ⊥ sr) = ((p t : ℝ) : EReal) := fun t => by
    rw [hmr, hsr]
    show _ = (((if t.val ≤ q then Real.exp (x t - x t0) else 0) : ℝ) : EReal)
    split
    · rw [← EReal.coe_sub]; rfl
    · simp
  have hcoe : ∀ I : Finset ℕ, (∑ t ∈ I, ((p t : ℝ) : EReal)) = ((∑ t ∈ I, p t : ℝ) : EReal) := fun I => by
    induction I using Finset.induction_on with
    | empty => simp
    | insert a I ha ih => rw [Finset.sum_insert ha, Finset.sum_insert ha, ih, EReal.coe_add]
  have hzero : ∀ t, t ∉ Finset.range N → p t = 0 := fun t ht => by
    rw [Finset.mem_range] at ht
    exact if_neg (by omega)
  set L : ℝ := ∑ t ∈ Finset.range N, p t with hL
  have hLpos : 0 < L := by
    refine Finset.sum_pos' (fun t _ => hp0 t) ⟨t0, Finset.mem_range.mpr (by omega), ?_⟩
    show 0 < (if t0 ≤ q then Real.exp (x t0 - x t0) else 0)
    rw [if_pos ht0q]; exact Real.exp_pos _
  have hsub : Finset.range N ⊆ Finset.range T := Finset.range_mono hNT
  have hlk : ol sk N = (L : EReal) := by
    unfold ol
    rw [Finset.sum_congr rfl fun t _ => hpk t, hcoe]
  have hlr : (∑ u : Fin T, Ideal.exp (sr u - Finset.univ.fold max ⊥ sr)) = (L : EReal) := by
    rw [Finset.sum_congr rfl fun u _ => hpr u, ← Finset.sum_range (fun t => ((p t : ℝ) : EReal)), hcoe,
      ← Finset.sum_subset hsub fun t _ ht => hzero t ht]
  have hdiv : ∀ y : EReal, Ideal.div y (L : EReal) = ((L⁻¹ : ℝ) : EReal) * y := fun y => by
    unfold Ideal.div
    rw [if_neg (by exact_mod_cast hLpos.ne'), ← EReal.coe_inv, mul_comm]
  rw [hlk, hlr, hdiv]
  unfold oa
  rw [mul_sum_of_nonneg _ _ (EReal.coe_nonneg.mpr (inv_pos.mpr hLpos).le) (EReal.coe_ne_top _)]
  rw [Finset.sum_congr rfl fun t _ => by rw [hpk t]]
  rw [Finset.sum_subset hsub fun t _ ht => by rw [hzero t ht]; simp]
  rw [Finset.sum_range (fun t => ((L⁻¹ : ℝ) : EReal) * (v t * ((p t : ℝ) : EReal)))]
  refine Finset.sum_congr rfl fun t _ => ?_
  rw [hpr t, hdiv, mul_assoc, mul_comm (v t)]

end Cert.Attn

end
-- ==== Proof.Update.lean ====
/-
  What one block of keys does to the kernel's running quantities, as functions of vectors, and the values of those
  functions at an index. `score512` / `score256` are the score products, `mStore…` / `lStore…` the new maximum and
  normaliser of one head, `aStore…` the new weighted sums of the two heads that one accumulator holds (rows below 64
  belong to the first head). The kernel's own chains of operations are these functions by unfolding; the numbers 512
  and 256 are how many keys the block holds.
-/
module

public import proofs.«01_k».proof.Proof.Gen.KernelIdeal.Frame
public import proofs.«01_k».proof.Proof.Online
public import Idealize.ShloMosaic.Lib.Pointwise

@[expose] public section

noncomputable section

open Idealize.ShloMosaic Idealize.ShloMosaic.TcCoe Idealize.SL.Sem
open Cert.KernelIdeal Cert.KernelIdeal.Gen

namespace Cert.Attn

/-! ### Scores -/

/-- The scores of 512 keys (rows) against 256 queries (columns). -/
def score512 (q : Vec Ideal S256x128 .bf16) (k : Vec Ideal S512x128 .bf16) : FVec Ideal S512x256 .f32 :=
  matmul (φ₁ := .bf16) (φ₂ := .bf16) dot_S512x128_S256x128_S512x256_1_1_0_0_n_n none (shapeCast S512x128 k shapeCasts_S512x128_S512x128)
    (shapeCast S256x128 q shapeCasts_S256x128_S256x128) (constant S512x256 .f32 0x00000000#32)

/-- The scores of 256 keys against 256 queries. -/
def score256 (q : Vec Ideal S256x128 .bf16) (k : Vec Ideal S256x128 .bf16) : FVec Ideal S256x256 .f32 :=
  matmul (φ₁ := .bf16) (φ₂ := .bf16) dot_S256x128_S256x128_S256x256_1_1_0_0_n_n none (shapeCast S256x128 k shapeCasts_S256x128_S256x128)
    (shapeCast S256x128 q shapeCasts_S256x128_S256x128) (constant S256x256 .f32 0x00000000#32)

theorem score512_at (q : Vec Ideal S256x128 .bf16) (k : Vec Ideal S512x128 .bf16) (t : Fin 512) (j : Fin 256) :
    score512 q k (ix2 t j) = ∑ d : Fin 128, k (ix2 t d) * q (ix2 j d) := by
  pointwise [score512]

theorem score256_at (q : Vec Ideal S256x128 .bf16) (k : Vec Ideal S256x128 .bf16) (t : Fin 256) (j : Fin 256) :
    score256 q k (ix2 t j) = ∑ d : Fin 128, k (ix2 t d) * q (ix2 j d) := by
  pointwise [score256]

/-! ### Maximum, normaliser, weighted sums: a block of 512 keys -/

def mNew512 (s : FVec Ideal S512x256 .f32) (m : Vec Ideal S1x1x256 .f32) : FVec Ideal S1x256 .f32 :=
  maximumf (shapeCast S1x256 m shapeCasts_S1x1x256_S1x256)
    (shapeCast S1x256 (multiReduction .maximumf [0] S256 s 0xFF800000#32 reduces_S512x256_S256 (.inl rfl) rfl) shapeCasts_S256_S1x256)

def pNew512 (s : FVec Ideal S512x256 .f32) (m : Vec Ideal S1x1x256 .f32) : FVec Ideal S512x256 .f32 :=
  exp2 (subf s (broadcastTo S512x256 (mNew512 s m) broadcasts_S1x256_S512x256))

def alpha512 (s : FVec Ideal S512x256 .f32) (m : Vec Ideal S1x1x256 .f32) : FVec Ideal S1x256 .f32 :=
  exp2 (subf (shapeCast S1x256 m shapeCasts_S1x1x256_S1x256) (mNew512 s m))

def mStore512 (s : FVec Ideal S512x256 .f32) (m : Vec Ideal S1x1x256 .f32) : FVec Ideal S1x1x256 .f32 :=
  shapeCast S1x1x256 (mNew512 s m) shapeCasts_S1x256_S1x1x256

def lStore512 (s : FVec Ideal S512x256 .f32) (m l : Vec Ideal S1x1x256 .f32) : FVec Ideal S1x1x256 .f32 :=
  shapeCast S1x1x256 (addf (mulf (alpha512 s m) (shapeCast S1x256 l shapeCasts_S1x1x256_S1x256))
    (shapeCast S1x256 (multiReduction .add [0] S256 (pNew512 s m) 0x00000000#32 reduces_S512x256_S256 (.inl rfl) rfl) shapeCasts_S256_S1x256))
    shapeCasts_S1x256_S1x1x256

def pv512 (vt : Vec Ideal S1x128x512 .bf16) (s : FVec Ideal S512x256 .f32) (m : Vec Ideal S1x1x256 .f32) : FVec Ideal S128x256 .f32 :=
  matmul (φ₁ := .bf16) (φ₂ := .bf16) dot_S128x512_S512x256_S128x256_1_0_0_1_n_n none (shapeCast S128x512 vt shapeCasts_S1x128x512_S128x512)
    (truncf .bf16 (pNew512 s m) bitsLt_bf16_f32) (constant S128x256 .f32 0x00000000#32)

/-- One row of 256 spread over the 128 rows of an accumulator. -/
def rows128 (x : FVec Ideal S1x256 .f32) : FVec Ideal S128x256 .f32 :=
  broadcastTo S128x256 (shapeCast S1x256 x shapeCasts_S1x256_S1x256) broadcasts_S1x256_S128x256

def aStore512 (vt : Vec Ideal S1x128x512 .bf16) (s s' : FVec Ideal S512x256 .f32) (m m' : Vec Ideal S1x1x256 .f32)
    (a : Vec Ideal S1x128x256 .f32) : FVec Ideal S1x128x256 .f32 :=
  shapeCast S1x128x256 (addf (mulf (select (k0_pay183) (rows128 (alpha512 s m)) (rows128 (alpha512 s' m')))
    (shapeCast S128x256 a shapeCasts_S1x128x256_S128x256)) (select (k0_pay183) (pv512 vt s m) (pv512 vt s' m')))
    shapeCasts_S128x256_S1x128x256

/-! ### The same for a block of 256 keys -/

def mNew256 (s : FVec Ideal S256x256 .f32) (m : Vec Ideal S1x1x256 .f32) : FVec Ideal S1x256 .f32 :=
  maximumf (shapeCast S1x256 m shapeCasts_S1x1x256_S1x256)
    (shapeCast S1x256 (multiReduction .maximumf [0] S256 s 0xFF800000#32 reduces_S256x256_S256 (.inl rfl) rfl) shapeCasts_S256_S1x256)

def pNew256 (s : FVec Ideal S256x256 .f32) (m : Vec Ideal S1x1x256 .f32) : FVec Ideal S256x256 .f32 :=
  exp2 (subf s (broadcastTo S256x256 (mNew256 s m) broadcasts_S1x256_S256x256))

def alpha256 (s : FVec Ideal S256x256 .f32) (m : Vec Ideal S1x1x256 .f32) : FVec Ideal S1x256 .f32 :=
  exp2 (subf (shapeCast S1x256 m shapeCasts_S1x1x256_S1x256) (mNew256 s m))

def mStore256 (s : FVec Ideal S256x256 .f32) (m : Vec Ideal S1x1x256 .f32) : FVec Ideal S1x1x256 .f32 :=
  shapeCast S1x1x256 (mNew256 s m) shapeCasts_S1x256_S1x1x256

def lStore256 (s : FVec Ideal S256x256 .f32) (m l : Vec Ideal S1x1x256 .f32) : FVec Ideal S1x1x256 .f32 :=
  shapeCast S1x1x256 (addf (mulf (alpha256 s m) (shapeCast S1x256 l shapeCasts_S1x1x256_S1x256))
    (shapeCast S1x256 (multiReduction .add [0] S256 (pNew256 s m) 0x00000000#32 reduces_S256x256_S256 (.inl rfl) rfl) shapeCasts_S256_S1x256))
    shapeCasts_S1x256_S1x1x256

def pv256 (vt : Vec Ideal S1x128x256 .bf16) (s : FVec Ideal S256x256 .f32) (m : Vec Ideal S1x1x256 .f32) : FVec Ideal S128x256 .f32 :=
  matmul (φ₁ := .bf16) (φ₂ := .bf16) dot_S128x256_S256x256_S128x256_1_0_0_1_n_n none (shapeCast S128x256 vt shapeCasts_S1x128x256_S128x256)
    (truncf .bf16 (pNew256 s m) bitsLt_bf16_f32) (constant S128x256 .f32 0x00000000#32)

def aStore256 (vt : Vec Ideal S1x128x256 .bf16) (s s' : FVec Ideal S256x256 .f32) (m m' : Vec Ideal S1x1x256 .f32)
    (a : Vec Ideal S1x128x256 .f32) : FVec Ideal S1x128x256 .f32 :=
  shapeCast S1x128x256 (addf (mulf (select (k0_pay183) (rows128 (alpha256 s m)) (rows128 (alpha256 s' m')))
    (shapeCast S128x256 a shapeCasts_S1x128x256_S128x256)) (select (k0_pay183) (pv256 vt s m) (pv256 vt s' m')))
    shapeCasts_S128x256_S1x128x256

/-! ### Values at an index -/

/-- The named mask is minus infinity. -/
theorem mask_bot : (Named.named κ "mask" 0xF149F2CA#32 : Ideal .f32) = (⊥ : EReal) :=
  IdealRules.named_const.ideal_named_scalar _ _ _ _ rfl

/-- The maximum's neutral element. -/
theorem neg_inf_bot : Ideal.ofBits FTy.f32 4286578688#32 = ⊥ := by
  simp [Ideal.ofBits, Ideal.ieee]

/-- The test "row below 64", for a row of an accumulator. -/
theorem row_lt (r : Fin 128) : IntOp.cmpi CmpIPredicate.slt (BitVec.ofNat 32 r.val) 64#32 = BitVec.ofBool (decide (r.val < 64)) :=
  WordCmp.cmpi_slt_ofNat (by omega) (by omega)

theorem mNew512_at (s : FVec Ideal S512x256 .f32) (m : Vec Ideal S1x1x256 .f32) (j : Fin 256) :
    mNew512 s m (ix2 0 j) = mUp (m (ix3 0 0 j)) (fun t : Fin 512 => s (ix2 t j)) := by
  pointwise [mNew512, mUp]
  rw [neg_inf_bot]

theorem mStore512_at (s : FVec Ideal S512x256 .f32) (m : Vec Ideal S1x1x256 .f32) (j : Fin 256) :
    mStore512 s m (ix3 0 0 j) = mUp (m (ix3 0 0 j)) (fun t : Fin 512 => s (ix2 t j)) := by
  rw [← mNew512_at]; pointwise [mStore512]

theorem lStore512_at (s : FVec Ideal S512x256 .f32) (m l : Vec Ideal S1x1x256 .f32) (j : Fin 256) :
    lStore512 s m l (ix3 0 0 j) = lUp (m (ix3 0 0 j)) (l (ix3 0 0 j)) (fun t : Fin 512 => s (ix2 t j)) := by
  unfold lUp
  rw [← mNew512_at]; pointwise [lStore512, alpha512, pNew512]; rfl

theorem aStore512_at (vt : Vec Ideal S1x128x512 .bf16) (s s' : FVec Ideal S512x256 .f32) (m m' : Vec Ideal S1x1x256 .f32)
    (a : Vec Ideal S1x128x256 .f32) (r : Fin 128) (j : Fin 256) :
    aStore512 vt s s' m m' a (ix3 0 r j) = if r.val < 64
      then aUp (m (ix3 0 0 j)) (a (ix3 0 r j)) (fun t : Fin 512 => s (ix2 t j)) (fun t => vt (ix3 0 r t))
      else aUp (m' (ix3 0 0 j)) (a (ix3 0 r j)) (fun t : Fin 512 => s' (ix2 t j)) (fun t => vt (ix3 0 r t)) := by
  unfold aUp
  rw [← mNew512_at, ← mNew512_at]
  pointwise [aStore512, alpha512, pNew512, rows128, pv512, k0_pay183]
  rw [row_lt]
  by_cases h : r.val < 64
  · simp [h, Scalar.select]; rfl
  · simp [h, Scalar.select]; rfl

theorem mNew256_at (s : FVec Ideal S256x256 .f32) (m : Vec Ideal S1x1x256 .f32) (j : Fin 256) :
    mNew256 s m (ix2 0 j) = mUp (m (ix3 0 0 j)) (fun t : Fin 256 => s (ix2 t j)) := by
  pointwise [mNew256, mUp]
  rw [neg_inf_bot]

theorem mStore256_at (s : FVec Ideal S256x256 .f32) (m : Vec Ideal S1x1x256 .f32) (j : Fin 256) :
    mStore256 s m (ix3 0 0 j) = mUp (m (ix3 0 0 j)) (fun t : Fin 256 => s (ix2 t j)) := by
  rw [← mNew256_at]; pointwise [mStore256]

theorem lStore256_at (s : FVec Ideal S256x256 .f32) (m l : Vec Ideal S1x1x256 .f32) (j : Fin 256) :
    lStore256 s m l (ix3 0 0 j) = lUp (m (ix3 0 0 j)) (l (ix3 0 0 j)) (fun t : Fin 256 => s (ix2 t j)) := by
  unfold lUp
  rw [← mNew256_at]; pointwise [lStore256, alpha256, pNew256]; rfl

theorem aStore256_at (vt : Vec Ideal S1x128x256 .bf16) (s s' : FVec Ideal S256x256 .f32) (m m' : Vec Ideal S1x1x256 .f32)
    (a : Vec Ideal S1x128x256 .f32) (r : Fin 128) (j : Fin 256) :
    aStore256 vt s s' m m' a (ix3 0 r j) = if r.val < 64
      then aUp (m (ix3 0 0 j)) (a (ix3 0 r j)) (fun t : Fin 256 => s (ix2 t j)) (fun t => vt (ix3 0 r t))
      else aUp (m' (ix3 0 0 j)) (a (ix3 0 r j)) (fun t : Fin 256 => s' (ix2 t j)) (fun t => vt (ix3 0 r t)) := by
  unfold aUp
  rw [← mNew256_at, ← mNew256_at]
  pointwise [aStore256, alpha256, pNew256, rows128, pv256, k0_pay183]
  rw [row_lt]
  by_cases h : r.val < 64
  · simp [h, Scalar.select]; rfl
  · simp [h, Scalar.select]; rfl

/-! ### The diagonal's masks -/

/-- A column's number moved right by a constant. -/
theorem column_add (j : Fin 256) (n : ℕ) : IntOp.addi (BitVec.ofNat 32 j.val) (BitVec.ofNat 32 n) = BitVec.ofNat 32 (j.val + n) :=
  (BitVec.ofNat_add _ _).symm

/-- The first half of the queries keeps the keys up to its own column. -/
theorem mask256_at (s : FVec Ideal S256x256 .f32) (t j : Fin 256) :
    k0_pay200 s (ix2 t j) = if t.val ≤ j.val then s (ix2 t j) else ⊥ := by
  pointwise [k0_pay200]
  rw [mask_bot, column_add j 0, WordCmp.cmpi_sle_ofNat (by omega) (by omega), WordCmp.select_decide]
  rfl

/-- The second half lies 256 columns further right. -/
theorem mask512_at (s : FVec Ideal S512x256 .f32) (t : Fin 512) (j : Fin 256) :
    k0_pay227 s (ix2 t j) = if t.val ≤ j.val + 256 then s (ix2 t j) else ⊥ := by
  pointwise [k0_pay227]
  rw [mask_bot, column_add j 256, WordCmp.cmpi_sle_ofNat (by omega) (by omega), WordCmp.select_decide]

/-- The final quotient, transposed: each accumulator row is divided by its head's normaliser. -/
theorem out_at (a : FVec Ideal S128x256 .f32) (l l' : Vec Ideal S1x1x256 .f32) (j : Fin 256) (r : Fin 128) :
    k0_pay1 (k0_pay183) a l l' (ix2 j r)
      = Ideal.div (a (ix2 r j)) (if r.val < 64 then l (ix3 0 0 j) else l' (ix3 0 0 j)) := by
  pointwise [k0_pay1, k0_pay183]
  rw [row_lt]
  by_cases h : r.val < 64
  · simp [h, Scalar.select]
  · simp [h, Scalar.select]

end Cert.Attn

end
-- ==== Proof.Chunk.lean ====
/-
  One chunk of 256 queries, seen through the vectors the kernel loads: the running maximum and normaliser of two heads
  and the accumulator of both. `Chunk s v N …` says that these vectors hold the running quantities of the score
  functions `s 0`, `s 1` after the keys below `N`; a block of 512 or 256 further keys moves `N` on. The second half of
  the module reads the scores and values off the query, key and value blocks.
-/
module

public import proofs.«01_k».proof.Proof.Update
public import Idealize.ShloMosaic.Lib.VecWindow

@[expose] public section

noncomputable section

open Idealize.ShloMosaic Idealize.ShloMosaic.TcCoe Idealize.SL.Sem
open Cert.KernelIdeal Cert.KernelIdeal.Gen

namespace Cert.Attn

/-- Which head of the pair an accumulator row belongs to. -/
def headOf (r : Fin 128) : Fin 2 := if r.val < 64 then 0 else 1

structure Chunk (s : Fin 2 → Fin 256 → ℕ → EReal) (v : Fin 128 → ℕ → EReal) (N : ℕ)
    (m m' l l' : Vec Ideal S1x1x256 .f32) (a : Vec Ideal S1x128x256 .f32) : Prop where
  m0 : ∀ j, m (ix3 0 0 j) = om (s 0 j) N
  m1 : ∀ j, m' (ix3 0 0 j) = om (s 1 j) N
  l0 : ∀ j, l (ix3 0 0 j) = ol (s 0 j) N
  l1 : ∀ j, l' (ix3 0 0 j) = ol (s 1 j) N
  acc : ∀ r j, a (ix3 0 r j) = oa (s (headOf r) j) (v r) N

theorem Chunk.step512 {s : Fin 2 → Fin 256 → ℕ → EReal} {v : Fin 128 → ℕ → EReal} {N : ℕ}
    {m m' l l' : Vec Ideal S1x1x256 .f32} {a : Vec Ideal S1x128x256 .f32} (H : Chunk s v N m m' l l' a)
    {S S' : FVec Ideal S512x256 .f32} {vt : Vec Ideal S1x128x512 .bf16}
    (hS : ∀ (t : Fin 512) (j : Fin 256), S (ix2 t j) = s 0 j (N + t)) (hS' : ∀ (t : Fin 512) (j : Fin 256), S' (ix2 t j) = s 1 j (N + t))
    (hv : ∀ (r : Fin 128) (t : Fin 512), vt (ix3 0 r t) = v r (N + t)) :
    Chunk s v (N + 512) (mStore512 S m) (mStore512 S' m') (lStore512 S m l) (lStore512 S' m' l') (aStore512 vt S S' m m' a) where
  m0 j := by rw [mStore512_at, H.m0, ← om_step _ N 512]; simp only [hS]
  m1 j := by rw [mStore512_at, H.m1, ← om_step _ N 512]; simp only [hS']
  l0 j := by rw [lStore512_at, H.m0, H.l0, ← ol_step _ N 512]; simp only [hS]
  l1 j := by rw [lStore512_at, H.m1, H.l1, ← ol_step _ N 512]; simp only [hS']
  acc r j := by
    rw [aStore512_at, H.m0, H.m1, H.acc, ← oa_step _ _ N 512]
    simp only [hS, hS', hv, headOf]
    split <;> rfl

theorem Chunk.step256 {s : Fin 2 → Fin 256 → ℕ → EReal} {v : Fin 128 → ℕ → EReal} {N : ℕ}
    {m m' l l' : Vec Ideal S1x1x256 .f32} {a : Vec Ideal S1x128x256 .f32} (H : Chunk s v N m m' l l' a)
    {S S' : FVec Ideal S256x256 .f32} {vt : Vec Ideal S1x128x256 .bf16}
    (hS : ∀ t j : Fin 256, S (ix2 t j) = s 0 j (N + t)) (hS' : ∀ t j : Fin 256, S' (ix2 t j) = s 1 j (N + t))
    (hv : ∀ (r : Fin 128) (t : Fin 256), vt (ix3 0 r t) = v r (N + t)) :
    Chunk s v (N + 256) (mStore256 S m) (mStore256 S' m') (lStore256 S m l) (lStore256 S' m' l') (aStore256 vt S S' m m' a) where
  m0 j := by rw [mStore256_at, H.m0, ← om_step _ N 256]; simp only [hS]
  m1 j := by rw [mStore256_at, H.m1, ← om_step _ N 256]; simp only [hS']
  l0 j := by rw [lStore256_at, H.m0, H.l0, ← ol_step _ N 256]; simp only [hS]
  l1 j := by rw [lStore256_at, H.m1, H.l1, ← ol_step _ N 256]; simp only [hS']
  acc r j := by
    rw [aStore256_at, H.m0, H.m1, H.acc, ← oa_step _ _ N 256]
    simp only [hS, hS', hv, headOf]
    split <;> rfl

/-- The running quantities depend on the scores below `N` only. -/
theorem Chunk.congr {s s' : Fin 2 → Fin 256 → ℕ → EReal} {v : Fin 128 → ℕ → EReal} {N : ℕ}
    {m m' l l' : Vec Ideal S1x1x256 .f32} {a : Vec Ideal S1x128x256 .f32} (H : Chunk s v N m m' l l' a)
    (h : ∀ c j n, n < N → s c j n = s' c j n) : Chunk s' v N m m' l l' a where
  m0 j := by rw [H.m0, om_congr (h 0 j)]
  m1 j := by rw [H.m1, om_congr (h 1 j)]
  l0 j := by rw [H.l0, ol_congr (h 0 j)]
  l1 j := by rw [H.l1, ol_congr (h 1 j)]
  acc r j := by rw [H.acc, oa_congr (h _ j)]

/-! ### Scores and values of the blocks -/

/-- The score of key `n` against query `256 c + j` of the block, head `h` of the pair. -/
def sc (Q : Vec Ideal S512x256 .bf16) (K : Vec Ideal S4096x256 .bf16) (c h : Fin 2) (j : Fin 256) (n : ℕ) : EReal :=
  if hn : n < 4096 then ∑ d : Fin 128, K (ix2 ⟨n, hn⟩ ⟨128 * h.val + d.val, by omega⟩)
    * Q (ix2 ⟨256 * c.val + j.val, by omega⟩ ⟨128 * h.val + d.val, by omega⟩) else 0

/-- Value row `r` at key `n`. -/
def vl (V : Vec Ideal S8x128x512 .bf16) (r : Fin 128) (n : ℕ) : EReal :=
  if hn : n < 4096 then V (ix3 ⟨n / 512, by omega⟩ r ⟨n % 512, by omega⟩) else 0

variable {κ : Kind} {sp : Space}

/-- A load from the query block. -/
theorem q_load (v : View sig κ sp S512x256 .bf16) (X : v.ty.Contents (Elt Ideal)) (c h : Fin 2) {off : Fin 2 → ℕ}
    (inb : ∀ a, off a + S256x128.size a ≤ S512x256.size a) (ho : off = ![256 * c.val, 128 * h.val]) (j : Fin 256) (d : Fin 128) :
    v.readAt (Elt Ideal) (Rect.unit (s := S512x256) off S256x128.size inb).toLoadRect X (ix2 j d)
      = v.read (Elt Ideal) X (ix2 ⟨256 * c.val + j.val, by omega⟩ ⟨128 * h.val + d.val, by omega⟩) := by
  subst ho
  refine congrArg (v.read (Elt Ideal) X) (funext ?_)
  refine Fin.forall_fin_two.mpr ⟨Fin.ext ?_, Fin.ext ?_⟩
  · show 256 * c.val + 1 * j.val = _; rw [one_mul]; rfl
  · show 128 * h.val + 1 * d.val = _; rw [one_mul]; rfl

/-- A load of `n` keys, from key `N` on. -/
theorem k_load (v : View sig κ sp S4096x256 .bf16) (X : v.ty.Contents (Elt Ideal)) (n N : ℕ) (h : Fin 2) {off size : Fin 2 → ℕ}
    (inb : ∀ a, off a + size a ≤ S4096x256.size a) (ho : off = ![N, 128 * h.val]) (hs : size = ![n, 128]) (hN : N + n ≤ 4096)
    (t : Fin n) (d : Fin 128) (y : (Rect.unit (s := S4096x256) off size inb).shape.Idx) (h0 : (y (0 : Fin 2)).val = t.val) (h1 : (y (1 : Fin 2)).val = d.val) :
    v.readAt (Elt Ideal) (Rect.unit (s := S4096x256) off size inb).toLoadRect X y
      = v.read (Elt Ideal) X (ix2 ⟨N + t.val, by omega⟩ ⟨128 * h.val + d.val, by omega⟩) := by
  subst ho
  refine congrArg (v.read (Elt Ideal) X) (funext ?_)
  refine Fin.forall_fin_two.mpr ⟨Fin.ext ?_, Fin.ext ?_⟩
  · show N + 1 * (y (0 : Fin 2)).val = _; rw [one_mul, h0]; rfl
  · show 128 * h.val + 1 * (y (1 : Fin 2)).val = _; rw [one_mul, h1]; rfl

theorem sc_load512 (v : View sig κ sp S512x256 .bf16) (X : v.ty.Contents (Elt Ideal)) (w : View sig κ sp S4096x256 .bf16)
    (Y : w.ty.Contents (Elt Ideal)) (c h : Fin 2) (N : ℕ) {off off' : Fin 2 → ℕ}
    (inb : ∀ a, off a + S256x128.size a ≤ S512x256.size a) (inb' : ∀ a, off' a + S512x128.size a ≤ S4096x256.size a)
    (ho : off = ![256 * c.val, 128 * h.val]) (ho' : off' = ![N, 128 * h.val]) (hN : N + 512 ≤ 4096) (t : Fin 512) (j : Fin 256) :
    score512 (v.readAt (Elt Ideal) (Rect.unit (s := S512x256) off S256x128.size inb).toLoadRect X)
        (w.readAt (Elt Ideal) (Rect.unit (s := S4096x256) off' S512x128.size inb').toLoadRect Y) (ix2 t j)
      = sc (v.read (Elt Ideal) X) (w.read (Elt Ideal) Y) c h j (N + t.val) := by
  rw [score512_at, sc, dif_pos (by omega)]
  refine Finset.sum_congr rfl fun d _ => ?_
  rw [q_load v X c h inb ho, k_load w Y 512 N h inb' ho' rfl hN t d (ix2 t d) rfl rfl]

theorem sc_load256 (v : View sig κ sp S512x256 .bf16) (X : v.ty.Contents (Elt Ideal)) (w : View sig κ sp S4096x256 .bf16)
    (Y : w.ty.Contents (Elt Ideal)) (c h : Fin 2) (N : ℕ) {off off' : Fin 2 → ℕ}
    (inb : ∀ a, off a + S256x128.size a ≤ S512x256.size a) (inb' : ∀ a, off' a + S256x128.size a ≤ S4096x256.size a)
    (ho : off = ![256 * c.val, 128 * h.val]) (ho' : off' = ![N, 128 * h.val]) (hN : N + 256 ≤ 4096) (t : Fin 256) (j : Fin 256) :
    score256 (v.readAt (Elt Ideal) (Rect.unit (s := S512x256) off S256x128.size inb).toLoadRect X)
        (w.readAt (Elt Ideal) (Rect.unit (s := S4096x256) off' S256x128.size inb').toLoadRect Y) (ix2 t j)
      = sc (v.read (Elt Ideal) X) (w.read (Elt Ideal) Y) c h j (N + t.val) := by
  rw [score256_at, sc, dif_pos (by omega)]
  refine Finset.sum_congr rfl fun d _ => ?_
  rw [q_load v X c h inb ho, k_load w Y 256 N h inb' ho' rfl hN t d (ix2 t d) rfl rfl]

/-- A load of the values of up to 512 keys, the block `b` of the values. -/
theorem v_load (v : View sig κ sp S8x128x512 .bf16) (X : v.ty.Contents (Elt Ideal)) (n b : ℕ) (hb : b < 8) (hn : n ≤ 512) {off size : Fin 3 → ℕ}
    (inb : ∀ a, off a + size a ≤ S8x128x512.size a) (ho : off = ![b, 0, 0])
    (t : Fin n) (r : Fin 128) (y : (Rect.unit (s := S8x128x512) off size inb).shape.Idx) (h0 : (y (0 : Fin 3)).val = 0)
    (h1 : (y (1 : Fin 3)).val = r.val) (h2 : (y (2 : Fin 3)).val = t.val) :
    v.readAt (Elt Ideal) (Rect.unit (s := S8x128x512) off size inb).toLoadRect X y = vl (v.read (Elt Ideal) X) r (b * 512 + t.val) := by
  subst ho
  rw [vl, dif_pos (by omega)]
  refine congrArg (v.read (Elt Ideal) X) (funext fun a => Fin.ext ?_)
  match a with
  | ⟨0, _⟩ => show b + 1 * (y (0 : Fin 3)).val = (b * 512 + t.val) / 512; rw [h0]; omega
  | ⟨1, _⟩ => show 0 + 1 * (y (1 : Fin 3)).val = r.val; rw [h1]; omega
  | ⟨2, _⟩ => show 0 + 1 * (y (2 : Fin 3)).val = (b * 512 + t.val) % 512; rw [h2]; omega

end Cert.Attn

end
-- ==== Proof.Trip.lean ====
/-
  One trip of the kernel's loop over the keys: two blocks of 512 keys for both query chunks. The trip's stores, as
  lists of pieces (newest first), are `tripM`, `tripL`, `tripA`; loading any slot after the trip gives the second block's
  update of the first block's update of what the slot held. With `Chunk` this moves both chunks 1024 keys on.
-/
module

public import proofs.«01_k».proof.Proof.Chunk

@[expose] public section

noncomputable section

open Idealize.ShloMosaic Idealize.ShloMosaic.TcCoe Idealize.SL.Sem
open Cert.KernelIdeal Cert.KernelIdeal.Gen

namespace Cert.Attn

/-! ### The slots of the scratch buffers -/

/-- Slot `s` of the maxima and normalisers. -/
abbrev rm (s : ℕ) (h : s < 4) : Rect S4x1x256 :=
  Rect.unit (s := S4x1x256) ![s, 0, 0] S1x1x256.size (fun a => match a with
    | ⟨0, _⟩ => h | ⟨1, _⟩ => Nat.le_refl 1 | ⟨2, _⟩ => Nat.le_refl 256)

/-- Slot `c` of the accumulators. -/
abbrev ra (c : ℕ) (h : c < 2) : Rect S2x128x256 :=
  Rect.unit (s := S2x128x256) ![c, 0, 0] S1x128x256.size (fun a => match a with
    | ⟨0, _⟩ => h | ⟨1, _⟩ => Nat.le_refl 128 | ⟨2, _⟩ => Nat.le_refl 256)

variable {κ : Kind} {sp : Space}

/-- A load of the newest piece's rectangle reads its payload. -/
theorem ld_hit {s : Shape} {e : EltTy} (v : View sig κ sp s e) (f : v.ty.Contents (Elt Ideal)) (off size : Fin s.rank → ℕ)
    (inb : ∀ a, off a + size a ≤ s.size a) (w : (Rect.unit off size inb).shape.Idx → Elt Ideal e) (L : List (View.Piece (Elt Ideal) s e)) :
    v.readAt (Elt Ideal) (Rect.unit off size inb).toLoadRect (v.writes (Elt Ideal) f (⟨Rect.unit off size inb, w⟩ :: L)) = w := by
  rw [View.readAt_unit v _ inb rfl inb, View.read_writes_cons_put v f inb w L rfl]
  exact VecWindow.window_put_same _ _ _ _ _

/-- A load apart from the newest piece's rectangle reads what was there before. -/
theorem ld_skip {s : Shape} {e : EltTy} (v : View sig κ sp s e) (f : v.ty.Contents (Elt Ideal)) (off size off' size' : Fin s.rank → ℕ)
    (inb : ∀ a, off a + size a ≤ s.size a) (inb' : ∀ a, off' a + size' a ≤ s.size a)
    (w : (Rect.unit off' size' inb').shape.Idx → Elt Ideal e) (L : List (View.Piece (Elt Ideal) s e)) (a : Fin s.rank)
    (ha : off a + size a ≤ off' a ∨ off' a + size' a ≤ off a) :
    v.readAt (Elt Ideal) (Rect.unit off size inb).toLoadRect (v.writes (Elt Ideal) f (⟨Rect.unit off' size' inb', w⟩ :: L))
      = v.readAt (Elt Ideal) (Rect.unit off size inb).toLoadRect (v.writes (Elt Ideal) f L) := by
  rw [View.readAt_unit v _ inb rfl inb, View.read_writes_cons_put v f inb' w L rfl, View.readAt_unit v _ inb rfl inb]
  exact VecWindow.window_put_of_disjoint _ _ _ _ _ _ _ a ha

theorem ldm_hit (v : View sig κ sp S4x1x256 .f32) (f : v.ty.Contents (Elt Ideal)) (s : ℕ) (h : s < 4) (w : Vec Ideal S1x1x256 .f32)
    (L : List (View.Piece (Elt Ideal) S4x1x256 .f32)) :
    v.readAt (Elt Ideal) (rm s h).toLoadRect (v.writes (Elt Ideal) f (⟨rm s h, w⟩ :: L)) = w := by
  exact ld_hit v f _ _ _ w L

theorem ldm_skip (v : View sig κ sp S4x1x256 .f32) (f : v.ty.Contents (Elt Ideal)) (s s' : ℕ) (h : s < 4) (h' : s' < 4) (hne : s ≠ s')
    (w : Vec Ideal S1x1x256 .f32) (L : List (View.Piece (Elt Ideal) S4x1x256 .f32)) :
    v.readAt (Elt Ideal) (rm s h).toLoadRect (v.writes (Elt Ideal) f (⟨rm s' h', w⟩ :: L))
      = v.readAt (Elt Ideal) (rm s h).toLoadRect (v.writes (Elt Ideal) f L) := by
  refine ld_skip v f _ _ _ _ _ _ w L (0 : Fin 3) ?_
  show s + 1 ≤ s' ∨ s' + 1 ≤ s
  omega

theorem lda_hit (v : View sig κ sp S2x128x256 .f32) (f : v.ty.Contents (Elt Ideal)) (s : ℕ) (h : s < 2) (w : Vec Ideal S1x128x256 .f32)
    (L : List (View.Piece (Elt Ideal) S2x128x256 .f32)) :
    v.readAt (Elt Ideal) (ra s h).toLoadRect (v.writes (Elt Ideal) f (⟨ra s h, w⟩ :: L)) = w := by
  exact ld_hit v f _ _ _ w L

theorem lda_skip (v : View sig κ sp S2x128x256 .f32) (f : v.ty.Contents (Elt Ideal)) (s s' : ℕ) (h : s < 2) (h' : s' < 2) (hne : s ≠ s')
    (w : Vec Ideal S1x128x256 .f32) (L : List (View.Piece (Elt Ideal) S2x128x256 .f32)) :
    v.readAt (Elt Ideal) (ra s h).toLoadRect (v.writes (Elt Ideal) f (⟨ra s' h', w⟩ :: L))
      = v.readAt (Elt Ideal) (ra s h).toLoadRect (v.writes (Elt Ideal) f L) := by
  refine ld_skip v f _ _ _ _ _ _ w L (0 : Fin 3) ?_
  show s + 1 ≤ s' ∨ s' + 1 ≤ s
  omega

/-! ### The stores of one trip -/

section
variable (vm : View sig κ sp S4x1x256 .f32) (vl' : View sig κ sp S4x1x256 .f32) (va : View sig κ sp S2x128x256 .f32)
  (fm : vm.ty.Contents (Elt Ideal)) (fl : vl'.ty.Contents (Elt Ideal)) (fa : va.ty.Contents (Elt Ideal))
  (S0 S1 S2 S3 T0 T1 T2 T3 : FVec Ideal S512x256 .f32) (vt vt' : Vec Ideal S1x128x512 .bf16)

abbrev ldm (s : ℕ) (h : s < 4) : Vec Ideal S1x1x256 .f32 := vm.readAt (Elt Ideal) (rm s h).toLoadRect fm
abbrev lda (s : ℕ) (h : s < 2) : Vec Ideal S1x128x256 .f32 := va.readAt (Elt Ideal) (ra s h).toLoadRect fa
abbrev cvm (L : List (View.Piece (Elt Ideal) S4x1x256 .f32)) (s : ℕ) (h : s < 4) : Vec Ideal S1x1x256 .f32 := vm.readCov L (rm s h).toLoadRect
abbrev cva (L : List (View.Piece (Elt Ideal) S2x128x256 .f32)) (s : ℕ) (h : s < 2) : Vec Ideal S1x128x256 .f32 := va.readCov L (ra s h).toLoadRect

/-- The stores of the maxima by the first block, -/
def tripM4 : List (View.Piece (Elt Ideal) S4x1x256 .f32) :=
  [⟨rm 3 (by omega), mStore512 S3 (ldm vm fm 3 (by omega))⟩, ⟨rm 2 (by omega), mStore512 S2 (ldm vm fm 2 (by omega))⟩,
   ⟨rm 1 (by omega), mStore512 S1 (ldm vm fm 1 (by omega))⟩, ⟨rm 0 (by omega), mStore512 S0 (ldm vm fm 0 (by omega))⟩]
/-- and after each store of the second. -/
def tripM5 : List (View.Piece (Elt Ideal) S4x1x256 .f32) :=
  ⟨rm 0 (by omega), mStore512 T0 (cvm vm (tripM4 vm fm S0 S1 S2 S3) 0 (by omega))⟩ :: tripM4 vm fm S0 S1 S2 S3
def tripM6 : List (View.Piece (Elt Ideal) S4x1x256 .f32) :=
  ⟨rm 1 (by omega), mStore512 T1 (cvm vm (tripM5 vm fm S0 S1 S2 S3 T0) 1 (by omega))⟩ :: tripM5 vm fm S0 S1 S2 S3 T0
def tripM7 : List (View.Piece (Elt Ideal) S4x1x256 .f32) :=
  ⟨rm 2 (by omega), mStore512 T2 (cvm vm (tripM6 vm fm S0 S1 S2 S3 T0 T1) 2 (by omega))⟩ :: tripM6 vm fm S0 S1 S2 S3 T0 T1
def tripM : List (View.Piece (Elt Ideal) S4x1x256 .f32) :=
  ⟨rm 3 (by omega), mStore512 T3 (cvm vm (tripM7 vm fm S0 S1 S2 S3 T0 T1 T2) 3 (by omega))⟩ :: tripM7 vm fm S0 S1 S2 S3 T0 T1 T2

/-- The stores of the normalisers. -/
def tripL4 : List (View.Piece (Elt Ideal) S4x1x256 .f32) :=
  [⟨rm 3 (by omega), lStore512 S3 (ldm vm fm 3 (by omega)) (ldm vl' fl 3 (by omega))⟩,
   ⟨rm 2 (by omega), lStore512 S2 (ldm vm fm 2 (by omega)) (ldm vl' fl 2 (by omega))⟩,
   ⟨rm 1 (by omega), lStore512 S1 (ldm vm fm 1 (by omega)) (ldm vl' fl 1 (by omega))⟩,
   ⟨rm 0 (by omega), lStore512 S0 (ldm vm fm 0 (by omega)) (ldm vl' fl 0 (by omega))⟩]
def tripL5 : List (View.Piece (Elt Ideal) S4x1x256 .f32) :=
  ⟨rm 0 (by omega), lStore512 T0 (cvm vm (tripM4 vm fm S0 S1 S2 S3) 0 (by omega)) (cvm vl' (tripL4 vm vl' fm fl S0 S1 S2 S3) 0 (by omega))⟩
    :: tripL4 vm vl' fm fl S0 S1 S2 S3
def tripL6 : List (View.Piece (Elt Ideal) S4x1x256 .f32) :=
  ⟨rm 1 (by omega), lStore512 T1 (cvm vm (tripM5 vm fm S0 S1 S2 S3 T0) 1 (by omega)) (cvm vl' (tripL5 vm vl' fm fl S0 S1 S2 S3 T0) 1 (by omega))⟩
    :: tripL5 vm vl' fm fl S0 S1 S2 S3 T0
def tripL7 : List (View.Piece (Elt Ideal) S4x1x256 .f32) :=
  ⟨rm 2 (by omega), lStore512 T2 (cvm vm (tripM6 vm fm S0 S1 S2 S3 T0 T1) 2 (by omega)) (cvm vl' (tripL6 vm vl' fm fl S0 S1 S2 S3 T0 T1) 2 (by omega))⟩
    :: tripL6 vm vl' fm fl S0 S1 S2 S3 T0 T1
def tripL : List (View.Piece (Elt Ideal) S4x1x256 .f32) :=
  ⟨rm 3 (by omega), lStore512 T3 (cvm vm (tripM7 vm fm S0 S1 S2 S3 T0 T1 T2) 3 (by omega)) (cvm vl' (tripL7 vm vl' fm fl S0 S1 S2 S3 T0 T1 T2) 3 (by omega))⟩
    :: tripL7 vm vl' fm fl S0 S1 S2 S3 T0 T1 T2

/-- The stores of the accumulators. -/
def tripA2 : List (View.Piece (Elt Ideal) S2x128x256 .f32) :=
  [⟨ra 1 (by omega), aStore512 vt S2 S3 (ldm vm fm 2 (by omega)) (ldm vm fm 3 (by omega)) (lda va fa 1 (by omega))⟩,
   ⟨ra 0 (by omega), aStore512 vt S0 S1 (ldm vm fm 0 (by omega)) (ldm vm fm 1 (by omega)) (lda va fa 0 (by omega))⟩]
def tripA3 : List (View.Piece (Elt Ideal) S2x128x256 .f32) :=
  ⟨ra 0 (by omega), aStore512 vt' T0 T1 (cvm vm (tripM4 vm fm S0 S1 S2 S3) 0 (by omega)) (cvm vm (tripM5 vm fm S0 S1 S2 S3 T0) 1 (by omega))
    (cva va (tripA2 vm va fm fa S0 S1 S2 S3 vt) 0 (by omega))⟩ :: tripA2 vm va fm fa S0 S1 S2 S3 vt
def tripA : List (View.Piece (Elt Ideal) S2x128x256 .f32) :=
  ⟨ra 1 (by omega), aStore512 vt' T2 T3 (cvm vm (tripM6 vm fm S0 S1 S2 S3 T0 T1) 2 (by omega)) (cvm vm (tripM7 vm fm S0 S1 S2 S3 T0 T1 T2) 3 (by omega))
    (cva va (tripA3 vm va fm fa S0 S1 S2 S3 T0 T1 vt vt') 1 (by omega))⟩ :: tripA3 vm va fm fa S0 S1 S2 S3 T0 T1 vt vt'

/-- What the two chunks hold in the scratch buffers' contents. -/
def Holds (s : Fin 2 → Fin 2 → Fin 256 → ℕ → EReal) (v : Fin 128 → ℕ → EReal) (N : ℕ) : Prop :=
  Chunk (s 0) v N (ldm vm fm 0 (by omega)) (ldm vm fm 1 (by omega)) (ldm vl' fl 0 (by omega)) (ldm vl' fl 1 (by omega)) (lda va fa 0 (by omega))
  ∧ Chunk (s 1) v N (ldm vm fm 2 (by omega)) (ldm vm fm 3 (by omega)) (ldm vl' fl 2 (by omega)) (ldm vl' fl 3 (by omega)) (lda va fa 1 (by omega))

/-- A trip's stores move both chunks two blocks on. -/
theorem Holds.trip {s : Fin 2 → Fin 2 → Fin 256 → ℕ → EReal} {v : Fin 128 → ℕ → EReal} {N : ℕ} (H : Holds vm vl' va fm fl fa s v N)
    (hS0 : ∀ (t : Fin 512) (j : Fin 256), S0 (ix2 t j) = s 0 0 j (N + t)) (hS1 : ∀ (t : Fin 512) (j : Fin 256), S1 (ix2 t j) = s 0 1 j (N + t))
    (hS2 : ∀ (t : Fin 512) (j : Fin 256), S2 (ix2 t j) = s 1 0 j (N + t)) (hS3 : ∀ (t : Fin 512) (j : Fin 256), S3 (ix2 t j) = s 1 1 j (N + t))
    (hT0 : ∀ (t : Fin 512) (j : Fin 256), T0 (ix2 t j) = s 0 0 j (N + 512 + t)) (hT1 : ∀ (t : Fin 512) (j : Fin 256), T1 (ix2 t j) = s 0 1 j (N + 512 + t))
    (hT2 : ∀ (t : Fin 512) (j : Fin 256), T2 (ix2 t j) = s 1 0 j (N + 512 + t)) (hT3 : ∀ (t : Fin 512) (j : Fin 256), T3 (ix2 t j) = s 1 1 j (N + 512 + t))
    (hv : ∀ (r : Fin 128) (t : Fin 512), vt (ix3 0 r t) = v r (N + t)) (hv' : ∀ (r : Fin 128) (t : Fin 512), vt' (ix3 0 r t) = v r (N + 512 + t)) :
    Holds vm vl' va (vm.writes (Elt Ideal) fm (tripM vm fm S0 S1 S2 S3 T0 T1 T2 T3))
      (vl'.writes (Elt Ideal) fl (tripL vm vl' fm fl S0 S1 S2 S3 T0 T1 T2 T3))
      (va.writes (Elt Ideal) fa (tripA vm va fm fa S0 S1 S2 S3 T0 T1 T2 T3 vt vt')) s v (N + 512 + 512) := by
  have h0 := (H.1.step512 hS0 hS1 hv).step512 hT0 hT1 hv'
  have h1 := (H.2.step512 hS2 hS3 hv).step512 hT2 hT3 hv'
  refine ⟨?_, ?_⟩
  · convert h0 using 1 <;>
      simp (discharger := decide) only [tripM, tripM7, tripM6, tripM5, tripM4, tripL, tripL7, tripL6, tripL5, tripL4, tripA, tripA3, tripA2, View.readCov,
        ldm_hit, ldm_skip, lda_hit, lda_skip]
  · convert h1 using 1 <;>
      simp (discharger := decide) only [tripM, tripM7, tripM6, tripM5, tripM4, tripL, tripL7, tripL6, tripL5, tripL4, tripA, tripA3, tripA2, View.readCov,
        ldm_hit, ldm_skip, lda_hit, lda_skip]

end

end Cert.Attn

end
-- ==== Proof.Loop.lean ====
/-
  The kernel's loop over the unmasked keys: how often it runs, where its loads lie, and what the scratch buffers hold
  after it. For the block of queries `qi` the loop makes `qi / 2` trips of 1024 keys each; the remainder loop behind it
  makes none.
-/
module

public import proofs.«01_k».proof.Proof.Trip

@[expose] public section

noncomputable section

open Idealize.ShloMosaic Idealize.ShloMosaic.TcCoe Idealize.SL.Sem
open Cert.KernelIdeal Cert.KernelIdeal.Gen

namespace Cert.Attn

/-! ### Trip counts and offsets -/

/-- The loop's trip count as a function of the query block's number. -/
theorem trips1 (i : grid0.Coords) : (k0_t1_loop i).trips = (i 2).val / 2 := by
  unfold k0_t1_loop
  have h8 : (i 2).val < 8 := (i 2).isLt
  generalize (i 2).val = q at h8 ⊢
  interval_cases q <;> decide

theorem trip_lt (i : grid0.Coords) (k : Fin (k0_t1_loop i).trips) : k.val < 4 := by
  have := k.isLt
  have h := trips1 i
  have h8 : (i 2).val < 8 := (i 2).isLt
  omega

theorem word_first (n : ℕ) (hn : n < 4) : (Scalar.muli (Scalar.muli 2#32 (Scf.iv 0#32 1#32 n)) 512#32).toNat = n * 1024 := by
  have h : ∀ n : Fin 4, (Scalar.muli (Scalar.muli 2#32 (Scf.iv 0#32 1#32 n.val)) 512#32).toNat = n.val * 1024 := by decide
  exact h ⟨n, hn⟩

theorem word_second (n : ℕ) (hn : n < 4) :
    (Scalar.muli (Scalar.addi (Scalar.muli 2#32 (Scf.iv 0#32 1#32 n)) 1#32) 512#32).toNat = n * 1024 + 512 := by
  have h : ∀ n : Fin 4, (Scalar.muli (Scalar.addi (Scalar.muli 2#32 (Scf.iv 0#32 1#32 n.val)) 1#32) 512#32).toNat = n.val * 1024 + 512 := by decide
  exact h ⟨n, hn⟩

theorem word_block (n : ℕ) (hn : n < 4) : (Scalar.muli 2#32 (Scf.iv 0#32 1#32 n)).toNat = 2 * n := by
  have h : ∀ n : Fin 4, (Scalar.muli 2#32 (Scf.iv 0#32 1#32 n.val)).toNat = 2 * n.val := by decide
  exact h ⟨n, hn⟩

theorem word_block' (n : ℕ) (hn : n < 4) : (Scalar.addi (Scalar.muli 2#32 (Scf.iv 0#32 1#32 n)) 1#32).toNat = 2 * n + 1 := by
  have h : ∀ n : Fin 4, (Scalar.addi (Scalar.muli 2#32 (Scf.iv 0#32 1#32 n.val)) 1#32).toNat = 2 * n.val + 1 := by decide
  exact h ⟨n, hn⟩

section
variable (i : grid0.Coords) (k : Fin (k0_t1_loop i).trips)

theorem off1_eq : k0_off1 i k = ![k.val * 1024, 128 * (0 : Fin 2).val] :=
  congrArg (fun n : ℕ => (![n, 0] : Fin 2 → ℕ)) (word_first _ (trip_lt i k))
theorem off2_eq : k0_off2 i k = ![k.val * 1024, 128 * (1 : Fin 2).val] :=
  congrArg (fun n : ℕ => (![n, 128] : Fin 2 → ℕ)) (word_first _ (trip_lt i k))
theorem off3_eq : k0_off3 i k = ![k.val * 1024 + 512, 128 * (0 : Fin 2).val] :=
  congrArg (fun n : ℕ => (![n, 0] : Fin 2 → ℕ)) (word_second _ (trip_lt i k))
theorem off4_eq : k0_off4 i k = ![k.val * 1024 + 512, 128 * (1 : Fin 2).val] :=
  congrArg (fun n : ℕ => (![n, 128] : Fin 2 → ℕ)) (word_second _ (trip_lt i k))
theorem off5_eq : k0_off5 i k = ![2 * k.val, 0, 0] :=
  congrArg (fun n : ℕ => (![n, 0, 0] : Fin 3 → ℕ)) (word_block _ (trip_lt i k))
theorem off6_eq : k0_off6 i k = ![2 * k.val + 1, 0, 0] :=
  congrArg (fun n : ℕ => (![n, 0, 0] : Fin 3 → ℕ)) (word_block' _ (trip_lt i k))
end

/-! ### One trip -/

section
variable (𝒱 : Variants) (c : Dev nD) (bd : Option 𝒱.V) (i : grid0.Coords)
  (arg3 : Memref sig .tc .vmem S512x256 .bf16) (harg3 : arg3.IsWhole) (arg4 : Memref sig .tc .vmem S4096x256 .bf16) (harg4 : arg4.IsWhole)
  (arg5 : Memref sig .tc .vmem S8x128x512 .bf16) (harg5 : arg5.IsWhole) (arg6 : Memref sig .tc .vmem S512x128 .bf16) (harg6 : arg6.IsWhole)
  (arg7 : Memref sig .tc .vmem S4x1x256 .f32) (harg7 : arg7.IsWhole) (arg8 : Memref sig .tc .vmem S4x1x256 .f32) (harg8 : arg8.IsWhole)
  (arg9 : Memref sig .tc .vmem S2x128x256 .f32) (harg9 : arg9.IsWhole) (arg2 v31 w0 : BitVec 32)
  (X3 : BufTy.Contents (Elt Ideal) arg3.view.ty) (X4 : BufTy.Contents (Elt Ideal) arg4.view.ty) (X5 : BufTy.Contents (Elt Ideal) arg5.view.ty)

/-- The scores the pair of heads at these blocks has, per chunk and head, and the values. -/
abbrev scs : Fin 2 → Fin 2 → Fin 256 → ℕ → EReal := fun c h j n => sc (arg3.view.read (Elt Ideal) X3) (arg4.view.read (Elt Ideal) X4) c h j n
abbrev vls : Fin 128 → ℕ → EReal := fun r n => vl (arg5.view.read (Elt Ideal) X5) r n

theorem q00 : ∀ a, (![0, 0] : Fin 2 → ℕ) a + S256x128.size a ≤ S512x256.size a := by decide
theorem q01 : ∀ a, (![0, 128] : Fin 2 → ℕ) a + S256x128.size a ≤ S512x256.size a := by decide
theorem q10 : ∀ a, (![256, 0] : Fin 2 → ℕ) a + S256x128.size a ≤ S512x256.size a := by decide
theorem q11 : ∀ a, (![256, 128] : Fin 2 → ℕ) a + S256x128.size a ≤ S512x256.size a := by decide

/-- The score block of two loads. -/
abbrev scLd {off off' : Fin 2 → ℕ} (inb : ∀ a, off a + S256x128.size a ≤ S512x256.size a)
    (inb' : ∀ a, off' a + S512x128.size a ≤ S4096x256.size a) : FVec Ideal S512x256 .f32 :=
  score512 (arg3.view.readAt (Elt Ideal) (Rect.unit (s := S512x256) off S256x128.size inb).toLoadRect X3)
    (arg4.view.readAt (Elt Ideal) (Rect.unit (s := S4096x256) off' S512x128.size inb').toLoadRect X4)

/-- A load of 512 values. -/
abbrev vLd {off : Fin 3 → ℕ} (inb : ∀ a, off a + S1x128x512.size a ≤ S8x128x512.size a) : Vec Ideal S1x128x512 .bf16 :=
  arg5.view.readAt (Elt Ideal) (Rect.unit (s := S8x128x512) off S1x128x512.size inb).toLoadRect X5

theorem tripL_eq (k : Fin (k0_t1_loop i).trips)
    (f7 : BufTy.Contents (Elt Ideal) arg7.view.ty) (f8 : BufTy.Contents (Elt Ideal) arg8.view.ty) (f9 : BufTy.Contents (Elt Ideal) arg9.view.ty) :
    tripL_k0_t1 (F := Ideal) 𝒱 c bd i arg3 harg3 arg4 harg4 arg5 harg5 arg6 harg6 arg7 harg7 arg8 harg8 arg9 harg9 arg2 (k0_pay183) v31 w0 X3 X4 X5 k f7 f8 f9
      = (tripM arg7.view f7 (scLd arg3 arg4 X3 X4 q00 (k0_off1_inb i k)) (scLd arg3 arg4 X3 X4 q01 (k0_off2_inb i k)) (scLd arg3 arg4 X3 X4 q10 (k0_off1_inb i k)) (scLd arg3 arg4 X3 X4 q11 (k0_off2_inb i k))
    (scLd arg3 arg4 X3 X4 q00 (k0_off3_inb i k)) (scLd arg3 arg4 X3 X4 q01 (k0_off4_inb i k)) (scLd arg3 arg4 X3 X4 q10 (k0_off3_inb i k)) (scLd arg3 arg4 X3 X4 q11 (k0_off4_inb i k)),
         tripL arg7.view arg8.view f7 f8 (scLd arg3 arg4 X3 X4 q00 (k0_off1_inb i k)) (scLd arg3 arg4 X3 X4 q01 (k0_off2_inb i k)) (scLd arg3 arg4 X3 X4 q10 (k0_off1_inb i k)) (scLd arg3 arg4 X3 X4 q11 (k0_off2_inb i k))
    (scLd arg3 arg4 X3 X4 q00 (k0_off3_inb i k)) (scLd arg3 arg4 X3 X4 q01 (k0_off4_inb i k)) (scLd arg3 arg4 X3 X4 q10 (k0_off3_inb i k)) (scLd arg3 arg4 X3 X4 q11 (k0_off4_inb i k)),
         tripA arg7.view arg9.view f7 f9 (scLd arg3 arg4 X3 X4 q00 (k0_off1_inb i k)) (scLd arg3 arg4 X3 X4 q01 (k0_off2_inb i k)) (scLd arg3 arg4 X3 X4 q10 (k0_off1_inb i k)) (scLd arg3 arg4 X3 X4 q11 (k0_off2_inb i k))
    (scLd arg3 arg4 X3 X4 q00 (k0_off3_inb i k)) (scLd arg3 arg4 X3 X4 q01 (k0_off4_inb i k)) (scLd arg3 arg4 X3 X4 q10 (k0_off3_inb i k)) (scLd arg3 arg4 X3 X4 q11 (k0_off4_inb i k))
           (vLd arg5 X5 (k0_off5_inb i k)) (vLd arg5 X5 (k0_off6_inb i k))) := by
  delta tripL_k0_t1 trip_k0_t1
  rfl

theorem trip_holds (k : Fin (k0_t1_loop i).trips)
    (f7 : BufTy.Contents (Elt Ideal) arg7.view.ty) (f8 : BufTy.Contents (Elt Ideal) arg8.view.ty) (f9 : BufTy.Contents (Elt Ideal) arg9.view.ty)
    (H : Holds arg7.view arg8.view arg9.view f7 f8 f9 (scs arg3 arg4 X3 X4) (vls arg5 X5) (k.val * 1024)) :
    Holds arg7.view arg8.view arg9.view
      (arg7.view.writes (Elt Ideal) f7 (tripL_k0_t1 (F := Ideal) 𝒱 c bd i arg3 harg3 arg4 harg4 arg5 harg5 arg6 harg6 arg7 harg7 arg8 harg8 arg9 harg9 arg2 (k0_pay183) v31 w0 X3 X4 X5 k f7 f8 f9).1)
      (arg8.view.writes (Elt Ideal) f8 (tripL_k0_t1 (F := Ideal) 𝒱 c bd i arg3 harg3 arg4 harg4 arg5 harg5 arg6 harg6 arg7 harg7 arg8 harg8 arg9 harg9 arg2 (k0_pay183) v31 w0 X3 X4 X5 k f7 f8 f9).2.1)
      (arg9.view.writes (Elt Ideal) f9 (tripL_k0_t1 (F := Ideal) 𝒱 c bd i arg3 harg3 arg4 harg4 arg5 harg5 arg6 harg6 arg7 harg7 arg8 harg8 arg9 harg9 arg2 (k0_pay183) v31 w0 X3 X4 X5 k f7 f8 f9).2.2)
      (scs arg3 arg4 X3 X4) (vls arg5 X5) ((k.val + 1) * 1024) := by
  have hk := trip_lt i k
  rw [show (k.val + 1) * 1024 = k.val * 1024 + 512 + 512 by omega, tripL_eq]
  refine Holds.trip _ _ _ _ _ _ _ _ _ _ _ _ _ _ _ _ H ?_ ?_ ?_ ?_ ?_ ?_ ?_ ?_ ?_ ?_
  · exact fun t j => sc_load512 arg3.view X3 arg4.view X4 0 0 _ _ _ rfl (off1_eq i k) (by omega) t j
  · exact fun t j => sc_load512 arg3.view X3 arg4.view X4 0 1 _ _ _ rfl (off2_eq i k) (by omega) t j
  · exact fun t j => sc_load512 arg3.view X3 arg4.view X4 1 0 _ _ _ rfl (off1_eq i k) (by omega) t j
  · exact fun t j => sc_load512 arg3.view X3 arg4.view X4 1 1 _ _ _ rfl (off2_eq i k) (by omega) t j
  · exact fun t j => sc_load512 arg3.view X3 arg4.view X4 0 0 _ _ _ rfl (off3_eq i k) (by omega) t j
  · exact fun t j => sc_load512 arg3.view X3 arg4.view X4 0 1 _ _ _ rfl (off4_eq i k) (by omega) t j
  · exact fun t j => sc_load512 arg3.view X3 arg4.view X4 1 0 _ _ _ rfl (off3_eq i k) (by omega) t j
  · exact fun t j => sc_load512 arg3.view X3 arg4.view X4 1 1 _ _ _ rfl (off4_eq i k) (by omega) t j
  · intro r t
    refine (v_load arg5.view X5 512 (2 * k.val) (by omega) (by omega) _ (off5_eq i k) t r _ rfl rfl rfl).trans ?_
    show vl _ r _ = vl _ r _
    congr 1; omega
  · intro r t
    refine (v_load arg5.view X5 512 (2 * k.val + 1) (by omega) (by omega) _ (off6_eq i k) t r _ rfl rfl rfl).trans ?_
    show vl _ r _ = vl _ r _
    congr 1; omega

/-- The loop: after `n` trips both chunks have gone through `1024 n` keys. -/
theorem loop_holds (G7 : BufTy.Contents (Elt Ideal) arg7.view.ty) (G8 : BufTy.Contents (Elt Ideal) arg8.view.ty) (G9 : BufTy.Contents (Elt Ideal) arg9.view.ty)
    (H : Holds arg7.view arg8.view arg9.view G7 G8 G9 (scs arg3 arg4 X3 X4) (vls arg5 X5) 0) (n : ℕ) (hn : n ≤ (k0_t1_loop i).trips) :
    Holds arg7.view arg8.view arg9.view
      (arg7.view.writes (Elt Ideal) G7 (pb_k0_t1 (F := Ideal) 𝒱 c bd i arg3 harg3 arg4 harg4 arg5 harg5 arg6 harg6 arg7 harg7 arg8 harg8 arg9 harg9 arg2 (k0_pay183) v31 w0 X3 X4 X5 G7 G8 G9 n).1)
      (arg8.view.writes (Elt Ideal) G8 (pb_k0_t1 (F := Ideal) 𝒱 c bd i arg3 harg3 arg4 harg4 arg5 harg5 arg6 harg6 arg7 harg7 arg8 harg8 arg9 harg9 arg2 (k0_pay183) v31 w0 X3 X4 X5 G7 G8 G9 n).2.1)
      (arg9.view.writes (Elt Ideal) G9 (pb_k0_t1 (F := Ideal) 𝒱 c bd i arg3 harg3 arg4 harg4 arg5 harg5 arg6 harg6 arg7 harg7 arg8 harg8 arg9 harg9 arg2 (k0_pay183) v31 w0 X3 X4 X5 G7 G8 G9 n).2.2)
      (scs arg3 arg4 X3 X4) (vls arg5 X5) (n * 1024) := by
  induction n with
  | zero => rw [pb_k0_t1.eq_1, Nat.zero_mul]; exact H
  | succ n ih =>
    have h := trip_holds 𝒱 c bd i arg3 harg3 arg4 harg4 arg5 harg5 arg6 harg6 arg7 harg7 arg8 harg8 arg9 harg9 arg2 v31 w0 X3 X4 X5 ⟨n, hn⟩ _ _ _ (ih (Nat.le_of_succ_le hn))
    rw [pb_k0_t1_succ 𝒱 c bd i arg3 harg3 arg4 harg4 arg5 harg5 arg6 harg6 arg7 harg7 arg8 harg8 arg9 harg9 arg2 (k0_pay183) v31 w0 X3 X4 X5 G7 G8 G9 ⟨n, hn⟩]
    rw [View.writes_append, View.writes_append, View.writes_append]
    exact h

end

end Cert.Attn

end
-- ==== Proof.Chain.lean ====
/-
  The kernel's work outside its loop: one block of keys taken through both chunks, slot after slot. `chainM`, `chainL`,
  `chainA` are the resulting stores over what was stored before, for any four updates of a maximum, any four updates of
  a normaliser and any two updates of an accumulator; `chain_m`, `chain_l`, `chain_a` say what a load finds afterwards.
  The block above the diagonal (512 keys, unmasked) and the diagonal (256 or 512 keys, masked) are two instances.
-/
module

public import proofs.«01_k».proof.Proof.Trip

@[expose] public section

noncomputable section

open Idealize.ShloMosaic Idealize.ShloMosaic.TcCoe Idealize.SL.Sem
open Cert.KernelIdeal Cert.KernelIdeal.Gen

namespace Cert.Attn

abbrev VM := Vec Ideal S1x1x256 .f32
abbrev VA := Vec Ideal S1x128x256 .f32
abbrev PM := List (View.Piece (Elt Ideal) S4x1x256 .f32)
abbrev PA := List (View.Piece (Elt Ideal) S2x128x256 .f32)

/-- One block's updates: of each slot's maximum from the maximum, of each slot's normaliser from maximum and normaliser,
    of each accumulator from its two maxima and itself. -/
structure Block where
  (g0 g1 g2 g3 : VM → VM)
  (p0 p1 p2 p3 : VM → VM → VM)
  (a0 a1 : VM → VM → VA → VA)

variable {κ : Kind} {sp : Space}
variable (vm : View sig κ sp S4x1x256 .f32) (vl' : View sig κ sp S4x1x256 .f32) (va : View sig κ sp S2x128x256 .f32)
  (M L : PM) (A : PA) (B : Block)

def chainM1 : PM := ⟨rm 0 (by omega), B.g0 (cvm vm M 0 (by omega))⟩ :: M
def chainM2 : PM := ⟨rm 1 (by omega), B.g1 (cvm vm (chainM1 vm M B) 1 (by omega))⟩ :: chainM1 vm M B
def chainM3 : PM := ⟨rm 2 (by omega), B.g2 (cvm vm (chainM2 vm M B) 2 (by omega))⟩ :: chainM2 vm M B
def chainM : PM := ⟨rm 3 (by omega), B.g3 (cvm vm (chainM3 vm M B) 3 (by omega))⟩ :: chainM3 vm M B

def chainL1 : PM := ⟨rm 0 (by omega), B.p0 (cvm vm M 0 (by omega)) (cvm vl' L 0 (by omega))⟩ :: L
def chainL2 : PM := ⟨rm 1 (by omega), B.p1 (cvm vm (chainM1 vm M B) 1 (by omega)) (cvm vl' (chainL1 vm vl' M L B) 1 (by omega))⟩ :: chainL1 vm vl' M L B
def chainL3 : PM := ⟨rm 2 (by omega), B.p2 (cvm vm (chainM2 vm M B) 2 (by omega)) (cvm vl' (chainL2 vm vl' M L B) 2 (by omega))⟩ :: chainL2 vm vl' M L B
def chainL : PM := ⟨rm 3 (by omega), B.p3 (cvm vm (chainM3 vm M B) 3 (by omega)) (cvm vl' (chainL3 vm vl' M L B) 3 (by omega))⟩ :: chainL3 vm vl' M L B

def chainA1 : PA := ⟨ra 0 (by omega), B.a0 (cvm vm M 0 (by omega)) (cvm vm (chainM1 vm M B) 1 (by omega)) (cva va A 0 (by omega))⟩ :: A
def chainA : PA := ⟨ra 1 (by omega), B.a1 (cvm vm (chainM2 vm M B) 2 (by omega)) (cvm vm (chainM3 vm M B) 3 (by omega))
  (cva va (chainA1 vm va M A B) 1 (by omega))⟩ :: chainA1 vm va M A B

theorem chain_m :
    cvm vm (chainM vm M B) 0 (by omega) = B.g0 (cvm vm M 0 (by omega)) ∧ cvm vm (chainM vm M B) 1 (by omega) = B.g1 (cvm vm M 1 (by omega))
    ∧ cvm vm (chainM vm M B) 2 (by omega) = B.g2 (cvm vm M 2 (by omega)) ∧ cvm vm (chainM vm M B) 3 (by omega) = B.g3 (cvm vm M 3 (by omega)) := by
  refine ⟨?_, ?_, ?_, ?_⟩ <;>
    simp (discharger := decide) only [chainM, chainM3, chainM2, chainM1, View.readCov, ldm_hit, ldm_skip]

theorem chain_l :
    cvm vl' (chainL vm vl' M L B) 0 (by omega) = B.p0 (cvm vm M 0 (by omega)) (cvm vl' L 0 (by omega))
    ∧ cvm vl' (chainL vm vl' M L B) 1 (by omega) = B.p1 (cvm vm M 1 (by omega)) (cvm vl' L 1 (by omega))
    ∧ cvm vl' (chainL vm vl' M L B) 2 (by omega) = B.p2 (cvm vm M 2 (by omega)) (cvm vl' L 2 (by omega))
    ∧ cvm vl' (chainL vm vl' M L B) 3 (by omega) = B.p3 (cvm vm M 3 (by omega)) (cvm vl' L 3 (by omega)) := by
  refine ⟨?_, ?_, ?_, ?_⟩ <;>
    simp (discharger := decide) only [chainM3, chainM2, chainM1, chainL, chainL3, chainL2, chainL1, View.readCov, ldm_hit, ldm_skip]

theorem chain_a :
    cva va (chainA vm va M A B) 0 (by omega) = B.a0 (cvm vm M 0 (by omega)) (cvm vm M 1 (by omega)) (cva va A 0 (by omega))
    ∧ cva va (chainA vm va M A B) 1 (by omega) = B.a1 (cvm vm M 2 (by omega)) (cvm vm M 3 (by omega)) (cva va A 1 (by omega)) := by
  refine ⟨?_, ?_⟩ <;>
    simp (discharger := decide) only [chainM3, chainM2, chainM1, chainA, chainA1, View.readCov, ldm_hit, ldm_skip, lda_hit, lda_skip]

/-- What the two chunks hold after lists of stores: the first `N`, the second `N'` keys. -/
def HoldsL (s : Fin 2 → Fin 2 → Fin 256 → ℕ → EReal) (v : Fin 128 → ℕ → EReal) (N N' : ℕ) : Prop :=
  Chunk (s 0) v N (cvm vm M 0 (by omega)) (cvm vm M 1 (by omega)) (cvm vl' L 0 (by omega)) (cvm vl' L 1 (by omega)) (cva va A 0 (by omega))
  ∧ Chunk (s 1) v N' (cvm vm M 2 (by omega)) (cvm vm M 3 (by omega)) (cvm vl' L 2 (by omega)) (cvm vl' L 3 (by omega)) (cva va A 1 (by omega))

/-! ### The block before the diagonal -/

/-- A block of 512 keys with these scores and values. -/
def fullBlock (S0 S1 S2 S3 : FVec Ideal S512x256 .f32) (vt : Vec Ideal S1x128x512 .bf16) : Block where
  g0 := mStore512 S0
  g1 := mStore512 S1
  g2 := mStore512 S2
  g3 := mStore512 S3
  p0 := lStore512 S0
  p1 := lStore512 S1
  p2 := lStore512 S2
  p3 := lStore512 S3
  a0 := aStore512 vt S0 S1
  a1 := aStore512 vt S2 S3

/-- The diagonal: 256 keys for the first chunk, 512 for the second, masked. -/
def diagBlock (D0 D1 : FVec Ideal S256x256 .f32) (D2 D3 : FVec Ideal S512x256 .f32) (vd : Vec Ideal S1x128x256 .bf16)
    (vd' : Vec Ideal S1x128x512 .bf16) : Block where
  g0 := mStore256 (k0_pay200 D0)
  g1 := mStore256 (k0_pay200 D1)
  g2 := mStore512 (k0_pay227 D2)
  g3 := mStore512 (k0_pay227 D3)
  p0 := lStore256 (k0_pay200 D0)
  p1 := lStore256 (k0_pay200 D1)
  p2 := lStore512 (k0_pay227 D2)
  p3 := lStore512 (k0_pay227 D3)
  a0 := aStore256 vd (k0_pay200 D0) (k0_pay200 D1)
  a1 := aStore512 vd' (k0_pay227 D2) (k0_pay227 D3)

variable {vm vl' va M L A}

theorem HoldsL.full {s : Fin 2 → Fin 2 → Fin 256 → ℕ → EReal} {v : Fin 128 → ℕ → EReal} {N : ℕ} (H : HoldsL vm vl' va M L A s v N N)
    {S0 S1 S2 S3 : FVec Ideal S512x256 .f32} {vt : Vec Ideal S1x128x512 .bf16}
    (h0 : ∀ (t : Fin 512) (j : Fin 256), S0 (ix2 t j) = s 0 0 j (N + t)) (h1 : ∀ (t : Fin 512) (j : Fin 256), S1 (ix2 t j) = s 0 1 j (N + t))
    (h2 : ∀ (t : Fin 512) (j : Fin 256), S2 (ix2 t j) = s 1 0 j (N + t)) (h3 : ∀ (t : Fin 512) (j : Fin 256), S3 (ix2 t j) = s 1 1 j (N + t))
    (hv : ∀ (r : Fin 128) (t : Fin 512), vt (ix3 0 r t) = v r (N + t)) :
    HoldsL vm vl' va (chainM vm M (fullBlock S0 S1 S2 S3 vt)) (chainL vm vl' M L (fullBlock S0 S1 S2 S3 vt)) (chainA vm va M A (fullBlock S0 S1 S2 S3 vt))
      s v (N + 512) (N + 512) := by
  obtain ⟨m0, m1, m2, m3⟩ := chain_m vm M (fullBlock S0 S1 S2 S3 vt)
  obtain ⟨l0, l1, l2, l3⟩ := chain_l vm vl' M L (fullBlock S0 S1 S2 S3 vt)
  obtain ⟨a0, a1⟩ := chain_a vm va M A (fullBlock S0 S1 S2 S3 vt)
  refine ⟨?_, ?_⟩
  · rw [m0, m1, l0, l1, a0]; exact H.1.step512 h0 h1 hv
  · rw [m2, m3, l2, l3, a1]; exact H.2.step512 h2 h3 hv

/-- The scores with the keys after the query masked; the block's first query and first diagonal key is `N`. -/
def masked (s : Fin 2 → Fin 2 → Fin 256 → ℕ → EReal) (N : ℕ) : Fin 2 → Fin 2 → Fin 256 → ℕ → EReal :=
  fun c h j n => if n ≤ N + 256 * c.val + j.val then s c h j n else ⊥

theorem HoldsL.diag {s : Fin 2 → Fin 2 → Fin 256 → ℕ → EReal} {v : Fin 128 → ℕ → EReal} {N : ℕ} (H : HoldsL vm vl' va M L A s v N N)
    {D0 D1 : FVec Ideal S256x256 .f32} {D2 D3 : FVec Ideal S512x256 .f32} {vd : Vec Ideal S1x128x256 .bf16} {vd' : Vec Ideal S1x128x512 .bf16}
    (h0 : ∀ t j : Fin 256, D0 (ix2 t j) = s 0 0 j (N + t)) (h1 : ∀ t j : Fin 256, D1 (ix2 t j) = s 0 1 j (N + t))
    (h2 : ∀ (t : Fin 512) (j : Fin 256), D2 (ix2 t j) = s 1 0 j (N + t)) (h3 : ∀ (t : Fin 512) (j : Fin 256), D3 (ix2 t j) = s 1 1 j (N + t))
    (hv : ∀ (r : Fin 128) (t : Fin 256), vd (ix3 0 r t) = v r (N + t)) (hv' : ∀ (r : Fin 128) (t : Fin 512), vd' (ix3 0 r t) = v r (N + t)) :
    HoldsL vm vl' va (chainM vm M (diagBlock D0 D1 D2 D3 vd vd')) (chainL vm vl' M L (diagBlock D0 D1 D2 D3 vd vd'))
      (chainA vm va M A (diagBlock D0 D1 D2 D3 vd vd')) (masked s N) v (N + 256) (N + 512) := by
  obtain ⟨m0, m1, m2, m3⟩ := chain_m vm M (diagBlock D0 D1 D2 D3 vd vd')
  obtain ⟨l0, l1, l2, l3⟩ := chain_l vm vl' M L (diagBlock D0 D1 D2 D3 vd vd')
  obtain ⟨a0, a1⟩ := chain_a vm va M A (diagBlock D0 D1 D2 D3 vd vd')
  have hm : ∀ c h j n, n < N → s c h j n = masked s N c h j n := fun c h j n hn => by
    unfold masked; rw [if_pos (by omega)]
  have e0 : ∀ (D : FVec Ideal S256x256 .f32) (h : Fin 2), (∀ t j : Fin 256, D (ix2 t j) = s 0 h j (N + t)) →
      ∀ t j : Fin 256, k0_pay200 D (ix2 t j) = masked s N 0 h j (N + t) := fun D h hD t j => by
    rw [mask256_at, hD]; unfold masked
    exact if_congr (by show _ ↔ N + t.val ≤ N + 256 * 0 + j.val; omega) rfl rfl
  have e1 : ∀ (D : FVec Ideal S512x256 .f32) (h : Fin 2), (∀ (t : Fin 512) (j : Fin 256), D (ix2 t j) = s 1 h j (N + t)) →
      ∀ (t : Fin 512) (j : Fin 256), k0_pay227 D (ix2 t j) = masked s N 1 h j (N + t) := fun D h hD t j => by
    rw [mask512_at, hD]; unfold masked
    exact if_congr (by show _ ↔ N + t.val ≤ N + 256 * 1 + j.val; omega) rfl rfl
  refine ⟨?_, ?_⟩
  · rw [m0, m1, l0, l1, a0]
    exact (H.1.congr (hm 0)).step256 (e0 D0 0 h0) (e0 D1 1 h1) hv
  · rw [m2, m3, l2, l3, a1]
    exact (H.2.congr (hm 1)).step512 (e1 D2 0 h2) (e1 D3 1 h3) hv'

/-! ### The result -/

/-- What the kernel stores for one chunk of queries. -/
def outRows (a : VA) (l l' : VM) : FVec Ideal S256x128 .bf16 := k0_pay1 (k0_pay183) (k0_pay236 a) l l'

theorem outRows_at {s : Fin 2 → Fin 256 → ℕ → EReal} {v : Fin 128 → ℕ → EReal} {N : ℕ} {m m' l l' : VM} {a : VA} (H : Chunk s v N m m' l l' a)
    (j : Fin 256) (r : Fin 128) :
    outRows a l l' (ix2 j r) = Ideal.div (oa (s (headOf r) j) (v r) N) (ol (s (headOf r) j) N) := by
  unfold outRows
  have e : k0_pay236 a (ix2 r j) = a (ix3 0 r j) := by pointwise [k0_pay236]
  rw [out_at, e, H.acc, H.l0, H.l1]
  unfold headOf
  split <;> rfl

end Cert.Attn

end
-- ==== Proof.Cases.lean ====
/-
  The kernel at one grid point. Its stores to the scratch buffers are those of the loops (`baseM`, `baseL`, `baseA`),
  then, at an odd query block, one more unmasked block of keys, then the diagonal; its result block is read off them.
  Every row of the result block is the quotient of the running sum and the running normaliser over the masked scores.
-/
module

public import proofs.«01_k».proof.Proof.Loop
public import proofs.«01_k».proof.Proof.Chain

@[expose] public section

noncomputable section

open Idealize.ShloMosaic Idealize.ShloMosaic.TcCoe Idealize.SL.Sem
open Cert.KernelIdeal Cert.KernelIdeal.Gen

namespace Cert.Attn

/-! ### Words -/

theorem trips2 (i : grid0.Coords) : (k0_t2_loop i).trips = 0 := by
  unfold k0_t2_loop
  have h8 : (i 2).val < 8 := (i 2).isLt
  generalize (i 2).val = q at h8 ⊢
  interval_cases q <;> decide

theorem odd_of_cond (i : grid0.Coords) : cond0_0 i ↔ (i 2).val % 2 = 1 := by
  unfold cond0_0 k0_cond1
  have h8 : (i 2).val < 8 := (i 2).isLt
  generalize (i 2).val = q at h8 ⊢
  interval_cases q <;> decide

theorem word_diag (q : ℕ) (hq : q < 8) : (Scalar.muli (BitVec.ofNat 32 q) 512#32).toNat = q * 512 := by
  interval_cases q <;> decide
theorem word_id (q : ℕ) (hq : q < 8) : (BitVec.ofNat 32 q).toNat = q := by
  interval_cases q <;> decide
theorem word_prev (q : ℕ) (hq : q < 8) (h1 : q % 2 = 1) : (Scalar.subi (BitVec.ofNat 32 q) 1#32).toNat = q - 1 := by
  interval_cases q <;> revert h1 <;> decide
theorem word_prev512 (q : ℕ) (hq : q < 8) (h1 : q % 2 = 1) : (Scalar.muli (Scalar.subi (BitVec.ofNat 32 q) 1#32) 512#32).toNat = (q - 1) * 512 := by
  interval_cases q <;> revert h1 <;> decide

section
variable (i : grid0.Coords)
theorem i2_lt : (i 2).val < 8 := (i 2).isLt
theorem off13_eq (h : (i 2).val % 2 = 1) : k0_off13 i = ![((i 2).val - 1) * 512, 128 * (0 : Fin 2).val] :=
  congrArg (fun n : ℕ => (![n, 0] : Fin 2 → ℕ)) (word_prev512 _ (i2_lt i) h)
theorem off14_eq (h : (i 2).val % 2 = 1) : k0_off14 i = ![((i 2).val - 1) * 512, 128 * (1 : Fin 2).val] :=
  congrArg (fun n : ℕ => (![n, 128] : Fin 2 → ℕ)) (word_prev512 _ (i2_lt i) h)
theorem off15_eq (h : (i 2).val % 2 = 1) : k0_off15 i = ![(i 2).val - 1, 0, 0] :=
  congrArg (fun n : ℕ => (![n, 0, 0] : Fin 3 → ℕ)) (word_prev _ (i2_lt i) h)
theorem off16_eq : k0_off16 i = ![(i 2).val * 512, 128 * (0 : Fin 2).val] :=
  congrArg (fun n : ℕ => (![n, 0] : Fin 2 → ℕ)) (word_diag _ (i2_lt i))
theorem off17_eq : k0_off17 i = ![(i 2).val * 512, 128 * (1 : Fin 2).val] :=
  congrArg (fun n : ℕ => (![n, 128] : Fin 2 → ℕ)) (word_diag _ (i2_lt i))
theorem off18_eq : k0_off18 i = ![(i 2).val * 512, 128 * (0 : Fin 2).val] :=
  congrArg (fun n : ℕ => (![n, 0] : Fin 2 → ℕ)) (word_diag _ (i2_lt i))
theorem off19_eq : k0_off19 i = ![(i 2).val * 512, 128 * (1 : Fin 2).val] :=
  congrArg (fun n : ℕ => (![n, 128] : Fin 2 → ℕ)) (word_diag _ (i2_lt i))
theorem off20_eq : k0_off20 i = ![(i 2).val, 0, 0] :=
  congrArg (fun n : ℕ => (![n, 0, 0] : Fin 3 → ℕ)) (word_id _ (i2_lt i))
theorem off21_eq : k0_off21 i = ![(i 2).val, 0, 0] :=
  congrArg (fun n : ℕ => (![n, 0, 0] : Fin 3 → ℕ)) (word_id _ (i2_lt i))
end

/-- The number of trips of the loop, as the kernel computes it: half the query block, rounded down. -/
abbrev tripsWord (i : grid0.Coords) : BitVec 32 :=
  Scalar.select
    (Scalar.andi
      (Scalar.cmpi .ne (Scalar.subi (Scalar.extui (Scalar.cmpi .sgt (BitVec.ofNat 32 (i 2).val) 0#32)) (Scalar.extui (Scalar.cmpi .slt (BitVec.ofNat 32 (i 2).val) 0#32))) 1#32)
      (Scalar.cmpi .ne (Scalar.remsi (BitVec.ofNat 32 (i 2).val) 2#32) 0#32))
    (Scalar.subi (Scalar.divsi (BitVec.ofNat 32 (i 2).val) 2#32) 1#32)
    (Scalar.divsi (BitVec.ofNat 32 (i 2).val) 2#32)

/-- Where the loop for what remains starts. -/
abbrev endWord (i : grid0.Coords) : BitVec 32 :=
  Scalar.addi 0#32 (Scalar.muli (Scalar.divsi (Scalar.subi (tripsWord i) 0#32) 1#32) 1#32)

/-! ### The initial stores -/

abbrev initM : PM := [⟨Rect.unit (s := S4x1x256) ![0, 0, 0] S4x1x256.size inb_S4x1x256_S4x1x256_0_0_0, k0_pay184 (F := Ideal)⟩]
abbrev initL : PM := [⟨Rect.unit (s := S4x1x256) ![0, 0, 0] S4x1x256.size inb_S4x1x256_S4x1x256_0_0_0, k0_pay185 (F := Ideal)⟩]
abbrev initA : PA := [⟨Rect.unit (s := S2x128x256) ![0, 0, 0] S2x128x256.size inb_S2x128x256_S2x128x256_0_0_0, k0_pay186 (F := Ideal)⟩]

theorem pay184_at (y : S4x1x256.Idx) : (k0_pay184 : FVec Ideal S4x1x256 .f32) y = ⊥ := by
  obtain ⟨a, b, c, rfl⟩ : ∃ a b c, y = ix3 a b c := ⟨y 0, y 1, y 2, eq_ix3 y⟩
  pointwise [k0_pay184]
  exact mask_bot
theorem pay185_at (y : S4x1x256.Idx) : (k0_pay185 : FVec Ideal S4x1x256 .f32) y = 0 := by
  obtain ⟨a, b, c, rfl⟩ : ∃ a b c, y = ix3 a b c := ⟨y 0, y 1, y 2, eq_ix3 y⟩
  pointwise [k0_pay185]
theorem pay186_at (y : S2x128x256.Idx) : (k0_pay186 : FVec Ideal S2x128x256 .f32) y = 0 := by
  obtain ⟨a, b, c, rfl⟩ : ∃ a b c, y = ix3 a b c := ⟨y 0, y 1, y 2, eq_ix3 y⟩
  pointwise [k0_pay186]

section
variable {κ : Kind} {sp : Space} (vm : View sig κ sp S4x1x256 .f32) (vl' : View sig κ sp S4x1x256 .f32) (va : View sig κ sp S2x128x256 .f32)

omit vm vl' va in
theorem rm_inb (k : ℕ) (hk : k < 4) : ∀ a, (![k, 0, 0] : Fin 3 → ℕ) a + S1x1x256.size a ≤ S4x1x256.size a :=
  fun a => match a with
    | ⟨0, _⟩ => hk | ⟨1, _⟩ => Nat.le_refl 1 | ⟨2, _⟩ => Nat.le_refl 256
omit vm vl' va in
theorem ra_inb (k : ℕ) (hk : k < 2) : ∀ a, (![k, 0, 0] : Fin 3 → ℕ) a + S1x128x256.size a ≤ S2x128x256.size a :=
  fun a => match a with
    | ⟨0, _⟩ => hk | ⟨1, _⟩ => Nat.le_refl 128 | ⟨2, _⟩ => Nat.le_refl 256

/-- After the initial stores no key has been seen. -/
theorem init_holds (s : Fin 2 → Fin 2 → Fin 256 → ℕ → EReal) (v : Fin 128 → ℕ → EReal) :
    Holds vm vl' va (vm.writes (Elt Ideal) vm.junk initM) (vl'.writes (Elt Ideal) vl'.junk initL) (va.writes (Elt Ideal) va.junk initA) s v 0 := by
  have hM : ∀ (k : ℕ) (hk : k < 4) (y : S1x1x256.Idx), ldm vm (vm.writes (Elt Ideal) vm.junk initM) k hk y = ⊥ := fun k hk y => by
    unfold ldm
    rw [View.readAt_unit vm _ (rm_inb k hk) rfl (rm_inb k hk), View.read_writes_full]
    exact pay184_at _
  have hL : ∀ (k : ℕ) (hk : k < 4) (y : S1x1x256.Idx), ldm vl' (vl'.writes (Elt Ideal) vl'.junk initL) k hk y = 0 := fun k hk y => by
    unfold ldm
    rw [View.readAt_unit vl' _ (rm_inb k hk) rfl (rm_inb k hk), View.read_writes_full]
    exact pay185_at _
  have hA : ∀ (k : ℕ) (hk : k < 2) (y : S1x128x256.Idx), lda va (va.writes (Elt Ideal) va.junk initA) k hk y = 0 := fun k hk y => by
    unfold lda
    rw [View.readAt_unit va _ (ra_inb k hk) rfl (ra_inb k hk), View.read_writes_full]
    exact pay186_at _
  exact ⟨⟨fun j => hM _ _ _, fun j => hM _ _ _, fun j => hL _ _ _, fun j => hL _ _ _, fun r j => hA _ _ _⟩,
    ⟨fun j => hM _ _ _, fun j => hM _ _ _, fun j => hL _ _ _, fun j => hL _ _ _, fun r j => hA _ _ _⟩⟩
end

/-! ### The loops -/

section
variable (c : Dev nD) (i : grid0.Coords)
  (arg3 : Memref sig .tc .vmem S512x256 .bf16) (harg3 : arg3.IsWhole) (arg4 : Memref sig .tc .vmem S4096x256 .bf16) (harg4 : arg4.IsWhole)
  (arg5 : Memref sig .tc .vmem S8x128x512 .bf16) (harg5 : arg5.IsWhole) (arg6 : Memref sig .tc .vmem S512x128 .bf16) (harg6 : arg6.IsWhole)
  (arg7 : Memref sig .tc .vmem S4x1x256 .f32) (harg7 : arg7.IsWhole) (arg8 : Memref sig .tc .vmem S4x1x256 .f32) (harg8 : arg8.IsWhole)
  (arg9 : Memref sig .tc .vmem S2x128x256 .f32) (harg9 : arg9.IsWhole)

section
variable (w31 w36 : BitVec 32)
  (X3 : BufTy.Contents (Elt Ideal) arg3.view.ty) (X4 : BufTy.Contents (Elt Ideal) arg4.view.ty) (X5 : BufTy.Contents (Elt Ideal) arg5.view.ty)

/-- The stores of the loop over the initial ones, per scratch buffer. -/
abbrev loop1 :=
  pb_k0_t1 (F := Ideal) Variants.none c none i arg3 harg3 arg4 harg4 arg5 harg5 arg6 harg6 arg7 harg7 arg8 harg8 arg9 harg9 (BitVec.ofNat 32 (i 2).val) (k0_pay183) w31 0#32 X3 X4 X5
    (arg7.view.writes (Elt Ideal) arg7.view.junk initM) (arg8.view.writes (Elt Ideal) arg8.view.junk initL) (arg9.view.writes (Elt Ideal) arg9.view.junk initA)
    (k0_t1_loop i).trips

/-- The stores of the loop for what remains. -/
abbrev loop2 :=
  pb_k0_t2 (F := Ideal) Variants.none c none i arg3 harg3 arg4 harg4 arg5 harg5 arg6 harg6 arg7 harg7 arg8 harg8 arg9 harg9 (BitVec.ofNat 32 (i 2).val) (k0_pay183) w31 0#32 w36 X3 X4 X5
    (arg7.view.writes (Elt Ideal) arg7.view.junk ((loop1 c i arg3 harg3 arg4 harg4 arg5 harg5 arg6 harg6 arg7 harg7 arg8 harg8 arg9 harg9 w31 X3 X4 X5).1 ++ initM))
    (arg8.view.writes (Elt Ideal) arg8.view.junk ((loop1 c i arg3 harg3 arg4 harg4 arg5 harg5 arg6 harg6 arg7 harg7 arg8 harg8 arg9 harg9 w31 X3 X4 X5).2.1 ++ initL))
    (arg9.view.writes (Elt Ideal) arg9.view.junk ((loop1 c i arg3 harg3 arg4 harg4 arg5 harg5 arg6 harg6 arg7 harg7 arg8 harg8 arg9 harg9 w31 X3 X4 X5).2.2 ++ initA))
    (k0_t2_loop i).trips

/-- All stores up to the end of both loops. -/
abbrev baseM : PM := (loop2 c i arg3 harg3 arg4 harg4 arg5 harg5 arg6 harg6 arg7 harg7 arg8 harg8 arg9 harg9 w31 w36 X3 X4 X5).1 ++ ((loop1 c i arg3 harg3 arg4 harg4 arg5 harg5 arg6 harg6 arg7 harg7 arg8 harg8 arg9 harg9 w31 X3 X4 X5).1 ++ initM)
abbrev baseL : PM := (loop2 c i arg3 harg3 arg4 harg4 arg5 harg5 arg6 harg6 arg7 harg7 arg8 harg8 arg9 harg9 w31 w36 X3 X4 X5).2.1 ++ ((loop1 c i arg3 harg3 arg4 harg4 arg5 harg5 arg6 harg6 arg7 harg7 arg8 harg8 arg9 harg9 w31 X3 X4 X5).2.1 ++ initL)
abbrev baseA : PA := (loop2 c i arg3 harg3 arg4 harg4 arg5 harg5 arg6 harg6 arg7 harg7 arg8 harg8 arg9 harg9 w31 w36 X3 X4 X5).2.2 ++ ((loop1 c i arg3 harg3 arg4 harg4 arg5 harg5 arg6 harg6 arg7 harg7 arg8 harg8 arg9 harg9 w31 X3 X4 X5).2.2 ++ initA)

theorem base_holds : HoldsL arg7.view arg8.view arg9.view (baseM c i arg3 harg3 arg4 harg4 arg5 harg5 arg6 harg6 arg7 harg7 arg8 harg8 arg9 harg9 w31 w36 X3 X4 X5) (baseL c i arg3 harg3 arg4 harg4 arg5 harg5 arg6 harg6 arg7 harg7 arg8 harg8 arg9 harg9 w31 w36 X3 X4 X5) (baseA c i arg3 harg3 arg4 harg4 arg5 harg5 arg6 harg6 arg7 harg7 arg8 harg8 arg9 harg9 w31 w36 X3 X4 X5)
    (scs arg3 arg4 X3 X4) (vls arg5 X5) ((i 2).val / 2 * 1024) ((i 2).val / 2 * 1024) := by
  have h := loop_holds Variants.none c none i arg3 harg3 arg4 harg4 arg5 harg5 arg6 harg6 arg7 harg7 arg8 harg8 arg9 harg9 (BitVec.ofNat 32 (i 2).val) w31 0#32 X3 X4 X5 _ _ _
    (init_holds arg7.view arg8.view arg9.view (scs arg3 arg4 X3 X4) (vls arg5 X5)) (k0_t1_loop i).trips le_rfl
  have e : ((i 2).val / 2 * 1024) = (k0_t1_loop i).trips * 1024 := by rw [trips1]
  rw [e]
  have e2 : loop2 c i arg3 harg3 arg4 harg4 arg5 harg5 arg6 harg6 arg7 harg7 arg8 harg8 arg9 harg9 w31 w36 X3 X4 X5 = ([], [], []) := by
    unfold loop2
    rw [trips2, pb_k0_t2.eq_1]
  rw [← View.writes_append, ← View.writes_append, ← View.writes_append] at h
  unfold baseM baseL baseA
  rw [e2]
  exact h

/-- The scores of a diagonal block of 256 keys, from two loads. -/
abbrev sc256Ld {off off' : Fin 2 → ℕ} (inb : ∀ a, off a + S256x128.size a ≤ S512x256.size a)
    (inb' : ∀ a, off' a + S256x128.size a ≤ S4096x256.size a) : FVec Ideal S256x256 .f32 :=
  score256 (arg3.view.readAt (Elt Ideal) (Rect.unit (s := S512x256) off S256x128.size inb).toLoadRect X3)
    (arg4.view.readAt (Elt Ideal) (Rect.unit (s := S4096x256) off' S256x128.size inb').toLoadRect X4)

/-- A load of 256 values. -/
abbrev v256Ld {off : Fin 3 → ℕ} (inb : ∀ a, off a + S1x128x256.size a ≤ S8x128x512.size a) : Vec Ideal S1x128x256 .bf16 :=
  arg5.view.readAt (Elt Ideal) (Rect.unit (s := S8x128x512) off S1x128x256.size inb).toLoadRect X5

abbrev dBlock : Block := (diagBlock (sc256Ld arg3 arg4 (X3) (X4) q00 (k0_off16_inb i)) (sc256Ld arg3 arg4 (X3) (X4) q01 (k0_off17_inb i))
      (scLd arg3 arg4 (X3) (X4) q10 (k0_off18_inb i)) (scLd arg3 arg4 (X3) (X4) q11 (k0_off19_inb i))
      (v256Ld arg5 (X5) (k0_off20_inb i)) (vLd arg5 (X5) (k0_off21_inb i)))

/-- The block before the diagonal, of an odd query block. -/
abbrev mBlock (hc : cond0_0 i) : Block := (fullBlock (scLd arg3 arg4 (X3) (X4) q00 (k0_off13_inb i hc)) (scLd arg3 arg4 (X3) (X4) q01 (k0_off14_inb i hc))
      (scLd arg3 arg4 (X3) (X4) q10 (k0_off13_inb i hc)) (scLd arg3 arg4 (X3) (X4) q11 (k0_off14_inb i hc)) (vLd arg5 (X5) (k0_off15_inb i hc)))

variable {M L : PM} {A : PA}

theorem diag_holds (H : HoldsL arg7.view arg8.view arg9.view M L A (scs arg3 arg4 X3 X4) (vls arg5 X5) ((i 2).val * 512) ((i 2).val * 512)) :
    HoldsL arg7.view arg8.view arg9.view (chainM arg7.view M (dBlock i arg3 arg4 arg5 X3 X4 X5)) (chainL arg7.view arg8.view M L (dBlock i arg3 arg4 arg5 X3 X4 X5))
      (chainA arg7.view arg9.view M A (dBlock i arg3 arg4 arg5 X3 X4 X5)) (masked (scs arg3 arg4 X3 X4) ((i 2).val * 512)) (vls arg5 X5)
      ((i 2).val * 512 + 256) ((i 2).val * 512 + 512) := by
  have h8 := i2_lt i
  refine HoldsL.diag H ?_ ?_ ?_ ?_ ?_ ?_
  · exact fun t j => sc_load256 arg3.view X3 arg4.view X4 0 0 _ _ _ rfl (off16_eq i) (by omega) t j
  · exact fun t j => sc_load256 arg3.view X3 arg4.view X4 0 1 _ _ _ rfl (off17_eq i) (by omega) t j
  · exact fun t j => sc_load512 arg3.view X3 arg4.view X4 1 0 _ _ _ rfl (off18_eq i) (by omega) t j
  · exact fun t j => sc_load512 arg3.view X3 arg4.view X4 1 1 _ _ _ rfl (off19_eq i) (by omega) t j
  · exact fun r t => v_load arg5.view X5 256 (i 2).val (by omega) (by omega) _ (off20_eq i) t r _ rfl rfl rfl
  · exact fun r t => v_load arg5.view X5 512 (i 2).val (by omega) (by omega) _ (off21_eq i) t r _ rfl rfl rfl

theorem mid_holds (hc : cond0_0 i)
    (H : HoldsL arg7.view arg8.view arg9.view M L A (scs arg3 arg4 X3 X4) (vls arg5 X5) ((i 2).val / 2 * 1024) ((i 2).val / 2 * 1024)) :
    HoldsL arg7.view arg8.view arg9.view (chainM arg7.view M (mBlock i arg3 arg4 arg5 X3 X4 X5 hc)) (chainL arg7.view arg8.view M L (mBlock i arg3 arg4 arg5 X3 X4 X5 hc))
      (chainA arg7.view arg9.view M A (mBlock i arg3 arg4 arg5 X3 X4 X5 hc)) (scs arg3 arg4 X3 X4) (vls arg5 X5)
      ((i 2).val * 512) ((i 2).val * 512) := by
  have h8 := i2_lt i
  have h1 := (odd_of_cond i).mp hc
  have e : (i 2).val / 2 * 1024 = ((i 2).val - 1) * 512 := by omega
  rw [e] at H
  have e' : (i 2).val * 512 = ((i 2).val - 1) * 512 + 512 := by omega
  rw [e']
  refine HoldsL.full H ?_ ?_ ?_ ?_ ?_
  · exact fun t j => sc_load512 arg3.view X3 arg4.view X4 0 0 _ _ _ rfl (off13_eq i h1) (by omega) t j
  · exact fun t j => sc_load512 arg3.view X3 arg4.view X4 0 1 _ _ _ rfl (off14_eq i h1) (by omega) t j
  · exact fun t j => sc_load512 arg3.view X3 arg4.view X4 1 0 _ _ _ rfl (off13_eq i h1) (by omega) t j
  · exact fun t j => sc_load512 arg3.view X3 arg4.view X4 1 1 _ _ _ rfl (off14_eq i h1) (by omega) t j
  · exact fun r t => v_load arg5.view X5 512 ((i 2).val - 1) (by omega) (by omega) _ (off15_eq i h1) t r _ rfl rfl rfl

/-- The stores of the result block after the diagonal. -/
abbrev outPieces (M L : PM) (A : PA) : List (View.Piece (Elt Ideal) S512x128 .bf16) :=
  [⟨Rect.unit (s := S512x128) ![256, 0] S256x128.size inb_S512x128_S256x128_256_0,
      outRows (cva arg9.view (chainA arg7.view arg9.view M A (dBlock i arg3 arg4 arg5 X3 X4 X5)) 1 (by omega))
        (cvm arg8.view (chainL arg7.view arg8.view M L (dBlock i arg3 arg4 arg5 X3 X4 X5)) 2 (by omega))
        (cvm arg8.view (chainL arg7.view arg8.view M L (dBlock i arg3 arg4 arg5 X3 X4 X5)) 3 (by omega))⟩,
   ⟨Rect.unit (s := S512x128) ![0, 0] S256x128.size inb_S512x128_S256x128_0_0,
      outRows (cva arg9.view (chainA arg7.view arg9.view M A (dBlock i arg3 arg4 arg5 X3 X4 X5)) 0 (by omega))
        (cvm arg8.view (chainL arg7.view arg8.view M L (dBlock i arg3 arg4 arg5 X3 X4 X5)) 0 (by omega))
        (cvm arg8.view (chainL arg7.view arg8.view M L (dBlock i arg3 arg4 arg5 X3 X4 X5)) 1 (by omega))⟩]

/-- The result block, row by row. -/
theorem outPieces_at (H : HoldsL arg7.view arg8.view arg9.view M L A (scs arg3 arg4 X3 X4) (vls arg5 X5) ((i 2).val * 512) ((i 2).val * 512))
    (ch : Fin 2) (j : Fin 256) (r : Fin 128) :
    VO0_3.read (Elt Ideal) (VO0_3.writes (Elt Ideal) VO0_3.junk (outPieces i arg3 arg4 arg5 arg7 arg8 arg9 X3 X4 X5 M L A))
        (ix2 ⟨256 * ch.val + j.val, by omega⟩ r)
      = Ideal.div (oa (masked (scs arg3 arg4 X3 X4) ((i 2).val * 512) ch (headOf r) j) (vls arg5 X5 r) ((i 2).val * 512 + 256 * ch.val + 256))
          (ol (masked (scs arg3 arg4 X3 X4) ((i 2).val * 512) ch (headOf r) j) ((i 2).val * 512 + 256 * ch.val + 256)) := by
  obtain ⟨D0, D1⟩ := diag_holds i arg3 arg4 arg5 arg7 arg8 arg9 X3 X4 X5 H
  match ch with
  | ⟨0, _⟩ =>
    refine (View.read_writes_cons_unit_of_not_mem VO0_3 _ _ _ _ _ rfl (0 : Fin 2) (Or.inl ?_)).trans ?_
    · show 256 * 0 + j.val < 256; omega
    refine (View.read_writes_cons_unit_of_mem VO0_3 _ _ _ _ _ (ix2 j r) rfl ?_).trans ?_
    · refine Fin.forall_fin_two.mpr ⟨?_, ?_⟩
      · show 256 * 0 + j.val = 0 + j.val; omega
      · show r.val = 0 + r.val; omega
    exact outRows_at D0 j r
  | ⟨1, _⟩ =>
    refine (View.read_writes_cons_unit_of_mem VO0_3 _ _ _ _ _ (ix2 j r) rfl ?_).trans ?_
    · refine Fin.forall_fin_two.mpr ⟨?_, ?_⟩
      · show 256 * 1 + j.val = 256 + j.val; omega
      · show r.val = 0 + r.val; omega
    exact outRows_at D1 j r

end

/-! ### The two cases -/

variable (x0 : Vec Ideal S512x256 .bf16) (x1 : Vec Ideal S4096x256 .bf16) (x2 : Vec Ideal S8x128x512 .bf16)

theorem runA_eq (hc : ¬cond0_0 i) :
    (kernelRun0_A (F := Ideal) c i arg3 harg3 arg4 harg4 arg5 harg5 arg6 harg6 arg7 harg7 arg8 harg8 arg9 harg9 hc x0 x1 x2).1
      = outPieces i arg3 arg4 arg5 arg7 arg8 arg9 (harg3.unread x0) (harg4.unread x1) (harg5.unread x2)
          (baseM c i arg3 harg3 arg4 harg4 arg5 harg5 arg6 harg6 arg7 harg7 arg8 harg8 arg9 harg9 (tripsWord i) (endWord i) (harg3.unread x0) (harg4.unread x1) (harg5.unread x2)) (baseL c i arg3 harg3 arg4 harg4 arg5 harg5 arg6 harg6 arg7 harg7 arg8 harg8 arg9 harg9 (tripsWord i) (endWord i) (harg3.unread x0) (harg4.unread x1) (harg5.unread x2)) (baseA c i arg3 harg3 arg4 harg4 arg5 harg5 arg6 harg6 arg7 harg7 arg8 harg8 arg9 harg9 (tripsWord i) (endWord i) (harg3.unread x0) (harg4.unread x1) (harg5.unread x2)) := by
  delta kernelRun0_A
  rfl

set_option maxHeartbeats 4000000 in
theorem runB_eq (hc : cond0_0 i) :
    (kernelRun0_B (F := Ideal) c i arg3 harg3 arg4 harg4 arg5 harg5 arg6 harg6 arg7 harg7 arg8 harg8 arg9 harg9 hc x0 x1 x2).1
      = outPieces i arg3 arg4 arg5 arg7 arg8 arg9 (harg3.unread x0) (harg4.unread x1) (harg5.unread x2)
          (chainM arg7.view (baseM c i arg3 harg3 arg4 harg4 arg5 harg5 arg6 harg6 arg7 harg7 arg8 harg8 arg9 harg9 (tripsWord i) (endWord i) (harg3.unread x0) (harg4.unread x1) (harg5.unread x2)) (mBlock i arg3 arg4 arg5 (harg3.unread x0) (harg4.unread x1) (harg5.unread x2) hc))
          (chainL arg7.view arg8.view (baseM c i arg3 harg3 arg4 harg4 arg5 harg5 arg6 harg6 arg7 harg7 arg8 harg8 arg9 harg9 (tripsWord i) (endWord i) (harg3.unread x0) (harg4.unread x1) (harg5.unread x2)) (baseL c i arg3 harg3 arg4 harg4 arg5 harg5 arg6 harg6 arg7 harg7 arg8 harg8 arg9 harg9 (tripsWord i) (endWord i) (harg3.unread x0) (harg4.unread x1) (harg5.unread x2)) (mBlock i arg3 arg4 arg5 (harg3.unread x0) (harg4.unread x1) (harg5.unread x2) hc))
          (chainA arg7.view arg9.view (baseM c i arg3 harg3 arg4 harg4 arg5 harg5 arg6 harg6 arg7 harg7 arg8 harg8 arg9 harg9 (tripsWord i) (endWord i) (harg3.unread x0) (harg4.unread x1) (harg5.unread x2)) (baseA c i arg3 harg3 arg4 harg4 arg5 harg5 arg6 harg6 arg7 harg7 arg8 harg8 arg9 harg9 (tripsWord i) (endWord i) (harg3.unread x0) (harg4.unread x1) (harg5.unread x2)) (mBlock i arg3 arg4 arg5 (harg3.unread x0) (harg4.unread x1) (harg5.unread x2) hc)) := by
  delta kernelRun0_B
  rfl

/-- The result block's row `256 ch + j`, column `r`, from the query, key and value blocks. -/
def blockOut (qi : ℕ) (x0 : Vec Ideal S512x256 .bf16) (x1 : Vec Ideal S4096x256 .bf16) (x2 : Vec Ideal S8x128x512 .bf16)
    (ch : Fin 2) (j : Fin 256) (r : Fin 128) : EReal :=
  Ideal.div (oa (masked (sc x0 x1) (qi * 512) ch (headOf r) j) (vl x2 r) (qi * 512 + 256 * ch.val + 256))
    (ol (masked (sc x0 x1) (qi * 512) ch (headOf r) j) (qi * 512 + 256 * ch.val + 256))

theorem outA_at (hc : ¬cond0_0 i) (ch : Fin 2) (j : Fin 256) (r : Fin 128) :
    out0_A_3 (F := Ideal) c i arg3 harg3 arg4 harg4 arg5 harg5 arg6 harg6 arg7 harg7 arg8 harg8 arg9 harg9 hc x0 x1 x2 (ix2 ⟨256 * ch.val + j.val, by omega⟩ r) = blockOut (i 2).val x0 x1 x2 ch j r := by
  have e := runA_eq c i arg3 harg3 arg4 harg4 arg5 harg5 arg6 harg6 arg7 harg7 arg8 harg8 arg9 harg9 x0 x1 x2 hc
  unfold out0_A_3
  rw [e]
  have hH := base_holds c i arg3 harg3 arg4 harg4 arg5 harg5 arg6 harg6 arg7 harg7 arg8 harg8 arg9 harg9 (tripsWord i) (endWord i) (harg3.unread x0) (harg4.unread x1) (harg5.unread x2)
  have h8 : ¬ (i 2).val % 2 = 1 := fun h => hc ((odd_of_cond i).mpr h)
  rw [show (i 2).val / 2 * 1024 = (i 2).val * 512 by omega] at hH
  refine (outPieces_at i arg3 arg4 arg5 arg7 arg8 arg9 _ _ _ hH ch j r).trans ?_
  unfold blockOut scs vls
  rw [harg3.read_unread, harg4.read_unread, harg5.read_unread]

theorem outB_at (hc : cond0_0 i) (ch : Fin 2) (j : Fin 256) (r : Fin 128) :
    out0_B_3 (F := Ideal) c i arg3 harg3 arg4 harg4 arg5 harg5 arg6 harg6 arg7 harg7 arg8 harg8 arg9 harg9 hc x0 x1 x2 (ix2 ⟨256 * ch.val + j.val, by omega⟩ r) = blockOut (i 2).val x0 x1 x2 ch j r := by
  have e := runB_eq c i arg3 harg3 arg4 harg4 arg5 harg5 arg6 harg6 arg7 harg7 arg8 harg8 arg9 harg9 x0 x1 x2 hc
  unfold out0_B_3
  rw [e]
  have hH := mid_holds i arg3 arg4 arg5 arg7 arg8 arg9 _ _ _ hc (base_holds c i arg3 harg3 arg4 harg4 arg5 harg5 arg6 harg6 arg7 harg7 arg8 harg8 arg9 harg9 (tripsWord i) (endWord i) (harg3.unread x0) (harg4.unread x1) (harg5.unread x2))
  refine (outPieces_at i arg3 arg4 arg5 arg7 arg8 arg9 _ _ _ hH ch j r).trans ?_
  unfold blockOut scs vls
  rw [harg3.read_unread, harg4.read_unread, harg5.read_unread]

end

end Cert.Attn

end
-- ==== Proof.Points.lean ====
/-
  What the kernel's grid points read and what the host packed: the window blocks as parts of the packed arrays, and the
  packed arrays as the queries, keys and values the program was given.
-/
module

public import proofs.«01_k».proof.Proof.Cases
public import proofs.«01_k».proof.Proof.Gen.KernelIdeal.Value
public import Idealize.ShloMosaic.Lib.Pipeline.ValueKit
public import Idealize.ShloMosaic.Lib.Claim

@[expose] public section

noncomputable section

open Idealize.ShloMosaic Idealize.ShloMosaic.TcCoe Idealize.SL.Sem
open Cert.KernelIdeal Cert.KernelIdeal.Gen

namespace Cert.Attn

/-- Where each window lies at grid point `t`: batch `t / 64`, head pair `t / 8 % 8`, query block `t % 8`. -/
theorem idx : ∀ t : Fin cfg0.N, win0_0.index t = ![t.val / 64 * 8 + t.val % 8, t.val / 8 % 8]
    ∧ win0_1.index t = ![t.val / 64, t.val / 8 % 8]
    ∧ win0_2.index t = ![t.val / 64, t.val / 8 % 8, 0]
    ∧ win0_3.index t = ![t.val / 64 * 8 + t.val % 8, t.val / 8 % 8] ∧ (grid0.coords t 2).val = t.val % 8 :=
  (by decide +kernel : ∀ t : Fin grid0.N, _)

/-- There are 256 grid points. -/
theorem point_lt (t : Fin cfg0.N) : t.val < 256 := lt_of_lt_of_eq t.isLt N_0

variable (m : (ℓ : Loc nD τ sig) → Buf (Elt Ideal) ℓ) (c : Dev nD)

/-- The query block of a grid point. -/
theorem q_blk (t : Fin cfg0.N) (a : Fin 512) (d : Fin 256) :
    (iblk m c 0 t (ix2 a d) : EReal) = (V m c main_v8 : FVec Ideal S16384x2048 .bf16) (ix2 ⟨(t.val / 64 * 8 + t.val % 8) * 512 + a.val, by have := point_lt t; omega⟩ ⟨t.val / 8 % 8 * 256 + d.val, by omega⟩) := by
  blk_ext [iblk, idx t]

/-- The key block of a grid point: all keys of one batch. -/
theorem k_blk (t : Fin cfg0.N) (a : Fin 4096) (d : Fin 256) :
    (iblk m c 1 t (ix2 a d) : EReal) = (V m c main_v13 : FVec Ideal S16384x2048 .bf16) (ix2 ⟨t.val / 64 * 4096 + a.val, by have := point_lt t; omega⟩ ⟨t.val / 8 % 8 * 256 + d.val, by omega⟩) := by
  blk_ext [iblk, idx t]

/-- The value block of a grid point, transposed by the host. -/
theorem v_blk (t : Fin cfg0.N) (a : Fin 8) (d : Fin 128) (e : Fin 512) :
    (iblk m c 2 t (ix3 a d e) : EReal) = (V m c main_v16 : FVec Ideal S32x1024x512 .bf16) (ix3 ⟨t.val / 64 * 8 + a.val, by have := point_lt t; omega⟩ ⟨t.val / 8 % 8 * 128 + d.val, by omega⟩ e) := by
  blk_ext [iblk, idx t]

/-- The packed queries: the content part, the rotary part, zeros up to lane 128, all scaled. -/
theorem q_entry (R : Fin 16384) (b : Fin 4) (n : Fin 4096) (g : Fin 16) (d : Fin 128) (C : Fin 2048) (hb : R.val / 4096 = b) (hn : R.val % 4096 = n)
    (hg : C.val / 128 = g) (hd : C.val % 128 = d) :
    (V m c main_v8 : FVec Ideal S16384x2048 .bf16) (ix2 R C) = Ideal.div (if h : d.val < 64 then m (c, Proc.tc.devRef main_arg0) (ix4 b n g ⟨d.val, h⟩)
      else if h' : d.val - 64 < 32 then m (c, Proc.tc.devRef main_arg1) (ix4 b n g ⟨d.val - 64, h'⟩) else 0)
      (Ideal.sqrt (Ideal.ofBits .f32 0x42C00000#32) * Ideal.log (Ideal.ofBits .f32 0x40000000#32)) := by
  obtain ⟨b, _⟩ := b; obtain ⟨n, _⟩ := n; obtain ⟨g, _⟩ := g; obtain ⟨d, _⟩ := d
  dsimp only at hb hn hg hd
  subst hb hn hg hd
  unfold V
  after_results_simp
  pointwise
  congr 1
  split
  · rfl
  split
  · rfl
  · refine Eq.trans (congrFun (?_ : (_ : FVec Ideal S4x4096x16x32 .f32) = broadcastInDim S4x4096x16x32 ![] bcast_S_S4x4096x16x32 (constant S_ .f32 0#32)) _) ?_
    · after_results_simp
    · pointwise

/-- The packed keys: the content part, the rotary part shared by all heads, zeros up to lane 128. -/
theorem k_entry (R : Fin 16384) (b : Fin 4) (n : Fin 4096) (g : Fin 16) (d : Fin 128) (C : Fin 2048) (hb : R.val / 4096 = b) (hn : R.val % 4096 = n)
    (hg : C.val / 128 = g) (hd : C.val % 128 = d) :
    (V m c main_v13 : FVec Ideal S16384x2048 .bf16) (ix2 R C) = if h : d.val < 64 then m (c, Proc.tc.devRef main_arg2) (ix4 b n g ⟨d.val, h⟩)
      else if h' : d.val - 64 < 32 then m (c, Proc.tc.devRef main_arg3) (ix3 b n ⟨d.val - 64, h'⟩) else (0 : EReal) := by
  obtain ⟨b, _⟩ := b; obtain ⟨n, _⟩ := n; obtain ⟨g, _⟩ := g; obtain ⟨d, _⟩ := d
  dsimp only at hb hn hg hd
  subst hb hn hg hd
  unfold V
  after_results_simp
  pointwise
  split
  · refine congrFun (?_ : (_ : FVec Ideal S4x4096x16x64 .f32) = m (c, Proc.tc.devRef main_arg2)) _
    after_results_simp
  split
  · refine Eq.trans (congrFun (?_ : (_ : FVec Ideal S4x4096x16x32 .f32) = broadcastInDim S4x4096x16x32 ![0, 1, 2, 3] bcast_S4x4096x1x32_S4x4096x16x32_0_1_2_3
      (broadcastInDim S4x4096x1x32 ![0, 1, 3] bcast_S4x4096x32_S4x4096x1x32_0_1_3 (m (c, Proc.tc.devRef main_arg3)))) _) ?_
    · after_results_simp
    · pointwise
  · refine Eq.trans (congrFun (?_ : (_ : FVec Ideal S4x4096x16x32 .f32) = broadcastInDim S4x4096x16x32 ![] bcast_S_S4x4096x16x32 (constant S_ .f32 0#32)) _) ?_
    · after_results_simp
    · pointwise

/-- The packed values: transposed within tiles of 512 keys. -/
theorem v_entry (R : Fin 32) (C : Fin 1024) (T : Fin 512) (b : Fin 4) (n : Fin 4096) (g : Fin 16) (r : Fin 64)
    (hb : R.val / 8 = b) (hn : R.val % 8 * 512 + T.val = n) (hg : C.val / 64 = g) (hr : C.val % 64 = r) :
    (V m c main_v16 : FVec Ideal S32x1024x512 .bf16) (ix3 R C T) = (m (c, Proc.tc.devRef main_arg4) (ix4 b n g r) : EReal) := by
  obtain ⟨b, _⟩ := b; obtain ⟨n, _⟩ := n; obtain ⟨g, _⟩ := g; obtain ⟨r, _⟩ := r
  dsimp only at hb hn hg hr
  subst hb hn hg hr
  unfold V
  after_results_simp
  pointwise

end Cert.Attn

end
-- ==== Proof.Scores.lean ====
/-
  Scores as real numbers: the product of a packed key and a packed query over 128 lanes, and the two constants of the scale.
-/
module

public import proofs.«01_k».proof.Proof.Online
public import Idealize.ShloMosaic.Lib.Pipeline.ValueKit
public import Idealize.ShloMosaic.Lib.Claim

@[expose] public section

noncomputable section

open Idealize.ShloMosaic

namespace Cert.Attn

/-- The square root of the head width, taken on the host. -/
theorem root_word : Ideal.sqrt (Ideal.ofBits .f32 0x42C00000#32) = ((Real.sqrt 96 : ℝ) : EReal) := by
  have e : Ideal.ofBits .f32 0x42C00000#32 = ((96 : ℝ) : EReal) := by
    simp [Ideal.ofBits, Ideal.ieee]
    rw [← EReal.coe_mul]
    norm_num
  rw [e, Ideal.sqrt_coe, if_neg (by norm_num)]

/-- The logarithm of two, taken on the host. -/
theorem log_word : Ideal.log (Ideal.ofBits .f32 0x40000000#32) = ((Real.log 2 : ℝ) : EReal) := by
  have e : Ideal.ofBits .f32 0x40000000#32 = ((2 : ℝ) : EReal) := by
    simp [Ideal.ofBits, Ideal.ieee]
    try (rw [← EReal.coe_mul]; norm_num)
  rw [e, Ideal.log_coe, if_neg (by norm_num)]

/-- A sum of real numbers is the real sum. -/
theorem coe_sum {n : ℕ} (f : Fin n → ℝ) : ∑ d, ((f d : ℝ) : EReal) = ((∑ d, f d : ℝ) : EReal) :=
  (map_sum (⟨⟨Real.toEReal, EReal.coe_zero⟩, EReal.coe_add⟩ : ℝ →+ EReal) f Finset.univ).symm

/-- A sum over 128 lanes as the content lanes, the rotary lanes and the filler. -/
theorem sum_lanes (f : Fin 128 → EReal) :
    ∑ d, f d = ∑ d : Fin 64, f ⟨d.val, by omega⟩
      + (∑ d : Fin 32, f ⟨64 + d.val, by omega⟩ + ∑ d : Fin 32, f ⟨96 + d.val, by omega⟩) := by
  refine (Fin.sum_univ_add (a := 64) (b := 64) f).trans (congrArg₂ (· + ·) rfl ?_)
  refine (Fin.sum_univ_add (a := 32) (b := 32) (fun d => f (Fin.natAdd 64 d))).trans (congrArg₂ (· + ·) rfl ?_)
  exact Finset.sum_congr rfl fun d _ => congrArg f (Fin.ext (by simp; omega))

/-- A packed row: content, rotary part, zeros. -/
def lanes (u : Fin 64 → EReal) (w : Fin 32 → EReal) (d : Fin 128) : EReal :=
  if h : d.val < 64 then u ⟨d.val, h⟩ else if h' : d.val - 64 < 32 then w ⟨d.val - 64, h'⟩ else 0

/-- The product of a packed key with a packed query divided by `S`. -/
theorem dot_lanes (S : ℝ) (hS : 0 < S) (u w : Fin 64 → ℝ) (u' w' : Fin 32 → ℝ) :
    ∑ d : Fin 128, lanes (fun d => ((w d : ℝ) : EReal)) (fun d => ((w' d : ℝ) : EReal)) d
        * Ideal.div (lanes (fun d => ((u d : ℝ) : EReal)) (fun d => ((u' d : ℝ) : EReal)) d) ((S : ℝ) : EReal)
      = (((∑ d, u d * w d + ∑ d, w' d * u' d) * S⁻¹ : ℝ) : EReal) := by
  rw [sum_lanes]
  have a : ∀ d : Fin 64, lanes (fun d => ((w d : ℝ) : EReal)) (fun d => ((w' d : ℝ) : EReal)) ⟨d.val, by omega⟩
      * Ideal.div (lanes (fun d => ((u d : ℝ) : EReal)) (fun d => ((u' d : ℝ) : EReal)) ⟨d.val, by omega⟩) ((S : ℝ) : EReal)
      = ((u d * w d * S⁻¹ : ℝ) : EReal) := by
    intro d
    unfold lanes
    rw [dif_pos d.isLt, dif_pos d.isLt, Ideal.div_coe hS.ne', ← EReal.coe_mul, ← EReal.coe_mul]
    congr 1
    rw [one_div]
    ring
  have b : ∀ d : Fin 32, lanes (fun d => ((w d : ℝ) : EReal)) (fun d => ((w' d : ℝ) : EReal)) ⟨64 + d.val, by omega⟩
      * Ideal.div (lanes (fun d => ((u d : ℝ) : EReal)) (fun d => ((u' d : ℝ) : EReal)) ⟨64 + d.val, by omega⟩) ((S : ℝ) : EReal)
      = ((w' d * u' d * S⁻¹ : ℝ) : EReal) := by
    intro d
    unfold lanes
    have e : (⟨64 + d.val - 64, by omega⟩ : Fin 32) = d := Fin.ext (by simp)
    rw [dif_neg (by simp), dif_pos (by simp), dif_neg (by simp), dif_pos (by simp), Ideal.div_coe hS.ne', ← EReal.coe_mul, ← EReal.coe_mul]
    simp only [e]
    congr 1
    rw [one_div]
    ring
  have z : ∀ d : Fin 32, lanes (fun d => ((w d : ℝ) : EReal)) (fun d => ((w' d : ℝ) : EReal)) ⟨96 + d.val, by omega⟩
      * Ideal.div (lanes (fun d => ((u d : ℝ) : EReal)) (fun d => ((u' d : ℝ) : EReal)) ⟨96 + d.val, by omega⟩) ((S : ℝ) : EReal) = 0 := by
    intro d
    have h0 : ∀ (f : Fin 64 → EReal) (g : Fin 32 → EReal), lanes f g ⟨96 + d.val, by omega⟩ = 0 := by
      intro f g
      unfold lanes
      rw [dif_neg (by simp; omega), dif_neg (by simp; omega)]
    rw [h0, zero_mul]
  simp only [a, b, z, Finset.sum_const_zero, add_zero]
  rw [coe_sum, coe_sum, ← EReal.coe_add, ← Finset.sum_mul, ← Finset.sum_mul, add_mul]

/-- The reference's quotient of the two products by the root. -/
theorem quot_real (S : ℝ) (hS : 0 < S) (u w : Fin 64 → ℝ) (u' w' : Fin 32 → ℝ) :
    Ideal.div (∑ d, ((u d : ℝ) : EReal) * ((w d : ℝ) : EReal) + ∑ d, ((w' d : ℝ) : EReal) * ((u' d : ℝ) : EReal)) ((S : ℝ) : EReal)
      = (((∑ d, u d * w d + ∑ d, w' d * u' d) * S⁻¹ : ℝ) : EReal) := by
  simp only [← EReal.coe_mul]
  rw [coe_sum, coe_sum, ← EReal.coe_add, Ideal.div_coe hS.ne', ← EReal.coe_mul, one_div]

end Cert.Attn

end
-- ==== Proof.Ref.lean ====
/-
  The reference at an index: the score of a query and a key (`score_at`), its row maximum, and the result as a sum over
  all keys of softmax weight times value (`result_at`).
-/
module

public import proofs.«01_k».proof.Proof.Online
public import proofs.«01_k».proof.Proof.Gen.ReferenceIdeal.Run
public import proofs.«01_k».proof.Proof.Gen.ReferenceIdeal.Read
public import Idealize.ShloMosaic.Lib.Pipeline.ValueKit
public import Idealize.ShloMosaic.Lib.Claim
public import Idealize.ShloMosaic.Lib.WordCmp

@[expose] public section

noncomputable section

open Idealize.ShloMosaic Idealize.ShloMosaic.TcCoe Idealize.SL.Sem
open Cert.ReferenceIdeal Cert.ReferenceIdeal.Gen Cert.ReferenceIdeal.Read

namespace Cert.Attn.Ref

variable (x0 : FVec Ideal S4x4096x16x64 .f32) (x1 : FVec Ideal S4x4096x16x32 .f32) (x2 : FVec Ideal S4x4096x16x64 .f32)
  (x3 : FVec Ideal S4x4096x32 .f32) (x4 : FVec Ideal S4x4096x16x64 .f32)

theorem bot_word : Ideal.ofBits .f32 0xFF800000#32 = ⊥ := by
  simp [Ideal.ofBits, Ideal.ieee]

/-- The masked score of query `q` and key `t`. -/
abbrev score (b : Fin 4) (h : Fin 16) (q t : Fin 4096) : EReal := val_main_v13 (F := Ideal) x0 x1 x2 x3 (ix4 b h q t)

theorem fold_max_at (y : FVec Ideal S4x16x4096x4096 .f32) (b : Fin 4) (h : Fin 16) (q : Fin 4096) :
    Host.reduce FloatOps.maximumf y (val_main_cst_1 (F := Ideal)) reducesTo_S4x16x4096x4096_S4x16x4096_d3 h_S_ (ix3 b h q)
      = Finset.univ.fold max (⊥ : EReal) (fun t : Fin 4096 => y (ix4 b h q t)) := by
  pointwise [val_main_cst_1]
  rw [bot_word]

/-- The largest score of a query. -/
abbrev top (b : Fin 4) (h : Fin 16) (q : Fin 4096) : EReal := Finset.univ.fold max (⊥ : EReal) (score x0 x1 x2 x3 b h q)

theorem v14_at (b : Fin 4) (h : Fin 16) (q : Fin 4096) : val_main_v14 (F := Ideal) x0 x1 x2 x3 (ix3 b h q) = top x0 x1 x2 x3 b h q := by
  unfold val_main_v14 top score
  generalize val_main_v13 (F := Ideal) x0 x1 x2 x3 = y
  exact fold_max_at y b h q

theorem v16_at (i : S4x16x4096.Idx) : val_main_v16 (F := Ideal) x0 x1 x2 x3 i = val_main_v14 (F := Ideal) x0 x1 x2 x3 i := by
  rw [val_main_v16_apply, val_main_v15_apply, val_main_cst_2_apply]
  generalize val_main_v14 (F := Ideal) x0 x1 x2 x3 i = y
  show max (Ideal.ofBits .f32 0xFF800000#32) y = y
  rw [bot_word]
  exact max_eq_right bot_le

theorem v18_at (b : Fin 4) (h : Fin 16) (q t : Fin 4096) : val_main_v18 (F := Ideal) x0 x1 x2 x3 (ix4 b h q t) = top x0 x1 x2 x3 b h q := by
  rw [← v14_at, ← v16_at]
  unfold val_main_v18 val_main_v17
  generalize val_main_v16 (F := Ideal) x0 x1 x2 x3 = y
  pointwise

theorem v20_at (b : Fin 4) (h : Fin 16) (q t : Fin 4096) :
    val_main_v20 (F := Ideal) x0 x1 x2 x3 (ix4 b h q t) = Ideal.exp (score x0 x1 x2 x3 b h q t - top x0 x1 x2 x3 b h q) := by
  rw [← v18_at x0 x1 x2 x3 b h q t]
  unfold val_main_v20 val_main_v19 score
  generalize val_main_v18 (F := Ideal) x0 x1 x2 x3 = y
  generalize val_main_v13 (F := Ideal) x0 x1 x2 x3 = z
  rfl

theorem v23_at (b : Fin 4) (h : Fin 16) (q t : Fin 4096) :
    val_main_v23 (F := Ideal) x0 x1 x2 x3 (ix4 b h q t) = ∑ u : Fin 4096, Ideal.exp (score x0 x1 x2 x3 b h q u - top x0 x1 x2 x3 b h q) := by
  have e : ∀ u, Ideal.exp (score x0 x1 x2 x3 b h q u - top x0 x1 x2 x3 b h q) = val_main_v20 (F := Ideal) x0 x1 x2 x3 (ix4 b h q u) :=
    fun u => (v20_at x0 x1 x2 x3 b h q u).symm
  simp only [e]
  unfold val_main_v23 val_main_v22 val_main_v21
  generalize val_main_v20 (F := Ideal) x0 x1 x2 x3 = y
  pointwise [val_main_cst_3]

theorem v28_at (R : Fin 16384) (C : Fin 1024) :
    val_main_v28 (F := Ideal) x0 x1 x2 x3 x4 (ix2 R C)
      = ∑ t : Fin 4096, x4 (ix4 ⟨R.val / 4096, by omega⟩ t ⟨C.val / 64, by omega⟩ ⟨C.val % 64, by omega⟩)
          * val_main_v24 (F := Ideal) x0 x1 x2 x3 (ix4 ⟨R.val / 4096, by omega⟩ ⟨C.val / 64, by omega⟩ ⟨R.val % 4096, by omega⟩ t) := by
  unfold val_main_v28 val_main_v27 val_main_v26 val_main_v25
  generalize val_main_v24 (F := Ideal) x0 x1 x2 x3 = y
  pointwise

/-- The result: softmax weights times values. -/
theorem result_at (R : Fin 16384) (C : Fin 1024) (b : Fin 4) (h : Fin 16) (q : Fin 4096) (r : Fin 64)
    (hb : R.val / 4096 = b.val) (hq : R.val % 4096 = q.val) (hh : C.val / 64 = h.val) (hr : C.val % 64 = r.val) :
    val_main_v28 (F := Ideal) x0 x1 x2 x3 x4 (ix2 R C)
      = ∑ t : Fin 4096, Ideal.div (Ideal.exp (score x0 x1 x2 x3 b h q t - top x0 x1 x2 x3 b h q))
          (∑ u : Fin 4096, Ideal.exp (score x0 x1 x2 x3 b h q u - top x0 x1 x2 x3 b h q)) * x4 (ix4 b t h r) := by
  rw [v28_at]
  rw [show (⟨R.val / 4096, by omega⟩ : Fin 4) = b from Fin.ext hb, show (⟨R.val % 4096, by omega⟩ : Fin 4096) = q from Fin.ext hq,
    show (⟨C.val / 64, by omega⟩ : Fin 16) = h from Fin.ext hh, show (⟨C.val % 64, by omega⟩ : Fin 64) = r from Fin.ext hr]
  refine Finset.sum_congr rfl fun t _ => ?_
  rw [mul_comm]
  refine congrArg (· * _) ?_
  rw [← v20_at, ← v23_at x0 x1 x2 x3 _ _ _ t]
  rfl

/-- The score of a query and a key: both products, over the root of the query's width; nothing after the query. -/
theorem score_at (b : Fin 4) (h : Fin 16) (q t : Fin 4096) :
    score x0 x1 x2 x3 b h q t = if t.val ≤ q.val then
      Ideal.div (∑ d : Fin 64, x0 (ix4 b q h d) * x2 (ix4 b t h d) + ∑ d : Fin 32, x3 (ix3 b t d) * x1 (ix4 b q h d)) (Ideal.sqrt (Ideal.ofBits .f32 0x42C00000#32))
      else ⊥ := by
  unfold score val_main_v13
  have e6 : val_main_v6 (F := Ideal) x0 x1 x2 x3 (ix4 b h q t) =
      Ideal.div (∑ d : Fin 64, x0 (ix4 b q h d) * x2 (ix4 b t h d) + ∑ d : Fin 32, x3 (ix3 b t d) * x1 (ix4 b q h d)) (Ideal.sqrt (Ideal.ofBits .f32 0x42C00000#32)) := by
    unfold val_main_v6 val_main_v3
    pointwise [val_main_v5, val_main_v4, val_main_cst, val_main_v2, val_main_v1, val_main_v0]
  rw [← e6]
  generalize val_main_v6 (F := Ideal) x0 x1 x2 x3 = y
  pointwise [val_main_call0_v1, val_main_call0_v2, val_main_call0_v0, val_main_v12, val_main_v11, val_main_v10, val_main_v9, val_main_v8, val_main_v7]
  rw [WordCmp.cmpi_sle_ofNat (by omega) (by omega), WordCmp.select_decide]
  exact if_congr Iff.rfl rfl bot_word

end Cert.Attn.Ref

end
-- ==== Proof.Final.lean ====
/-
  The kernel's result is the reference's: at every grid point the block the kernel writes holds the reference's entries
  (`point_eq`), and the blocks cover the result (`result_eq`).
-/
module

public import proofs.«01_k».proof.Proof.Points
public import proofs.«01_k».proof.Proof.Scores
public import proofs.«01_k».proof.Proof.Ref

@[expose] public section

noncomputable section

open Idealize.ShloMosaic Idealize.ShloMosaic.TcCoe Idealize.SL.Sem
open Cert.KernelIdeal Cert.KernelIdeal.Gen

namespace Cert.Attn

variable (m : (ℓ : Loc nD τ sig) → Buf (Elt Ideal) ℓ) (c : Dev nD)

/-- The queries' content part. -/
abbrev a0 : FVec Ideal S4x4096x16x64 .f32 := m (c, Proc.tc.devRef main_arg0)
/-- The queries' rotary part. -/
abbrev a1 : FVec Ideal S4x4096x16x32 .f32 := m (c, Proc.tc.devRef main_arg1)
/-- The keys' content part. -/
abbrev a2 : FVec Ideal S4x4096x16x64 .f32 := m (c, Proc.tc.devRef main_arg2)
/-- The keys' rotary part, shared by the heads. -/
abbrev a3 : FVec Ideal S4x4096x32 .f32 := m (c, Proc.tc.devRef main_arg3)
/-- The values. -/
abbrev a4 : FVec Ideal S4x4096x16x64 .f32 := m (c, Proc.tc.devRef main_arg4)

/-- Queries and keys are real numbers. -/
structure Reals : Prop where
  r0 : ∀ i, a0 m c i = ((EReal.toReal (a0 m c i) : ℝ) : EReal)
  r1 : ∀ i, a1 m c i = ((EReal.toReal (a1 m c i) : ℝ) : EReal)
  r2 : ∀ i, a2 m c i = ((EReal.toReal (a2 m c i) : ℝ) : EReal)
  r3 : ∀ i, a3 m c i = ((EReal.toReal (a3 m c i) : ℝ) : EReal)

/-- The unscaled product of a query and a key. -/
def prod (b : Fin 4) (g : Fin 16) (q n : Fin 4096) : ℝ :=
  ∑ d : Fin 64, EReal.toReal (a0 m c (ix4 b q g d)) * EReal.toReal (a2 m c (ix4 b n g d))
    + ∑ d : Fin 32, EReal.toReal (a3 m c (ix3 b n d)) * EReal.toReal (a1 m c (ix4 b q g d))

/-- The batch of a grid point. -/
abbrev batch (t : Fin cfg0.N) : Fin 4 := ⟨t.val / 64, by have := point_lt t; omega⟩
/-- The head of a result row of a grid point. -/
abbrev head (t : Fin cfg0.N) (r : Fin 128) : Fin 16 := ⟨t.val / 8 % 8 * 2 + (headOf r).val, by omega⟩
/-- The query of an accumulator column of a grid point. -/
abbrev query (t : Fin cfg0.N) (ch : Fin 2) (j : Fin 256) : Fin 4096 := ⟨t.val % 8 * 512 + 256 * ch.val + j.val, by omega⟩

/-- The head of an accumulator row, as a quotient. -/
theorem headOf_val (r : Fin 128) : (headOf r).val = r.val / 64 := by
  unfold headOf
  split <;> simp <;> omega

variable {m c}

/-- A score of the kernel. -/
theorem score_real (H : Reals m c) (t : Fin cfg0.N) (ch : Fin 2) (j : Fin 256) (r : Fin 128) (n : Fin 4096) :
    sc (iblk m c 0 t) (iblk m c 1 t) ch (headOf r) j n.val
      = ((prod m c (batch t) (head t r) (query t ch j) n * (Real.sqrt 96 * Real.log 2)⁻¹ : ℝ) : EReal) := by
  have hS : 0 < Real.sqrt 96 * Real.log 2 := mul_pos (Real.sqrt_pos.mpr (by norm_num)) (Real.log_pos (by norm_num))
  have ht := point_lt t
  unfold sc prod
  rw [dif_pos n.isLt, ← dot_lanes _ hS]
  refine Finset.sum_congr rfl fun d _ => congrArg₂ (· * ·) ?_ ?_
  · refine ((k_blk m c t _ _).trans (k_entry m c _ (batch t) n (head t r) d _ ?_ ?_ ?_ ?_)).trans
      (congrFun (congrArg₂ lanes (funext fun d => H.r2 _) (funext fun d => H.r3 _)) d)
    all_goals dsimp only
    all_goals omega
  · refine ((q_blk m c t _ _).trans (q_entry m c _ (batch t) (query t ch j) (head t r) d _ ?_ ?_ ?_ ?_)).trans ?_
    any_goals (dsimp only; omega)
    rw [root_word, log_word, ← EReal.coe_mul]
    exact congrArg (Ideal.div · _) (congrFun (congrArg₂ lanes (funext fun d => H.r0 _) (funext fun d => H.r1 _)) d)

/-- A score of the reference. -/
theorem score_ref (H : Reals m c) (b : Fin 4) (g : Fin 16) (q n : Fin 4096) :
    Ref.score (a0 m c) (a1 m c) (a2 m c) (a3 m c) b g q n
      = if n.val ≤ q.val then ((prod m c b g q n * (Real.sqrt 96)⁻¹ : ℝ) : EReal) else ⊥ := by
  rw [Ref.score_at]
  refine if_congr Iff.rfl ?_ rfl
  unfold prod
  rw [root_word, ← quot_real _ (Real.sqrt_pos.mpr (by norm_num))]
  refine congrArg (Ideal.div · _) (congrArg₂ (· + ·) ?_ ?_)
  · exact Finset.sum_congr rfl fun d _ => congrArg₂ (· * ·) (H.r0 _) (H.r2 _)
  · exact Finset.sum_congr rfl fun d _ => congrArg₂ (· * ·) (H.r3 _) (H.r1 _)

/-- A value of the kernel's block. -/
theorem value_at (t : Fin cfg0.N) (r : Fin 128) (n : Fin 4096) :
    vl (iblk m c 2 t) r n.val = a4 m c (ix4 (batch t) n (head t r) ⟨r.val % 64, by omega⟩) := by
  have ht := point_lt t
  unfold vl
  rw [dif_pos n.isLt]
  refine (v_blk m c t _ _ _).trans (v_entry m c _ _ _ _ _ _ _ ?_ ?_ ?_ ?_)
  · dsimp only; omega
  · dsimp only; omega
  · have := headOf_val r
    dsimp only
    omega
  · dsimp only; omega

/-- The block a grid point writes holds the reference's entries. -/
theorem point_eq (H : Reals m c) (t : Fin cfg0.N) (ch : Fin 2) (j : Fin 256) (r : Fin 128) (R : Fin 16384) (C : Fin 1024)
    (hR : R.val = (t.val / 64 * 8 + t.val % 8) * 512 + (256 * ch.val + j.val)) (hC : C.val = t.val / 8 % 8 * 128 + r.val) :
    blockOut (t.val % 8) (iblk m c 0 t) (iblk m c 1 t) (iblk m c 2 t) ch j r
      = Cert.ReferenceIdeal.Read.val_main_v28 (F := Ideal) (a0 m c) (a1 m c) (a2 m c) (a3 m c) (a4 m c) (ix2 R C) := by
  have ht := point_lt t
  have hl : 0 < Real.log 2 := Real.log_pos (by norm_num)
  have hh : C.val / 64 = (head t r).val := by
    have := headOf_val r
    dsimp only
    omega
  rw [Ref.result_at _ _ _ _ _ R C (batch t) (head t r) (query t ch j) ⟨r.val % 64, by omega⟩ (by dsimp only; omega) (by dsimp only; omega) hh (by dsimp only; omega)]
  unfold blockOut
  refine (softmax_eq (fun n => if h : n < 4096 then prod m c (batch t) (head t r) (query t ch j) ⟨n, h⟩ * (Real.sqrt 96)⁻¹ else 0)
    _ (Real.log 2)⁻¹ (inv_pos.mpr hl) (inv_mul_cancel₀ hl.ne') (query t ch j).val _ 4096 (by dsimp only; omega) (by omega) _ ?_
    (Ref.score (a0 m c) (a1 m c) (a2 m c) (a3 m c) (batch t) (head t r) (query t ch j)) ?_).trans ?_
  · intro n
    unfold masked
    refine ite_congr rfl (fun hn => ?_) fun _ => rfl
    have hn' : n < 4096 := lt_of_le_of_lt hn (query t ch j).isLt
    rw [dif_pos hn', mul_assoc, ← mul_inv]
    exact score_real H t ch j r ⟨n, hn'⟩
  · intro n
    rw [score_ref H, dif_pos n.isLt]
  · exact Finset.sum_congr rfl fun n _ => congrArg (_ * ·) (value_at t r n)

/-- The kernel's result array is the reference's. -/
theorem result_eq (H : Reals m c) :
    (dats m 0 c).arrAt 3 cfg0.N = Cert.ReferenceIdeal.Read.val_main_v28 (F := Ideal) (a0 m c) (a1 m c) (a2 m c) (a3 m c) (a4 m c) := by
  refine (dats m 0 c).arrAt_eq_of_covers 3 _ (by decide +kernel) fun t hf y => ?_
  blk_simp
  obtain ⟨a, d, rfl⟩ : ∃ (a : Fin 512) (d : Fin 128), y = ix2 a d := ⟨y 0, y 1, eq_ix2 y⟩
  have ht := point_lt t
  obtain ⟨ch, j, rfl⟩ : ∃ (ch : Fin 2) (j : Fin 256), a = ⟨256 * ch.val + j.val, by omega⟩ :=
    ⟨⟨a.val / 256, by omega⟩, ⟨a.val % 256, by omega⟩, Fin.ext (by dsimp only; omega)⟩
  have he : (win0_3.blk t).view.emb (ix2 ⟨256 * ch.val + j.val, by omega⟩ d)
      = ix2 (⟨(t.val / 64 * 8 + t.val % 8) * 512 + (256 * ch.val + j.val), by omega⟩ : Fin 16384) (⟨t.val / 8 % 8 * 128 + d.val, by omega⟩ : Fin 1024) := by
    blk_ext [idx t]
  rw [he, ← point_eq H t ch j d _ _ rfl rfl, after0_3]
  have hk : (grid0.coords t 2).val = t.val % 8 := (idx t).2.2.2.2
  rw [← hk]
  by_cases h0 : t.val % 2 = 1
  · exact (congrFun (outsAt0_B m c t h0) _).trans (outB_at c (grid0.coords t) _ _ _ _ _ _ _ _ _ _ _ _ _ _ _ _ _ _ ch j d)
  · exact (congrFun (outsAt0_A m c t h0) _).trans (outA_at c (grid0.coords t) _ _ _ _ _ _ _ _ _ _ _ _ _ _ _ _ _ _ ch j d)

end Cert.Attn

end
-- ==== Proof.Rows.lean ====
/-
  The row arithmetic shared by the dense calls: a normalised row, a row times a matrix, and the steps made of them.
-/
module

public import Idealize.ShloMosaic.Lib.Pipeline.ValueKit
public import Idealize.ShloMosaic.Lib.Claim

@[expose] public section

noncomputable section

open Idealize.ShloMosaic

namespace Cert.Rows

/-- A row of the residual stream. -/
abbrev Row := Fin 1024 → EReal

/-- A row divided by its root mean square, times the gain. -/
def rms (x g : Row) : Row := fun k =>
  x k * Ideal.rsqrt (Ideal.div (∑ d, x d * x d) (Ideal.ofBits .f32 0x44800000#32) + Ideal.ofBits .f32 0x358637BD#32) * g k

/-- A row times a matrix. -/
def mul {K N : ℕ} (u : Fin K → EReal) (w : Fin K → Fin N → EReal) : Fin N → EReal := fun j => ∑ k, u k * w k j

/-- The gated hidden row of a feed-forward step: the two halves of one product, the first through the swish. -/
def hidden (a : Fin 5632 → EReal) : Fin 2816 → EReal := fun f =>
  a ⟨f.val, by omega⟩ * Ideal.logistic (a ⟨f.val, by omega⟩) * a ⟨2816 + f.val, by omega⟩

/-- Half a feed-forward step added to the row. -/
def half (x g : Row) (wgu : Fin 1024 → Fin 5632 → EReal) (wd : Fin 2816 → Fin 1024 → EReal) : Row := fun j =>
  x j + Ideal.ofBits .f32 0x3F000000#32 * mul (hidden (mul (rms x g) wgu)) wd j

/-- The per-layer embedding added through its gate. -/
def embed (x : Row) (p : Fin 256 → EReal) (g : Row) (wg : Fin 1024 → Fin 1024 → EReal) (wp : Fin 256 → Fin 1024 → EReal) : Row := fun j =>
  x j + Ideal.logistic (mul (rms x g) wg j) * mul p wp j

/-- The two gated branches projected and added to the row. -/
def merged (x : Row) (ys : Fin 2048 → EReal) (ym gs gm : Row) (ws : Fin 2048 → Fin 1024 → EReal) (wm wo : Fin 1024 → Fin 1024 → EReal) : Row := fun j =>
  x j + mul (fun k => Ideal.logistic (gs k) * mul ys ws k + Ideal.logistic (gm k) * mul ym wm k) wo j

end Cert.Rows

end
-- ==== Proof.Rope.lean ====
/-
  The rotary embedding of a row, and the normalised latent row, shared by the query, key and value projections.
-/
module

public import proofs.«01_k».proof.Proof.Rows

@[expose] public section

noncomputable section

open Idealize.ShloMosaic

namespace Cert.Rope

/-- A row divided by its root mean square, times the gain; `len` is the row's length as a number. -/
def norm {n : ℕ} (len : EReal) (x g : Fin n → EReal) : Fin n → EReal := fun k =>
  x k * Ideal.rsqrt (Ideal.div (∑ d, x d * x d) len + Ideal.ofBits .f32 0x358637BD#32) * g k

/-- The half-split rotation of 32 entries by 16 angles, given their cosines and sines. -/
def rot (c s : Fin 16 → EReal) (x : Fin 32 → EReal) : Fin 32 → EReal := fun j =>
  if h : j.val < 16 then x j * c ⟨j.val, h⟩ - x ⟨16 + j.val, by omega⟩ * s ⟨j.val, h⟩
  else x ⟨16 + (j.val - 16), by omega⟩ * c ⟨j.val - 16, by omega⟩ + x ⟨j.val - 16, by omega⟩ * s ⟨j.val - 16, by omega⟩

/-- The table of cosines over 128 lanes: ones, the cosines twice, zeros. -/
def cosTab (c : Fin 16 → EReal) (n : Fin 128) : EReal :=
  if h : n.val < 64 then 1
  else if h : n.val - 64 < 16 then c ⟨n.val - 64, h⟩
  else if h : n.val - 64 - 16 < 16 then c ⟨n.val - 64 - 16, h⟩
  else 0

/-- The table of sines for the entry 16 lanes below. -/
def hiTab (s : Fin 16 → EReal) (n : Fin 128) : EReal :=
  if h : n.val < 80 then 0
  else if h : n.val - 80 < 16 then s ⟨n.val - 80, h⟩
  else 0

/-- The table of negated sines for the entry 16 lanes above. -/
def loTab (s : Fin 16 → EReal) (n : Fin 128) : EReal :=
  if h : n.val < 64 then 0
  else if h : n.val - 64 < 16 then -s ⟨n.val - 64, h⟩
  else 0

/-- A lane turned: the entry, the one 16 lanes below and the one 16 lanes above, each times its table. -/
def turned (x below above c hi lo : EReal) : EReal := x * c + below * hi + above * lo

/-- On the 64 leading lanes nothing changes. -/
theorem turned_lead (c s : Fin 16 → EReal) (x below above : EReal) (n : Fin 128) (h : n.val < 64) :
    turned x below above (cosTab c n) (hiTab s n) (loTab s n) = x := by
  unfold turned cosTab hiTab loTab
  rw [dif_pos h, dif_pos (show n.val < 80 by omega), dif_pos h, mul_one, mul_zero, mul_zero, add_zero, add_zero]

/-- On the 32 trailing lanes it is zero. -/
theorem turned_trail (c s : Fin 16 → EReal) (x below above : EReal) (n : Fin 128) (h : 96 ≤ n.val) :
    turned x below above (cosTab c n) (hiTab s n) (loTab s n) = 0 := by
  unfold turned cosTab hiTab loTab
  rw [dif_neg (show ¬ n.val < 64 by omega), dif_neg (show ¬ n.val - 64 < 16 by omega), dif_neg (show ¬ n.val - 64 - 16 < 16 by omega),
    dif_neg (show ¬ n.val < 80 by omega), dif_neg (show ¬ n.val - 80 < 16 by omega),
    dif_neg (show ¬ n.val < 64 by omega), dif_neg (show ¬ n.val - 64 < 16 by omega), mul_zero, mul_zero, mul_zero, add_zero, add_zero]

/-- On the 32 lanes between it is the rotation. -/
theorem turned_mid (c s : Fin 16 → EReal) (x : Fin 32 → EReal) (below above : EReal) (j : Fin 32) (n : Fin 128) (hn : n.val = 64 + j.val)
    (hb : ∀ h : 16 ≤ j.val, below = x ⟨j.val - 16, by omega⟩) (ha : ∀ h : j.val < 16, above = x ⟨16 + j.val, by omega⟩) :
    turned (x j) below above (cosTab c n) (hiTab s n) (loTab s n) = rot c s x j := by
  unfold turned cosTab hiTab loTab rot
  by_cases h : j.val < 16
  · rw [dif_neg (show ¬ n.val < 64 by omega), dif_pos (show n.val - 64 < 16 by omega), dif_pos (show n.val < 80 by omega),
      dif_neg (show ¬ n.val < 64 by omega), dif_pos (show n.val - 64 < 16 by omega), dif_pos h, ha h, mul_zero, add_zero, mul_neg,
      ← sub_eq_add_neg]
    have e : (⟨n.val - 64, by omega⟩ : Fin 16) = ⟨j.val, h⟩ := Fin.ext (by show n.val - 64 = j.val; omega)
    rw [e]
  · rw [dif_neg (show ¬ n.val < 64 by omega), dif_neg (show ¬ n.val - 64 < 16 by omega), dif_pos (show n.val - 64 - 16 < 16 by omega),
      dif_neg (show ¬ n.val < 80 by omega), dif_pos (show n.val - 80 < 16 by omega),
      dif_neg (show ¬ n.val < 64 by omega), dif_neg (show ¬ n.val - 64 < 16 by omega), dif_neg h, hb (by omega), mul_zero, add_zero]
    have e : (⟨n.val - 64 - 16, by omega⟩ : Fin 16) = ⟨j.val - 16, by omega⟩ := Fin.ext (by show n.val - 64 - 16 = j.val - 16; omega)
    have e' : (⟨n.val - 80, by omega⟩ : Fin 16) = ⟨j.val - 16, by omega⟩ := Fin.ext (by show n.val - 80 = j.val - 16; omega)
    have e'' : (⟨16 + (j.val - 16), by omega⟩ : Fin 32) = j := Fin.ext (by show 16 + (j.val - 16) = j.val; omega)
    rw [e, e', e'']

/-- The word of one. -/
theorem one_word : Ideal.ofBits .f32 0x3F800000#32 = 1 := by
  have e : Ideal.ofBits .f32 0x3F800000#32 = ((1 : ℝ) : EReal) := by
    simp [Ideal.ofBits, Ideal.ieee]
    rw [← EReal.coe_mul]
    norm_num
  exact e.trans EReal.coe_one

end Cert.Rope

end
-- ==== Proof.KvValue.lean ====
/-
  The key and value projection: the call writes the normalised latents, the rotated key part, the keys of the heads and
  their values as the reference computes them (`ckv_eq`, `kr_eq`, `keys_eq`, `vals_eq`). The call rotates by three tables
  over 128 lanes and places the rotated part into every head by a product with ones; the reference rotates 32 entries and
  repeats them.
-/
module

public import proofs.«01_k».proof.Proof.Rope
public import proofs.«01_k».proof.Proof.Gen.KvIdeal.Value
public import proofs.«01_k».proof.Proof.Gen.KvRefIdeal.Run
public import proofs.«01_k».proof.Proof.Gen.KvRefIdeal.Read

@[expose] public section

noncomputable section

open Idealize.ShloMosaic Idealize.ShloMosaic.TcCoe Idealize.SL.Sem
open Cert.KvIdeal Cert.KvIdeal.Gen Cert.Rows Cert.Rope

namespace Cert.KvValue

open Cert.KvRefIdeal.Read in
/-- The cosines of a position's angles, as the reference computes them. -/
def cosOf (p : Fin 4096) : Fin 16 → EReal := fun j => val_main_v29 (F := Ideal) (ix2 p j)

open Cert.KvRefIdeal.Read in
/-- The sines of a position's angles, as the reference computes them. -/
def sinOf (p : Fin 4096) : Fin 16 → EReal := fun j => val_main_v31 (F := Ideal) (ix2 p j)

/-- The normalised latents of a row. -/
abbrev latent (x : Fin 384 → EReal) (g : Fin 256 → EReal) : Fin 256 → EReal :=
  norm (Ideal.ofBits .f32 0x43800000#32) (fun k => x ⟨k.val, by omega⟩) g

/-- The rotated key part of a row. -/
abbrev rotated (p : Fin 4096) (x : Fin 384 → EReal) : Fin 32 → EReal := rot (cosOf p) (sinOf p) (fun k => x ⟨320 + k.val, by omega⟩)

/-- A row of keys: for each head the content part, the rotated part and zeros. -/
def keysOf (a : Fin 256 → EReal) (r : Fin 32 → EReal) (w : Fin 256 → Fin 16 → Fin 64 → EReal) (n : Fin 2048) : EReal :=
  if h : n.val % 128 < 64 then ∑ x, a x * w x ⟨n.val / 128, by omega⟩ ⟨n.val % 128, h⟩
  else if h : n.val % 128 - 64 < 32 then r ⟨n.val % 128 - 64, h⟩ else 0

/-- The weight of the keys: the heads' weights padded to 128 lanes, then ones that copy lanes 64 to 95 into every head. -/
def wkAt (w : Fin 256 → Fin 16 → Fin 64 → EReal) (k : Fin 384) (n : Fin 2048) : EReal :=
  if h : k.val < 256 then
    if h' : n.val % 128 < 64 then w ⟨k.val, h⟩ ⟨n.val / 128, by omega⟩ ⟨n.val % 128, h'⟩ else 0
  else if (64 ≤ k.val - 256 ∧ k.val - 256 - 64 < 32) ∧ k.val - 256 = n.val % 128 then 1 else 0

/-- A row times that weight is the row of keys. -/
theorem mul_wk (a : Fin 256 → EReal) (b : Fin 128 → EReal) (w : Fin 256 → Fin 16 → Fin 64 → EReal) (n : Fin 2048) :
    ∑ x : Fin 256, a x * wkAt w ⟨x.val, by omega⟩ n + ∑ x : Fin 128, b x * wkAt w ⟨256 + x.val, by omega⟩ n
      = keysOf a (fun j => b ⟨64 + j.val, by omega⟩) w n := by
  have e1 : ∀ x : Fin 256, wkAt w ⟨x.val, by omega⟩ n
      = if h' : n.val % 128 < 64 then w x ⟨n.val / 128, by omega⟩ ⟨n.val % 128, h'⟩ else 0 := by
    intro x
    unfold wkAt
    rw [dif_pos (show (⟨x.val, by omega⟩ : Fin 384).val < 256 from x.isLt)]
  have e2 : ∀ x : Fin 128, wkAt w ⟨256 + x.val, by omega⟩ n
      = if (64 ≤ x.val ∧ x.val - 64 < 32) ∧ x.val = n.val % 128 then 1 else 0 := by
    intro x
    unfold wkAt
    rw [dif_neg (show ¬ (⟨256 + x.val, by omega⟩ : Fin 384).val < 256 by show ¬ 256 + x.val < 256; omega)]
    refine if_congr ?_ rfl rfl
    show (64 ≤ 256 + x.val - 256 ∧ 256 + x.val - 256 - 64 < 32) ∧ 256 + x.val - 256 = n.val % 128 ↔ _
    omega
  simp only [e1, e2]
  unfold keysOf
  by_cases h1 : n.val % 128 < 64
  · simp only [dif_pos h1]
    rw [Finset.sum_eq_zero (s := (Finset.univ : Finset (Fin 128))), add_zero]
    intro x _
    rw [if_neg (by omega), mul_zero]
  simp only [dif_neg h1, mul_zero, Finset.sum_const_zero, zero_add]
  by_cases h2 : n.val % 128 - 64 < 32
  · rw [dif_pos h2, Finset.sum_eq_single (⟨n.val % 128, by omega⟩ : Fin 128)]
    · rw [if_pos ⟨⟨by show 64 ≤ n.val % 128; omega, h2⟩, rfl⟩, mul_one]
      exact congrArg b (Fin.ext (by show n.val % 128 = 64 + (n.val % 128 - 64); omega))
    · intro x _ hx
      rw [if_neg (fun h => hx (Fin.ext h.2)), mul_zero]
    · intro h
      exact absurd (Finset.mem_univ _) h
  · rw [dif_neg h2]
    refine Finset.sum_eq_zero fun x _ => ?_
    rw [if_neg (by omega), mul_zero]

open Cert.KvRefIdeal.Read in
/-- The reference's latents, before they are laid out by rows. -/
theorem ref_norm_at (x0 : FVec Ideal S16384x384 .f32) (x1 : FVec Ideal S256 .f32) (b : Fin 4) (p : Fin 4096) (R : Fin 16384) (hR : R.val = b.val * 4096 + p.val) (j : Fin 256) :
    val_main_v14 (F := Ideal) x0 x1 (ix3 b p j) = latent (fun k => x0 (ix2 R k)) (fun k => x1 (ix1 k)) j := by
  obtain ⟨r, hr⟩ := R
  change r = b.val * 4096 + p.val at hR
  subst hR
  pointwise [val_main_v0, val_main_v1, val_main_v2, val_main_cst, val_main_v3, val_main_v4, val_main_cst_0, val_main_v5, val_main_v6, val_main_cst_1, val_main_v7, val_main_v8, val_main_v9, val_main_v10, val_main_v11, val_main_v12, val_main_v13, val_main_v14]
  rfl

open Cert.KvRefIdeal.Read in
/-- The reference's rotated part, before it is laid out by rows. -/
theorem ref_rot_at (x0 : FVec Ideal S16384x384 .f32) (b : Fin 4) (p : Fin 4096) (R : Fin 16384) (hR : R.val = b.val * 4096 + p.val) (j : Fin 32) :
    val_main_v45 (F := Ideal) x0 (ix3 b p j) = rotated p (fun k => x0 (ix2 R k)) j := by
  obtain ⟨r, hr⟩ := R
  change r = b.val * 4096 + p.val at hR
  subst hR
  pointwise [val_main_v0, val_main_v15, val_main_v30, val_main_v32, val_main_v33, val_main_v34, val_main_v35, val_main_v36, val_main_v37, val_main_v38, val_main_v39, val_main_v40, val_main_v41, val_main_v42, val_main_v43, val_main_v44, val_main_v45]
  unfold rotated rot cosOf sinOf
  by_cases h : j.val < 16
  · simp only [dif_pos h]
  · simp only [dif_neg h]

open Cert.KvRefIdeal.Read in
/-- The reference's first result at a row and a column. -/
theorem ref_ckv_at (x0 : FVec Ideal S16384x384 .f32) (x1 : FVec Ideal S256 .f32) (R : Fin 16384) (j : Fin 256) :
    val_main_v52 (F := Ideal) x0 x1 (ix2 R j) = latent (fun k => x0 (ix2 R k)) (fun k => x1 (ix1 k)) j := by
  pointwise [val_main_v52]
  exact ref_norm_at x0 x1 _ _ R (by show R.val = R.val / 4096 * 4096 + R.val % 4096; omega) j

open Cert.KvRefIdeal.Read in
/-- The reference's second result at a row and a column. -/
theorem ref_kr_at (x0 : FVec Ideal S16384x384 .f32) (R : Fin 16384) (j : Fin 32) :
    val_main_v53 (F := Ideal) x0 (ix2 R j) = rotated ⟨R.val % 4096, by omega⟩ (fun k => x0 (ix2 R k)) j := by
  pointwise [val_main_v53]
  exact ref_rot_at x0 _ _ R (by show R.val = R.val / 4096 * 4096 + R.val % 4096; omega) j

open Cert.KvRefIdeal.Read in
/-- The reference's keys at a row and a column. -/
theorem ref_keys_at (x0 : FVec Ideal S16384x384 .f32) (x1 : FVec Ideal S256 .f32) (x2 : FVec Ideal S256x16x64 .f32) (R : Fin 16384) (n : Fin 2048) :
    val_main_v55 (F := Ideal) x0 x1 x2 (ix2 R n)
      = keysOf (latent (fun k => x0 (ix2 R k)) (fun k => x1 (ix1 k))) (rotated ⟨R.val % 4096, by omega⟩ (fun k => x0 (ix2 R k))) (fun k h d => x2 (ix3 k h d)) n := by
  pointwise [val_main_v46, val_main_v48, val_main_v49, val_main_cst_4, val_main_v50, val_main_v51, val_main_v54, val_main_v55]
  unfold keysOf
  by_cases h1 : n.val % 128 < 64
  · simp only [dif_pos h1]
    exact Finset.sum_congr rfl fun x _ => congrArg (· * _) (ref_norm_at x0 x1 ⟨R.val / 4096, by omega⟩ ⟨R.val % 4096, by omega⟩ R (by show R.val = R.val / 4096 * 4096 + R.val % 4096; omega) x)
  by_cases h2 : n.val % 128 - 64 < 32
  · simp only [dif_neg h1, dif_pos h2]
    exact ref_rot_at x0 ⟨R.val / 4096, by omega⟩ ⟨R.val % 4096, by omega⟩ R (by show R.val = R.val / 4096 * 4096 + R.val % 4096; omega) _
  · simp only [dif_neg h1, dif_neg h2]

open Cert.KvRefIdeal.Read in
/-- The reference's values at a tile, a value lane and a key of the tile. -/
theorem ref_vals_at (x0 : FVec Ideal S16384x384 .f32) (x1 : FVec Ideal S256 .f32) (x3 : FVec Ideal S256x16x64 .f32) (b : Fin 32) (n : Fin 1024) (i : Fin 512)
    (R : Fin 16384) (hR : R.val = b.val * 512 + i.val) :
    val_main_v58 (F := Ideal) x0 x1 x3 (ix3 b n i)
      = ∑ x, latent (fun k => x0 (ix2 R k)) (fun k => x1 (ix1 k)) x * x3 (ix3 x ⟨n.val / 64, by omega⟩ ⟨n.val % 64, by omega⟩) := by
  pointwise [val_main_v47, val_main_v56, val_main_v57, val_main_v58]
  exact Finset.sum_congr rfl fun x _ => congrArg (· * _) (ref_norm_at x0 x1 _ _ R (by show R.val = b.val / 8 * 4096 + (b.val % 8 * 512 + i.val); omega) x)

/-- What the body writes as latents. -/
theorem ckv_at (x0 : Vec Ideal S512x384 .f32) (x1 : Vec Ideal S1x256 .f32) (i : Fin 512) (j : Fin 256) :
    k0_pay3 (F := Ideal) x0 x1 (ix2 i j) = latent (fun k => x0 (ix2 i k)) (fun k => x1 (ix2 0 k)) j := by
  pointwise [k0_pay3]
  rfl

/-- The last 128 lanes of a row, turned. -/
theorem tail_at (x0 : Vec Ideal S512x384 .f32) (x2 x3 x4 : Vec Ideal S512x128 .f32) (i : Fin 512) (j : Fin 128) :
    k0_pay4 (F := Ideal) x0 x2 x3 x4 (ix2 i j)
      = turned (x0 (ix2 i ⟨256 + j.val, by omega⟩)) (x0 (ix2 i ⟨256 + (j.val + 128 - 16) % 128, by omega⟩)) (x0 (ix2 i ⟨256 + (j.val + 128 - 112) % 128, by omega⟩))
          (x2 (ix2 i j)) (x3 (ix2 i j)) (x4 (ix2 i j)) := by
  pointwise [k0_pay4]
  rfl

/-- Lanes 64 to 95 of them, with the tables of a position, are the rotated part. -/
theorem tail_rot (x0 : Vec Ideal S512x384 .f32) (x2 x3 x4 : Vec Ideal S512x128 .f32) (i : Fin 512) (p : Fin 4096)
    (h2 : ∀ n, x2 (ix2 i n) = cosTab (cosOf p) n) (h3 : ∀ n, x3 (ix2 i n) = hiTab (sinOf p) n) (h4 : ∀ n, x4 (ix2 i n) = loTab (sinOf p) n) (j : Fin 32) :
    k0_pay4 (F := Ideal) x0 x2 x3 x4 (ix2 i (⟨64 + j.val, by omega⟩ : Fin 128)) = rotated p (fun k => x0 (ix2 i k)) j := by
  rw [tail_at, h2, h3, h4]
  have e : (⟨256 + (64 + j.val), by omega⟩ : Fin 384) = ⟨320 + j.val, by omega⟩ := Fin.ext (by show 256 + (64 + j.val) = 320 + j.val; omega)
  refine (congrArg (fun q => turned (x0 (ix2 i q)) _ _ _ _ _) e).trans ?_
  refine turned_mid (cosOf p) (sinOf p) (fun k => x0 (ix2 i ⟨320 + k.val, by omega⟩)) _ _ j _ rfl (fun h => ?_) (fun h => ?_)
  · exact congrArg (fun q => x0 (ix2 i q)) (Fin.ext (by show 256 + (64 + j.val + 128 - 16) % 128 = 320 + (j.val - 16); omega))
  · exact congrArg (fun q => x0 (ix2 i q)) (Fin.ext (by show 256 + (64 + j.val + 128 - 112) % 128 = 320 + (16 + j.val); omega))

/-- What the body writes as the rotated part: lanes 64 to 95 of the turned lanes. -/
theorem kr_at (x0 : Vec Ideal S512x384 .f32) (x1 : Vec Ideal S1x256 .f32) (x2 x3 x4 : Vec Ideal S512x128 .f32) (x5 : Vec Ideal S384x2048 .bf16) (x6 : Vec Ideal S1024x256 .bf16)
    (i : Fin 512) (j : Fin 32) : out0_8 (F := Ideal) x0 x1 x2 x3 x4 x5 x6 (ix2 i j) = k0_pay4 (F := Ideal) x0 x2 x3 x4 (ix2 i (⟨64 + j.val, by omega⟩ : Fin 128)) := by
  unfold out0_8
  frame_out
  pointwise [k0_pay5]

/-- What the body writes as keys: a product over the latents and the turned lanes. -/
theorem keys_at (x0 : Vec Ideal S512x384 .f32) (x1 : Vec Ideal S1x256 .f32) (x2 x3 x4 : Vec Ideal S512x128 .f32) (x5 : Vec Ideal S384x2048 .bf16) (x6 : Vec Ideal S1024x256 .bf16)
    (i : Fin 512) (n : Fin 2048) : out0_9 (F := Ideal) x0 x1 x2 x3 x4 x5 x6 (ix2 i n)
      = ∑ x : Fin 256, k0_pay3 (F := Ideal) x0 x1 (ix2 i x) * x5 (ix2 ⟨x.val, by omega⟩ n) + ∑ x : Fin 128, k0_pay4 (F := Ideal) x0 x2 x3 x4 (ix2 i x) * x5 (ix2 ⟨256 + x.val, by omega⟩ n) := by
  unfold out0_9
  frame_out
  pointwise [k0_pay1, k0_pay7, k0_pay6]

/-- What the body writes as values. -/
theorem vals_at (x0 : Vec Ideal S512x384 .f32) (x1 : Vec Ideal S1x256 .f32) (x2 x3 x4 : Vec Ideal S512x128 .f32) (x5 : Vec Ideal S384x2048 .bf16) (x6 : Vec Ideal S1024x256 .bf16)
    (n : Fin 1024) (i : Fin 512) : out0_10 (F := Ideal) x0 x1 x2 x3 x4 x5 x6 (ix3 0 n i) = ∑ x : Fin 256, x6 (ix2 n x) * k0_pay3 (F := Ideal) x0 x1 (ix2 i x) := by
  unfold out0_10
  frame_out
  pointwise [k0_pay2, k0_pay6]

/-- The keys of a row, given what its latents, its rotated part and the weight are. -/
theorem keys_row (x0 : Vec Ideal S512x384 .f32) (x1 : Vec Ideal S1x256 .f32) (x2 x3 x4 : Vec Ideal S512x128 .f32) (x5 : Vec Ideal S384x2048 .bf16) (x6 : Vec Ideal S1024x256 .bf16)
    (i : Fin 512) (n : Fin 2048) (l : Fin 256 → EReal) (hl : ∀ x, k0_pay3 (F := Ideal) x0 x1 (ix2 i x) = l x) (r : Fin 32 → EReal)
    (hr : ∀ j : Fin 32, k0_pay4 (F := Ideal) x0 x2 x3 x4 (ix2 i (⟨64 + j.val, by omega⟩ : Fin 128)) = r j)
    (w : Fin 256 → Fin 16 → Fin 64 → EReal) (hw : ∀ k n, x5 (ix2 k n) = wkAt w k n) :
    out0_9 (F := Ideal) x0 x1 x2 x3 x4 x5 x6 (ix2 i n) = keysOf l r w n := by
  rw [keys_at]
  simp only [hl, hw]
  rw [mul_wk]
  simp only [hr]

/-- The values of a row, given what its latents and the weight are. -/
theorem vals_row (x0 : Vec Ideal S512x384 .f32) (x1 : Vec Ideal S1x256 .f32) (x2 x3 x4 : Vec Ideal S512x128 .f32) (x5 : Vec Ideal S384x2048 .bf16) (x6 : Vec Ideal S1024x256 .bf16)
    (n : Fin 1024) (i : Fin 512) (l : Fin 256 → EReal) (hl : ∀ x, k0_pay3 (F := Ideal) x0 x1 (ix2 i x) = l x) (w : Fin 256 → EReal) (hw : ∀ x, x6 (ix2 n x) = w x) :
    out0_10 (F := Ideal) x0 x1 x2 x3 x4 x5 x6 (ix3 0 n i) = ∑ x : Fin 256, l x * w x := by
  rw [vals_at]
  simp only [hl, hw]
  exact Finset.sum_congr rfl fun x _ => mul_comm _ _

/-- Comparing two indices below 32 as words. -/
theorem eq_word : ∀ a b : Fin 32, IntOp.cmpi CmpIPredicate.eq (IntOp.addi (BitVec.ofNat 32 a.val) 0#32) (BitVec.ofNat 32 b.val) = if a = b then 1#1 else 0#1 := by
  decide

/-- The identity matrix's entry, made by comparing indices. -/
theorem eye_word (a b : Fin 32) : (FloatOps.uitofp (F := Ideal) FTy.f32 (IntOp.cmpi CmpIPredicate.eq (IntOp.addi (BitVec.ofNat 32 a.val) 0#32) (BitVec.ofNat 32 b.val)) : EReal)
    = if a = b then 1 else 0 := by
  rw [eq_word]
  by_cases h : a = b
  · rw [if_pos h, if_pos h]
    show (((1#1 : BitVec 1).toNat : ℝ) : EReal) = 1
    simp
  · rw [if_neg h, if_neg h]
    show (((0#1 : BitVec 1).toNat : ℝ) : EReal) = 0
    simp

/-- The padding value: the integer zero as a number. -/
theorem zero_int : (FloatOps.sitofp (F := Ideal) FTy.f32 0#32 : EReal) = 0 := by
  show (((0#32 : BitVec 32).toInt : ℝ) : EReal) = 0
  simp

/-- The heads' key weights, each padded to 128 lanes. -/
theorem pad_at (x : FVec Ideal S256x16x64 .f32) (k : Fin 256) (n : Fin 2048) :
    (shapeCast S256x2048 (pad S256x16x128 ![0, 0, 0] ![0, 0, 64] ![0, 0, 0] x (sitofp .f32 (constantI S_ 32 0#32) : FVec Ideal S_ .f32) pads_S256x16x64_S256x16x128_000_000_0640 h_S_) shapeCasts_S256x16x128_S256x2048 : FVec Ideal S256x2048 .f32) (ix2 k n)
      = if h : n.val % 128 < 64 then x (ix3 k ⟨n.val / 128, by omega⟩ ⟨n.val % 128, h⟩) else (0 : EReal) := by
  pointwise
  by_cases h : n.val % 128 < 64
  · rw [dif_pos h, dif_pos ⟨by omega, h⟩]
  · rw [dif_neg h, dif_neg (fun h' => h h'.2)]
    exact zero_int

/-- Where each window lies at grid point `t`: the row block `t`; the tables' block is that of the position. -/
theorem idx : ∀ t : Fin cfg0.N, win0_0.index t = ![t.val, 0] ∧ win0_1.index t = ![0, 0] ∧ win0_2.index t = ![t.val % 8, 0]
    ∧ win0_3.index t = ![t.val % 8, 0] ∧ win0_4.index t = ![t.val % 8, 0] ∧ win0_5.index t = ![0, 0] ∧ win0_6.index t = ![0, 0]
    ∧ win0_7.index t = ![t.val, 0] ∧ win0_8.index t = ![t.val, 0] ∧ win0_9.index t = ![t.val, 0] ∧ win0_10.index t = ![t.val, 0, 0] :=
  (by decide +kernel : ∀ t : Fin grid0.N, _)

variable (m : (ℓ : Loc nD τ sig) → Buf (Elt Ideal) ℓ) (c : Dev nD)

/-- A row of the block a grid point reads. -/
theorem x_blk (t : Fin cfg0.N) (i : Fin 512) (R : Fin 16384) (hR : R.val = t.val * 512 + i.val) (k : Fin 384) :
    (iblk m c 0 t (ix2 i k) : EReal) = m (c, Proc.tc.devRef main_arg0) (ix2 R k) := by
  have e : (iblk m c 0 t (ix2 i k) : EReal) = (V m c main_arg0 : FVec Ideal S16384x384 .f32) (ix2 R k) := by
    blk_ext [iblk, idx t]
  rw [e]
  unfold V
  simp only [hostOps0, hostOps0_1, hostOps0_2, hostOps0_3, hostOps0_4, List.flatten_cons, List.flatten_nil, List.append_nil, List.cons_append, List.nil_append]
  after_results_simp

/-- The gain. -/
theorem g_blk (t : Fin cfg0.N) (k : Fin 256) : (iblk m c 1 t (ix2 0 k) : EReal) = m (c, Proc.tc.devRef main_arg1) (ix1 k) := by
  have e : (iblk m c 1 t (ix2 0 k) : EReal) = (V m c main_v12 : FVec Ideal S1x256 .f32) (ix2 0 k) := by
    blk_ext [iblk, idx t]
  rw [e]
  unfold V
  simp only [hostOps0, hostOps0_1, hostOps0_2, hostOps0_3, hostOps0_4, List.flatten_cons, List.flatten_nil, List.append_nil, List.cons_append, List.nil_append]
  after_results_simp
  pointwise

/-- A row of the cosine table. -/
theorem cos_blk (t : Fin cfg0.N) (i : Fin 512) (p : Fin 4096) (hp : p.val = t.val % 8 * 512 + i.val) (n : Fin 128) :
    (iblk m c 2 t (ix2 i n) : EReal) = cosTab (cosOf p) n := by
  have e : (iblk m c 2 t (ix2 i n) : EReal) = (V m c main_v45 : FVec Ideal S4096x128 .f32) (ix2 p n) := by
    blk_ext [iblk, idx t]
  rw [e]
  unfold V
  simp only [hostOps0, hostOps0_1, hostOps0_2, hostOps0_3, hostOps0_4, List.flatten_cons, List.flatten_nil, List.append_nil, List.cons_append, List.nil_append]
  after_results_simp
  pointwise
  unfold cosTab
  by_cases h1 : n.val < 64
  · simp only [dif_pos h1]
    refine Eq.trans (congrFun (?_ : (_ : FVec Ideal S4096x64 .f32) = broadcastInDim S4096x64 ![] bcast_S_S4096x64 (constant S_ .f32 0x3F800000#32)) _) ?_
    · after_results_simp
    · pointwise
  by_cases h2 : n.val - 64 < 16
  · simp only [dif_neg h1, dif_pos h2]
    refine Eq.trans (congrFun (?_ : (_ : FVec Ideal S4096x16 .f32) = Cert.KvRefIdeal.Read.val_main_v29 (F := Ideal)) _) ?_
    · after_results_simp
      rfl
    · rfl
  by_cases h3 : n.val - 64 - 16 < 16
  · simp only [dif_neg h1, dif_neg h2, dif_pos h3]
    refine Eq.trans (congrFun (?_ : (_ : FVec Ideal S4096x16 .f32) = Cert.KvRefIdeal.Read.val_main_v29 (F := Ideal)) _) ?_
    · after_results_simp
      rfl
    · rfl
  · simp only [dif_neg h1, dif_neg h2, dif_neg h3]
    refine Eq.trans (congrFun (?_ : (_ : FVec Ideal S4096x32 .f32) = broadcastInDim S4096x32 ![] bcast_S_S4096x32 (constant S_ .f32 0#32)) _) ?_
    · after_results_simp
    · pointwise

/-- A row of the table of sines for the lane below. -/
theorem hi_blk (t : Fin cfg0.N) (i : Fin 512) (p : Fin 4096) (hp : p.val = t.val % 8 * 512 + i.val) (n : Fin 128) :
    (iblk m c 3 t (ix2 i n) : EReal) = hiTab (sinOf p) n := by
  have e : (iblk m c 3 t (ix2 i n) : EReal) = (V m c main_v48 : FVec Ideal S4096x128 .f32) (ix2 p n) := by
    blk_ext [iblk, idx t]
  rw [e]
  unfold V
  simp only [hostOps0, hostOps0_1, hostOps0_2, hostOps0_3, hostOps0_4, List.flatten_cons, List.flatten_nil, List.append_nil, List.cons_append, List.nil_append]
  after_results_simp
  pointwise
  unfold hiTab
  by_cases h1 : n.val < 80
  · simp only [dif_pos h1]
    refine Eq.trans (congrFun (?_ : (_ : FVec Ideal S4096x80 .f32) = broadcastInDim S4096x80 ![] bcast_S_S4096x80 (constant S_ .f32 0#32)) _) ?_
    · after_results_simp
    · pointwise
  by_cases h2 : n.val - 80 < 16
  · simp only [dif_neg h1, dif_pos h2]
    refine Eq.trans (congrFun (?_ : (_ : FVec Ideal S4096x16 .f32) = Cert.KvRefIdeal.Read.val_main_v31 (F := Ideal)) _) ?_
    · after_results_simp
      rfl
    · rfl
  · simp only [dif_neg h1, dif_neg h2]
    refine Eq.trans (congrFun (?_ : (_ : FVec Ideal S4096x32 .f32) = broadcastInDim S4096x32 ![] bcast_S_S4096x32 (constant S_ .f32 0#32)) _) ?_
    · after_results_simp
    · pointwise

/-- A row of the table of negated sines for the lane above. -/
theorem lo_blk (t : Fin cfg0.N) (i : Fin 512) (p : Fin 4096) (hp : p.val = t.val % 8 * 512 + i.val) (n : Fin 128) :
    (iblk m c 4 t (ix2 i n) : EReal) = loTab (sinOf p) n := by
  have e : (iblk m c 4 t (ix2 i n) : EReal) = (V m c main_v51 : FVec Ideal S4096x128 .f32) (ix2 p n) := by
    blk_ext [iblk, idx t]
  rw [e]
  unfold V
  simp only [hostOps0, hostOps0_1, hostOps0_2, hostOps0_3, hostOps0_4, List.flatten_cons, List.flatten_nil, List.append_nil, List.cons_append, List.nil_append]
  after_results_simp
  pointwise
  unfold loTab
  by_cases h1 : n.val < 64
  · simp only [dif_pos h1]
    refine Eq.trans (congrFun (?_ : (_ : FVec Ideal S4096x64 .f32) = broadcastInDim S4096x64 ![] bcast_S_S4096x64 (constant S_ .f32 0#32)) _) ?_
    · after_results_simp
    · pointwise
  by_cases h2 : n.val - 64 < 16
  · simp only [dif_neg h1, dif_pos h2]
    refine Eq.trans (congrFun (?_ : (_ : FVec Ideal S4096x16 .f32) = Host.negf (Cert.KvRefIdeal.Read.val_main_v31 (F := Ideal))) _) ?_
    · after_results_simp
      rfl
    · rfl
  · simp only [dif_neg h1, dif_neg h2]
    refine Eq.trans (congrFun (?_ : (_ : FVec Ideal S4096x48 .f32) = broadcastInDim S4096x48 ![] bcast_S_S4096x48 (constant S_ .f32 0#32)) _) ?_
    · after_results_simp
    · pointwise

/-- The weight of the keys: the heads' weights padded to 128 lanes, and ones that copy the rotated part into every head. -/
theorem wk_blk (t : Fin cfg0.N) (k : Fin 384) (n : Fin 2048) :
    (iblk m c 5 t (ix2 k n) : EReal) = wkAt (fun k h d => m (c, Proc.tc.devRef main_arg2) (ix3 k h d)) k n := by
  have e : (iblk m c 5 t (ix2 k n) : EReal) = (V m c main_v14 : FVec Ideal S384x2048 .bf16) (ix2 k n) := by
    blk_ext [iblk, idx t]
  rw [e]
  unfold V
  simp only [hostOps0, hostOps0_1, hostOps0_2, hostOps0_3, hostOps0_4, List.flatten_cons, List.flatten_nil, List.append_nil, List.cons_append, List.nil_append]
  after_results_simp
  pointwise
  unfold wkAt
  by_cases h1 : k.val < 256
  · simp only [dif_pos h1]
    refine Eq.trans (congrFun (?_ : (_ : FVec Ideal S256x2048 .f32) = shapeCast S256x2048 (pad S256x16x128 ![0, 0, 0] ![0, 0, 64] ![0, 0, 0] (m (c, Proc.tc.devRef main_arg2) : FVec Ideal S256x16x64 .f32) (sitofp .f32 (constantI S_ 32 0#32) : FVec Ideal S_ .f32) pads_S256x16x64_S256x16x128_000_000_0640 h_S_) shapeCasts_S256x16x128_S256x2048) _) ?_
    · after_results_simp
      rfl
    · exact pad_at _ ⟨k.val, h1⟩ n
  · simp only [dif_neg h1]
    refine Eq.trans (congrFun (?_ : (_ : FVec Ideal S128x2048 .f32) = shapeCast S128x2048 (broadcastInDim S128x16x128 ![0, 1, 2] bcast_S128x1x128_S128x16x128_0_1_2 (broadcastInDim S128x1x128 ![0, 2] bcast_S128x128_S128x1x128_0_2 (pad S128x128 ![64, 64] ![32, 32] ![0, 0] (uitofp .f32 (cmpi .eq (addi (iotaInDim S32x32 32 0) (broadcastInDim S32x32 ![] bcast_S_S32x32 (constantI S_ 32 0#32))) (iotaInDim S32x32 32 1))) (sitofp .f32 (constantI S_ 32 0#32)) pads_S32x32_S128x128_64320_64320 h_S_))) shapeCasts_S128x16x128_S128x2048) _) ?_
    · after_results_simp
      rfl
    · pointwise
      by_cases h2 : (64 ≤ k.val - 256 ∧ k.val - 256 - 64 < 32) ∧ 64 ≤ n.val % 128 ∧ n.val % 128 - 64 < 32
      · rw [dif_pos h2]
        refine (eye_word ⟨k.val - 256 - 64, h2.1.2⟩ ⟨n.val % 128 - 64, h2.2.2⟩).trans (if_congr ?_ rfl rfl)
        rw [Fin.mk.injEq]
        omega
      · rw [dif_neg h2, if_neg (by omega)]
        exact zero_int

/-- The weight of the values, one row per value lane. -/
theorem wv_blk (t : Fin cfg0.N) (k : Fin 1024) (n : Fin 256) :
    (iblk m c 6 t (ix2 k n) : EReal) = m (c, Proc.tc.devRef main_arg3) (ix3 n ⟨k.val / 64, by omega⟩ ⟨k.val % 64, by omega⟩) := by
  have e : (iblk m c 6 t (ix2 k n) : EReal) = (V m c main_v17 : FVec Ideal S1024x256 .bf16) (ix2 k n) := by
    blk_ext [iblk, idx t]
  rw [e]
  unfold V
  simp only [hostOps0, hostOps0_1, hostOps0_2, hostOps0_3, hostOps0_4, List.flatten_cons, List.flatten_nil, List.append_nil, List.cons_append, List.nil_append]
  after_results_simp
  pointwise

/-- The latents of a row of the block, from the call's arguments. -/
theorem latent_blk (t : Fin cfg0.N) (i : Fin 512) (R : Fin 16384) (hR : R.val = t.val * 512 + i.val) (j : Fin 256) :
    k0_pay3 (F := Ideal) (iblk m c 0 t) (iblk m c 1 t) (ix2 i j)
      = latent (fun k => m (c, Proc.tc.devRef main_arg0) (ix2 R k)) (fun k => m (c, Proc.tc.devRef main_arg1) (ix1 k)) j := by
  rw [ckv_at, funext (x_blk m c t i R hR), funext (g_blk m c t)]

/-- The rotated part of a row of the block, from the call's arguments. -/
theorem rot_blk (t : Fin cfg0.N) (i : Fin 512) (R : Fin 16384) (hR : R.val = t.val * 512 + i.val) (j : Fin 32) :
    k0_pay4 (F := Ideal) (iblk m c 0 t) (iblk m c 2 t) (iblk m c 3 t) (iblk m c 4 t) (ix2 i (⟨64 + j.val, by omega⟩ : Fin 128))
      = rotated ⟨R.val % 4096, by omega⟩ (fun k => m (c, Proc.tc.devRef main_arg0) (ix2 R k)) j := by
  have hp : (⟨R.val % 4096, by omega⟩ : Fin 4096).val = t.val % 8 * 512 + i.val := by show R.val % 4096 = _; omega
  rw [tail_rot _ _ _ _ i ⟨R.val % 4096, by omega⟩ (cos_blk m c t i _ hp) (hi_blk m c t i _ hp) (lo_blk m c t i _ hp) j, funext (x_blk m c t i R hR)]

/-- A row of keys of the block, from the call's arguments. -/
theorem keys_blk (t : Fin cfg0.N) (i : Fin 512) (R : Fin 16384) (hR : R.val = t.val * 512 + i.val) (n : Fin 2048) :
    out0_9 (F := Ideal) (iblk m c 0 t) (iblk m c 1 t) (iblk m c 2 t) (iblk m c 3 t) (iblk m c 4 t) (iblk m c 5 t) (iblk m c 6 t) (ix2 i n)
      = keysOf (latent (fun k => m (c, Proc.tc.devRef main_arg0) (ix2 R k)) (fun k => m (c, Proc.tc.devRef main_arg1) (ix1 k)))
          (rotated ⟨R.val % 4096, by omega⟩ (fun k => m (c, Proc.tc.devRef main_arg0) (ix2 R k))) (fun k h d => m (c, Proc.tc.devRef main_arg2) (ix3 k h d)) n := by
  exact keys_row _ _ _ _ _ _ _ i n _ (latent_blk m c t i R hR) _ (rot_blk m c t i R hR) _ (wk_blk m c t)

/-- A row of values of the block, from the call's arguments. -/
theorem vals_blk (t : Fin cfg0.N) (i : Fin 512) (R : Fin 16384) (hR : R.val = t.val * 512 + i.val) (n : Fin 1024) :
    out0_10 (F := Ideal) (iblk m c 0 t) (iblk m c 1 t) (iblk m c 2 t) (iblk m c 3 t) (iblk m c 4 t) (iblk m c 5 t) (iblk m c 6 t) (ix3 0 n i)
      = ∑ x : Fin 256, latent (fun k => m (c, Proc.tc.devRef main_arg0) (ix2 R k)) (fun k => m (c, Proc.tc.devRef main_arg1) (ix1 k)) x
          * m (c, Proc.tc.devRef main_arg3) (ix3 x ⟨n.val / 64, by omega⟩ ⟨n.val % 64, by omega⟩) := by
  exact vals_row _ _ _ _ _ _ _ n i _ (latent_blk m c t i R hR) _ (wv_blk m c t n)

/-- The call's first result array is the reference's. -/
theorem ckv_eq : (dats m 0 c).arrAt 7 cfg0.N = Cert.KvRefIdeal.Read.val_main_v52 (F := Ideal) (m (c, Proc.tc.devRef main_arg0)) (m (c, Proc.tc.devRef main_arg1)) := by
  refine (dats m 0 c).arrAt_eq_of_covers 7 _ (by decide +kernel) fun t hf y => ?_
  blk_simp
  obtain ⟨i, j, rfl⟩ : ∃ (i : Fin 512) (j : Fin 256), y = ix2 i j := ⟨y 0, y 1, eq_ix2 y⟩
  have ht : t.val < 32 := lt_of_lt_of_eq t.isLt N_0
  have he : (win0_7.blk t).view.emb (ix2 i j) = ix2 (⟨t.val * 512 + i.val, by omega⟩ : Fin 16384) j := by
    blk_ext [idx t]
  rw [he, ref_ckv_at, after0_7]
  unfold out0_7
  frame_out
  exact latent_blk m c t i _ rfl j

/-- The call's second result array is the reference's. -/
theorem kr_eq : (dats m 0 c).arrAt 8 cfg0.N = Cert.KvRefIdeal.Read.val_main_v53 (F := Ideal) (m (c, Proc.tc.devRef main_arg0)) := by
  refine (dats m 0 c).arrAt_eq_of_covers 8 _ (by decide +kernel) fun t hf y => ?_
  blk_simp
  obtain ⟨i, j, rfl⟩ : ∃ (i : Fin 512) (j : Fin 32), y = ix2 i j := ⟨y 0, y 1, eq_ix2 y⟩
  have ht : t.val < 32 := lt_of_lt_of_eq t.isLt N_0
  have he : (win0_8.blk t).view.emb (ix2 i j) = ix2 (⟨t.val * 512 + i.val, by omega⟩ : Fin 16384) j := by
    blk_ext [idx t]
  rw [he, ref_kr_at, after0_8, kr_at]
  exact rot_blk m c t i _ rfl j

/-- The call's third result array is the reference's. -/
theorem keys_eq : (dats m 0 c).arrAt 9 cfg0.N = Cert.KvRefIdeal.Read.val_main_v55 (F := Ideal) (m (c, Proc.tc.devRef main_arg0)) (m (c, Proc.tc.devRef main_arg1)) (m (c, Proc.tc.devRef main_arg2)) := by
  refine (dats m 0 c).arrAt_eq_of_covers 9 _ (by decide +kernel) fun t hf y => ?_
  blk_simp
  obtain ⟨i, j, rfl⟩ : ∃ (i : Fin 512) (j : Fin 2048), y = ix2 i j := ⟨y 0, y 1, eq_ix2 y⟩
  have ht : t.val < 32 := lt_of_lt_of_eq t.isLt N_0
  have he : (win0_9.blk t).view.emb (ix2 i j) = ix2 (⟨t.val * 512 + i.val, by omega⟩ : Fin 16384) j := by
    blk_ext [idx t]
  rw [he, ref_keys_at, after0_9]
  exact keys_blk m c t i _ rfl j

/-- The call's fourth result array is the reference's. -/
theorem vals_eq : (dats m 0 c).arrAt 10 cfg0.N = Cert.KvRefIdeal.Read.val_main_v58 (F := Ideal) (m (c, Proc.tc.devRef main_arg0)) (m (c, Proc.tc.devRef main_arg1)) (m (c, Proc.tc.devRef main_arg3)) := by
  refine (dats m 0 c).arrAt_eq_of_covers 10 _ (by decide +kernel) fun t hf y => ?_
  blk_simp
  have ht : t.val < 32 := lt_of_lt_of_eq t.isLt N_0
  obtain ⟨a, n, i, rfl⟩ : ∃ (a : Fin 1) (n : Fin 1024) (i : Fin 512), y = ix3 a n i := ⟨y 0, y 1, y 2, eq_ix3 y⟩
  obtain rfl : a = 0 := Subsingleton.elim _ _
  have he : (win0_10.blk t).view.emb (ix3 0 n i) = ix3 (⟨t.val, ht⟩ : Fin 32) n i := by
    blk_ext [idx t]
  rw [he, ref_vals_at _ _ _ ⟨t.val, ht⟩ n i ⟨t.val * 512 + i.val, by omega⟩ rfl, after0_10]
  exact vals_blk m c t i _ rfl n

end Cert.KvValue

end
-- ==== Proof.QValue.lean ====
/-
  The query projection: the call writes the heads' queries, rotated and scaled, as the reference computes them (`result_eq`).
  The call rotates all lanes of a head by three tables and multiplies by the named scale; the reference rotates 32 entries
  of each head and divides by the root of the head width times the logarithm of two.
-/
module

public import proofs.«01_k».proof.Proof.Rope
public import proofs.«01_k».proof.Proof.Scores
public import proofs.«01_k».proof.Proof.Gen.QIdeal.Value
public import proofs.«01_k».proof.Proof.Gen.QRefIdeal.Run
public import proofs.«01_k».proof.Proof.Gen.QRefIdeal.Read

@[expose] public section

noncomputable section

open Idealize.ShloMosaic Idealize.ShloMosaic.TcCoe Idealize.SL.Sem
open Cert.QIdeal Cert.QIdeal.Gen Cert.Rows Cert.Rope

namespace Cert.QValue

open Cert.QRefIdeal.Read in
/-- The cosines of a position's angles, as the reference computes them. -/
def cosOf (p : Fin 4096) : Fin 16 → EReal := fun j => val_main_v33 (F := Ideal) (ix2 p j)

open Cert.QRefIdeal.Read in
/-- The sines of a position's angles, as the reference computes them. -/
def sinOf (p : Fin 4096) : Fin 16 → EReal := fun j => val_main_v35 (F := Ideal) (ix2 p j)

/-- The scale of the queries. -/
def scale : EReal := (((Real.sqrt 96 * Real.log 2)⁻¹ : ℝ) : EReal)

/-- The heads of a row before the rotation: the normalised row times the weight. -/
def heads (x g : Fin 512 → EReal) (w : Fin 512 → Fin 1536 → EReal) (h : Fin 16) (e : Fin 96) : EReal :=
  ∑ k, norm (Ideal.ofBits .f32 0x44000000#32) x g k * w k ⟨h.val * 96 + e.val, by omega⟩

/-- A row of queries before the scale: for each head the content part, the rotated part and zeros. -/
def queriesOf (z : Fin 16 → Fin 96 → EReal) (c s : Fin 16 → EReal) (n : Fin 2048) : EReal :=
  if h : n.val % 128 < 64 then z ⟨n.val / 128, by omega⟩ ⟨n.val % 128, by omega⟩
  else if h : n.val % 128 - 64 < 32 then rot c s (fun e => z ⟨n.val / 128, by omega⟩ ⟨64 + e.val, by omega⟩) ⟨n.val % 128 - 64, h⟩ else 0

/-- A row of 16 heads of 128 lanes, of which 96 hold the heads, turned by the tables. -/
theorem turned_row (y : Fin 2048 → EReal) (z : Fin 16 → Fin 96 → EReal) (hy : ∀ (h : Fin 16) (e : Fin 96) (n : Fin 2048), n.val = h.val * 128 + e.val → y n = z h e)
    (c s : Fin 16 → EReal) (n : Fin 2048) :
    turned (y n) (y ⟨(n.val + 2048 - 16) % 2048, by omega⟩) (y ⟨(n.val + 2048 - 2032) % 2048, by omega⟩)
        (cosTab c ⟨n.val % 128, by omega⟩) (hiTab s ⟨n.val % 128, by omega⟩) (loTab s ⟨n.val % 128, by omega⟩) = queriesOf z c s n := by
  unfold queriesOf
  by_cases h1 : n.val % 128 < 64
  · rw [dif_pos h1, turned_lead c s _ _ _ ⟨n.val % 128, by omega⟩ h1]
    exact hy _ _ _ (by show n.val = n.val / 128 * 128 + n.val % 128; omega)
  rw [dif_neg h1]
  by_cases h2 : n.val % 128 - 64 < 32
  · rw [dif_pos h2]
    have e : y n = (fun e : Fin 32 => z ⟨n.val / 128, by omega⟩ ⟨64 + e.val, by omega⟩) ⟨n.val % 128 - 64, h2⟩ :=
      hy _ _ _ (by show n.val = n.val / 128 * 128 + (64 + (n.val % 128 - 64)); omega)
    rw [e]
    refine turned_mid c s (fun e : Fin 32 => z ⟨n.val / 128, by omega⟩ ⟨64 + e.val, by omega⟩) _ _ ⟨n.val % 128 - 64, h2⟩ ⟨n.val % 128, by omega⟩
      (by show n.val % 128 = 64 + (n.val % 128 - 64); omega) (fun h => ?_) (fun h => ?_)
    · have h' : 16 ≤ n.val % 128 - 64 := h
      exact hy _ _ _ (by show (n.val + 2048 - 16) % 2048 = n.val / 128 * 128 + (64 + (n.val % 128 - 64 - 16)); omega)
    · have h' : n.val % 128 - 64 < 16 := h
      exact hy _ _ _ (by show (n.val + 2048 - 2032) % 2048 = n.val / 128 * 128 + (64 + (16 + (n.val % 128 - 64))); omega)
  · rw [dif_neg h2, turned_trail c s _ _ _ ⟨n.val % 128, by omega⟩ (by show 96 ≤ n.val % 128; omega)]

open Cert.QRefIdeal.Read in
/-- The reference's heads before the rotation. -/
theorem ref_heads_at (x0 : FVec Ideal S16384x7680 .bf16) (x1 : FVec Ideal S512 .f32) (x2 : FVec Ideal S512x1536 .f32) (b : Fin 4) (p : Fin 4096)
    (R : Fin 16384) (hR : R.val = b.val * 4096 + p.val) (h : Fin 16) (j : Fin 96) :
    val_main_v17 (F := Ideal) x0 x1 x2 (ix4 b p h j) = heads (fun k => x0 (ix2 R ⟨7168 + k.val, by omega⟩)) (fun k => x1 (ix1 k)) (fun k n => x2 (ix2 k n)) h j := by
  obtain ⟨r, hr⟩ := R
  change r = b.val * 4096 + p.val at hR
  subst hR
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_cst, val_main_cst_0, val_main_cst_1]
  rfl

open Cert.QRefIdeal.Read in
/-- The reference's rotated parts, from its heads. -/
theorem ref_rot_at (x0 : FVec Ideal S16384x7680 .bf16) (x1 : FVec Ideal S512 .f32) (x2 : FVec Ideal S512x1536 .f32) (b : Fin 4) (p : Fin 4096) (h : Fin 16) (j : Fin 32) :
    val_main_v49 (F := Ideal) x0 x1 x2 (ix4 b p h j) = rot (cosOf p) (sinOf p) (fun e => val_main_v17 (F := Ideal) x0 x1 x2 (ix4 b p h ⟨64 + e.val, by omega⟩)) j := by
  pointwise [val_main_v19, val_main_v34, val_main_v36, val_main_v37, val_main_v38, val_main_v39, val_main_v40, val_main_v41, val_main_v42, val_main_v43, val_main_v44, val_main_v45, val_main_v46, val_main_v47, val_main_v48, val_main_v49]
  unfold rot cosOf sinOf
  by_cases hj : j.val < 16
  · simp only [dif_pos hj]
  · simp only [dif_neg hj]

/-- Dividing by the root of the head width times the logarithm of two is multiplying by the scale. -/
theorem div_scale (x : EReal) : Ideal.div x (Ideal.sqrt (Ideal.ofBits .f32 0x42C00000#32) * Ideal.log (Ideal.ofBits .f32 0x40000000#32)) = x * scale := by
  have h : Real.sqrt 96 * Real.log 2 ≠ 0 :=
    mul_ne_zero (Real.sqrt_ne_zero'.2 (by norm_num)) (Real.log_pos (by norm_num)).ne'
  rw [Cert.Attn.root_word, Cert.Attn.log_word, ← EReal.coe_mul, Ideal.div_coe h, one_div]
  rfl

open Cert.QRefIdeal.Read in
/-- The reference's result at a row and a lane. -/
theorem ref_at (x0 : FVec Ideal S16384x7680 .bf16) (x1 : FVec Ideal S512 .f32) (x2 : FVec Ideal S512x1536 .f32) (R : Fin 16384) (n : Fin 2048) :
    val_main_v59 (F := Ideal) x0 x1 x2 (ix2 R n)
      = queriesOf (heads (fun k => x0 (ix2 R ⟨7168 + k.val, by omega⟩)) (fun k => x1 (ix1 k)) (fun k n => x2 (ix2 k n)))
          (cosOf ⟨R.val % 4096, by omega⟩) (sinOf ⟨R.val % 4096, by omega⟩) n * scale := by
  have hz := ref_heads_at x0 x1 x2 ⟨R.val / 4096, by omega⟩ ⟨R.val % 4096, by omega⟩ R (by show R.val = R.val / 4096 * 4096 + R.val % 4096; omega)
  pointwise [val_main_v18, val_main_cst_4, val_main_v50, val_main_v51, val_main_cst_5, val_main_v52, val_main_cst_6, val_main_v53, val_main_v54, val_main_v55, val_main_v56, val_main_v57, val_main_v58, val_main_v59]
  refine (div_scale _).trans (congrArg (· * scale) ?_)
  unfold queriesOf
  by_cases h1 : n.val % 128 < 64
  · simp only [dif_pos h1]
    exact hz _ _
  by_cases h2 : n.val % 128 - 64 < 32
  · simp only [dif_neg h1, dif_pos h2]
    rw [ref_rot_at]
    exact congrArg (fun r => rot _ _ r _) (funext fun e => hz _ _)
  · simp only [dif_neg h1, dif_neg h2]

/-- A table over 128 lanes, side by side for 16 heads. -/
def tile (v : FVec Ideal S512x128 .f32) : FVec Ideal S512x2048 .f32 :=
  concatenate S512x2048 1 [⟨S512x128, (shapeCast S512x128 v shapeCasts_S512x128_S512x128 : FVec Ideal S512x128 .f32)⟩, ⟨S512x128, (shapeCast S512x128 v shapeCasts_S512x128_S512x128 : FVec Ideal S512x128 .f32)⟩, ⟨S512x128, (shapeCast S512x128 v shapeCasts_S512x128_S512x128 : FVec Ideal S512x128 .f32)⟩, ⟨S512x128, (shapeCast S512x128 v shapeCasts_S512x128_S512x128 : FVec Ideal S512x128 .f32)⟩, ⟨S512x128, (shapeCast S512x128 v shapeCasts_S512x128_S512x128 : FVec Ideal S512x128 .f32)⟩, ⟨S512x128, (shapeCast S512x128 v shapeCasts_S512x128_S512x128 : FVec Ideal S512x128 .f32)⟩, ⟨S512x128, (shapeCast S512x128 v shapeCasts_S512x128_S512x128 : FVec Ideal S512x128 .f32)⟩, ⟨S512x128, (shapeCast S512x128 v shapeCasts_S512x128_S512x128 : FVec Ideal S512x128 .f32)⟩, ⟨S512x128, (shapeCast S512x128 v shapeCasts_S512x128_S512x128 : FVec Ideal S512x128 .f32)⟩, ⟨S512x128, (shapeCast S512x128 v shapeCasts_S512x128_S512x128 : FVec Ideal S512x128 .f32)⟩, ⟨S512x128, (shapeCast S512x128 v shapeCasts_S512x128_S512x128 : FVec Ideal S512x128 .f32)⟩, ⟨S512x128, (shapeCast S512x128 v shapeCasts_S512x128_S512x128 : FVec Ideal S512x128 .f32)⟩, ⟨S512x128, (shapeCast S512x128 v shapeCasts_S512x128_S512x128 : FVec Ideal S512x128 .f32)⟩, ⟨S512x128, (shapeCast S512x128 v shapeCasts_S512x128_S512x128 : FVec Ideal S512x128 .f32)⟩, ⟨S512x128, (shapeCast S512x128 v shapeCasts_S512x128_S512x128 : FVec Ideal S512x128 .f32)⟩, ⟨S512x128, (shapeCast S512x128 v shapeCasts_S512x128_S512x128 : FVec Ideal S512x128 .f32)⟩] concatenates_S512x128_S512x128_S512x128_S512x128_S512x128_S512x128_S512x128_S512x128_S512x128_S512x128_S512x128_S512x128_S512x128_S512x128_S512x128_S512x128_S512x2048_d1

/-- The product of the normalised block and the weight. -/
def product (v0 : Vec Ideal S512x512 .bf16) (v2 : Vec Ideal S1x512 .f32) (v17 : Vec Ideal S512x2048 .bf16) : FVec Ideal S512x2048 .f32 :=
  have v1 : FVec Ideal S512x512 .f32 := extf .f32 v0 bitsLt_bf16_f32
  have v3 : FVec Ideal S1x512 .f32 := shapeCast S1x512 v2 shapeCasts_S1x512_S1x512
  have v4 : FVec Ideal S512x512 .f32 := mulf v1 v1
  have v5 : FVec Ideal S512 .f32 := multiReduction .add [1] S512 v4 0x00000000#32 reduces_S512x512_S512 (.inl rfl) rfl
  have v6 : FVec Ideal S512x1 .f32 := shapeCast S512x1 v5 shapeCasts_S512_S512x1
  have cst_3 : Ideal .f32 := Scalar.ofBits .f32 0x44000000#32
  have v7 : FVec Ideal S512x1 .f32 := broadcast S512x1 cst_3
  have v8 : FVec Ideal S512x1 .f32 := divf v6 v7
  have cst_4 : Ideal .f32 := Scalar.ofBits .f32 0x358637BD#32
  have v9 : FVec Ideal S512x1 .f32 := broadcast S512x1 cst_4
  have v10 : FVec Ideal S512x1 .f32 := addf v8 v9
  have v11 : FVec Ideal S512x1 .f32 := rsqrt v10
  have v12 : FVec Ideal S512x512 .f32 := broadcastTo S512x512 v11 broadcasts_S512x1_S512x512
  have v13 : FVec Ideal S512x512 .f32 := mulf v1 v12
  have v14 : FVec Ideal S512x512 .f32 := broadcastTo S512x512 v3 broadcasts_S1x512_S512x512
  have v15 : FVec Ideal S512x512 .f32 := mulf v13 v14
  have v16 : FVec Ideal S512x512 .bf16 := truncf .bf16 v15 bitsLt_bf16_f32
  have v18 : FVec Ideal S512x2048 .bf16 := shapeCast S512x2048 v17 shapeCasts_S512x2048_S512x2048
  have cst_7 : FVec Ideal S512x2048 .f32 := constant S512x2048 .f32 0x00000000#32
  have v19 : FVec Ideal S512x2048 .f32 := matmul dot_S512x512_S512x2048_S512x2048_1_0_0_1_n_n none v16 v18 cst_7
  v19

/-- The side by side table at a lane. -/
theorem tile_at (v : FVec Ideal S512x128 .f32) (i : Fin 512) (n : Fin 2048) : tile v (ix2 i n) = v (ix2 i ⟨n.val % 128, by omega⟩) := by
  have e : (shapeCast S512x128 v shapeCasts_S512x128_S512x128 : FVec Ideal S512x128 .f32) (ix2 i (⟨n.val % 128, by omega⟩ : Fin 128)) = v (ix2 i ⟨n.val % 128, by omega⟩) := by
    pointwise
  rw [← e]
  refine concatenate_replicate_apply (s₁ := S512x128) (t := S512x2048) 1 16 (shapeCast S512x128 v shapeCasts_S512x128_S512x128 : FVec Ideal S512x128 .f32)
    concatenates_S512x128_S512x128_S512x128_S512x128_S512x128_S512x128_S512x128_S512x128_S512x128_S512x128_S512x128_S512x128_S512x128_S512x128_S512x128_S512x128_S512x2048_d1
    rfl (ix2 i n) _ rfl (fun b hb => ?_)
  match b, hb with
  | ⟨0, _⟩, _ => rfl
  | ⟨1, _⟩, hb => exact absurd rfl hb

/-- The body's value, its product and its tables named. -/
theorem pay_split (x0 : Vec Ideal S512x512 .bf16) (x1 : Vec Ideal S1x512 .f32) (x5 : Vec Ideal S512x2048 .bf16) (x2 x3 x4 : Vec Ideal S512x128 .f32) :
    k0_pay1 (F := Ideal) x0 x1 x5 x2 x3 x4
      = truncf .bf16 (mulf (addf (addf (mulf (product x0 x1 x5) (tile x2)) (mulf (dynamicRotate 1 16#32 none (product x0 x1 x5) rotates_S512x2048_d1) (tile x3)))
          (mulf (dynamicRotate 1 2032#32 none (product x0 x1 x5) rotates_S512x2048_d1) (tile x4))) (broadcast S512x2048 (Named.named κ "scale" 0x3E16C740#32 : Ideal .f32))) bitsLt_bf16_f32 := rfl

/-- The product at a row and a lane. -/
theorem product_at (x0 : Vec Ideal S512x512 .bf16) (x1 : Vec Ideal S1x512 .f32) (x5 : Vec Ideal S512x2048 .bf16) (i : Fin 512) (n : Fin 2048) :
    product x0 x1 x5 (ix2 i n) = ∑ x, norm (Ideal.ofBits .f32 0x44000000#32) (fun k => x0 (ix2 i k)) (fun k => x1 (ix2 0 k)) x * x5 (ix2 x n) := by
  pointwise [product]
  rfl

/-- The named scale. -/
theorem scale_word : (Named.named κ "scale" 0x3E16C740#32 : Ideal .f32) = scale :=
  IdealRules.named_const.ideal_named_scalar _ _ _ _ rfl

set_option maxRecDepth 65536 in
/-- What the body writes at a row and a lane: the product turned, times the scale. -/
theorem pay_at (x0 : Vec Ideal S512x512 .bf16) (x1 : Vec Ideal S1x512 .f32) (x5 : Vec Ideal S512x2048 .bf16) (x2 x3 x4 : Vec Ideal S512x128 .f32) (i : Fin 512) (n : Fin 2048) :
    k0_pay1 (F := Ideal) x0 x1 x5 x2 x3 x4 (ix2 i n)
      = turned (product x0 x1 x5 (ix2 i n)) (product x0 x1 x5 (ix2 i ⟨(n.val + 2048 - 16) % 2048, by omega⟩)) (product x0 x1 x5 (ix2 i ⟨(n.val + 2048 - 2032) % 2048, by omega⟩))
          (tile x2 (ix2 i n)) (tile x3 (ix2 i n)) (tile x4 (ix2 i n)) * scale := by
  rw [pay_split, ← scale_word]
  pointwise
  rfl

/-- The queries of a row, given what its entries, the gain, the tables and the weight are. -/
theorem queries_row (x0 : Vec Ideal S512x512 .bf16) (x1 : Vec Ideal S1x512 .f32) (x5 : Vec Ideal S512x2048 .bf16) (x2 x3 x4 : Vec Ideal S512x128 .f32) (i : Fin 512) (n : Fin 2048)
    (a : Fin 512 → EReal) (ha : ∀ k, x0 (ix2 i k) = a k) (g : Fin 512 → EReal) (hg : ∀ k, x1 (ix2 0 k) = g k)
    (w : Fin 512 → Fin 1536 → EReal) (hw : ∀ (k : Fin 512) (h : Fin 16) (e : Fin 96) (n : Fin 2048), n.val = h.val * 128 + e.val → x5 (ix2 k n) = w k ⟨h.val * 96 + e.val, by omega⟩)
    (c s : Fin 16 → EReal) (h2 : ∀ n, x2 (ix2 i n) = cosTab c n) (h3 : ∀ n, x3 (ix2 i n) = hiTab s n) (h4 : ∀ n, x4 (ix2 i n) = loTab s n) :
    k0_pay1 (F := Ideal) x0 x1 x5 x2 x3 x4 (ix2 i n) = queriesOf (heads a g w) c s n * scale := by
  rw [pay_at, tile_at, tile_at, tile_at, h2, h3, h4]
  refine congrArg (· * scale) (turned_row (fun n => product x0 x1 x5 (ix2 i n)) (heads a g w) (fun h e n hn => ?_) c s n)
  show product x0 x1 x5 (ix2 i n) = _
  rw [product_at, funext ha, funext hg]
  exact Finset.sum_congr rfl fun k _ => congrArg (_ * ·) (hw k h e n hn)

/-- The padding value: the integer zero as a number. -/
theorem zero_int : (FloatOps.sitofp (F := Ideal) FTy.f32 0#32 : EReal) = 0 := by
  show (((0#32 : BitVec 32).toInt : ℝ) : EReal) = 0
  simp

/-- The heads' weights, each padded to 128 lanes, at a head's own lanes. -/
theorem pad_at (x : FVec Ideal S512x1536 .f32) (k : Fin 512) (h : Fin 16) (e : Fin 96) (n : Fin 2048) (hn : n.val = h.val * 128 + e.val) :
    (shapeCast S512x2048 (pad S512x16x128 ![0, 0, 0] ![0, 0, 32] ![0, 0, 0] (shapeCast S512x16x96 x shapeCasts_S512x1536_S512x16x96 : FVec Ideal S512x16x96 .f32) (sitofp .f32 (constantI S_ 32 0#32) : FVec Ideal S_ .f32) pads_S512x16x96_S512x16x128_000_000_0320 h_S_) shapeCasts_S512x16x128_S512x2048 : FVec Ideal S512x2048 .f32) (ix2 k n)
      = x (ix2 k ⟨h.val * 96 + e.val, by omega⟩) := by
  obtain ⟨r, hr⟩ := n
  change r = h.val * 128 + e.val at hn
  subst hn
  pointwise
  rw [dif_pos (by omega)]
  exact congrArg (fun q => x (ix2 k q)) (Fin.ext (by show h.val * 96 + (h.val * 128 + e.val) % 128 = h.val * 96 + e.val; omega))

/-- Where each window lies at grid point `t`: the row block `t`, of the projection's columns the fifteenth block; the tables' block is that of the position. -/
theorem idx : ∀ t : Fin cfg0.N, win0_0.index t = ![t.val, 14] ∧ win0_1.index t = ![0, 0] ∧ win0_2.index t = ![t.val % 8, 0]
    ∧ win0_3.index t = ![t.val % 8, 0] ∧ win0_4.index t = ![t.val % 8, 0] ∧ win0_5.index t = ![0, 0] ∧ win0_6.index t = ![t.val, 0] :=
  (by decide +kernel : ∀ t : Fin grid0.N, _)

variable (m : (ℓ : Loc nD τ sig) → Buf (Elt Ideal) ℓ) (c : Dev nD)

/-- A row of the block a grid point reads. -/
theorem x_blk (t : Fin cfg0.N) (i : Fin 512) (R : Fin 16384) (hR : R.val = t.val * 512 + i.val) (k : Fin 512) :
    (iblk m c 0 t (ix2 i k) : EReal) = m (c, Proc.tc.devRef main_arg0) (ix2 R ⟨7168 + k.val, by omega⟩) := by
  have e : (iblk m c 0 t (ix2 i k) : EReal) = (V m c main_arg0 : FVec Ideal S16384x7680 .bf16) (ix2 R ⟨7168 + k.val, by omega⟩) := by
    blk_ext [iblk, idx t]
  rw [e]
  unfold V
  simp only [hostOps0, hostOps0_1, hostOps0_2, List.flatten_cons, List.flatten_nil, List.append_nil, List.cons_append, List.nil_append]
  after_results_simp

/-- The gain. -/
theorem g_blk (t : Fin cfg0.N) (k : Fin 512) : (iblk m c 1 t (ix2 0 k) : EReal) = m (c, Proc.tc.devRef main_arg1) (ix1 k) := by
  have e : (iblk m c 1 t (ix2 0 k) : EReal) = (V m c main_v2 : FVec Ideal S1x512 .f32) (ix2 0 k) := by
    blk_ext [iblk, idx t]
  rw [e]
  unfold V
  simp only [hostOps0, hostOps0_1, hostOps0_2, List.flatten_cons, List.flatten_nil, List.append_nil, List.cons_append, List.nil_append]
  after_results_simp
  pointwise

/-- The weight at a head's own lanes. -/
theorem w_blk (t : Fin cfg0.N) (k : Fin 512) (h : Fin 16) (e : Fin 96) (n : Fin 2048) (hn : n.val = h.val * 128 + e.val) :
    (iblk m c 5 t (ix2 k n) : EReal) = m (c, Proc.tc.devRef main_arg2) (ix2 k ⟨h.val * 96 + e.val, by omega⟩) := by
  have e' : (iblk m c 5 t (ix2 k n) : EReal) = (V m c main_v4 : FVec Ideal S512x2048 .bf16) (ix2 k n) := by
    blk_ext [iblk, idx t]
  rw [e']
  unfold V
  simp only [hostOps0, hostOps0_1, hostOps0_2, List.flatten_cons, List.flatten_nil, List.append_nil, List.cons_append, List.nil_append]
  after_results_simp
  exact pad_at _ k h e n hn

/-- A row of the cosine table. -/
theorem cos_blk (t : Fin cfg0.N) (i : Fin 512) (p : Fin 4096) (hp : p.val = t.val % 8 * 512 + i.val) (n : Fin 128) :
    (iblk m c 2 t (ix2 i n) : EReal) = cosTab (cosOf p) n := by
  have e : (iblk m c 2 t (ix2 i n) : EReal) = (V m c main_v32 : FVec Ideal S4096x128 .f32) (ix2 p n) := by
    blk_ext [iblk, idx t]
  rw [e]
  unfold V
  simp only [hostOps0, hostOps0_1, hostOps0_2, List.flatten_cons, List.flatten_nil, List.append_nil, List.cons_append, List.nil_append]
  after_results_simp
  pointwise
  unfold cosTab
  by_cases h1 : n.val < 64
  · simp only [dif_pos h1]
    refine Eq.trans (congrFun (?_ : (_ : FVec Ideal S4096x64 .f32) = broadcastInDim S4096x64 ![] bcast_S_S4096x64 (constant S_ .f32 0x3F800000#32)) _) ?_
    · after_results_simp
    · pointwise
  by_cases h2 : n.val - 64 < 16
  · simp only [dif_neg h1, dif_pos h2]
    refine Eq.trans (congrFun (?_ : (_ : FVec Ideal S4096x16 .f32) = Cert.QRefIdeal.Read.val_main_v33 (F := Ideal)) _) ?_
    · after_results_simp
      rfl
    · rfl
  by_cases h3 : n.val - 64 - 16 < 16
  · simp only [dif_neg h1, dif_neg h2, dif_pos h3]
    refine Eq.trans (congrFun (?_ : (_ : FVec Ideal S4096x16 .f32) = Cert.QRefIdeal.Read.val_main_v33 (F := Ideal)) _) ?_
    · after_results_simp
      rfl
    · rfl
  · simp only [dif_neg h1, dif_neg h2, dif_neg h3]
    refine Eq.trans (congrFun (?_ : (_ : FVec Ideal S4096x32 .f32) = broadcastInDim S4096x32 ![] bcast_S_S4096x32 (constant S_ .f32 0#32)) _) ?_
    · after_results_simp
    · pointwise

/-- A row of the table of sines for the lane below. -/
theorem hi_blk (t : Fin cfg0.N) (i : Fin 512) (p : Fin 4096) (hp : p.val = t.val % 8 * 512 + i.val) (n : Fin 128) :
    (iblk m c 3 t (ix2 i n) : EReal) = hiTab (sinOf p) n := by
  have e : (iblk m c 3 t (ix2 i n) : EReal) = (V m c main_v35 : FVec Ideal S4096x128 .f32) (ix2 p n) := by
    blk_ext [iblk, idx t]
  rw [e]
  unfold V
  simp only [hostOps0, hostOps0_1, hostOps0_2, List.flatten_cons, List.flatten_nil, List.append_nil, List.cons_append, List.nil_append]
  after_results_simp
  pointwise
  unfold hiTab
  by_cases h1 : n.val < 80
  · simp only [dif_pos h1]
    refine Eq.trans (congrFun (?_ : (_ : FVec Ideal S4096x80 .f32) = broadcastInDim S4096x80 ![] bcast_S_S4096x80 (constant S_ .f32 0#32)) _) ?_
    · after_results_simp
    · pointwise
  by_cases h2 : n.val - 80 < 16
  · simp only [dif_neg h1, dif_pos h2]
    refine Eq.trans (congrFun (?_ : (_ : FVec Ideal S4096x16 .f32) = Cert.QRefIdeal.Read.val_main_v35 (F := Ideal)) _) ?_
    · after_results_simp
      rfl
    · rfl
  · simp only [dif_neg h1, dif_neg h2]
    refine Eq.trans (congrFun (?_ : (_ : FVec Ideal S4096x32 .f32) = broadcastInDim S4096x32 ![] bcast_S_S4096x32 (constant S_ .f32 0#32)) _) ?_
    · after_results_simp
    · pointwise

/-- A row of the table of negated sines for the lane above. -/
theorem lo_blk (t : Fin cfg0.N) (i : Fin 512) (p : Fin 4096) (hp : p.val = t.val % 8 * 512 + i.val) (n : Fin 128) :
    (iblk m c 4 t (ix2 i n) : EReal) = loTab (sinOf p) n := by
  have e : (iblk m c 4 t (ix2 i n) : EReal) = (V m c main_v38 : FVec Ideal S4096x128 .f32) (ix2 p n) := by
    blk_ext [iblk, idx t]
  rw [e]
  unfold V
  simp only [hostOps0, hostOps0_1, hostOps0_2, List.flatten_cons, List.flatten_nil, List.append_nil, List.cons_append, List.nil_append]
  after_results_simp
  pointwise
  unfold loTab
  by_cases h1 : n.val < 64
  · simp only [dif_pos h1]
    refine Eq.trans (congrFun (?_ : (_ : FVec Ideal S4096x64 .f32) = broadcastInDim S4096x64 ![] bcast_S_S4096x64 (constant S_ .f32 0#32)) _) ?_
    · after_results_simp
    · pointwise
  by_cases h2 : n.val - 64 < 16
  · simp only [dif_neg h1, dif_pos h2]
    refine Eq.trans (congrFun (?_ : (_ : FVec Ideal S4096x16 .f32) = Host.negf (Cert.QRefIdeal.Read.val_main_v35 (F := Ideal))) _) ?_
    · after_results_simp
      rfl
    · rfl
  · simp only [dif_neg h1, dif_neg h2]
    refine Eq.trans (congrFun (?_ : (_ : FVec Ideal S4096x48 .f32) = broadcastInDim S4096x48 ![] bcast_S_S4096x48 (constant S_ .f32 0#32)) _) ?_
    · after_results_simp
    · pointwise

/-- The call's result array is the reference's. -/
theorem result_eq : (dats m 0 c).arrAt 6 cfg0.N = Cert.QRefIdeal.Read.val_main_v59 (F := Ideal) (m (c, Proc.tc.devRef main_arg0)) (m (c, Proc.tc.devRef main_arg1)) (m (c, Proc.tc.devRef main_arg2)) := by
  refine (dats m 0 c).arrAt_eq_of_covers 6 _ (by decide +kernel) fun t hf y => ?_
  blk_simp
  obtain ⟨i, n, rfl⟩ : ∃ (i : Fin 512) (n : Fin 2048), y = ix2 i n := ⟨y 0, y 1, eq_ix2 y⟩
  have ht : t.val < 32 := lt_of_lt_of_eq t.isLt N_0
  have he : (win0_6.blk t).view.emb (ix2 i n) = ix2 (⟨t.val * 512 + i.val, by omega⟩ : Fin 16384) n := by
    blk_ext [idx t]
  have hp : (⟨(t.val * 512 + i.val) % 4096, by omega⟩ : Fin 4096).val = t.val % 8 * 512 + i.val := by show (t.val * 512 + i.val) % 4096 = _; omega
  rw [he, ref_at, after0_6]
  unfold out0_6
  frame_out
  exact queries_row _ _ _ _ _ _ i n _ (x_blk m c t i _ rfl) _ (g_blk m c t) _ (w_blk m c t) _ _ (cos_blk m c t i _ hp) (hi_blk m c t i _ hp) (lo_blk m c t i _ hp)

end Cert.QValue

end
-- ==== Proof.TailSValue.lean ====
/-
  The last step of the layer on the sample: the second feed-forward half step, the gated per-layer embedding and the final
  normalisation. The call writes, row by row, what the reference computes (`result_eq`).
-/
module

public import proofs.«01_k».proof.Proof.Rows
public import proofs.«01_k».proof.Proof.Gen.TailSIdeal.Value
public import proofs.«01_k».proof.Proof.Gen.TailSRefIdeal.Run
public import proofs.«01_k».proof.Proof.Gen.TailSRefIdeal.Read

@[expose] public section

noncomputable section

open Idealize.ShloMosaic Idealize.ShloMosaic.TcCoe Idealize.SL.Sem
open Cert.TailSIdeal Cert.TailSIdeal.Gen Cert.Rows

namespace Cert.TailSValue

/-- A row after the step. -/
def tail (x : Row) (p : Fin 256 → EReal) (g : Row) (wgu : Fin 1024 → Fin 5632 → EReal) (wd : Fin 2816 → Fin 1024 → EReal)
    (pg : Row) (wg : Fin 1024 → Fin 1024 → EReal) (wp : Fin 256 → Fin 1024 → EReal) (fg : Row) : Row :=
  rms (embed (half x g wgu wd) p pg wg wp) fg

/-- Where each window lies at grid point `t`: the row block `t`; the weights whole, of layer 3. -/
theorem idx : ∀ t : Fin cfg0.N, win0_0.index t = ![t.val, 0] ∧ win0_1.index t = ![0, 0]
    ∧ win0_2.index t = ![3, 0, 0] ∧ win0_3.index t = ![3, 0, 0] ∧ win0_4.index t = ![t.val, 0] ∧ win0_5.index t = ![0, 0]
    ∧ win0_6.index t = ![3, 0, 0] ∧ win0_7.index t = ![3, 0, 0] ∧ win0_8.index t = ![0, 0] ∧ win0_9.index t = ![t.val, 0] :=
  (by decide +kernel : ∀ t : Fin grid0.N, _)

/-- The body's last part, at a row and a column: embedding and final normalisation of the row `v`. -/
theorem last_at (v : FVec Ideal S512x1024 .f32) (w : FVec Ideal S1x1024 .f32) (sq : FVec Ideal S512x1024 .f32) (x6 : Vec Ideal S1x1024x1024 .bf16)
    (x4 : Vec Ideal S512x256 .f32) (x7 : Vec Ideal S1x256x1024 .bf16) (x8 : Vec Ideal S1x1024 .f32) (i : Fin 512) (j : Fin 1024)
    (h : ∀ k, (sq (ix2 i k) : EReal) = v (ix2 i k) * v (ix2 i k)) : k0_pay4 (F := Ideal) v w sq x6 x4 x7 x8 (ix2 i j)
      = rms (embed (fun k => v (ix2 i k)) (fun k => x4 (ix2 i k)) (fun k => w (ix2 0 k)) (fun k n => x6 (ix3 0 k n)) (fun k n => x7 (ix3 0 k n))) (fun k => x8 (ix2 0 k)) j := by
  pointwise [k0_pay4]
  simp only [h]
  rfl

/-- What the body writes, at a row and a column. -/
theorem pay_at (x0 : Vec Ideal S512x1024 .f32) (x1 : Vec Ideal S1x1024 .f32) (x2 : Vec Ideal S1x1024x5632 .bf16) (x3 : Vec Ideal S1x2816x1024 .bf16)
    (x4 : Vec Ideal S512x256 .f32) (x5 : Vec Ideal S1x1024 .f32) (x6 : Vec Ideal S1x1024x1024 .bf16) (x7 : Vec Ideal S1x256x1024 .bf16) (x8 : Vec Ideal S1x1024 .f32)
    (i : Fin 512) (j : Fin 1024) : out0_9 (F := Ideal) x0 x1 x2 x3 x4 x5 x6 x7 x8 (ix2 i j)
      = tail (fun k => x0 (ix2 i k)) (fun k => x4 (ix2 i k)) (fun k => x1 (ix2 0 k)) (fun k n => x2 (ix3 0 k n)) (fun k n => x3 (ix3 0 k n))
        (fun k => x5 (ix2 0 k)) (fun k n => x6 (ix3 0 k n)) (fun k n => x7 (ix3 0 k n)) (fun k => x8 (ix2 0 k)) j := by
  unfold out0_9
  frame_out
  refine (last_at _ _ _ _ _ _ _ i j fun k => rfl).trans ?_
  unfold tail
  refine congr (congrArg rms ?_) ?_ |> fun h => congrFun h j
  · congr 1
    all_goals (repeat (refine funext fun _ => ?_))
    · pointwise [k0_pay1]
      rfl
    all_goals pointwise [k0_pay2]
  · refine funext fun _ => ?_
    pointwise

open Cert.TailSRefIdeal.Read in
/-- The reference's half step at a row and a column. -/
theorem half_at (x0 : FVec Ideal S128x8x1024 .f32) (x2 : FVec Ideal S4x1024 .f32) (x3 : FVec Ideal S4x1024x5632 .f32) (x4 : FVec Ideal S4x2816x1024 .f32) (a : Fin 128) (b : Fin 8) (j : Fin 1024) : val_main_v27 (F := Ideal) x0 x2 x3 x4 (ix3 a b j)
      = half (fun k => x0 (ix3 a b k)) (fun k => x2 (ix2 3 k)) (fun k n => x3 (ix3 3 k n)) (fun k n => x4 (ix3 3 k n)) j := by
  pointwise [val_main_v0, val_main_v1, val_main_v2, val_main_v3, val_main_v4, val_main_v5, val_main_v6, val_main_cst, val_main_v7, val_main_v8, val_main_cst_0, val_main_v9, val_main_v10, val_main_cst_1, val_main_v11, val_main_v12, val_main_v13, val_main_v14, val_main_v15, val_main_v16, val_main_v17, val_main_v18, val_main_v19, val_main_v20, val_main_v21, val_main_call0_v0, val_main_call0_v1, val_main_call0_cst, val_main_call0_v2, val_main_call0_v3, val_main_call0_cst_0, val_main_call0_v4, val_main_call0_v5, val_main_v22, val_main_v23, val_main_v24, val_main_cst_2, val_main_v25, val_main_v26, val_main_v27]
  rfl

open Cert.TailSRefIdeal.Read in
/-- The reference at a row and a column. -/
theorem ref_at (x0 : FVec Ideal S128x8x1024 .f32) (x1 : FVec Ideal S4x128x8x256 .f32) (x2 : FVec Ideal S4x1024 .f32) (x3 : FVec Ideal S4x1024x5632 .f32)
    (x4 : FVec Ideal S4x2816x1024 .f32) (x5 : FVec Ideal S4x1024 .f32) (x6 : FVec Ideal S4x1024x1024 .f32) (x7 : FVec Ideal S4x256x1024 .f32) (x8 : FVec Ideal S1024 .f32)
    (i : Fin 1024) (j : Fin 1024) : val_main_v72 (F := Ideal) x0 x1 x2 x3 x4 x5 x6 x7 x8 (ix2 i j)
      = tail (fun k => x0 (ix3 ⟨i.val / 8, by omega⟩ ⟨i.val % 8, by omega⟩ k)) (fun k => x1 (ix4 3 ⟨i.val / 8, by omega⟩ ⟨i.val % 8, by omega⟩ k))
        (fun k => x2 (ix2 3 k)) (fun k n => x3 (ix3 3 k n)) (fun k n => x4 (ix3 3 k n)) (fun k => x5 (ix2 3 k)) (fun k n => x6 (ix3 3 k n))
        (fun k n => x7 (ix3 3 k n)) (fun k => x8 (ix1 k)) j := by
  pointwise [val_main_v28, val_main_v29, val_main_v30, val_main_cst_3, val_main_v31, val_main_v32, val_main_cst_4, val_main_v33, val_main_v34, val_main_cst_5, val_main_v35, val_main_v36, val_main_v37, val_main_v38, val_main_v39, val_main_v40, val_main_v41, val_main_v42, val_main_v43, val_main_v44, val_main_v45, val_main_v46, val_main_v47, val_main_cst_6, val_main_v48, val_main_v49, val_main_cst_7, val_main_v50, val_main_v51, val_main_v52, val_main_v53, val_main_v54, val_main_v55, val_main_v56, val_main_v57, val_main_v58, val_main_v59, val_main_cst_8, val_main_v60, val_main_v61, val_main_cst_9, val_main_v62, val_main_v63, val_main_cst_10, val_main_v64, val_main_v65, val_main_v66, val_main_v67, val_main_v68, val_main_v69, val_main_v70, val_main_v71, val_main_v72]
  simp only [half_at]
  rfl

variable (m : (ℓ : Loc nD τ sig) → Buf (Elt Ideal) ℓ) (c : Dev nD)

/-- A row of the block a grid point reads. -/
theorem x_blk (t : Fin cfg0.N) (i : Fin 512) (R : Fin 1024) (hR : R.val = t.val * 512 + i.val) (k : Fin 1024) :
    (iblk m c 0 t (ix2 i k) : EReal) = m (c, Proc.tc.devRef main_arg0) (ix3 ⟨R.val / 8, by omega⟩ ⟨R.val % 8, by omega⟩ k) := by
  have e : (iblk m c 0 t (ix2 i k) : EReal) = (V m c main_v10 : FVec Ideal S1024x1024 .f32) (ix2 R k) := by
    blk_ext [iblk, idx t]
  rw [e]
  unfold V
  after_results_simp
  pointwise

/-- The gain of the feed-forward step. -/
theorem g_blk (t : Fin cfg0.N) (k : Fin 1024) : (iblk m c 1 t (ix2 0 k) : EReal) = m (c, Proc.tc.devRef main_arg2) (ix2 3 k) := by
  have e : (iblk m c 1 t (ix2 0 k) : EReal) = (V m c main_v6 : FVec Ideal S1x1024 .f32) (ix2 0 k) := by
    blk_ext [iblk, idx t]
  rw [e]
  unfold V
  after_results_simp
  pointwise

/-- Its first weight. -/
theorem gu_blk (t : Fin cfg0.N) (k : Fin 1024) (n : Fin 5632) : (iblk m c 2 t (ix3 0 k n) : EReal) = m (c, Proc.tc.devRef main_arg3) (ix3 3 k n) := by
  have e : (iblk m c 2 t (ix3 0 k n) : EReal) = (V m c main_v0 : FVec Ideal S4x1024x5632 .bf16) (ix3 3 k n) := by
    blk_ext [iblk, idx t]
  rw [e]
  unfold V
  after_results_simp
  pointwise

/-- Its second weight. -/
theorem d_blk (t : Fin cfg0.N) (k : Fin 2816) (n : Fin 1024) : (iblk m c 3 t (ix3 0 k n) : EReal) = m (c, Proc.tc.devRef main_arg4) (ix3 3 k n) := by
  have e : (iblk m c 3 t (ix3 0 k n) : EReal) = (V m c main_v1 : FVec Ideal S4x2816x1024 .bf16) (ix3 3 k n) := by
    blk_ext [iblk, idx t]
  rw [e]
  unfold V
  after_results_simp
  pointwise

/-- A row of the embedding. -/
theorem p_blk (t : Fin cfg0.N) (i : Fin 512) (R : Fin 1024) (hR : R.val = t.val * 512 + i.val) (k : Fin 256) :
    (iblk m c 4 t (ix2 i k) : EReal) = m (c, Proc.tc.devRef main_arg1) (ix4 3 ⟨R.val / 8, by omega⟩ ⟨R.val % 8, by omega⟩ k) := by
  have e : (iblk m c 4 t (ix2 i k) : EReal) = (V m c main_v13 : FVec Ideal S1024x256 .f32) (ix2 R k) := by
    blk_ext [iblk, idx t]
  rw [e]
  unfold V
  after_results_simp
  pointwise

/-- The gain before the gate. -/
theorem pg_blk (t : Fin cfg0.N) (k : Fin 1024) : (iblk m c 5 t (ix2 0 k) : EReal) = m (c, Proc.tc.devRef main_arg5) (ix2 3 k) := by
  have e : (iblk m c 5 t (ix2 0 k) : EReal) = (V m c main_v9 : FVec Ideal S1x1024 .f32) (ix2 0 k) := by
    blk_ext [iblk, idx t]
  rw [e]
  unfold V
  after_results_simp
  pointwise

/-- The gate weight. -/
theorem wg_blk (t : Fin cfg0.N) (k : Fin 1024) (n : Fin 1024) : (iblk m c 6 t (ix3 0 k n) : EReal) = m (c, Proc.tc.devRef main_arg6) (ix3 3 k n) := by
  have e : (iblk m c 6 t (ix3 0 k n) : EReal) = (V m c main_v2 : FVec Ideal S4x1024x1024 .bf16) (ix3 3 k n) := by
    blk_ext [iblk, idx t]
  rw [e]
  unfold V
  after_results_simp
  pointwise

/-- The embedding weight. -/
theorem wp_blk (t : Fin cfg0.N) (k : Fin 256) (n : Fin 1024) : (iblk m c 7 t (ix3 0 k n) : EReal) = m (c, Proc.tc.devRef main_arg7) (ix3 3 k n) := by
  have e : (iblk m c 7 t (ix3 0 k n) : EReal) = (V m c main_v3 : FVec Ideal S4x256x1024 .bf16) (ix3 3 k n) := by
    blk_ext [iblk, idx t]
  rw [e]
  unfold V
  after_results_simp
  pointwise

/-- The final gain. -/
theorem fg_blk (t : Fin cfg0.N) (k : Fin 1024) : (iblk m c 8 t (ix2 0 k) : EReal) = m (c, Proc.tc.devRef main_arg8) (ix1 k) := by
  have e : (iblk m c 8 t (ix2 0 k) : EReal) = (V m c main_v14 : FVec Ideal S1x1024 .f32) (ix2 0 k) := by
    blk_ext [iblk, idx t]
  rw [e]
  unfold V
  after_results_simp
  pointwise

/-- The call's result array is the reference's. -/
theorem result_eq : (dats m 0 c).arrAt 9 cfg0.N = Cert.TailSRefIdeal.Read.val_main_v72 (F := Ideal) (m (c, Proc.tc.devRef main_arg0)) (m (c, Proc.tc.devRef main_arg1)) (m (c, Proc.tc.devRef main_arg2)) (m (c, Proc.tc.devRef main_arg3)) (m (c, Proc.tc.devRef main_arg4)) (m (c, Proc.tc.devRef main_arg5)) (m (c, Proc.tc.devRef main_arg6)) (m (c, Proc.tc.devRef main_arg7)) (m (c, Proc.tc.devRef main_arg8)) := by
  refine (dats m 0 c).arrAt_eq_of_covers 9 _ (by decide +kernel) fun t hf y => ?_
  blk_simp
  obtain ⟨i, j, rfl⟩ : ∃ (i : Fin 512) (j : Fin 1024), y = ix2 i j := ⟨y 0, y 1, eq_ix2 y⟩
  have ht : t.val < 2 := lt_of_lt_of_eq t.isLt N_0
  have he : (win0_9.blk t).view.emb (ix2 i j) = ix2 (⟨t.val * 512 + i.val, by omega⟩ : Fin 1024) j := by
    blk_ext [idx t]
  rw [he, ref_at, after0_9, pay_at]
  rw [funext (x_blk m c t i ⟨t.val * 512 + i.val, by omega⟩ rfl),
    funext (p_blk m c t i ⟨t.val * 512 + i.val, by omega⟩ rfl),
    funext (g_blk m c t),
    funext fun k => funext (gu_blk m c t k),
    funext fun k => funext (d_blk m c t k),
    funext (pg_blk m c t),
    funext fun k => funext (wg_blk m c t k),
    funext fun k => funext (wp_blk m c t k),
    funext (fg_blk m c t)]

end Cert.TailSValue

end
-- ==== Proof.KvSValue.lean ====
/-
  The key and value projection on the sample: the call writes the normalised latents and the rotated key part as the
  reference computes them (`ckv_eq`, `kr_eq`).
-/
module

public import proofs.«01_k».proof.Proof.Rope
public import proofs.«01_k».proof.Proof.Gen.KvSIdeal.Value
public import proofs.«01_k».proof.Proof.Gen.KvSRefIdeal.Run
public import proofs.«01_k».proof.Proof.Gen.KvSRefIdeal.Read

@[expose] public section

noncomputable section

open Idealize.ShloMosaic Idealize.ShloMosaic.TcCoe Idealize.SL.Sem
open Cert.KvSIdeal Cert.KvSIdeal.Gen Cert.Rows Cert.Rope

namespace Cert.KvSValue

open Cert.KvSRefIdeal.Read in
/-- The cosines of a position's angles, as the reference computes them. -/
def cosOf (p : Fin 8) : Fin 16 → EReal := fun j => val_main_v31 (F := Ideal) (ix2 p j)

open Cert.KvSRefIdeal.Read in
/-- The sines of a position's angles, as the reference computes them. -/
def sinOf (p : Fin 8) : Fin 16 → EReal := fun j => val_main_v33 (F := Ideal) (ix2 p j)

/-- The normalised latents of a row. -/
abbrev latent (x : Fin 384 → EReal) (g : Fin 256 → EReal) : Fin 256 → EReal :=
  norm (Ideal.ofBits .f32 0x43800000#32) (fun k => x ⟨k.val, by omega⟩) g

/-- The rotated key part of a row. -/
abbrev rotated (p : Fin 8) (x : Fin 384 → EReal) : Fin 32 → EReal := rot (cosOf p) (sinOf p) (fun k => x ⟨320 + k.val, by omega⟩)

open Cert.KvSRefIdeal.Read in
/-- The reference's latents, before they are laid out by rows. -/
theorem ref_norm_at (x0 : FVec Ideal S1024x384 .f32) (x1 : FVec Ideal S256 .f32) (b : Fin 128) (p : Fin 8) (R : Fin 1024) (hR : R.val = b.val * 8 + p.val) (j : Fin 256) :
    val_main_v14 (F := Ideal) x0 x1 (ix3 b p j) = latent (fun k => x0 (ix2 R k)) (fun k => x1 (ix1 k)) j := by
  obtain ⟨r, hr⟩ := R
  change r = b.val * 8 + p.val at hR
  subst hR
  pointwise [val_main_v0, val_main_v1, val_main_v2, val_main_cst, val_main_v3, val_main_v4, val_main_cst_0, val_main_v5, val_main_v6, val_main_cst_1, val_main_v7, val_main_v8, val_main_v9, val_main_v10, val_main_v11, val_main_v12, val_main_v13, val_main_v14]
  rfl

open Cert.KvSRefIdeal.Read in
/-- The reference's rotated part, before it is laid out by rows. -/
theorem ref_rot_at (x0 : FVec Ideal S1024x384 .f32) (b : Fin 128) (p : Fin 8) (R : Fin 1024) (hR : R.val = b.val * 8 + p.val) (j : Fin 32) :
    val_main_v47 (F := Ideal) x0 (ix3 b p j) = rotated p (fun k => x0 (ix2 R k)) j := by
  obtain ⟨r, hr⟩ := R
  change r = b.val * 8 + p.val at hR
  subst hR
  pointwise [val_main_v0, val_main_v15, val_main_v32, val_main_v34, val_main_v35, val_main_v36, val_main_v37, val_main_v38, val_main_v39, val_main_v40, val_main_v41, val_main_v42, val_main_v43, val_main_v44, val_main_v45, val_main_v46, val_main_v47]
  unfold rotated rot cosOf sinOf
  by_cases h : j.val < 16
  · simp only [dif_pos h]
  · simp only [dif_neg h]

open Cert.KvSRefIdeal.Read in
/-- The reference's first result at a row and a column. -/
theorem ref_ckv_at (x0 : FVec Ideal S1024x384 .f32) (x1 : FVec Ideal S256 .f32) (R : Fin 1024) (j : Fin 256) :
    val_main_v48 (F := Ideal) x0 x1 (ix2 R j) = latent (fun k => x0 (ix2 R k)) (fun k => x1 (ix1 k)) j := by
  pointwise [val_main_v48]
  exact ref_norm_at x0 x1 _ _ R (by show R.val = R.val / 8 * 8 + R.val % 8; omega) j

open Cert.KvSRefIdeal.Read in
/-- The reference's second result at a row and a column. -/
theorem ref_kr_at (x0 : FVec Ideal S1024x384 .f32) (R : Fin 1024) (j : Fin 32) :
    val_main_v49 (F := Ideal) x0 (ix2 R j) = rotated ⟨R.val % 8, by omega⟩ (fun k => x0 (ix2 R k)) j := by
  pointwise [val_main_v49]
  exact ref_rot_at x0 _ _ R (by show R.val = R.val / 8 * 8 + R.val % 8; omega) j

/-- What the body writes as latents. -/
theorem ckv_at (x0 : Vec Ideal S256x384 .f32) (x1 : Vec Ideal S1x256 .f32) (i : Fin 256) (j : Fin 256) :
    k0_pay1 (F := Ideal) x0 x1 (ix2 i j) = latent (fun k => x0 (ix2 i k)) (fun k => x1 (ix2 0 k)) j := by
  pointwise [k0_pay1]
  rfl

/-- What the body writes as the rotated part: lanes 64 to 95 of the last 128 of a row, turned. -/
theorem tail_at (x0 : Vec Ideal S256x384 .f32) (x2 x3 x4 : Vec Ideal S256x128 .f32) (i : Fin 256) (j : Fin 32) :
    k0_pay2 (F := Ideal) x0 x2 x3 x4 (ix2 i j)
      = turned (x0 (ix2 i ⟨256 + (64 + j.val), by omega⟩)) (x0 (ix2 i ⟨256 + (64 + j.val + 128 - 16) % 128, by omega⟩)) (x0 (ix2 i ⟨256 + (64 + j.val + 128 - 112) % 128, by omega⟩))
          (x2 (ix2 i ⟨64 + j.val, by omega⟩)) (x3 (ix2 i ⟨64 + j.val, by omega⟩)) (x4 (ix2 i ⟨64 + j.val, by omega⟩)) := by
  pointwise [k0_pay2]
  rfl

/-- With the tables of a position, it is the rotated part. -/
theorem tail_rot (x0 : Vec Ideal S256x384 .f32) (x2 x3 x4 : Vec Ideal S256x128 .f32) (i : Fin 256) (p : Fin 8)
    (h2 : ∀ n, x2 (ix2 i n) = cosTab (cosOf p) n) (h3 : ∀ n, x3 (ix2 i n) = hiTab (sinOf p) n) (h4 : ∀ n, x4 (ix2 i n) = loTab (sinOf p) n) (j : Fin 32) :
    k0_pay2 (F := Ideal) x0 x2 x3 x4 (ix2 i j) = rotated p (fun k => x0 (ix2 i k)) j := by
  rw [tail_at, h2, h3, h4]
  have e : (⟨256 + (64 + j.val), by omega⟩ : Fin 384) = ⟨320 + j.val, by omega⟩ := Fin.ext (by show 256 + (64 + j.val) = 320 + j.val; omega)
  refine (congrArg (fun q => turned (x0 (ix2 i q)) _ _ _ _ _) e).trans ?_
  refine turned_mid (cosOf p) (sinOf p) (fun k => x0 (ix2 i ⟨320 + k.val, by omega⟩)) _ _ j _ rfl (fun h => ?_) (fun h => ?_)
  · exact congrArg (fun q => x0 (ix2 i q)) (Fin.ext (by show 256 + (64 + j.val + 128 - 16) % 128 = 320 + (j.val - 16); omega))
  · exact congrArg (fun q => x0 (ix2 i q)) (Fin.ext (by show 256 + (64 + j.val + 128 - 112) % 128 = 320 + (16 + j.val); omega))

/-- The second window's block is what the body writes as the rotated part. -/
theorem kr_at (x0 : Vec Ideal S256x384 .f32) (x1 : Vec Ideal S1x256 .f32) (x2 x3 x4 : Vec Ideal S256x128 .f32) (x5 : Vec Ideal S384x2048 .bf16) (x6 : Vec Ideal S1024x256 .bf16)
    (i : Fin 256) (j : Fin 32) : out0_8 (F := Ideal) x0 x1 x2 x3 x4 x5 x6 (ix2 i j) = k0_pay2 (F := Ideal) x0 x2 x3 x4 (ix2 i j) := by
  unfold out0_8
  frame_out

/-- Where each window lies at grid point `t`: the row block `t`; the tables' one block. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![t.val, 0] ∧ win0_8.index t = ![t.val, 0] :=
  (by decide +kernel : ∀ t : Fin grid0.N, _)

variable (m : (ℓ : Loc nD τ sig) → Buf (Elt Ideal) ℓ) (c : Dev nD)

/-- A row of the block a grid point reads. -/
theorem x_blk (t : Fin cfg0.N) (i : Fin 256) (R : Fin 1024) (hR : R.val = t.val * 256 + i.val) (k : Fin 384) :
    (iblk m c 0 t (ix2 i k) : EReal) = m (c, Proc.tc.devRef main_arg0) (ix2 R k) := by
  have e : (iblk m c 0 t (ix2 i k) : EReal) = (V m c main_arg0 : FVec Ideal S1024x384 .f32) (ix2 R k) := by
    blk_ext [iblk, idx t]
  rw [e]
  unfold V
  simp only [hostOps0, hostOps0_1, hostOps0_2, hostOps0_3, hostOps0_4, List.flatten_cons, List.flatten_nil, List.append_nil, List.cons_append, List.nil_append]
  after_results_simp

/-- The gain. -/
theorem g_blk (t : Fin cfg0.N) (k : Fin 256) : (iblk m c 1 t (ix2 0 k) : EReal) = m (c, Proc.tc.devRef main_arg1) (ix1 k) := by
  have e : (iblk m c 1 t (ix2 0 k) : EReal) = (V m c main_v12 : FVec Ideal S1x256 .f32) (ix2 0 k) := by
    blk_ext [iblk, idx t]
  rw [e]
  unfold V
  simp only [hostOps0, hostOps0_1, hostOps0_2, hostOps0_3, hostOps0_4, List.flatten_cons, List.flatten_nil, List.append_nil, List.cons_append, List.nil_append]
  after_results_simp
  pointwise

/-- A row of the cosine table. -/
theorem cos_blk (t : Fin cfg0.N) (i : Fin 256) (p : Fin 8) (hp : p.val = i.val % 8) (n : Fin 128) :
    (iblk m c 2 t (ix2 i n) : EReal) = cosTab (cosOf p) n := by
  obtain ⟨q, hq⟩ := p
  change q = i.val % 8 at hp
  subst hp
  have e : (iblk m c 2 t (ix2 i n) : EReal) = (V m c main_v47 : FVec Ideal S256x128 .f32) (ix2 i n) := by
    blk_ext [iblk, idx t]
  rw [e]
  unfold V
  simp only [hostOps0, hostOps0_1, hostOps0_2, hostOps0_3, hostOps0_4, List.flatten_cons, List.flatten_nil, List.append_nil, List.cons_append, List.nil_append]
  after_results_simp
  pointwise
  unfold cosTab
  by_cases h1 : n.val < 64
  · simp only [dif_pos h1]
    refine Eq.trans (congrFun (?_ : (_ : FVec Ideal S8x64 .f32) = broadcastInDim S8x64 ![] bcast_S_S8x64 (constant S_ .f32 0x3F800000#32)) _) ?_
    · after_results_simp
    · pointwise
  by_cases h2 : n.val - 64 < 16
  · simp only [dif_neg h1, dif_pos h2]
    refine Eq.trans (congrFun (?_ : (_ : FVec Ideal S8x16 .f32) = Cert.KvSRefIdeal.Read.val_main_v31 (F := Ideal)) _) ?_
    · after_results_simp
      rfl
    · rfl
  by_cases h3 : n.val - 64 - 16 < 16
  · simp only [dif_neg h1, dif_neg h2, dif_pos h3]
    refine Eq.trans (congrFun (?_ : (_ : FVec Ideal S8x16 .f32) = Cert.KvSRefIdeal.Read.val_main_v31 (F := Ideal)) _) ?_
    · after_results_simp
      rfl
    · rfl
  · simp only [dif_neg h1, dif_neg h2, dif_neg h3]
    refine Eq.trans (congrFun (?_ : (_ : FVec Ideal S8x32 .f32) = broadcastInDim S8x32 ![] bcast_S_S8x32 (constant S_ .f32 0#32)) _) ?_
    · after_results_simp
    · pointwise

/-- A row of the table of sines for the lane below. -/
theorem hi_blk (t : Fin cfg0.N) (i : Fin 256) (p : Fin 8) (hp : p.val = i.val % 8) (n : Fin 128) :
    (iblk m c 3 t (ix2 i n) : EReal) = hiTab (sinOf p) n := by
  obtain ⟨q, hq⟩ := p
  change q = i.val % 8 at hp
  subst hp
  have e : (iblk m c 3 t (ix2 i n) : EReal) = (V m c main_v50 : FVec Ideal S256x128 .f32) (ix2 i n) := by
    blk_ext [iblk, idx t]
  rw [e]
  unfold V
  simp only [hostOps0, hostOps0_1, hostOps0_2, hostOps0_3, hostOps0_4, List.flatten_cons, List.flatten_nil, List.append_nil, List.cons_append, List.nil_append]
  after_results_simp
  pointwise
  unfold hiTab
  by_cases h1 : n.val < 80
  · simp only [dif_pos h1]
    refine Eq.trans (congrFun (?_ : (_ : FVec Ideal S8x80 .f32) = broadcastInDim S8x80 ![] bcast_S_S8x80 (constant S_ .f32 0#32)) _) ?_
    · after_results_simp
    · pointwise
  by_cases h2 : n.val - 80 < 16
  · simp only [dif_neg h1, dif_pos h2]
    refine Eq.trans (congrFun (?_ : (_ : FVec Ideal S8x16 .f32) = Cert.KvSRefIdeal.Read.val_main_v33 (F := Ideal)) _) ?_
    · after_results_simp
      rfl
    · rfl
  · simp only [dif_neg h1, dif_neg h2]
    refine Eq.trans (congrFun (?_ : (_ : FVec Ideal S8x32 .f32) = broadcastInDim S8x32 ![] bcast_S_S8x32 (constant S_ .f32 0#32)) _) ?_
    · after_results_simp
    · pointwise

/-- A row of the table of negated sines for the lane above. -/
theorem lo_blk (t : Fin cfg0.N) (i : Fin 256) (p : Fin 8) (hp : p.val = i.val % 8) (n : Fin 128) :
    (iblk m c 4 t (ix2 i n) : EReal) = loTab (sinOf p) n := by
  obtain ⟨q, hq⟩ := p
  change q = i.val % 8 at hp
  subst hp
  have e : (iblk m c 4 t (ix2 i n) : EReal) = (V m c main_v53 : FVec Ideal S256x128 .f32) (ix2 i n) := by
    blk_ext [iblk, idx t]
  rw [e]
  unfold V
  simp only [hostOps0, hostOps0_1, hostOps0_2, hostOps0_3, hostOps0_4, List.flatten_cons, List.flatten_nil, List.append_nil, List.cons_append, List.nil_append]
  after_results_simp
  pointwise
  unfold loTab
  by_cases h1 : n.val < 64
  · simp only [dif_pos h1]
    refine Eq.trans (congrFun (?_ : (_ : FVec Ideal S8x64 .f32) = broadcastInDim S8x64 ![] bcast_S_S8x64 (constant S_ .f32 0#32)) _) ?_
    · after_results_simp
    · pointwise
  by_cases h2 : n.val - 64 < 16
  · simp only [dif_neg h1, dif_pos h2]
    refine Eq.trans (congrFun (?_ : (_ : FVec Ideal S8x16 .f32) = Host.negf (Cert.KvSRefIdeal.Read.val_main_v33 (F := Ideal))) _) ?_
    · after_results_simp
      rfl
    · rfl
  · simp only [dif_neg h1, dif_neg h2]
    refine Eq.trans (congrFun (?_ : (_ : FVec Ideal S8x48 .f32) = broadcastInDim S8x48 ![] bcast_S_S8x48 (constant S_ .f32 0#32)) _) ?_
    · after_results_simp
    · pointwise

/-- The latents of a row of the block, from the call's arguments. -/
theorem latent_blk (t : Fin cfg0.N) (i : Fin 256) (R : Fin 1024) (hR : R.val = t.val * 256 + i.val) (j : Fin 256) :
    k0_pay1 (F := Ideal) (iblk m c 0 t) (iblk m c 1 t) (ix2 i j)
      = latent (fun k => m (c, Proc.tc.devRef main_arg0) (ix2 R k)) (fun k => m (c, Proc.tc.devRef main_arg1) (ix1 k)) j := by
  rw [ckv_at, funext (x_blk m c t i R hR), funext (g_blk m c t)]

/-- The rotated part of a row of the block, from the call's arguments. -/
theorem rot_blk (t : Fin cfg0.N) (i : Fin 256) (R : Fin 1024) (hR : R.val = t.val * 256 + i.val) (j : Fin 32) :
    k0_pay2 (F := Ideal) (iblk m c 0 t) (iblk m c 2 t) (iblk m c 3 t) (iblk m c 4 t) (ix2 i j)
      = rotated ⟨R.val % 8, by omega⟩ (fun k => m (c, Proc.tc.devRef main_arg0) (ix2 R k)) j := by
  have hp : (⟨R.val % 8, by omega⟩ : Fin 8).val = i.val % 8 := by show R.val % 8 = _; omega
  rw [tail_rot _ _ _ _ i ⟨R.val % 8, by omega⟩ (cos_blk m c t i _ hp) (hi_blk m c t i _ hp) (lo_blk m c t i _ hp) j, funext (x_blk m c t i R hR)]

/-- The call's first result array is the reference's. -/
theorem ckv_eq : (dats m 0 c).arrAt 7 cfg0.N = Cert.KvSRefIdeal.Read.val_main_v48 (F := Ideal) (m (c, Proc.tc.devRef main_arg0)) (m (c, Proc.tc.devRef main_arg1)) := by
  refine (dats m 0 c).arrAt_eq_of_covers 7 _ (by decide +kernel) fun t hf y => ?_
  blk_simp
  obtain ⟨i, j, rfl⟩ : ∃ (i : Fin 256) (j : Fin 256), y = ix2 i j := ⟨y 0, y 1, eq_ix2 y⟩
  have ht : t.val < 4 := lt_of_lt_of_eq t.isLt N_0
  have he : (win0_7.blk t).view.emb (ix2 i j) = ix2 (⟨t.val * 256 + i.val, by omega⟩ : Fin 1024) j := by
    blk_ext [idx t]
  rw [he, ref_ckv_at, after0_7]
  unfold out0_7
  frame_out
  exact latent_blk m c t i _ rfl j

/-- The call's second result array is the reference's. -/
theorem kr_eq : (dats m 0 c).arrAt 8 cfg0.N = Cert.KvSRefIdeal.Read.val_main_v49 (F := Ideal) (m (c, Proc.tc.devRef main_arg0)) := by
  refine (dats m 0 c).arrAt_eq_of_covers 8 _ (by decide +kernel) fun t hf y => ?_
  blk_simp
  obtain ⟨i, j, rfl⟩ : ∃ (i : Fin 256) (j : Fin 32), y = ix2 i j := ⟨y 0, y 1, eq_ix2 y⟩
  have ht : t.val < 4 := lt_of_lt_of_eq t.isLt N_0
  have he : (win0_8.blk t).view.emb (ix2 i j) = ix2 (⟨t.val * 256 + i.val, by omega⟩ : Fin 1024) j := by
    blk_ext [idx t]
  rw [he, ref_kr_at, after0_8, kr_at]
  exact rot_blk m c t i _ rfl j

end Cert.KvSValue

end
-- ==== Proof.Pre.lean ====
/-
  The precondition at an entry: where the predicate holds, every query and key entry is a real number.
-/
module

public import proofs.«01_k».proof.Defs
public import Idealize.ShloMosaic.Lib.Pipeline.ValueKit
public import Idealize.ShloMosaic.Lib.Claim

@[expose] public section

noncomputable section

open Idealize.ShloMosaic Idealize.ShloMosaic.TcCoe Idealize.SL.Sem
open Cert.Pre_finite

namespace Cert.Attn

/-- The side conditions of the predicate's operations. -/
theorem pre_facts : Cert.Pre_finite.Facts where
  bcast_S_S4x4096x16x64 := by decide
  bcast_S_S4x4096x16x32 := by decide
  bcast_S_S4x4096x32 := by decide

/-- The word of positive infinity. -/
theorem top_word : Ideal.ofBits .f32 0x7F800000#32 = ⊤ := by
  simp [Ideal.ofBits, Ideal.ieee]

/-- An array whose magnitudes are all below infinity has real entries. -/
theorem real_entry {s : Shape} (h : S_.BroadcastsInDim s (![] : Fin 0 → Fin s.rank)) (x : FVec Ideal s .f32)
    (e : cmpf .olt (Host.absf x) (broadcastInDim s ![] h (constant S_ .f32 0x7F800000#32)) = fun _ => 1#1) (i : s.Idx) :
    x i = ((EReal.toReal (x i) : ℝ) : EReal) := by
  have e' := congrFun e i
  pointwise at e'
  rw [top_word] at e'
  have hlt : max (x i : EReal) (-(x i : EReal)) < ⊤ := by
    by_contra hn
    rw [decide_eq_false (by exact hn)] at e'
    exact absurd e' (by decide)
  refine (EReal.coe_toReal ?_ ?_).symm
  · intro ht
    rw [ht] at hlt
    simp at hlt
  · intro ht
    rw [ht] at hlt
    simp at hlt

end Cert.Attn

end
-- ==== Proof.FfnValue.lean ====
/-
  The first feed-forward step: the call writes, row by row, the half step of the reference (`result_eq`).
-/
module

public import proofs.«01_k».proof.Proof.Rows
public import proofs.«01_k».proof.Proof.Gen.FfnIdeal.Value
public import proofs.«01_k».proof.Proof.Gen.FfnRefIdeal.Run
public import proofs.«01_k».proof.Proof.Gen.FfnRefIdeal.Read

@[expose] public section

noncomputable section

open Idealize.ShloMosaic Idealize.ShloMosaic.TcCoe Idealize.SL.Sem
open Cert.FfnIdeal Cert.FfnIdeal.Gen Cert.Rows

namespace Cert.FfnValue

/-- Where each window lies at grid point `t`: the row block `t`; the weights whole, of layer 3. -/
theorem idx : ∀ t : Fin cfg0.N, win0_0.index t = ![t.val, 0] ∧ win0_1.index t = ![0, 0]
    ∧ win0_2.index t = ![3, 0, 0] ∧ win0_3.index t = ![3, 0, 0] ∧ win0_4.index t = ![t.val, 0] :=
  (by decide +kernel : ∀ t : Fin grid0.N, _)

/-- What the body writes, at a row and a column. -/
theorem pay_at (x0 : Vec Ideal S512x1024 .f32) (x1 : Vec Ideal S1x1024 .f32) (x2 : Vec Ideal S1x1024x5632 .bf16) (x3 : Vec Ideal S1x2816x1024 .bf16)
    (i : Fin 512) (j : Fin 1024) : out0_4 (F := Ideal) x0 x1 x2 x3 (ix2 i j)
      = half (fun k => x0 (ix2 i k)) (fun k => x1 (ix2 0 k)) (fun k n => x2 (ix3 0 k n)) (fun k n => x3 (ix3 0 k n)) j := by
  unfold out0_4
  frame_out
  pointwise [k0_pay1]
  rfl

open Cert.FfnRefIdeal.Read in
/-- The reference at a row and a column. -/
theorem ref_at (x0 : FVec Ideal S4x4096x1024 .f32) (x1 : FVec Ideal S4x1024 .f32) (x2 : FVec Ideal S4x1024x5632 .f32) (x3 : FVec Ideal S4x2816x1024 .f32)
    (i : Fin 16384) (j : Fin 1024) : val_main_v28 (F := Ideal) x0 x1 x2 x3 (ix2 i j)
      = half (fun k => x0 (ix3 ⟨i.val / 4096, by omega⟩ ⟨i.val % 4096, by omega⟩ k)) (fun k => x1 (ix2 3 k)) (fun k n => x2 (ix3 3 k n)) (fun k n => x3 (ix3 3 k n)) j := by
  pointwise [val_main_v0, val_main_v1, val_main_v2, val_main_v3, val_main_v4, val_main_v5, val_main_v6, val_main_cst, val_main_v7, val_main_v8, val_main_cst_0, val_main_v9, val_main_v10, val_main_cst_1, val_main_v11, val_main_v12, val_main_v13, val_main_v14, val_main_v15, val_main_v16, val_main_v17, val_main_v18, val_main_v19, val_main_v20, val_main_v21, val_main_call0_v0, val_main_call0_v1, val_main_call0_cst, val_main_call0_v2, val_main_call0_v3, val_main_call0_cst_0, val_main_call0_v4, val_main_call0_v5, val_main_v22, val_main_v23, val_main_v24, val_main_cst_2, val_main_v25, val_main_v26, val_main_v27, val_main_v28]
  rfl

variable (m : (ℓ : Loc nD τ sig) → Buf (Elt Ideal) ℓ) (c : Dev nD)

/-- A row of the block a grid point reads. -/
theorem x_blk (t : Fin cfg0.N) (i : Fin 512) (R : Fin 16384) (hR : R.val = t.val * 512 + i.val) (k : Fin 1024) :
    (iblk m c 0 t (ix2 i k) : EReal) = m (c, Proc.tc.devRef main_arg0) (ix3 ⟨R.val / 4096, by omega⟩ ⟨R.val % 4096, by omega⟩ k) := by
  have e : (iblk m c 0 t (ix2 i k) : EReal) = (V m c main_v0 : FVec Ideal S16384x1024 .f32) (ix2 R k) := by
    blk_ext [iblk, idx t]
  rw [e]
  unfold V
  after_results_simp
  pointwise

/-- The gain. -/
theorem g_blk (t : Fin cfg0.N) (k : Fin 1024) : (iblk m c 1 t (ix2 0 k) : EReal) = m (c, Proc.tc.devRef main_arg1) (ix2 3 k) := by
  have e : (iblk m c 1 t (ix2 0 k) : EReal) = (V m c main_v3 : FVec Ideal S1x1024 .f32) (ix2 0 k) := by
    blk_ext [iblk, idx t]
  rw [e]
  unfold V
  after_results_simp
  pointwise

/-- The first weight. -/
theorem gu_blk (t : Fin cfg0.N) (k : Fin 1024) (n : Fin 5632) : (iblk m c 2 t (ix3 0 k n) : EReal) = m (c, Proc.tc.devRef main_arg2) (ix3 3 k n) := by
  have e : (iblk m c 2 t (ix3 0 k n) : EReal) = (V m c main_v4 : FVec Ideal S4x1024x5632 .bf16) (ix3 3 k n) := by
    blk_ext [iblk, idx t]
  rw [e]
  unfold V
  after_results_simp
  pointwise

/-- The second weight. -/
theorem d_blk (t : Fin cfg0.N) (k : Fin 2816) (n : Fin 1024) : (iblk m c 3 t (ix3 0 k n) : EReal) = m (c, Proc.tc.devRef main_arg3) (ix3 3 k n) := by
  have e : (iblk m c 3 t (ix3 0 k n) : EReal) = (V m c main_v5 : FVec Ideal S4x2816x1024 .bf16) (ix3 3 k n) := by
    blk_ext [iblk, idx t]
  rw [e]
  unfold V
  after_results_simp
  pointwise

/-- The call's result array is the reference's. -/
theorem result_eq : (dats m 0 c).arrAt 4 cfg0.N = Cert.FfnRefIdeal.Read.val_main_v28 (F := Ideal) (m (c, Proc.tc.devRef main_arg0))
    (m (c, Proc.tc.devRef main_arg1)) (m (c, Proc.tc.devRef main_arg2)) (m (c, Proc.tc.devRef main_arg3)) := by
  refine (dats m 0 c).arrAt_eq_of_covers 4 _ (by decide +kernel) fun t hf y => ?_
  blk_simp
  obtain ⟨i, j, rfl⟩ : ∃ (i : Fin 512) (j : Fin 1024), y = ix2 i j := ⟨y 0, y 1, eq_ix2 y⟩
  have ht : t.val < 32 := lt_of_lt_of_eq t.isLt N_0
  have he : (win0_4.blk t).view.emb (ix2 i j) = ix2 (⟨t.val * 512 + i.val, by omega⟩ : Fin 16384) j := by
    blk_ext [idx t]
  rw [he, ref_at, after0_4, pay_at]
  rw [funext (x_blk m c t i ⟨t.val * 512 + i.val, by omega⟩ rfl), funext (g_blk m c t), funext fun k => funext (gu_blk m c t k),
    funext fun k => funext (d_blk m c t k)]

end Cert.FfnValue

end
-- ==== Proof.TailValue.lean ====
/-
  The last step of the layer: the second feed-forward half step, the gated per-layer embedding and the final
  normalisation. The call writes, row by row, what the reference computes (`result_eq`).
-/
module

public import proofs.«01_k».proof.Proof.Rows
public import proofs.«01_k».proof.Proof.Gen.TailIdeal.Value
public import proofs.«01_k».proof.Proof.Gen.TailRefIdeal.Run
public import proofs.«01_k».proof.Proof.Gen.TailRefIdeal.Read

@[expose] public section

noncomputable section

open Idealize.ShloMosaic Idealize.ShloMosaic.TcCoe Idealize.SL.Sem
open Cert.TailIdeal Cert.TailIdeal.Gen Cert.Rows

namespace Cert.TailValue

/-- A row after the step. -/
def tail (x : Row) (p : Fin 256 → EReal) (g : Row) (wgu : Fin 1024 → Fin 5632 → EReal) (wd : Fin 2816 → Fin 1024 → EReal)
    (pg : Row) (wg : Fin 1024 → Fin 1024 → EReal) (wp : Fin 256 → Fin 1024 → EReal) (fg : Row) : Row :=
  rms (embed (half x g wgu wd) p pg wg wp) fg

/-- Where each window lies at grid point `t`: the row block `t`; the weights whole, of layer 3. -/
theorem idx : ∀ t : Fin cfg0.N, win0_0.index t = ![t.val, 0] ∧ win0_1.index t = ![0, 0]
    ∧ win0_2.index t = ![3, 0, 0] ∧ win0_3.index t = ![3, 0, 0] ∧ win0_4.index t = ![t.val, 0] ∧ win0_5.index t = ![0, 0]
    ∧ win0_6.index t = ![3, 0, 0] ∧ win0_7.index t = ![3, 0, 0] ∧ win0_8.index t = ![0, 0] ∧ win0_9.index t = ![t.val, 0] :=
  (by decide +kernel : ∀ t : Fin grid0.N, _)

/-- The body's last part, at a row and a column: embedding and final normalisation of the row `v`. -/
theorem last_at (v : FVec Ideal S512x1024 .f32) (w : FVec Ideal S1x1024 .f32) (sq : FVec Ideal S512x1024 .f32) (x6 : Vec Ideal S1x1024x1024 .bf16)
    (x4 : Vec Ideal S512x256 .f32) (x7 : Vec Ideal S1x256x1024 .bf16) (x8 : Vec Ideal S1x1024 .f32) (i : Fin 512) (j : Fin 1024)
    (h : ∀ k, (sq (ix2 i k) : EReal) = v (ix2 i k) * v (ix2 i k)) : k0_pay4 (F := Ideal) v w sq x6 x4 x7 x8 (ix2 i j)
      = rms (embed (fun k => v (ix2 i k)) (fun k => x4 (ix2 i k)) (fun k => w (ix2 0 k)) (fun k n => x6 (ix3 0 k n)) (fun k n => x7 (ix3 0 k n))) (fun k => x8 (ix2 0 k)) j := by
  pointwise [k0_pay4]
  simp only [h]
  rfl

/-- What the body writes, at a row and a column. -/
theorem pay_at (x0 : Vec Ideal S512x1024 .f32) (x1 : Vec Ideal S1x1024 .f32) (x2 : Vec Ideal S1x1024x5632 .bf16) (x3 : Vec Ideal S1x2816x1024 .bf16)
    (x4 : Vec Ideal S512x256 .f32) (x5 : Vec Ideal S1x1024 .f32) (x6 : Vec Ideal S1x1024x1024 .bf16) (x7 : Vec Ideal S1x256x1024 .bf16) (x8 : Vec Ideal S1x1024 .f32)
    (i : Fin 512) (j : Fin 1024) : out0_9 (F := Ideal) x0 x1 x2 x3 x4 x5 x6 x7 x8 (ix2 i j)
      = tail (fun k => x0 (ix2 i k)) (fun k => x4 (ix2 i k)) (fun k => x1 (ix2 0 k)) (fun k n => x2 (ix3 0 k n)) (fun k n => x3 (ix3 0 k n))
        (fun k => x5 (ix2 0 k)) (fun k n => x6 (ix3 0 k n)) (fun k n => x7 (ix3 0 k n)) (fun k => x8 (ix2 0 k)) j := by
  unfold out0_9
  frame_out
  refine (last_at _ _ _ _ _ _ _ i j fun k => rfl).trans ?_
  unfold tail
  refine congr (congrArg rms ?_) ?_ |> fun h => congrFun h j
  · congr 1
    all_goals (repeat (refine funext fun _ => ?_))
    · pointwise [k0_pay1]
      rfl
    all_goals pointwise [k0_pay2]
  · refine funext fun _ => ?_
    pointwise

open Cert.TailRefIdeal.Read in
/-- The reference's half step at a row and a column. -/
theorem half_at (x0 : FVec Ideal S4x4096x1024 .f32) (x2 : FVec Ideal S4x1024 .f32) (x3 : FVec Ideal S4x1024x5632 .f32) (x4 : FVec Ideal S4x2816x1024 .f32) (a : Fin 4) (b : Fin 4096) (j : Fin 1024) : val_main_v27 (F := Ideal) x0 x2 x3 x4 (ix3 a b j)
      = half (fun k => x0 (ix3 a b k)) (fun k => x2 (ix2 3 k)) (fun k n => x3 (ix3 3 k n)) (fun k n => x4 (ix3 3 k n)) j := by
  pointwise [val_main_v0, val_main_v1, val_main_v2, val_main_v3, val_main_v4, val_main_v5, val_main_v6, val_main_cst, val_main_v7, val_main_v8, val_main_cst_0, val_main_v9, val_main_v10, val_main_cst_1, val_main_v11, val_main_v12, val_main_v13, val_main_v14, val_main_v15, val_main_v16, val_main_v17, val_main_v18, val_main_v19, val_main_v20, val_main_v21, val_main_call0_v0, val_main_call0_v1, val_main_call0_cst, val_main_call0_v2, val_main_call0_v3, val_main_call0_cst_0, val_main_call0_v4, val_main_call0_v5, val_main_v22, val_main_v23, val_main_v24, val_main_cst_2, val_main_v25, val_main_v26, val_main_v27]
  rfl

open Cert.TailRefIdeal.Read in
/-- The reference at a row and a column. -/
theorem ref_at (x0 : FVec Ideal S4x4096x1024 .f32) (x1 : FVec Ideal S4x4x4096x256 .f32) (x2 : FVec Ideal S4x1024 .f32) (x3 : FVec Ideal S4x1024x5632 .f32)
    (x4 : FVec Ideal S4x2816x1024 .f32) (x5 : FVec Ideal S4x1024 .f32) (x6 : FVec Ideal S4x1024x1024 .f32) (x7 : FVec Ideal S4x256x1024 .f32) (x8 : FVec Ideal S1024 .f32)
    (i : Fin 16384) (j : Fin 1024) : val_main_v72 (F := Ideal) x0 x1 x2 x3 x4 x5 x6 x7 x8 (ix2 i j)
      = tail (fun k => x0 (ix3 ⟨i.val / 4096, by omega⟩ ⟨i.val % 4096, by omega⟩ k)) (fun k => x1 (ix4 3 ⟨i.val / 4096, by omega⟩ ⟨i.val % 4096, by omega⟩ k))
        (fun k => x2 (ix2 3 k)) (fun k n => x3 (ix3 3 k n)) (fun k n => x4 (ix3 3 k n)) (fun k => x5 (ix2 3 k)) (fun k n => x6 (ix3 3 k n))
        (fun k n => x7 (ix3 3 k n)) (fun k => x8 (ix1 k)) j := by
  pointwise [val_main_v28, val_main_v29, val_main_v30, val_main_cst_3, val_main_v31, val_main_v32, val_main_cst_4, val_main_v33, val_main_v34, val_main_cst_5, val_main_v35, val_main_v36, val_main_v37, val_main_v38, val_main_v39, val_main_v40, val_main_v41, val_main_v42, val_main_v43, val_main_v44, val_main_v45, val_main_v46, val_main_v47, val_main_cst_6, val_main_v48, val_main_v49, val_main_cst_7, val_main_v50, val_main_v51, val_main_v52, val_main_v53, val_main_v54, val_main_v55, val_main_v56, val_main_v57, val_main_v58, val_main_v59, val_main_cst_8, val_main_v60, val_main_v61, val_main_cst_9, val_main_v62, val_main_v63, val_main_cst_10, val_main_v64, val_main_v65, val_main_v66, val_main_v67, val_main_v68, val_main_v69, val_main_v70, val_main_v71, val_main_v72]
  simp only [half_at]
  rfl

variable (m : (ℓ : Loc nD τ sig) → Buf (Elt Ideal) ℓ) (c : Dev nD)

/-- A row of the block a grid point reads. -/
theorem x_blk (t : Fin cfg0.N) (i : Fin 512) (R : Fin 16384) (hR : R.val = t.val * 512 + i.val) (k : Fin 1024) :
    (iblk m c 0 t (ix2 i k) : EReal) = m (c, Proc.tc.devRef main_arg0) (ix3 ⟨R.val / 4096, by omega⟩ ⟨R.val % 4096, by omega⟩ k) := by
  have e : (iblk m c 0 t (ix2 i k) : EReal) = (V m c main_v10 : FVec Ideal S16384x1024 .f32) (ix2 R k) := by
    blk_ext [iblk, idx t]
  rw [e]
  unfold V
  after_results_simp
  pointwise

/-- The gain of the feed-forward step. -/
theorem g_blk (t : Fin cfg0.N) (k : Fin 1024) : (iblk m c 1 t (ix2 0 k) : EReal) = m (c, Proc.tc.devRef main_arg2) (ix2 3 k) := by
  have e : (iblk m c 1 t (ix2 0 k) : EReal) = (V m c main_v6 : FVec Ideal S1x1024 .f32) (ix2 0 k) := by
    blk_ext [iblk, idx t]
  rw [e]
  unfold V
  after_results_simp
  pointwise

/-- Its first weight. -/
theorem gu_blk (t : Fin cfg0.N) (k : Fin 1024) (n : Fin 5632) : (iblk m c 2 t (ix3 0 k n) : EReal) = m (c, Proc.tc.devRef main_arg3) (ix3 3 k n) := by
  have e : (iblk m c 2 t (ix3 0 k n) : EReal) = (V m c main_v0 : FVec Ideal S4x1024x5632 .bf16) (ix3 3 k n) := by
    blk_ext [iblk, idx t]
  rw [e]
  unfold V
  after_results_simp
  pointwise

/-- Its second weight. -/
theorem d_blk (t : Fin cfg0.N) (k : Fin 2816) (n : Fin 1024) : (iblk m c 3 t (ix3 0 k n) : EReal) = m (c, Proc.tc.devRef main_arg4) (ix3 3 k n) := by
  have e : (iblk m c 3 t (ix3 0 k n) : EReal) = (V m c main_v1 : FVec Ideal S4x2816x1024 .bf16) (ix3 3 k n) := by
    blk_ext [iblk, idx t]
  rw [e]
  unfold V
  after_results_simp
  pointwise

/-- A row of the embedding. -/
theorem p_blk (t : Fin cfg0.N) (i : Fin 512) (R : Fin 16384) (hR : R.val = t.val * 512 + i.val) (k : Fin 256) :
    (iblk m c 4 t (ix2 i k) : EReal) = m (c, Proc.tc.devRef main_arg1) (ix4 3 ⟨R.val / 4096, by omega⟩ ⟨R.val % 4096, by omega⟩ k) := by
  have e : (iblk m c 4 t (ix2 i k) : EReal) = (V m c main_v13 : FVec Ideal S16384x256 .f32) (ix2 R k) := by
    blk_ext [iblk, idx t]
  rw [e]
  unfold V
  after_results_simp
  pointwise

/-- The gain before the gate. -/
theorem pg_blk (t : Fin cfg0.N) (k : Fin 1024) : (iblk m c 5 t (ix2 0 k) : EReal) = m (c, Proc.tc.devRef main_arg5) (ix2 3 k) := by
  have e : (iblk m c 5 t (ix2 0 k) : EReal) = (V m c main_v9 : FVec Ideal S1x1024 .f32) (ix2 0 k) := by
    blk_ext [iblk, idx t]
  rw [e]
  unfold V
  after_results_simp
  pointwise

/-- The gate weight. -/
theorem wg_blk (t : Fin cfg0.N) (k : Fin 1024) (n : Fin 1024) : (iblk m c 6 t (ix3 0 k n) : EReal) = m (c, Proc.tc.devRef main_arg6) (ix3 3 k n) := by
  have e : (iblk m c 6 t (ix3 0 k n) : EReal) = (V m c main_v2 : FVec Ideal S4x1024x1024 .bf16) (ix3 3 k n) := by
    blk_ext [iblk, idx t]
  rw [e]
  unfold V
  after_results_simp
  pointwise

/-- The embedding weight. -/
theorem wp_blk (t : Fin cfg0.N) (k : Fin 256) (n : Fin 1024) : (iblk m c 7 t (ix3 0 k n) : EReal) = m (c, Proc.tc.devRef main_arg7) (ix3 3 k n) := by
  have e : (iblk m c 7 t (ix3 0 k n) : EReal) = (V m c main_v3 : FVec Ideal S4x256x1024 .bf16) (ix3 3 k n) := by
    blk_ext [iblk, idx t]
  rw [e]
  unfold V
  after_results_simp
  pointwise

/-- The final gain. -/
theorem fg_blk (t : Fin cfg0.N) (k : Fin 1024) : (iblk m c 8 t (ix2 0 k) : EReal) = m (c, Proc.tc.devRef main_arg8) (ix1 k) := by
  have e : (iblk m c 8 t (ix2 0 k) : EReal) = (V m c main_v14 : FVec Ideal S1x1024 .f32) (ix2 0 k) := by
    blk_ext [iblk, idx t]
  rw [e]
  unfold V
  after_results_simp
  pointwise

/-- The call's result array is the reference's. -/
theorem result_eq : (dats m 0 c).arrAt 9 cfg0.N = Cert.TailRefIdeal.Read.val_main_v72 (F := Ideal) (m (c, Proc.tc.devRef main_arg0)) (m (c, Proc.tc.devRef main_arg1)) (m (c, Proc.tc.devRef main_arg2)) (m (c, Proc.tc.devRef main_arg3)) (m (c, Proc.tc.devRef main_arg4)) (m (c, Proc.tc.devRef main_arg5)) (m (c, Proc.tc.devRef main_arg6)) (m (c, Proc.tc.devRef main_arg7)) (m (c, Proc.tc.devRef main_arg8)) := by
  refine (dats m 0 c).arrAt_eq_of_covers 9 _ (by decide +kernel) fun t hf y => ?_
  blk_simp
  obtain ⟨i, j, rfl⟩ : ∃ (i : Fin 512) (j : Fin 1024), y = ix2 i j := ⟨y 0, y 1, eq_ix2 y⟩
  have ht : t.val < 32 := lt_of_lt_of_eq t.isLt N_0
  have he : (win0_9.blk t).view.emb (ix2 i j) = ix2 (⟨t.val * 512 + i.val, by omega⟩ : Fin 16384) j := by
    blk_ext [idx t]
  rw [he, ref_at, after0_9, pay_at]
  rw [funext (x_blk m c t i ⟨t.val * 512 + i.val, by omega⟩ rfl),
    funext (p_blk m c t i ⟨t.val * 512 + i.val, by omega⟩ rfl),
    funext (g_blk m c t),
    funext fun k => funext (gu_blk m c t k),
    funext fun k => funext (d_blk m c t k),
    funext (pg_blk m c t),
    funext fun k => funext (wg_blk m c t k),
    funext fun k => funext (wp_blk m c t k),
    funext (fg_blk m c t)]

end Cert.TailValue

end
-- ==== Proof.ProjValue.lean ====
/-
  The input projection: the call writes, row by row, what the reference computes (`main_eq`, `small_eq`). The call
  multiplies by the weight with its columns laid out anew; the reference lays out the columns of the product.
-/
module

public import proofs.«01_k».proof.Proof.Rows
public import proofs.«01_k».proof.Proof.Gen.ProjIdeal.Value
public import proofs.«01_k».proof.Proof.Gen.ProjRefIdeal.Run
public import proofs.«01_k».proof.Proof.Gen.ProjRefIdeal.Read

@[expose] public section

noncomputable section

open Idealize.ShloMosaic Idealize.ShloMosaic.TcCoe Idealize.SL.Sem
open Cert.ProjIdeal Cert.ProjIdeal.Gen Cert.Rows

namespace Cert.ProjValue

/-- The first result's columns of a row of 8000. -/
def mainAt (w : Fin 8000 → EReal) (n : Fin 7680) : EReal :=
  if h : n.val < 2048 then w ⟨n.val, by omega⟩
  else if h : n.val - 2048 < 3072 then w ⟨2048 + (n.val - 2048), by omega⟩
  else if h : n.val - 2048 - 3072 < 2048 then w ⟨5952 + (n.val - 2048 - 3072), by omega⟩
  else w ⟨5152 + (n.val - 2048 - 3072 - 2048), by omega⟩

/-- The second result's columns: three groups, and zeros between them. -/
def smallAt (w : Fin 8000 → EReal) (n : Fin 384) : EReal :=
  if h : n.val < 256 then w ⟨5664 + n.val, by omega⟩
  else if h : n.val - 256 < 32 then w ⟨5120 + (n.val - 256), by omega⟩
  else if h : n.val - 256 - 32 < 32 then 0
  else if h : n.val - 256 - 32 - 32 < 32 then w ⟨5920 + (n.val - 256 - 32 - 32), by omega⟩
  else 0

/-- Laying out a weight's columns lays out the product's. -/
theorem mul_mainAt (u : Row) (w : Fin 1024 → Fin 8000 → EReal) (n : Fin 7680) :
    mul u (fun k => mainAt (w k)) n = mainAt (mul u w) n := by
  unfold mul mainAt
  by_cases h1 : n.val < 2048
  · simp only [dif_pos h1]
  by_cases h2 : n.val - 2048 < 3072
  · simp only [dif_neg h1, dif_pos h2]
  by_cases h3 : n.val - 2048 - 3072 < 2048
  · simp only [dif_neg h1, dif_neg h2, dif_pos h3]
  · simp only [dif_neg h1, dif_neg h2, dif_neg h3]

/-- The same with the zero columns: a row times a zero column is zero. -/
theorem mul_smallAt (u : Row) (w : Fin 1024 → Fin 8000 → EReal) (n : Fin 384) :
    mul u (fun k => smallAt (w k)) n = smallAt (mul u w) n := by
  unfold mul smallAt
  by_cases h1 : n.val < 256
  · simp only [dif_pos h1]
  by_cases h2 : n.val - 256 < 32
  · simp only [dif_neg h1, dif_pos h2]
  by_cases h3 : n.val - 256 - 32 < 32
  · simp only [dif_neg h1, dif_neg h2, dif_pos h3, mul_zero, Finset.sum_const_zero]
  by_cases h4 : n.val - 256 - 32 - 32 < 32
  · simp only [dif_neg h1, dif_neg h2, dif_neg h3, dif_pos h4]
  · simp only [dif_neg h1, dif_neg h2, dif_neg h3, dif_neg h4, mul_zero, Finset.sum_const_zero]

/-- Where each window lies at grid point `t`: the row block `t`; the weights whole. -/
theorem idx : ∀ t : Fin cfg0.N, win0_0.index t = ![t.val, 0] ∧ win0_1.index t = ![0, 0] ∧ win0_2.index t = ![0, 0]
    ∧ win0_3.index t = ![0, 0] ∧ win0_4.index t = ![t.val, 0] ∧ win0_5.index t = ![t.val, 0] :=
  (by decide +kernel : ∀ t : Fin grid0.N, _)

/-- What the body writes into the first result, at a row and a column: six column tiles of one product. -/
theorem main_at (x0 : Vec Ideal S512x1024 .f32) (x1 : Vec Ideal S1x1024 .f32) (x2 : Vec Ideal S1024x7680 .bf16) (x3 : Vec Ideal S1024x384 .bf16)
    (i : Fin 512) (j : Fin 7680) : out0_4 (F := Ideal) x0 x1 x2 x3 (ix2 i j)
      = mul (rms (fun k => x0 (ix2 i k)) (fun k => x1 (ix2 0 k))) (fun k n => x2 (ix2 k n)) j := by
  unfold_out out0_4
  canon_tiles x h
  all_goals
    obtain ⟨a, b, rfl⟩ : ∃ (a : Fin 512) (b : Fin 1280), x = ix2 a b := ⟨x 0, x 1, eq_ix2 x⟩
    obtain rfl : i = a := Fin.ext h0
    obtain ⟨j, hj⟩ := j
    obtain rfl : j = _ := h1
    open_payloads
    pointwise
    rfl

/-- What the body writes into the second result, at a row and a column. -/
theorem small_at (x0 : Vec Ideal S512x1024 .f32) (x1 : Vec Ideal S1x1024 .f32) (x2 : Vec Ideal S1024x7680 .bf16) (x3 : Vec Ideal S1024x384 .bf16)
    (i : Fin 512) (j : Fin 384) : out0_5 (F := Ideal) x0 x1 x2 x3 (ix2 i j)
      = mul (rms (fun k => x0 (ix2 i k)) (fun k => x1 (ix2 0 k))) (fun k n => x3 (ix2 k n)) j := by
  unfold_out out0_5
  frame_out
  pointwise [k0_pay4, k0_pay5]
  rfl

open Cert.ProjRefIdeal.Read in
/-- The reference's first result at a row and a column. -/
theorem ref_main_at (x0 : FVec Ideal S4x4096x1024 .f32) (x1 : FVec Ideal S1024 .f32) (x2 : FVec Ideal S1024x8000 .f32)
    (i : Fin 16384) (j : Fin 7680) : val_main_v24 (F := Ideal) x0 x1 x2 (ix2 i j)
      = mainAt (mul (rms (fun k => x0 (ix3 ⟨i.val / 4096, by omega⟩ ⟨i.val % 4096, by omega⟩ k)) (fun k => x1 (ix1 k))) (fun k n => x2 (ix2 k n))) j := by
  pointwise [val_main_v0, val_main_cst, val_main_v1, val_main_v2, val_main_cst_0, val_main_v3, val_main_v4, val_main_cst_1, val_main_v5, val_main_v6, val_main_v7, val_main_v8, val_main_v9, val_main_v10, val_main_v11, val_main_v12, val_main_v13, val_main_v14, val_main_v15, val_main_v16, val_main_v17, val_main_v18, val_main_v19, val_main_v20, val_main_v21, val_main_cst_2, val_main_v22, val_main_v23, val_main_v24, val_main_v25]
  unfold mainAt
  by_cases h1 : j.val < 2048
  · simp only [dif_pos h1]
    rfl
  by_cases h2 : j.val - 2048 < 3072
  · simp only [dif_neg h1, dif_pos h2]
    rfl
  by_cases h3 : j.val - 2048 - 3072 < 2048
  · simp only [dif_neg h1, dif_neg h2, dif_pos h3]
    rfl
  · simp only [dif_neg h1, dif_neg h2, dif_neg h3]
    rfl

open Cert.ProjRefIdeal.Read in
/-- The reference's second result at a row and a column. -/
theorem ref_small_at (x0 : FVec Ideal S4x4096x1024 .f32) (x1 : FVec Ideal S1024 .f32) (x2 : FVec Ideal S1024x8000 .f32)
    (i : Fin 16384) (j : Fin 384) : val_main_v25 (F := Ideal) x0 x1 x2 (ix2 i j)
      = smallAt (mul (rms (fun k => x0 (ix3 ⟨i.val / 4096, by omega⟩ ⟨i.val % 4096, by omega⟩ k)) (fun k => x1 (ix1 k))) (fun k n => x2 (ix2 k n))) j := by
  pointwise [val_main_v0, val_main_cst, val_main_v1, val_main_v2, val_main_cst_0, val_main_v3, val_main_v4, val_main_cst_1, val_main_v5, val_main_v6, val_main_v7, val_main_v8, val_main_v9, val_main_v10, val_main_v11, val_main_v12, val_main_v13, val_main_v14, val_main_v15, val_main_v16, val_main_v17, val_main_v18, val_main_v19, val_main_v20, val_main_v21, val_main_cst_2, val_main_v22, val_main_v23, val_main_v24, val_main_v25]
  unfold smallAt
  by_cases h1 : j.val < 256
  · simp only [dif_pos h1]
    rfl
  by_cases h2 : j.val - 256 < 32
  · simp only [dif_neg h1, dif_pos h2]
    rfl
  by_cases h3 : j.val - 256 - 32 < 32
  · simp only [dif_neg h1, dif_neg h2, dif_pos h3]
  by_cases h4 : j.val - 256 - 32 - 32 < 32
  · simp only [dif_neg h1, dif_neg h2, dif_neg h3, dif_pos h4]
    rfl
  · simp only [dif_neg h1, dif_neg h2, dif_neg h3, dif_neg h4]

variable (m : (ℓ : Loc nD τ sig) → Buf (Elt Ideal) ℓ) (c : Dev nD)

/-- A row of the block a grid point reads. -/
theorem x_blk (t : Fin cfg0.N) (i : Fin 512) (R : Fin 16384) (hR : R.val = t.val * 512 + i.val) (k : Fin 1024) :
    (iblk m c 0 t (ix2 i k) : EReal) = m (c, Proc.tc.devRef main_arg0) (ix3 ⟨R.val / 4096, by omega⟩ ⟨R.val % 4096, by omega⟩ k) := by
  have e : (iblk m c 0 t (ix2 i k) : EReal) = (V m c main_v12 : FVec Ideal S16384x1024 .f32) (ix2 R k) := by
    blk_ext [iblk, idx t]
  rw [e]
  unfold V
  after_results_simp
  pointwise

/-- The gain. -/
theorem g_blk (t : Fin cfg0.N) (k : Fin 1024) : (iblk m c 1 t (ix2 0 k) : EReal) = m (c, Proc.tc.devRef main_arg1) (ix1 k) := by
  have e : (iblk m c 1 t (ix2 0 k) : EReal) = (V m c main_v13 : FVec Ideal S1x1024 .f32) (ix2 0 k) := by
    blk_ext [iblk, idx t]
  rw [e]
  unfold V
  after_results_simp
  pointwise

/-- The weight of the first result, its columns laid out. -/
theorem wm_blk (t : Fin cfg0.N) (k : Fin 1024) (n : Fin 7680) :
    (iblk m c 2 t (ix2 k n) : EReal) = mainAt (fun q => m (c, Proc.tc.devRef main_arg2) (ix2 k q)) n := by
  have e : (iblk m c 2 t (ix2 k n) : EReal) = (V m c main_v8 : FVec Ideal S1024x7680 .bf16) (ix2 k n) := by
    blk_ext [iblk, idx t]
  rw [e]
  unfold V
  after_results_simp
  pointwise
  unfold mainAt
  by_cases h1 : n.val < 2048
  · simp only [dif_pos h1]
    refine Eq.trans (congrFun (?_ : (_ : FVec Ideal S1024x2048 .f32) = extractStridedSlice S1024x2048 ![0, 0] (m (c, Proc.tc.devRef main_arg2)) slices_S1024x8000_S1024x2048_0_0) _) ?_
    · after_results_simp
    · pointwise
  by_cases h2 : n.val - 2048 < 3072
  · simp only [dif_neg h1, dif_pos h2]
    refine Eq.trans (congrFun (?_ : (_ : FVec Ideal S1024x3072 .f32) = extractStridedSlice S1024x3072 ![0, 2048] (m (c, Proc.tc.devRef main_arg2)) slices_S1024x8000_S1024x3072_0_2048) _) ?_
    · after_results_simp
    · pointwise
  by_cases h3 : n.val - 2048 - 3072 < 2048
  · simp only [dif_neg h1, dif_neg h2, dif_pos h3]
    refine Eq.trans (congrFun (?_ : (_ : FVec Ideal S1024x2048 .f32) = extractStridedSlice S1024x2048 ![0, 5952] (m (c, Proc.tc.devRef main_arg2)) slices_S1024x8000_S1024x2048_0_5952) _) ?_
    · after_results_simp
    · pointwise
  · simp only [dif_neg h1, dif_neg h2, dif_neg h3]
    refine Eq.trans (congrFun (?_ : (_ : FVec Ideal S1024x512 .f32) = extractStridedSlice S1024x512 ![0, 5152] (m (c, Proc.tc.devRef main_arg2)) slices_S1024x8000_S1024x512_0_5152) _) ?_
    · after_results_simp
    · pointwise

/-- The weight of the second result, its columns laid out. -/
theorem ws_blk (t : Fin cfg0.N) (k : Fin 1024) (n : Fin 384) :
    (iblk m c 3 t (ix2 k n) : EReal) = smallAt (fun q => m (c, Proc.tc.devRef main_arg2) (ix2 k q)) n := by
  have e : (iblk m c 3 t (ix2 k n) : EReal) = (V m c main_v11 : FVec Ideal S1024x384 .bf16) (ix2 k n) := by
    blk_ext [iblk, idx t]
  rw [e]
  unfold V
  after_results_simp
  pointwise
  unfold smallAt
  by_cases h1 : n.val < 256
  · simp only [dif_pos h1]
    refine Eq.trans (congrFun (?_ : (_ : FVec Ideal S1024x256 .f32) = extractStridedSlice S1024x256 ![0, 5664] (m (c, Proc.tc.devRef main_arg2)) slices_S1024x8000_S1024x256_0_5664) _) ?_
    · after_results_simp
    · pointwise
  by_cases h2 : n.val - 256 < 32
  · simp only [dif_neg h1, dif_pos h2]
    refine Eq.trans (congrFun (?_ : (_ : FVec Ideal S1024x32 .f32) = extractStridedSlice S1024x32 ![0, 5120] (m (c, Proc.tc.devRef main_arg2)) slices_S1024x8000_S1024x32_0_5120) _) ?_
    · after_results_simp
    · pointwise
  by_cases h3 : n.val - 256 - 32 < 32
  · simp only [dif_neg h1, dif_neg h2, dif_pos h3]
    refine Eq.trans (congrFun (?_ : (_ : FVec Ideal S1024x32 .f32) = broadcastInDim S1024x32 ![] bcast_S_S1024x32 (constant S_ .f32 0#32)) _) ?_
    · after_results_simp
    · pointwise
  by_cases h4 : n.val - 256 - 32 - 32 < 32
  · simp only [dif_neg h1, dif_neg h2, dif_neg h3, dif_pos h4]
    refine Eq.trans (congrFun (?_ : (_ : FVec Ideal S1024x32 .f32) = extractStridedSlice S1024x32 ![0, 5920] (m (c, Proc.tc.devRef main_arg2)) slices_S1024x8000_S1024x32_0_5920) _) ?_
    · after_results_simp
    · pointwise
  · simp only [dif_neg h1, dif_neg h2, dif_neg h3, dif_neg h4]
    refine Eq.trans (congrFun (?_ : (_ : FVec Ideal S1024x32 .f32) = broadcastInDim S1024x32 ![] bcast_S_S1024x32 (constant S_ .f32 0#32)) _) ?_
    · after_results_simp
    · pointwise

/-- The call's first result array is the reference's. -/
theorem main_eq : (dats m 0 c).arrAt 4 cfg0.N = Cert.ProjRefIdeal.Read.val_main_v24 (F := Ideal) (m (c, Proc.tc.devRef main_arg0)) (m (c, Proc.tc.devRef main_arg1)) (m (c, Proc.tc.devRef main_arg2)) := by
  refine (dats m 0 c).arrAt_eq_of_covers 4 _ (by decide +kernel) fun t hf y => ?_
  blk_simp
  obtain ⟨i, j, rfl⟩ : ∃ (i : Fin 512) (j : Fin 7680), y = ix2 i j := ⟨y 0, y 1, eq_ix2 y⟩
  have ht : t.val < 32 := lt_of_lt_of_eq t.isLt N_0
  have he : (win0_4.blk t).view.emb (ix2 i j) = ix2 (⟨t.val * 512 + i.val, by omega⟩ : Fin 16384) j := by
    blk_ext [idx t]
  rw [he, ref_main_at, after0_4, main_at]
  rw [funext (x_blk m c t i ⟨t.val * 512 + i.val, by omega⟩ rfl), funext (g_blk m c t), funext fun k => funext (wm_blk m c t k)]
  exact mul_mainAt _ _ j

/-- The call's second result array is the reference's. -/
theorem small_eq : (dats m 0 c).arrAt 5 cfg0.N = Cert.ProjRefIdeal.Read.val_main_v25 (F := Ideal) (m (c, Proc.tc.devRef main_arg0)) (m (c, Proc.tc.devRef main_arg1)) (m (c, Proc.tc.devRef main_arg2)) := by
  refine (dats m 0 c).arrAt_eq_of_covers 5 _ (by decide +kernel) fun t hf y => ?_
  blk_simp
  obtain ⟨i, j, rfl⟩ : ∃ (i : Fin 512) (j : Fin 384), y = ix2 i j := ⟨y 0, y 1, eq_ix2 y⟩
  have ht : t.val < 32 := lt_of_lt_of_eq t.isLt N_0
  have he : (win0_5.blk t).view.emb (ix2 i j) = ix2 (⟨t.val * 512 + i.val, by omega⟩ : Fin 16384) j := by
    blk_ext [idx t]
  rw [he, ref_small_at, after0_5, small_at]
  rw [funext (x_blk m c t i ⟨t.val * 512 + i.val, by omega⟩ rfl), funext (g_blk m c t), funext fun k => funext (ws_blk m c t k)]
  exact mul_smallAt _ _ j

end Cert.ProjValue

end
-- ==== Proof.MergeValue.lean ====
/-
  The merge of the two branches: the call writes, row by row, what the reference computes (`result_eq`).
-/
module

public import proofs.«01_k».proof.Proof.Rows
public import proofs.«01_k».proof.Proof.Gen.MergeIdeal.Value
public import proofs.«01_k».proof.Proof.Gen.MergeRefIdeal.Run
public import proofs.«01_k».proof.Proof.Gen.MergeRefIdeal.Read

@[expose] public section

noncomputable section

open Idealize.ShloMosaic Idealize.ShloMosaic.TcCoe Idealize.SL.Sem
open Cert.MergeIdeal Cert.MergeIdeal.Gen Cert.Rows

namespace Cert.MergeValue

/-- Where each window lies at grid point `t`: the row block `t` — of the projection, its two gate columns —; the
    weights whole, of layer 3. -/
theorem idx : ∀ t : Fin cfg0.N, win0_0.index t = ![t.val, 0] ∧ win0_1.index t = ![t.val, 0] ∧ win0_2.index t = ![t.val, 0]
    ∧ win0_3.index t = ![t.val, 5] ∧ win0_4.index t = ![t.val, 6] ∧ win0_5.index t = ![3, 0, 0]
    ∧ win0_6.index t = ![3, 0, 0] ∧ win0_7.index t = ![3, 0, 0] ∧ win0_8.index t = ![t.val, 0] :=
  (by decide +kernel : ∀ t : Fin grid0.N, _)

/-- The body's arithmetic at a row and a column. -/
theorem pay_at (x1 : Vec Ideal S512x2048 .bf16) (x5 : Vec Ideal S1x2048x1024 .bf16) (x2 : Vec Ideal S512x1024 .bf16) (x6 : Vec Ideal S1x1024x1024 .bf16)
    (x3 x4 : Vec Ideal S512x1024 .bf16) (x0 : Vec Ideal S512x1024 .f32) (x7 : Vec Ideal S1x1024x1024 .bf16)
    (i : Fin 512) (j : Fin 1024) : k0_pay1 (F := Ideal) x1 x5 x2 x6 x3 x4 x0 x7 (ix2 i j)
      = merged (fun k => x0 (ix2 i k)) (fun k => x1 (ix2 i k)) (fun k => x2 (ix2 i k)) (fun k => x3 (ix2 i k)) (fun k => x4 (ix2 i k))
        (fun k n => x5 (ix3 0 k n)) (fun k n => x6 (ix3 0 k n)) (fun k n => x7 (ix3 0 k n)) j := by
  pointwise [k0_pay1]
  rfl

open Cert.MergeRefIdeal.Read in
/-- The reference at a row and a column. -/
theorem ref_at (x0 : FVec Ideal S4x4096x1024 .f32) (x1 : FVec Ideal S16384x2048 .bf16) (x2 : FVec Ideal S16384x1024 .bf16) (x3 : FVec Ideal S16384x7680 .bf16)
    (x4 : FVec Ideal S4x2048x1024 .f32) (x5 x6 : FVec Ideal S4x1024x1024 .f32)
    (i : Fin 16384) (j : Fin 1024) : val_main_v28 (F := Ideal) x0 x1 x2 x3 x4 x5 x6 (ix2 i j)
      = merged (fun k => x0 (ix3 ⟨i.val / 4096, by omega⟩ ⟨i.val % 4096, by omega⟩ k)) (fun k => x1 (ix2 i k)) (fun k => x2 (ix2 i k))
        (fun k => x3 (ix2 i ⟨5120 + k.val, by omega⟩)) (fun k => x3 (ix2 i ⟨5120 + (1024 + k.val), by omega⟩))
        (fun k n => x4 (ix3 3 k n)) (fun k n => x5 (ix3 3 k n)) (fun k n => x6 (ix3 3 k n)) j := by
  pointwise [val_main_v0, val_main_v1, val_main_v2, val_main_v3, val_main_v4, val_main_v5, val_main_v6, val_main_v7, val_main_v8, val_main_cst, val_main_v9, val_main_v10, val_main_cst_0, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28]
  rfl

variable (m : (ℓ : Loc nD τ sig) → Buf (Elt Ideal) ℓ) (c : Dev nD)

/-- A row of the residual stream. -/
theorem x_blk (t : Fin cfg0.N) (i : Fin 512) (R : Fin 16384) (hR : R.val = t.val * 512 + i.val) (k : Fin 1024) : (iblk m c 0 t (ix2 i k) : EReal) = m (c, Proc.tc.devRef main_arg0) (ix3 ⟨R.val / 4096, by omega⟩ ⟨R.val % 4096, by omega⟩ k) := by
  have e : (iblk m c 0 t (ix2 i k) : EReal) = (V m c main_v3 : FVec Ideal S16384x1024 .f32) (ix2 R k) := by
    blk_ext [iblk, idx t]
  rw [e]
  unfold V
  after_results_simp
  pointwise

/-- A row of the first branch. -/
theorem ys_blk (t : Fin cfg0.N) (i : Fin 512) (R : Fin 16384) (hR : R.val = t.val * 512 + i.val) (k : Fin 2048) : (iblk m c 1 t (ix2 i k) : EReal) = m (c, Proc.tc.devRef main_arg1) (ix2 R k) := by
  have e : (iblk m c 1 t (ix2 i k) : EReal) = (V m c main_arg1 : FVec Ideal S16384x2048 .bf16) (ix2 R k) := by
    blk_ext [iblk, idx t]
  rw [e]
  unfold V
  after_results_simp

/-- A row of the second branch. -/
theorem ym_blk (t : Fin cfg0.N) (i : Fin 512) (R : Fin 16384) (hR : R.val = t.val * 512 + i.val) (k : Fin 1024) : (iblk m c 2 t (ix2 i k) : EReal) = m (c, Proc.tc.devRef main_arg2) (ix2 R k) := by
  have e : (iblk m c 2 t (ix2 i k) : EReal) = (V m c main_arg2 : FVec Ideal S16384x1024 .bf16) (ix2 R k) := by
    blk_ext [iblk, idx t]
  rw [e]
  unfold V
  after_results_simp

/-- A row of the first gate: no block of the projection is cut, so the buffer holds it whole. -/
theorem gs_blk (t : Fin cfg0.N) (i : Fin 512) (R : Fin 16384) (hR : R.val = t.val * 512 + i.val) (k : Fin 1024) : (X0_3 m c t (ix2 i k) : EReal) = m (c, Proc.tc.devRef main_arg3) (ix2 R ⟨5120 + k.val, by omega⟩) := by
  have e : (X0_3 m c t (ix2 i k) : EReal) = (V m c main_arg3 : FVec Ideal S16384x7680 .bf16) (ix2 R ⟨5120 + k.val, by omega⟩) := by
    unfold X0_3
    unfold Pipeline.Window.fill
    rw [dif_pos (moved0_3 t (ix2 i k))]
    blk_ext [iblk, idx t]
  rw [e]
  unfold V
  after_results_simp

/-- A row of the second gate. -/
theorem gm_blk (t : Fin cfg0.N) (i : Fin 512) (R : Fin 16384) (hR : R.val = t.val * 512 + i.val) (k : Fin 1024) : (X0_4 m c t (ix2 i k) : EReal) = m (c, Proc.tc.devRef main_arg3) (ix2 R ⟨5120 + (1024 + k.val), by omega⟩) := by
  have e : (X0_4 m c t (ix2 i k) : EReal) = (V m c main_arg3 : FVec Ideal S16384x7680 .bf16) (ix2 R ⟨5120 + (1024 + k.val), by omega⟩) := by
    unfold X0_4
    unfold Pipeline.Window.fill
    rw [dif_pos (moved0_4 t (ix2 i k))]
    blk_ext [iblk, idx t]
  rw [e]
  unfold V
  after_results_simp

/-- The first branch's weight. -/
theorem ws_blk (t : Fin cfg0.N) (k : Fin 2048) (n : Fin 1024) : (iblk m c 5 t (ix3 0 k n) : EReal) = m (c, Proc.tc.devRef main_arg4) (ix3 3 k n) := by
  have e : (iblk m c 5 t (ix3 0 k n) : EReal) = (V m c main_v0 : FVec Ideal S4x2048x1024 .bf16) (ix3 3 k n) := by
    blk_ext [iblk, idx t]
  rw [e]
  unfold V
  after_results_simp
  pointwise

/-- The second branch's weight. -/
theorem wm_blk (t : Fin cfg0.N) (k : Fin 1024) (n : Fin 1024) : (iblk m c 6 t (ix3 0 k n) : EReal) = m (c, Proc.tc.devRef main_arg5) (ix3 3 k n) := by
  have e : (iblk m c 6 t (ix3 0 k n) : EReal) = (V m c main_v1 : FVec Ideal S4x1024x1024 .bf16) (ix3 3 k n) := by
    blk_ext [iblk, idx t]
  rw [e]
  unfold V
  after_results_simp
  pointwise

/-- The output weight. -/
theorem wo_blk (t : Fin cfg0.N) (k : Fin 1024) (n : Fin 1024) : (iblk m c 7 t (ix3 0 k n) : EReal) = m (c, Proc.tc.devRef main_arg6) (ix3 3 k n) := by
  have e : (iblk m c 7 t (ix3 0 k n) : EReal) = (V m c main_v2 : FVec Ideal S4x1024x1024 .bf16) (ix3 3 k n) := by
    blk_ext [iblk, idx t]
  rw [e]
  unfold V
  after_results_simp
  pointwise

/-- What a grid point leaves in its result block, at a row and a column. -/
theorem out_at (t : Fin cfg0.N) (i : Fin 512) (j : Fin 1024) : outsAt0 m c t (ix2 i j)
      = merged (fun k => iblk m c 0 t (ix2 i k)) (fun k => iblk m c 1 t (ix2 i k)) (fun k => iblk m c 2 t (ix2 i k)) (fun k => X0_3 m c t (ix2 i k)) (fun k => X0_4 m c t (ix2 i k))
        (fun k n => iblk m c 5 t (ix3 0 k n)) (fun k n => iblk m c 6 t (ix3 0 k n)) (fun k n => iblk m c 7 t (ix3 0 k n)) j := by
  unfold outsAt0
  frame_out
  exact pay_at _ _ _ _ _ _ _ _ i j

/-- The call's result array is the reference's. -/
theorem result_eq : (dats m 0 c).arrAt 8 cfg0.N = Cert.MergeRefIdeal.Read.val_main_v28 (F := Ideal) (m (c, Proc.tc.devRef main_arg0)) (m (c, Proc.tc.devRef main_arg1)) (m (c, Proc.tc.devRef main_arg2)) (m (c, Proc.tc.devRef main_arg3)) (m (c, Proc.tc.devRef main_arg4)) (m (c, Proc.tc.devRef main_arg5)) (m (c, Proc.tc.devRef main_arg6)) := by
  refine (dats m 0 c).arrAt_eq_of_covers 8 _ (by decide +kernel) fun t hf y => ?_
  blk_simp
  obtain ⟨i, j, rfl⟩ : ∃ (i : Fin 512) (j : Fin 1024), y = ix2 i j := ⟨y 0, y 1, eq_ix2 y⟩
  have ht : t.val < 32 := lt_of_lt_of_eq t.isLt N_0
  have he : (win0_8.blk t).view.emb (ix2 i j) = ix2 (⟨t.val * 512 + i.val, by omega⟩ : Fin 16384) j := by
    blk_ext [idx t]
  rw [he, ref_at, after0_8, out_at]
  rw [funext (x_blk m c t i ⟨t.val * 512 + i.val, by omega⟩ rfl),
    funext (ys_blk m c t i ⟨t.val * 512 + i.val, by omega⟩ rfl),
    funext (ym_blk m c t i ⟨t.val * 512 + i.val, by omega⟩ rfl),
    funext (gs_blk m c t i ⟨t.val * 512 + i.val, by omega⟩ rfl),
    funext (gm_blk m c t i ⟨t.val * 512 + i.val, by omega⟩ rfl),
    funext fun k => funext (ws_blk m c t k),
    funext fun k => funext (wm_blk m c t k),
    funext fun k => funext (wo_blk m c t k)]

end Cert.MergeValue

end
-- ==== Proof.Dense.lean ====
/-
  The claims of the dense calls: the references' frames, and equality of results.
-/
module

public import proofs.«01_k».proof.Defs
public import proofs.«01_k».proof.Proof.Gen.FfnRefIdeal
public import proofs.«01_k».proof.Proof.FfnValue
public import proofs.«01_k».proof.Proof.Gen.TailRefIdeal
public import proofs.«01_k».proof.Proof.TailValue
public import proofs.«01_k».proof.Proof.Gen.ProjRefIdeal
public import proofs.«01_k».proof.Proof.ProjValue
public import proofs.«01_k».proof.Proof.Gen.MergeRefIdeal
public import proofs.«01_k».proof.Proof.MergeValue
public import proofs.«01_k».proof.Proof.Gen.KvRefIdeal
public import proofs.«01_k».proof.Proof.KvValue
public import proofs.«01_k».proof.Proof.Gen.QRefIdeal
public import proofs.«01_k».proof.Proof.QValue
public import proofs.«01_k».proof.Proof.Gen.TailSRefIdeal
public import proofs.«01_k».proof.Proof.TailSValue
public import proofs.«01_k».proof.Proof.Gen.KvSRefIdeal
public import proofs.«01_k».proof.Proof.KvSValue
public import Idealize.ShloMosaic.Adequacy
public import Idealize.ShloMosaic.Init

@[expose] public section

noncomputable section

namespace Cert.Proof

open Idealize.ShloMosaic Idealize.SL.Sem

/-- The reference of the first feed-forward step runs from every memory, leaves its arguments as they were and every semaphore at zero. -/
theorem ffn_reference_frame : Cert.quiescent_FfnRefIdeal (hFfnRefIdeal := Cert.FfnRefIdeal.Gen.facts) := fun m ρ _ =>
  (θ_run (Cert.FfnRefIdeal.defs (F := Ideal)) _ _).mono
    (fun r h => And.intro (fun c => (h c).2) (sem_eq_zero_of_no_sems (by decide) r.2)) (Cert.FfnRefIdeal.Value.run (F := Ideal) m ρ)

/-- The first feed-forward step and its reference end with equal results. -/
theorem ffn_algebraic : Cert.algebraic_FfnIdeal_FfnRefIdeal (hFfnIdeal := Cert.FfnIdeal.Gen.facts) (hFfnRefIdeal := Cert.FfnRefIdeal.Gen.facts) := by
  intro m g m' g' _ hm
  refine ⟨fun c => (Cert.FfnIdeal.Gen.dats m 0 c).arrAt 4 Cert.FfnIdeal.cfg0.N, Cert.FfnIdeal.Value.run_blocks (F := Ideal) m g, ?_⟩
  refine (θ_run (Cert.FfnRefIdeal.defs (F := Ideal)) _ _).mono (fun r h c => ?_) (Cert.FfnRefIdeal.Value.run (F := Ideal) m' g')
  obtain ⟨e0, e1, e2, e3⟩ := hm c
  refine ⟨?_, (h c).2⟩
  refine (h c).1.trans ((Cert.FfnRefIdeal.Read.val_main_v28_eq (F := Ideal) m' c).trans ?_)
  rw [e0, e1, e2, e3]
  exact (Cert.FfnValue.result_eq m c).symm

/-- The reference of the layer's last step runs from every memory, leaves its arguments as they were and every semaphore at zero. -/
theorem tail_reference_frame : Cert.quiescent_TailRefIdeal (hTailRefIdeal := Cert.TailRefIdeal.Gen.facts) := fun m ρ _ =>
  (θ_run (Cert.TailRefIdeal.defs (F := Ideal)) _ _).mono
    (fun r h => And.intro (fun c => (h c).2) (sem_eq_zero_of_no_sems (by decide) r.2)) (Cert.TailRefIdeal.Value.run (F := Ideal) m ρ)

/-- The layer's last step and its reference end with equal results. -/
theorem tail_algebraic : Cert.algebraic_TailIdeal_TailRefIdeal (hTailIdeal := Cert.TailIdeal.Gen.facts) (hTailRefIdeal := Cert.TailRefIdeal.Gen.facts) := by
  intro m g m' g' _ hm
  refine ⟨fun c => (Cert.TailIdeal.Gen.dats m 0 c).arrAt 9 Cert.TailIdeal.cfg0.N, Cert.TailIdeal.Value.run_blocks (F := Ideal) m g, ?_⟩
  refine (θ_run (Cert.TailRefIdeal.defs (F := Ideal)) _ _).mono (fun r h c => ?_) (Cert.TailRefIdeal.Value.run (F := Ideal) m' g')
  obtain ⟨e0, e1, e2, e3, e4, e5, e6, e7, e8⟩ := hm c
  refine ⟨?_, (h c).2⟩
  refine (h c).1.trans ((Cert.TailRefIdeal.Read.val_main_v72_eq (F := Ideal) m' c).trans ?_)
  rw [e0, e1, e2, e3, e4, e5, e6, e7, e8]
  exact (Cert.TailValue.result_eq m c).symm

/-- The reference of the input projection runs from every memory, leaves its arguments as they were and every semaphore at zero. -/
theorem proj_reference_frame : Cert.quiescent_ProjRefIdeal (hProjRefIdeal := Cert.ProjRefIdeal.Gen.facts) := fun m ρ _ =>
  (θ_run (Cert.ProjRefIdeal.defs (F := Ideal)) _ _).mono
    (fun r h => And.intro (fun c => (h c).2.2) (sem_eq_zero_of_no_sems (by decide) r.2)) (Cert.ProjRefIdeal.Value.run (F := Ideal) m ρ)

/-- The input projection and its reference end with equal results. -/
theorem proj_algebraic : Cert.algebraic_ProjIdeal_ProjRefIdeal (hProjIdeal := Cert.ProjIdeal.Gen.facts) (hProjRefIdeal := Cert.ProjRefIdeal.Gen.facts) := by
  intro m g m' g' _ hm
  refine ⟨fun c => (Cert.ProjIdeal.Gen.dats m 0 c).arrAt 4 Cert.ProjIdeal.cfg0.N, fun c => (Cert.ProjIdeal.Gen.dats m 0 c).arrAt 5 Cert.ProjIdeal.cfg0.N, Cert.ProjIdeal.Value.run_blocks (F := Ideal) m g, ?_⟩
  refine (θ_run (Cert.ProjRefIdeal.defs (F := Ideal)) _ _).mono (fun r h c => ?_) (Cert.ProjRefIdeal.Value.run (F := Ideal) m' g')
  obtain ⟨e0, e1, e2⟩ := hm c
  refine ⟨?_, ?_, (h c).2.2⟩
  · refine (h c).1.trans ((Cert.ProjRefIdeal.Read.val_main_v24_eq (F := Ideal) m' c).trans ?_)
    rw [e0, e1, e2]
    exact (Cert.ProjValue.main_eq m c).symm
  · refine (h c).2.1.trans ((Cert.ProjRefIdeal.Read.val_main_v25_eq (F := Ideal) _ _ _).trans ?_)
    rw [e0, e1, e2]
    exact (Cert.ProjValue.small_eq m c).symm

/-- The reference of the merge of the branches runs from every memory, leaves its arguments as they were and every semaphore at zero. -/
theorem merge_reference_frame : Cert.quiescent_MergeRefIdeal (hMergeRefIdeal := Cert.MergeRefIdeal.Gen.facts) := fun m ρ _ =>
  (θ_run (Cert.MergeRefIdeal.defs (F := Ideal)) _ _).mono
    (fun r h => And.intro (fun c => (h c).2) (sem_eq_zero_of_no_sems (by decide) r.2)) (Cert.MergeRefIdeal.Value.run (F := Ideal) m ρ)

/-- The merge of the branches and its reference end with equal results. -/
theorem merge_algebraic : Cert.algebraic_MergeIdeal_MergeRefIdeal (hMergeIdeal := Cert.MergeIdeal.Gen.facts) (hMergeRefIdeal := Cert.MergeRefIdeal.Gen.facts) := by
  intro m g m' g' _ hm
  refine ⟨fun c => (Cert.MergeIdeal.Gen.dats m 0 c).arrAt 8 Cert.MergeIdeal.cfg0.N, Cert.MergeIdeal.Value.run_blocks (F := Ideal) m g, ?_⟩
  refine (θ_run (Cert.MergeRefIdeal.defs (F := Ideal)) _ _).mono (fun r h c => ?_) (Cert.MergeRefIdeal.Value.run (F := Ideal) m' g')
  obtain ⟨e0, e1, e2, e3, e4, e5, e6⟩ := hm c
  refine ⟨?_, (h c).2⟩
  refine (h c).1.trans ((Cert.MergeRefIdeal.Read.val_main_v28_eq (F := Ideal) _ _ _ _ _ _ _).trans ?_)
  rw [e0, e1, e2, e3, e4, e5, e6]
  exact (Cert.MergeValue.result_eq m c).symm

/-- The reference of the key and value projection runs from every memory, leaves its arguments as they were and every semaphore at zero. -/
theorem kv_reference_frame : Cert.quiescent_KvRefIdeal (hKvRefIdeal := Cert.KvRefIdeal.Gen.facts) := fun m ρ _ =>
  (θ_run (Cert.KvRefIdeal.defs (F := Ideal)) _ _).mono
    (fun r h => And.intro (fun c => (h c).2.2.2.2) (sem_eq_zero_of_no_sems (by decide) r.2)) (Cert.KvRefIdeal.Value.run (F := Ideal) m ρ)

/-- The key and value projection and its reference end with equal results. -/
theorem kv_algebraic : Cert.algebraic_KvIdeal_KvRefIdeal (hKvIdeal := Cert.KvIdeal.Gen.facts) (hKvRefIdeal := Cert.KvRefIdeal.Gen.facts) := by
  intro m g m' g' _ hm
  refine ⟨fun c => (Cert.KvIdeal.Gen.dats m 0 c).arrAt 7 Cert.KvIdeal.cfg0.N, fun c => (Cert.KvIdeal.Gen.dats m 0 c).arrAt 8 Cert.KvIdeal.cfg0.N,
    fun c => (Cert.KvIdeal.Gen.dats m 0 c).arrAt 9 Cert.KvIdeal.cfg0.N, fun c => (Cert.KvIdeal.Gen.dats m 0 c).arrAt 10 Cert.KvIdeal.cfg0.N, Cert.KvIdeal.Value.run_blocks (F := Ideal) m g, ?_⟩
  refine (θ_run (Cert.KvRefIdeal.defs (F := Ideal)) _ _).mono (fun r h c => ?_) (Cert.KvRefIdeal.Value.run (F := Ideal) m' g')
  obtain ⟨e0, e1, e2, e3⟩ := hm c
  refine ⟨?_, ?_, ?_, ?_, (h c).2.2.2.2⟩
  · refine (h c).1.trans ((Cert.KvRefIdeal.Read.val_main_v52_eq (F := Ideal) _ _).trans ?_)
    rw [e0, e1]
    exact (Cert.KvValue.ckv_eq m c).symm
  · refine (h c).2.1.trans ((Cert.KvRefIdeal.Read.val_main_v53_eq (F := Ideal) _).trans ?_)
    rw [e0]
    exact (Cert.KvValue.kr_eq m c).symm
  · refine (h c).2.2.1.trans ((Cert.KvRefIdeal.Read.val_main_v55_eq (F := Ideal) m' c).trans ?_)
    rw [e0, e1, e2]
    exact (Cert.KvValue.keys_eq m c).symm
  · refine (h c).2.2.2.1.trans ((Cert.KvRefIdeal.Read.val_main_v58_eq (F := Ideal) _ _ _).trans ?_)
    rw [e0, e1, e3]
    exact (Cert.KvValue.vals_eq m c).symm

/-- The reference of the query projection runs from every memory, leaves its arguments as they were and every semaphore at zero. -/
theorem q_reference_frame : Cert.quiescent_QRefIdeal (hQRefIdeal := Cert.QRefIdeal.Gen.facts) := fun m ρ _ =>
  (θ_run (Cert.QRefIdeal.defs (F := Ideal)) _ _).mono
    (fun r h => And.intro (fun c => (h c).2) (sem_eq_zero_of_no_sems (by decide) r.2)) (Cert.QRefIdeal.Value.run (F := Ideal) m ρ)

/-- The query projection and its reference end with equal results. -/
theorem q_algebraic : Cert.algebraic_QIdeal_QRefIdeal (hQIdeal := Cert.QIdeal.Gen.facts) (hQRefIdeal := Cert.QRefIdeal.Gen.facts) := by
  intro m g m' g' _ hm
  refine ⟨fun c => (Cert.QIdeal.Gen.dats m 0 c).arrAt 6 Cert.QIdeal.cfg0.N, Cert.QIdeal.Value.run_blocks (F := Ideal) m g, ?_⟩
  refine (θ_run (Cert.QRefIdeal.defs (F := Ideal)) _ _).mono (fun r h c => ?_) (Cert.QRefIdeal.Value.run (F := Ideal) m' g')
  obtain ⟨e0, e1, e2⟩ := hm c
  refine ⟨?_, (h c).2⟩
  refine (h c).1.trans ((Cert.QRefIdeal.Read.val_main_v59_eq (F := Ideal) m' c).trans ?_)
  rw [e0, e1, e2]
  exact (Cert.QValue.result_eq m c).symm

/-- The reference of the layer's last step on the sample runs from every memory, leaves its arguments as they were and every semaphore at zero. -/
theorem tails_reference_frame : Cert.quiescent_TailSRefIdeal (hTailSRefIdeal := Cert.TailSRefIdeal.Gen.facts) := fun m ρ _ =>
  (θ_run (Cert.TailSRefIdeal.defs (F := Ideal)) _ _).mono
    (fun r h => And.intro (fun c => (h c).2) (sem_eq_zero_of_no_sems (by decide) r.2)) (Cert.TailSRefIdeal.Value.run (F := Ideal) m ρ)

/-- The layer's last step on the sample and its reference end with equal results. -/
theorem tails_algebraic : Cert.algebraic_TailSIdeal_TailSRefIdeal (hTailSIdeal := Cert.TailSIdeal.Gen.facts) (hTailSRefIdeal := Cert.TailSRefIdeal.Gen.facts) := by
  intro m g m' g' _ hm
  refine ⟨fun c => (Cert.TailSIdeal.Gen.dats m 0 c).arrAt 9 Cert.TailSIdeal.cfg0.N, Cert.TailSIdeal.Value.run_blocks (F := Ideal) m g, ?_⟩
  refine (θ_run (Cert.TailSRefIdeal.defs (F := Ideal)) _ _).mono (fun r h c => ?_) (Cert.TailSRefIdeal.Value.run (F := Ideal) m' g')
  obtain ⟨e0, e1, e2, e3, e4, e5, e6, e7, e8⟩ := hm c
  refine ⟨?_, (h c).2⟩
  refine (h c).1.trans ((Cert.TailSRefIdeal.Read.val_main_v72_eq (F := Ideal) m' c).trans ?_)
  rw [e0, e1, e2, e3, e4, e5, e6, e7, e8]
  exact (Cert.TailSValue.result_eq m c).symm

/-- The reference of the key and value projection on the sample runs from every memory, leaves its arguments as they were and every semaphore at zero. -/
theorem kvs_reference_frame : Cert.quiescent_KvSRefIdeal (hKvSRefIdeal := Cert.KvSRefIdeal.Gen.facts) := fun m ρ _ =>
  (θ_run (Cert.KvSRefIdeal.defs (F := Ideal)) _ _).mono
    (fun r h => And.intro (fun c => (h c).2.2) (sem_eq_zero_of_no_sems (by decide) r.2)) (Cert.KvSRefIdeal.Value.run (F := Ideal) m ρ)

/-- The key and value projection on the sample and its reference end with equal results. -/
theorem kvs_algebraic : Cert.algebraic_KvSIdeal_KvSRefIdeal (hKvSIdeal := Cert.KvSIdeal.Gen.facts) (hKvSRefIdeal := Cert.KvSRefIdeal.Gen.facts) := by
  intro m g m' g' _ hm
  refine ⟨fun c => (Cert.KvSIdeal.Gen.dats m 0 c).arrAt 7 Cert.KvSIdeal.cfg0.N, fun c => (Cert.KvSIdeal.Gen.dats m 0 c).arrAt 8 Cert.KvSIdeal.cfg0.N,
    Cert.KvSIdeal.Value.run_blocks (F := Ideal) m g, ?_⟩
  refine (θ_run (Cert.KvSRefIdeal.defs (F := Ideal)) _ _).mono (fun r h c => ?_) (Cert.KvSRefIdeal.Value.run (F := Ideal) m' g')
  obtain ⟨e0, e1, e2, e3⟩ := hm c
  refine ⟨?_, ?_, (h c).2.2⟩
  · refine (h c).1.trans ((Cert.KvSRefIdeal.Read.val_main_v48_eq (F := Ideal) _ _).trans ?_)
    rw [e0, e1]
    exact (Cert.KvSValue.ckv_eq m c).symm
  · refine (h c).2.1.trans ((Cert.KvSRefIdeal.Read.val_main_v49_eq (F := Ideal) _).trans ?_)
    rw [e0]
    exact (Cert.KvSValue.kr_eq m c).symm

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Final
public import proofs.«01_k».proof.Proof.Gen.Ffn
public import proofs.«01_k».proof.Proof.Gen.Ffn.Frame
public import proofs.«01_k».proof.Proof.Gen.FfnIdeal
public import proofs.«01_k».proof.Proof.Gen.FfnIdeal.Value
public import proofs.«01_k».proof.Proof.Gen.FfnRefIdeal
public import proofs.«01_k».proof.Proof.Gen.FfnRefIdeal.Run
public import proofs.«01_k».proof.Proof.Gen.FfnRefIdeal.Read
public import proofs.«01_k».proof.Proof.Gen.Tail
public import proofs.«01_k».proof.Proof.Gen.Tail.Frame
public import proofs.«01_k».proof.Proof.Gen.TailIdeal
public import proofs.«01_k».proof.Proof.Gen.TailIdeal.Value
public import proofs.«01_k».proof.Proof.Gen.TailRefIdeal
public import proofs.«01_k».proof.Proof.Gen.TailRefIdeal.Run
public import proofs.«01_k».proof.Proof.Gen.TailRefIdeal.Read
public import proofs.«01_k».proof.Proof.Gen.Proj
public import proofs.«01_k».proof.Proof.Gen.Proj.Frame
public import proofs.«01_k».proof.Proof.Gen.ProjIdeal
public import proofs.«01_k».proof.Proof.Gen.ProjIdeal.Value
public import proofs.«01_k».proof.Proof.Gen.ProjRefIdeal
public import proofs.«01_k».proof.Proof.Gen.ProjRefIdeal.Run
public import proofs.«01_k».proof.Proof.Gen.ProjRefIdeal.Read
public import proofs.«01_k».proof.Proof.Gen.Merge
public import proofs.«01_k».proof.Proof.Gen.Merge.Frame
public import proofs.«01_k».proof.Proof.Gen.MergeIdeal
public import proofs.«01_k».proof.Proof.Gen.MergeIdeal.Value
public import proofs.«01_k».proof.Proof.Gen.MergeRefIdeal
public import proofs.«01_k».proof.Proof.Gen.MergeRefIdeal.Run
public import proofs.«01_k».proof.Proof.Gen.MergeRefIdeal.Read
public import proofs.«01_k».proof.Proof.Gen.Kv
public import proofs.«01_k».proof.Proof.Gen.Kv.Frame
public import proofs.«01_k».proof.Proof.Gen.KvIdeal
public import proofs.«01_k».proof.Proof.Gen.KvIdeal.Value
public import proofs.«01_k».proof.Proof.Gen.KvRefIdeal
public import proofs.«01_k».proof.Proof.Gen.Q
public import proofs.«01_k».proof.Proof.Gen.Q.Frame
public import proofs.«01_k».proof.Proof.Gen.QIdeal
public import proofs.«01_k».proof.Proof.Gen.QIdeal.Value
public import proofs.«01_k».proof.Proof.Gen.QRefIdeal
public import proofs.«01_k».proof.Proof.Gen.TailS
public import proofs.«01_k».proof.Proof.Gen.TailS.Frame
public import proofs.«01_k».proof.Proof.Gen.TailSIdeal
public import proofs.«01_k».proof.Proof.Gen.TailSIdeal.Value
public import proofs.«01_k».proof.Proof.Gen.TailSRefIdeal
public import proofs.«01_k».proof.Proof.Gen.KvS
public import proofs.«01_k».proof.Proof.Gen.KvS.Frame
public import proofs.«01_k».proof.Proof.Gen.KvSIdeal
public import proofs.«01_k».proof.Proof.Gen.KvSIdeal.Value
public import proofs.«01_k».proof.Proof.Gen.KvSRefIdeal
public import proofs.«01_k».proof.Proof.KvValue
public import proofs.«01_k».proof.Proof.QValue
public import proofs.«01_k».proof.Proof.TailSValue
public import proofs.«01_k».proof.Proof.KvSValue
public import proofs.«01_k».proof.Proof.Pre
public import proofs.«01_k».proof.Proof.Dense
public import Idealize.ShloMosaic.Adequacy
public import Idealize.ShloMosaic.Init

@[expose] public section

noncomputable section

namespace Cert.Proof

open Idealize.ShloMosaic Idealize.SL.Sem

/-- The reference runs, keeps its arguments, and has no semaphore to leave raised. -/
theorem reference_frame : Cert.quiescent_ReferenceIdeal (hReferenceIdeal := Cert.ReferenceIdeal.Gen.facts) := fun m ρ _ =>
  (θ_run (Cert.ReferenceIdeal.defs (F := Ideal)) _ _).mono
    (fun r h => And.intro (fun c => (h c).2) (sem_eq_zero_of_no_sems (by decide) r.2)) (Cert.ReferenceIdeal.Value.run (F := Ideal) m ρ)

/-- The precondition makes queries and keys real numbers. -/
theorem reals_of_pre (m : (ℓ : Loc Cert.KernelIdeal.nD Cert.KernelIdeal.τ Cert.KernelIdeal.sig) → Buf (Elt Ideal) ℓ)
    (h : Cert.Pre_KernelIdeal_finite (hPre_finite := Cert.Attn.pre_facts) m) (c : Dev Cert.KernelIdeal.nD) : Cert.Attn.Reals m c where
  r0 := Cert.Attn.real_entry _ _ (h c).1
  r1 := Cert.Attn.real_entry _ _ (h c).2.1
  r2 := Cert.Attn.real_entry _ _ (h c).2.2.1
  r3 := Cert.Attn.real_entry _ _ (h c).2.2.2

/-- Kernel and reference leave the same result array. -/
theorem algebraic : Cert.algebraic_KernelIdeal_ReferenceIdeal_pre_finite (hKernelIdeal := Cert.KernelIdeal.Gen.facts)
    (hReferenceIdeal := Cert.ReferenceIdeal.Gen.facts) (hPre_finite := Cert.Attn.pre_facts) := by
  intro m g m' g' hpre hm
  refine ⟨fun c => (Cert.KernelIdeal.Gen.dats m 0 c).arrAt 3 Cert.KernelIdeal.cfg0.N, Cert.KernelIdeal.Value.run_blocks (F := Ideal) m g, ?_⟩
  refine (θ_run (Cert.ReferenceIdeal.defs (F := Ideal)) _ _).mono (fun r h c => ⟨(h c).1.trans ?_, (h c).2⟩) (Cert.ReferenceIdeal.Value.run (F := Ideal) m' g')
  obtain ⟨e0, e1, e2, e3, e4⟩ := hm c
  rw [Cert.ReferenceIdeal.Read.val_main_v28_eq, e0, e1, e2, e3, e4]
  exact (Cert.Attn.result_eq (reals_of_pre m hpre c)).symm

theorem claim : Cert.Claim :=
  ⟨Cert.Kernel.Gen.facts, Cert.KernelIdeal.Gen.facts, Cert.ReferenceIdeal.Gen.facts,
    Cert.Ffn.Gen.facts, Cert.FfnIdeal.Gen.facts, Cert.FfnRefIdeal.Gen.facts,
    Cert.Tail.Gen.facts, Cert.TailIdeal.Gen.facts, Cert.TailRefIdeal.Gen.facts,
    Cert.Proj.Gen.facts, Cert.ProjIdeal.Gen.facts, Cert.ProjRefIdeal.Gen.facts,
    Cert.Merge.Gen.facts, Cert.MergeIdeal.Gen.facts, Cert.MergeRefIdeal.Gen.facts,
    Cert.Kv.Gen.facts, Cert.KvIdeal.Gen.facts, Cert.KvRefIdeal.Gen.facts,
    Cert.Q.Gen.facts, Cert.QIdeal.Gen.facts, Cert.QRefIdeal.Gen.facts,
    Cert.TailS.Gen.facts, Cert.TailSIdeal.Gen.facts, Cert.TailSRefIdeal.Gen.facts,
    Cert.KvS.Gen.facts, Cert.KvSIdeal.Gen.facts, Cert.KvSRefIdeal.Gen.facts,
    Cert.Attn.pre_facts,
    fun m ρ _ => Cert.Kernel.Gen.frame m ρ, fun m ρ _ => Cert.KernelIdeal.Gen.frame m ρ, fun m ρ _ => Cert.KernelIdeal.Gen.frame m ρ,
    reference_frame, fun m ρ _ => reference_frame m ρ trivial,
    fun m ρ _ => Cert.Ffn.Gen.frame m ρ, fun m ρ _ => Cert.FfnIdeal.Gen.frame m ρ, ffn_reference_frame,
    fun m ρ _ => Cert.Tail.Gen.frame m ρ, fun m ρ _ => Cert.TailIdeal.Gen.frame m ρ, tail_reference_frame,
    fun m ρ _ => Cert.Proj.Gen.frame m ρ, fun m ρ _ => Cert.ProjIdeal.Gen.frame m ρ, proj_reference_frame,
    fun m ρ _ => Cert.Merge.Gen.frame m ρ, fun m ρ _ => Cert.MergeIdeal.Gen.frame m ρ, merge_reference_frame,
    fun m ρ _ => Cert.Kv.Gen.frame m ρ, fun m ρ _ => Cert.KvIdeal.Gen.frame m ρ, kv_reference_frame,
    fun m ρ _ => Cert.Q.Gen.frame m ρ, fun m ρ _ => Cert.QIdeal.Gen.frame m ρ, q_reference_frame,
    fun m ρ _ => Cert.TailS.Gen.frame m ρ, fun m ρ _ => Cert.TailSIdeal.Gen.frame m ρ, tails_reference_frame,
    fun m ρ _ => Cert.KvS.Gen.frame m ρ, fun m ρ _ => Cert.KvSIdeal.Gen.frame m ρ, kvs_reference_frame,
    IdealRules.named_const.statement Cert.KernelIdeal.κ "mask" .f32 0xF149F2CA#32 ⊥ rfl, algebraic,
    trivial, ffn_algebraic, trivial, tail_algebraic, trivial, proj_algebraic, trivial, merge_algebraic,
    trivial, kv_algebraic, IdealRules.named_const.statement Cert.QIdeal.κ "scale" .f32 0x3E16C740#32 _ rfl, q_algebraic,
    trivial, tails_algebraic, trivial, kvs_algebraic⟩

end Cert.Proof

end
